-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate [hPre_finite_gate : Cert.Pre_finite_gate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate [hPre_finite_gate : Cert.Pre_finite_gate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_gate [hKernel2Ideal : Cert.Kernel2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_gate [hReference2Ideal : Cert.Reference2Ideal.Facts] [hPre_finite_gate : Cert.Pre_finite_gate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_gate [hKernel2Ideal : Cert.Kernel2Ideal.Facts] [hReference2Ideal : Cert.Reference2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)) (v2 : (c : Dev Cert.Kernel3Ideal.nD) → Buf (Elt Ideal) ((c.tc : Thread Cert.Kernel3Ideal.nD Cert.Kernel3Ideal.τ).loc Cert.Kernel3Ideal.main_v30_2)) (v3 : (c : Dev Cert.Kernel3Ideal.nD) → Buf (Elt Ideal) ((c.tc : Thread Cert.Kernel3Ideal.nD Cert.Kernel3Ideal.τ).loc Cert.Kernel3Ideal.main_v30_3)) (v4 : (c : Dev Cert.Kernel3Ideal.nD) → Buf (Elt Ideal) ((c.tc : Thread Cert.Kernel3Ideal.nD Cert.Kernel3Ideal.τ).loc Cert.Kernel3Ideal.main_v30_4)) (v5 : (c : Dev Cert.Kernel3Ideal.nD) → Buf (Elt Ideal) ((c.tc : Thread Cert.Kernel3Ideal.nD Cert.Kernel3Ideal.τ).loc Cert.Kernel3Ideal.main_v30_5)) (v6 : (c : Dev Cert.Kernel3Ideal.nD) → Buf (Elt Ideal) ((c.tc : Thread Cert.Kernel3Ideal.nD Cert.Kernel3Ideal.τ).loc Cert.Kernel3Ideal.main_v30_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_v30_2) = v2 c
          ∧ r.2.mem ((c.tc : Thread Cert.Kernel3Ideal.nD Cert.Kernel3Ideal.τ).loc Cert.Kernel3Ideal.main_v30_3) = v3 c
          ∧ r.2.mem ((c.tc : Thread Cert.Kernel3Ideal.nD Cert.Kernel3Ideal.τ).loc Cert.Kernel3Ideal.main_v30_4) = v4 c
          ∧ r.2.mem ((c.tc : Thread Cert.Kernel3Ideal.nD Cert.Kernel3Ideal.τ).loc Cert.Kernel3Ideal.main_v30_5) = v5 c
          ∧ r.2.mem ((c.tc : Thread Cert.Kernel3Ideal.nD Cert.Kernel3Ideal.τ).loc Cert.Kernel3Ideal.main_v30_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v98) = v0 c
          ∧ r.2.mem ((c.tc : Thread Cert.Reference3Ideal.nD Cert.Reference3Ideal.τ).loc Cert.Reference3Ideal.main_v100) = v1 c
          ∧ r.2.mem ((c.tc : Thread Cert.Reference3Ideal.nD Cert.Reference3Ideal.τ).loc Cert.Reference3Ideal.main_v102) = v2 c
          ∧ r.2.mem ((c.tc : Thread Cert.Reference3Ideal.nD Cert.Reference3Ideal.τ).loc Cert.Reference3Ideal.main_v247) = v3 c
          ∧ r.2.mem ((c.tc : Thread Cert.Reference3Ideal.nD Cert.Reference3Ideal.τ).loc Cert.Reference3Ideal.main_v248) = v4 c
          ∧ r.2.mem ((c.tc : Thread Cert.Reference3Ideal.nD Cert.Reference3Ideal.τ).loc Cert.Reference3Ideal.main_v249) = v5 c
          ∧ r.2.mem ((c.tc : Thread Cert.Reference3Ideal.nD Cert.Reference3Ideal.τ).loc Cert.Reference3Ideal.main_v250) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_gate : Cert.Pre_finite_gate.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_gate (hKernel2Ideal := hKernel2Ideal) (hPre_finite_gate := hPre_finite_gate)
    ∧ quiescent_Reference2Ideal (hReference2Ideal := hReference2Ideal)
    ∧ quiescent_Reference2Ideal_pre_finite_gate (hReference2Ideal := hReference2Ideal) (hPre_finite_gate := hPre_finite_gate)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_gate (hKernel2Ideal := hKernel2Ideal) (hReference2Ideal := hReference2Ideal) (hPre_finite_gate := hPre_finite_gate)
    ∧ preserves_Kernel3_Kernel3Ideal
    ∧ algebraic_Kernel3Ideal_Reference3Ideal (hKernel3Ideal := hKernel3Ideal) (hReference3Ideal := hReference3Ideal)
-- ==== Pre_finite_gate.lean ====
abbrev S8x2048x1024 : Shape := ⟨3, ![8, 2048, 1024]⟩
abbrev S1024 : Shape := ⟨1, ![1024]⟩
abbrev S1024x5632 : Shape := ⟨2, ![1024, 5632]⟩
abbrev S3x1x5632 : Shape := ⟨3, ![3, 1, 5632]⟩
abbrev S5632 : Shape := ⟨1, ![5632]⟩
abbrev S2816x1024 : Shape := ⟨2, ![2816, 1024]⟩
abbrev S3x1x2816 : Shape := ⟨3, ![3, 1, 2816]⟩
abbrev S3x2816 : Shape := ⟨2, ![3, 2816]⟩
abbrev S_ : Shape := ⟨0, ![]⟩
abbrev S1x2816 : Shape := ⟨2, ![1, 2816]⟩
abbrev S2816 : Shape := ⟨1, ![2816]⟩
abbrev S1024x2816 : Shape := ⟨2, ![1024, 2816]⟩
abbrev S1024x1 : Shape := ⟨2, ![1024, 1]⟩

class Facts : Prop where
  slices_S3x1x5632_S3x1x2816_0_0_0 : S3x1x5632.Slices ![0, 0, 0] S3x1x2816
  shapeCasts_S3x1x2816_S3x2816 : S3x1x2816.ShapeCasts S3x2816
  bcast_S_S3x2816 : S_.BroadcastsInDim S3x2816 (![] : Fin 0 → Fin S3x2816.rank)
  slices_S3x2816_S1x2816_0_0 : S3x2816.Slices ![0, 0] S1x2816
  shapeCasts_S1x2816_S2816 : S1x2816.ShapeCasts S2816
  slices_S3x2816_S1x2816_1_0 : S3x2816.Slices ![1, 0] S1x2816
  slices_S3x2816_S1x2816_2_0 : S3x2816.Slices ![2, 0] S1x2816
  slices_S5632_S2816_0 : S5632.Slices ![0] S2816
  bcast_S_S2816 : S_.BroadcastsInDim S2816 (![] : Fin 0 → Fin S2816.rank)
  slices_S1024x5632_S1024x2816_0_0 : S1024x5632.Slices ![0, 0] S1024x2816
  bcast_S_S1024x2816 : S_.BroadcastsInDim S1024x2816 (![] : Fin 0 → Fin S1024x2816.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x2816_0_1 : S1024x1.BroadcastsInDim S1024x2816 (![0, 1] : Fin 2 → Fin S1024x2816.rank)
  bcast_S2816_S1x2816_1 : S2816.BroadcastsInDim S1x2816 (![1] : Fin 1 → Fin S1x2816.rank)
  bcast_S1x2816_S1024x2816_0_1 : S1x2816.BroadcastsInDim S1024x2816 (![0, 1] : Fin 2 → Fin S1024x2816.rank)

variable [Facts]

def fn_part1 {F : FTy → Type} [FloatOps F] (main_arg1 : FVec F S1024 .f32) (main_v17 : IVec S2816 1) (main_v19 : FVec F S1024x2816 .f32) (main_v20 : FVec F S1024x2816 .f32) : IVec S1024x2816 1 :=
  let main_v21 : IVec S1024x2816 1 := cmpf .olt main_v19 main_v20
  let main_v22 : FVec F S1024 .f32 := Host.absf main_arg1
  let main_cst_2 : FVec F S_ .f32 := constant S_ .f32 0x7F800000#32
  let main_v23 : FVec F S1024 .f32 := broadcastInDim S1024 ![] bcast_S_S1024 main_cst_2
  let main_v24 : IVec S1024 1 := cmpf .olt main_v22 main_v23
  let main_v25 : IVec S1024x1 1 := broadcastInDim S1024x1 ![0] bcast_S1024_S1024x1_0 main_v24
  let main_v26 : IVec S1024x2816 1 := broadcastInDim S1024x2816 ![0, 1] bcast_S1024x1_S1024x2816_0_1 main_v25
  let main_v27 : IVec S1024x2816 1 := andi main_v21 main_v26
  let main_v28 : IVec S1x2816 1 := broadcastInDim S1x2816 ![1] bcast_S2816_S1x2816_1 main_v17
  let main_v29 : IVec S1024x2816 1 := broadcastInDim S1024x2816 ![0, 1] bcast_S1x2816_S1024x2816_0_1 main_v28
  let main_v30 : IVec S1024x2816 1 := andi main_v27 main_v29
  main_v30

def fn {F : FTy → Type} [FloatOps F] (main_arg0 : FVec F S8x2048x1024 .f32) (main_arg1 : FVec F S1024 .f32) (main_arg2 : FVec F S1024x5632 .f32) (main_arg3 : FVec F S3x1x5632 .f32) (main_arg4 : FVec F S5632 .f32) (main_arg5 : FVec F S2816x1024 .f32) (main_arg6 : FVec F S1024 .f32) : IVec S1024x2816 1 :=
  let main_v0 : FVec F S3x1x2816 .f32 := (extractStridedSlice S3x1x2816 ![0, 0, 0] · slices_S3x1x5632_S3x1x2816_0_0_0) main_arg3
  let main_v1 : FVec F S3x2816 .f32 := shapeCast S3x2816 main_v0 shapeCasts_S3x1x2816_S3x2816
  let main_v2 : FVec F S3x2816 .f32 := Host.absf main_v1
  let main_cst : FVec F S_ .f32 := constant S_ .f32 0x7F800000#32
  let main_v3 : FVec F S3x2816 .f32 := broadcastInDim S3x2816 ![] bcast_S_S3x2816 main_cst
  let main_v4 : IVec S3x2816 1 := cmpf .olt main_v2 main_v3
  let main_v5 : IVec S1x2816 1 := (extractStridedSlice S1x2816 ![0, 0] · slices_S3x2816_S1x2816_0_0) main_v4
  let main_v6 : IVec S2816 1 := shapeCast S2816 main_v5 shapeCasts_S1x2816_S2816
  let main_v7 : IVec S1x2816 1 := (extractStridedSlice S1x2816 ![1, 0] · slices_S3x2816_S1x2816_1_0) main_v4
  let main_v8 : IVec S2816 1 := shapeCast S2816 main_v7 shapeCasts_S1x2816_S2816
  let main_v9 : IVec S2816 1 := andi main_v6 main_v8
  let main_v10 : IVec S1x2816 1 := (extractStridedSlice S1x2816 ![2, 0] · slices_S3x2816_S1x2816_2_0) main_v4
  let main_v11 : IVec S2816 1 := shapeCast S2816 main_v10 shapeCasts_S1x2816_S2816
  let main_v12 : IVec S2816 1 := andi main_v9 main_v11
  let main_v13 : FVec F S2816 .f32 := (extractStridedSlice S2816 ![0] · slices_S5632_S2816_0) main_arg4
  let main_v14 : FVec F S2816 .f32 := Host.absf main_v13
  let main_cst_0 : FVec F S_ .f32 := constant S_ .f32 0x7F800000#32
  let main_v15 : FVec F S2816 .f32 := broadcastInDim S2816 ![] bcast_S_S2816 main_cst_0
  let main_v16 : IVec S2816 1 := cmpf .olt main_v14 main_v15
  let main_v17 : IVec S2816 1 := andi main_v12 main_v16
  let main_v18 : FVec F S1024x2816 .f32 := (extractStridedSlice S1024x2816 ![0, 0] · slices_S1024x5632_S1024x2816_0_0) main_arg2
  let main_v19 : FVec F S1024x2816 .f32 := Host.absf main_v18
  let main_cst_1 : FVec F S_ .f32 := constant S_ .f32 0x7F800000#32
  let main_v20 : FVec F S1024x2816 .f32 := broadcastInDim S1024x2816 ![] bcast_S_S1024x2816 main_cst_1
  fn_part1 (F := F) main_arg1 main_v17 main_v19 main_v20
-- ==== Kernel.lean ====
abbrev S8x2048x512 : Shape := ⟨3, ![8, 2048, 512]⟩
abbrev S8x2048x1024 : Shape := ⟨3, ![8, 2048, 1024]⟩
abbrev S1024x1024 : Shape := ⟨2, ![1024, 1024]⟩
abbrev S1024 : Shape := ⟨1, ![1024]⟩
abbrev S8x512x2048 : Shape := ⟨3, ![8, 512, 2048]⟩
abbrev S1x1024 : Shape := ⟨2, ![1, 1024]⟩
abbrev S3x1x512x1024 : Shape := ⟨4, ![3, 1, 512, 1024]⟩
abbrev S3 : Shape := ⟨1, ![3]⟩
abbrev S3x1x1024x512 : Shape := ⟨4, ![3, 1, 1024, 512]⟩
abbrev S3x1x1024x1024 : Shape := ⟨4, ![3, 1, 1024, 1024]⟩
abbrev S2x1x1024x1024 : Shape := ⟨4, ![2, 1, 1024, 1024]⟩
abbrev S2 : Shape := ⟨1, ![2]⟩
abbrev S1 : Shape := ⟨1, ![1]⟩
abbrev S_ : Shape := ⟨0, ![]⟩
abbrev S1x1x512x1024 : Shape := ⟨4, ![1, 1, 512, 1024]⟩
abbrev S1x512x1024 : Shape := ⟨3, ![1, 512, 1024]⟩
abbrev S1x1x1024x512 : Shape := ⟨4, ![1, 1, 1024, 512]⟩
abbrev S1x1024x512 : Shape := ⟨3, ![1, 1024, 512]⟩
abbrev S1x1x1024x1024 : Shape := ⟨4, ![1, 1, 1024, 1024]⟩
abbrev S1x1024x1024 : Shape := ⟨3, ![1, 1024, 1024]⟩
abbrev S512x1024 : Shape := ⟨2, ![512, 1024]⟩
abbrev S1024x512 : Shape := ⟨2, ![1024, 512]⟩
abbrev S1024x1 : Shape := ⟨2, ![1024, 1]⟩

abbrev nBuf : Space → Nat
  | .hbm => 11
  | .vmem => 6
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S8x512x2048, .f32⟩
  | .hbm, ⟨6, _⟩ => ⟨S8x512x2048, .bf16⟩
  | .hbm, ⟨7, _⟩ => ⟨S8x2048x512, .bf16⟩
  | .hbm, ⟨8, _⟩ => ⟨S1024x1024, .bf16⟩
  | .hbm, ⟨9, _⟩ => ⟨S1x1024, .f32⟩
  | .hbm, ⟨10, _⟩ => ⟨S8x2048x1024, .f32⟩
  | .local _ .vmem, ⟨0, _⟩ => ⟨S1024x1024, .bf16⟩
  | .local _ .vmem, ⟨1, _⟩ => ⟨S1x1024, .f32⟩
  | .local _ .vmem, ⟨2, _⟩ => ⟨S3x1x512x1024, .bf16⟩
  | .local _ .vmem, ⟨3, _⟩ => ⟨S3x1x1024x512, .bf16⟩
  | .local _ .vmem, ⟨4, _⟩ => ⟨S3x1x1024x1024, .f32⟩
  | .local _ .vmem, ⟨5, _⟩ => ⟨S2x1x1024x1024, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_scoped0 : Ref sig .tc := ⟨.vmem, 2, rfl⟩
abbrev cc0_scoped2 : Ref sig .tc := ⟨.vmem, 3, rfl⟩
abbrev cc0_scoped4 : Ref sig .tc := ⟨.vmem, 4, rfl⟩
abbrev cc0_scoped6 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_36_r0 : BitVec 32 := 0#32
  let c3_i32_r0 : BitVec 32 := 3#32
  let v40_r0 : BitVec 32 := Scalar.remui c0_i32_36_r0 c3_i32_r0
  ![v40_r0.toNat]
def k0_off2 : Fin 4 → Nat :=
  let c0_i32_36_r0 : BitVec 32 := 0#32
  let c3_i32_r0 : BitVec 32 := 3#32
  let v40_r0 : BitVec 32 := Scalar.remui c0_i32_36_r0 c3_i32_r0
  let c0_i32_37_r0 : BitVec 32 := 0#32
  let c0_i32_38_r0 : BitVec 32 := 0#32
  let c0_i32_39_r0 : BitVec 32 := 0#32
  ![v40_r0.toNat, 0, 0, 0]
def k0_off3 : Fin 4 → Nat :=
  let c0_i32_45_r0 : BitVec 32 := 0#32
  let c3_i32_46_r0 : BitVec 32 := 3#32
  let v47_r0 : BitVec 32 := Scalar.remui c0_i32_45_r0 c3_i32_46_r0
  let c0_i32_47_r0 : BitVec 32 := 0#32
  let c0_i32_48_r0 : BitVec 32 := 0#32
  let c0_i32_49_r0 : BitVec 32 := 0#32
  ![v47_r0.toNat, 0, 0, 0]
def k0_off4 : Fin 4 → Nat :=
  let c0_i32_55_r0 : BitVec 32 := 0#32
  let c3_i32_56_r0 : BitVec 32 := 3#32
  let v54_r0 : BitVec 32 := Scalar.remui c0_i32_55_r0 c3_i32_56_r0
  let c0_i32_57_r0 : BitVec 32 := 0#32
  let c0_i32_58_r0 : BitVec 32 := 0#32
  let c0_i32_59_r0 : BitVec 32 := 0#32
  ![v54_r0.toNat, 0, 0, 0]
def k0_cond1 : BitVec 1 :=
  let true_67_r0 : BitVec 1 := 1#1
  let true_9_r0 : BitVec 1 := 1#1
  let c1_i32_11_r0 : BitVec 32 := 1#32
  let c0_i32_10_r0 : BitVec 32 := 0#32
  let v12_r0 : BitVec 32 := Scalar.select true_9_r0 c1_i32_11_r0 c0_i32_10_r0
  let c2_i32_r0 : BitVec 32 := 2#32
  let v13_r0 : BitVec 1 := Scalar.cmpi .eq v12_r0 c2_i32_r0
  let c1_i32_14_r0 : BitVec 32 := 1#32
  let c0_i32_13_r0 : BitVec 32 := 0#32
  let v15_r0 : BitVec 32 := Scalar.select v13_r0 c1_i32_14_r0 c0_i32_13_r0
  let c8_i32_r0 : BitVec 32 := 8#32
  let v16_r0 : BitVec 1 := Scalar.cmpi .eq v15_r0 c8_i32_r0
  let c0_i32_15_r0 : BitVec 32 := 0#32
  let v17_r0 : BitVec 32 := Scalar.select v16_r0 c0_i32_15_r0 v15_r0
  let c0_i32_16_r0 : BitVec 32 := 0#32
  let v18_r0 : BitVec 32 := Scalar.addi v17_r0 c0_i32_16_r0
  let c0_i32_65_r0 : BitVec 32 := 0#32
  let v61_r0 : BitVec 1 := Scalar.cmpi .ne v18_r0 c0_i32_65_r0
  let c0_i32_12_r0 : BitVec 32 := 0#32
  let v14_r0 : BitVec 32 := Scalar.select v13_r0 c0_i32_12_r0 v12_r0
  let c0_i32_17_r0 : BitVec 32 := 0#32
  let v19_r0 : BitVec 32 := Scalar.addi v14_r0 c0_i32_17_r0
  let c0_i32_66_r0 : BitVec 32 := 0#32
  let v62_r0 : BitVec 1 := Scalar.cmpi .ne v19_r0 c0_i32_66_r0
  let v63_r0 : BitVec 1 := Scalar.ori v61_r0 v62_r0
  let v64_r0 : BitVec 1 := Scalar.andi true_67_r0 v63_r0
  let true_68_r0 : BitVec 1 := 1#1
  let v65_r0 : BitVec 1 := Scalar.andi v64_r0 true_68_r0
  let v66_r0 : BitVec 32 := Scalar.extui v65_r0
  let c0_i32_69_r0 : BitVec 32 := 0#32
  let v67_r0 : BitVec 1 := Scalar.cmpi .ne v66_r0 c0_i32_69_r0
  v67_r0

def k0_off5 : Fin 1 → Nat :=
  let c0_i32_43_r0 : BitVec 32 := 0#32
  let c1_i32_44_r0 : BitVec 32 := 1#32
  let v46_r0 : BitVec 32 := Scalar.addi c0_i32_43_r0 c1_i32_44_r0
  let c3_i32_144_r0 : BitVec 32 := 3#32
  let v148_r0 : BitVec 32 := Scalar.remui v46_r0 c3_i32_144_r0
  ![v148_r0.toNat]
def k0_off6 : Fin 4 → Nat :=
  let c0_i32_43_r0 : BitVec 32 := 0#32
  let c1_i32_44_r0 : BitVec 32 := 1#32
  let v46_r0 : BitVec 32 := Scalar.addi c0_i32_43_r0 c1_i32_44_r0
  let c3_i32_144_r0 : BitVec 32 := 3#32
  let v148_r0 : BitVec 32 := Scalar.remui v46_r0 c3_i32_144_r0
  let c0_i32_147_r0 : BitVec 32 := 0#32
  let c0_i32_148_r0 : BitVec 32 := 0#32
  let c0_i32_149_r0 : BitVec 32 := 0#32
  ![v148_r0.toNat, 0, 0, 0]
def k0_off7 : Fin 3 → Nat :=
  let c1_i32_145_r0 : BitVec 32 := 1#32
  let true_9_r0 : BitVec 1 := 1#1
  let c1_i32_11_r0 : BitVec 32 := 1#32
  let c0_i32_10_r0 : BitVec 32 := 0#32
  let v12_r0 : BitVec 32 := Scalar.select true_9_r0 c1_i32_11_r0 c0_i32_10_r0
  let c2_i32_r0 : BitVec 32 := 2#32
  let v13_r0 : BitVec 1 := Scalar.cmpi .eq v12_r0 c2_i32_r0
  let c1_i32_14_r0 : BitVec 32 := 1#32
  let c0_i32_13_r0 : BitVec 32 := 0#32
  let v15_r0 : BitVec 32 := Scalar.select v13_r0 c1_i32_14_r0 c0_i32_13_r0
  let c8_i32_r0 : BitVec 32 := 8#32
  let v16_r0 : BitVec 1 := Scalar.cmpi .eq v15_r0 c8_i32_r0
  let c0_i32_15_r0 : BitVec 32 := 0#32
  let v17_r0 : BitVec 32 := Scalar.select v16_r0 c0_i32_15_r0 v15_r0
  let c0_i32_16_r0 : BitVec 32 := 0#32
  let v18_r0 : BitVec 32 := Scalar.addi v17_r0 c0_i32_16_r0
  let v149_r0 : BitVec 32 := Scalar.muli c1_i32_145_r0 v18_r0
  let c0_i32_150_r0 : BitVec 32 := 0#32
  let c1024_i32_146_r0 : BitVec 32 := 1024#32
  let c0_i32_12_r0 : BitVec 32 := 0#32
  let v14_r0 : BitVec 32 := Scalar.select v13_r0 c0_i32_12_r0 v12_r0
  let c0_i32_17_r0 : BitVec 32 := 0#32
  let v19_r0 : BitVec 32 := Scalar.addi v14_r0 c0_i32_17_r0
  let v150_r0 : BitVec 32 := Scalar.muli c1024_i32_146_r0 v19_r0
  ![v149_r0.toNat, 0, v150_r0.toNat]
def k0_cond2 : BitVec 1 :=
  let true_73_r0 : BitVec 1 := 1#1
  let true_9_r0 : BitVec 1 := 1#1
  let c1_i32_11_r0 : BitVec 32 := 1#32
  let c0_i32_10_r0 : BitVec 32 := 0#32
  let v12_r0 : BitVec 32 := Scalar.select true_9_r0 c1_i32_11_r0 c0_i32_10_r0
  let c2_i32_r0 : BitVec 32 := 2#32
  let v13_r0 : BitVec 1 := Scalar.cmpi .eq v12_r0 c2_i32_r0
  let c1_i32_14_r0 : BitVec 32 := 1#32
  let c0_i32_13_r0 : BitVec 32 := 0#32
  let v15_r0 : BitVec 32 := Scalar.select v13_r0 c1_i32_14_r0 c0_i32_13_r0
  let c8_i32_r0 : BitVec 32 := 8#32
  let v16_r0 : BitVec 1 := Scalar.cmpi .eq v15_r0 c8_i32_r0
  let c0_i32_15_r0 : BitVec 32 := 0#32
  let v17_r0 : BitVec 32 := Scalar.select v16_r0 c0_i32_15_r0 v15_r0
  let c0_i32_16_r0 : BitVec 32 := 0#32
  let v18_r0 : BitVec 32 := Scalar.addi v17_r0 c0_i32_16_r0
  let c0_i32_71_r0 : BitVec 32 := 0#32
  let v70_r0 : BitVec 1 := Scalar.cmpi .ne v18_r0 c0_i32_71_r0
  let c0_i32_12_r0 : BitVec 32 := 0#32
  let v14_r0 : BitVec 32 := Scalar.select v13_r0 c0_i32_12_r0 v12_r0
  let c0_i32_17_r0 : BitVec 32 := 0#32
  let v19_r0 : BitVec 32 := Scalar.addi v14_r0 c0_i32_17_r0
  let c0_i32_72_r0 : BitVec 32 := 0#32
  let v71_r0 : BitVec 1 := Scalar.cmpi .ne v19_r0 c0_i32_72_r0
  let v72_r0 : BitVec 1 := Scalar.ori v70_r0 v71_r0
  let v73_r0 : BitVec 1 := Scalar.andi true_73_r0 v72_r0
  let true_74_r0 : BitVec 1 := 1#1
  let v74_r0 : BitVec 1 := Scalar.andi v73_r0 true_74_r0
  let v75_r0 : BitVec 32 := Scalar.extui v74_r0
  let c0_i32_75_r0 : BitVec 32 := 0#32
  let v76_r0 : BitVec 1 := Scalar.cmpi .ne v75_r0 c0_i32_75_r0
  v76_r0

def k0_off8 : Fin 1 → Nat :=
  let c0_i32_53_r0 : BitVec 32 := 0#32
  let c1_i32_54_r0 : BitVec 32 := 1#32
  let v53_r0 : BitVec 32 := Scalar.addi c0_i32_53_r0 c1_i32_54_r0
  let c3_i32_144_r0 : BitVec 32 := 3#32
  let v148_r0 : BitVec 32 := Scalar.remui v53_r0 c3_i32_144_r0
  ![v148_r0.toNat]
def k0_off9 : Fin 4 → Nat :=
  let c0_i32_53_r0 : BitVec 32 := 0#32
  let c1_i32_54_r0 : BitVec 32 := 1#32
  let v53_r0 : BitVec 32 := Scalar.addi c0_i32_53_r0 c1_i32_54_r0
  let c3_i32_144_r0 : BitVec 32 := 3#32
  let v148_r0 : BitVec 32 := Scalar.remui v53_r0 c3_i32_144_r0
  let c0_i32_147_r0 : BitVec 32 := 0#32
  let c0_i32_148_r0 : BitVec 32 := 0#32
  let c0_i32_149_r0 : BitVec 32 := 0#32
  ![v148_r0.toNat, 0, 0, 0]
def k0_off10 : Fin 3 → Nat :=
  let c1_i32_145_r0 : BitVec 32 := 1#32
  let true_9_r0 : BitVec 1 := 1#1
  let c1_i32_11_r0 : BitVec 32 := 1#32
  let c0_i32_10_r0 : BitVec 32 := 0#32
  let v12_r0 : BitVec 32 := Scalar.select true_9_r0 c1_i32_11_r0 c0_i32_10_r0
  let c2_i32_r0 : BitVec 32 := 2#32
  let v13_r0 : BitVec 1 := Scalar.cmpi .eq v12_r0 c2_i32_r0
  let c1_i32_14_r0 : BitVec 32 := 1#32
  let c0_i32_13_r0 : BitVec 32 := 0#32
  let v15_r0 : BitVec 32 := Scalar.select v13_r0 c1_i32_14_r0 c0_i32_13_r0
  let c8_i32_r0 : BitVec 32 := 8#32
  let v16_r0 : BitVec 1 := Scalar.cmpi .eq v15_r0 c8_i32_r0
  let c0_i32_15_r0 : BitVec 32 := 0#32
  let v17_r0 : BitVec 32 := Scalar.select v16_r0 c0_i32_15_r0 v15_r0
  let c0_i32_16_r0 : BitVec 32 := 0#32
  let v18_r0 : BitVec 32 := Scalar.addi v17_r0 c0_i32_16_r0
  let v149_r0 : BitVec 32 := Scalar.muli c1_i32_145_r0 v18_r0
  let c1024_i32_146_r0 : BitVec 32 := 1024#32
  let c0_i32_12_r0 : BitVec 32 := 0#32
  let v14_r0 : BitVec 32 := Scalar.select v13_r0 c0_i32_12_r0 v12_r0
  let c0_i32_17_r0 : BitVec 32 := 0#32
  let v19_r0 : BitVec 32 := Scalar.addi v14_r0 c0_i32_17_r0
  let v150_r0 : BitVec 32 := Scalar.muli c1024_i32_146_r0 v19_r0
  let c0_i32_150_r0 : BitVec 32 := 0#32
  ![v149_r0.toNat, v150_r0.toNat, 0]
def k0_cond3 : BitVec 1 :=
  let true_79_r0 : BitVec 1 := 1#1
  let true_9_r0 : BitVec 1 := 1#1
  let c1_i32_11_r0 : BitVec 32 := 1#32
  let c0_i32_10_r0 : BitVec 32 := 0#32
  let v12_r0 : BitVec 32 := Scalar.select true_9_r0 c1_i32_11_r0 c0_i32_10_r0
  let c2_i32_r0 : BitVec 32 := 2#32
  let v13_r0 : BitVec 1 := Scalar.cmpi .eq v12_r0 c2_i32_r0
  let c1_i32_14_r0 : BitVec 32 := 1#32
  let c0_i32_13_r0 : BitVec 32 := 0#32
  let v15_r0 : BitVec 32 := Scalar.select v13_r0 c1_i32_14_r0 c0_i32_13_r0
  let c8_i32_r0 : BitVec 32 := 8#32
  let v16_r0 : BitVec 1 := Scalar.cmpi .eq v15_r0 c8_i32_r0
  let c0_i32_15_r0 : BitVec 32 := 0#32
  let v17_r0 : BitVec 32 := Scalar.select v16_r0 c0_i32_15_r0 v15_r0
  let c0_i32_16_r0 : BitVec 32 := 0#32
  let v18_r0 : BitVec 32 := Scalar.addi v17_r0 c0_i32_16_r0
  let c0_i32_77_r0 : BitVec 32 := 0#32
  let v79_r0 : BitVec 1 := Scalar.cmpi .ne v18_r0 c0_i32_77_r0
  let c0_i32_12_r0 : BitVec 32 := 0#32
  let v14_r0 : BitVec 32 := Scalar.select v13_r0 c0_i32_12_r0 v12_r0
  let c0_i32_17_r0 : BitVec 32 := 0#32
  let v19_r0 : BitVec 32 := Scalar.addi v14_r0 c0_i32_17_r0
  let c0_i32_78_r0 : BitVec 32 := 0#32
  let v80_r0 : BitVec 1 := Scalar.cmpi .ne v19_r0 c0_i32_78_r0
  let v81_r0 : BitVec 1 := Scalar.ori v79_r0 v80_r0
  let v82_r0 : BitVec 1 := Scalar.andi true_79_r0 v81_r0
  let true_80_r0 : BitVec 1 := 1#1
  let v83_r0 : BitVec 1 := Scalar.andi v82_r0 true_80_r0
  let v84_r0 : BitVec 32 := Scalar.extui v83_r0
  let c0_i32_81_r0 : BitVec 32 := 0#32
  let v85_r0 : BitVec 1 := Scalar.cmpi .ne v84_r0 c0_i32_81_r0
  v85_r0

def k0_off11 : Fin 1 → Nat :=
  let c0_i32_63_r0 : BitVec 32 := 0#32
  let c1_i32_64_r0 : BitVec 32 := 1#32
  let v60_r0 : BitVec 32 := Scalar.addi c0_i32_63_r0 c1_i32_64_r0
  let c3_i32_144_r0 : BitVec 32 := 3#32
  let v148_r0 : BitVec 32 := Scalar.remui v60_r0 c3_i32_144_r0
  ![v148_r0.toNat]
def k0_off12 : Fin 4 → Nat :=
  let c0_i32_63_r0 : BitVec 32 := 0#32
  let c1_i32_64_r0 : BitVec 32 := 1#32
  let v60_r0 : BitVec 32 := Scalar.addi c0_i32_63_r0 c1_i32_64_r0
  let c3_i32_144_r0 : BitVec 32 := 3#32
  let v148_r0 : BitVec 32 := Scalar.remui v60_r0 c3_i32_144_r0
  let c0_i32_147_r0 : BitVec 32 := 0#32
  let c0_i32_148_r0 : BitVec 32 := 0#32
  let c0_i32_149_r0 : BitVec 32 := 0#32
  ![v148_r0.toNat, 0, 0, 0]
def k0_off13 : Fin 3 → Nat :=
  let c1_i32_145_r0 : BitVec 32 := 1#32
  let true_9_r0 : BitVec 1 := 1#1
  let c1_i32_11_r0 : BitVec 32 := 1#32
  let c0_i32_10_r0 : BitVec 32 := 0#32
  let v12_r0 : BitVec 32 := Scalar.select true_9_r0 c1_i32_11_r0 c0_i32_10_r0
  let c2_i32_r0 : BitVec 32 := 2#32
  let v13_r0 : BitVec 1 := Scalar.cmpi .eq v12_r0 c2_i32_r0
  let c1_i32_14_r0 : BitVec 32 := 1#32
  let c0_i32_13_r0 : BitVec 32 := 0#32
  let v15_r0 : BitVec 32 := Scalar.select v13_r0 c1_i32_14_r0 c0_i32_13_r0
  let c8_i32_r0 : BitVec 32 := 8#32
  let v16_r0 : BitVec 1 := Scalar.cmpi .eq v15_r0 c8_i32_r0
  let c0_i32_15_r0 : BitVec 32 := 0#32
  let v17_r0 : BitVec 32 := Scalar.select v16_r0 c0_i32_15_r0 v15_r0
  let c0_i32_16_r0 : BitVec 32 := 0#32
  let v18_r0 : BitVec 32 := Scalar.addi v17_r0 c0_i32_16_r0
  let v149_r0 : BitVec 32 := Scalar.muli c1_i32_145_r0 v18_r0
  let c1024_i32_146_r0 : BitVec 32 := 1024#32
  let c0_i32_12_r0 : BitVec 32 := 0#32
  let v14_r0 : BitVec 32 := Scalar.select v13_r0 c0_i32_12_r0 v12_r0
  let c0_i32_17_r0 : BitVec 32 := 0#32
  let v19_r0 : BitVec 32 := Scalar.addi v14_r0 c0_i32_17_r0
  let v150_r0 : BitVec 32 := Scalar.muli c1024_i32_146_r0 v19_r0
  let c0_i32_150_r0 : BitVec 32 := 0#32
  ![v149_r0.toNat, v150_r0.toNat, 0]
@[reducible] def k0_t1_loop : Scf.Loop 32 :=
  let c0_i32_90_r0 : BitVec 32 := 0#32
  let c16_i32_r0 : BitVec 32 := 16#32
  let v88_r0 : BitVec 32 := Scalar.addi c0_i32_90_r0 c16_i32_r0
  let c1_i32_91_r0 : BitVec 32 := 1#32
  ⟨c0_i32_90_r0, v88_r0, c1_i32_91_r0⟩
def k0_off14 (arg7_r0 : BitVec 32) : Fin 1 → Nat :=
  let c3_i32_277_r0 : BitVec 32 := 3#32
  let v400_r0 : BitVec 32 := Scalar.remui arg7_r0 c3_i32_277_r0
  ![v400_r0.toNat]
def k0_cond4 (k0_t1 : Fin k0_t1_loop.trips) (arg15_r0 : BitVec 32) (arg16_r0 : BitVec 32) : BitVec 1 :=
  let true_157_r0 : BitVec 1 := 1#1
  let c1_i32_156_r0 : BitVec 32 := 1#32
  let v162_r0 : BitVec 32 := Scalar.addi arg16_r0 c1_i32_156_r0
  let v163_r0 : BitVec 32 := Scalar.select true_157_r0 v162_r0 arg16_r0
  let c2_i32_158_r0 : BitVec 32 := 2#32
  let v164_r0 : BitVec 1 := Scalar.cmpi .eq v163_r0 c2_i32_158_r0
  let c1_i32_160_r0 : BitVec 32 := 1#32
  let v166_r0 : BitVec 32 := Scalar.addi arg15_r0 c1_i32_160_r0
  let v167_r0 : BitVec 32 := Scalar.select v164_r0 v166_r0 arg15_r0
  let c8_i32_161_r0 : BitVec 32 := 8#32
  let v168_r0 : BitVec 1 := Scalar.cmpi .eq v167_r0 c8_i32_161_r0
  let c0_i32_162_r0 : BitVec 32 := 0#32
  let v169_r0 : BitVec 32 := Scalar.select v168_r0 c0_i32_162_r0 v167_r0
  let c0_i32_163_r0 : BitVec 32 := 0#32
  let v170_r0 : BitVec 32 := Scalar.addi v169_r0 c0_i32_163_r0
  let true_166_r0 : BitVec 1 := 1#1
  let c0_i32_159_r0 : BitVec 32 := 0#32
  let v165_r0 : BitVec 32 := Scalar.select v164_r0 c0_i32_159_r0 v163_r0
  let c1_i32_165_r0 : BitVec 32 := 1#32
  let v172_r0 : BitVec 32 := Scalar.addi v165_r0 c1_i32_165_r0
  let v173_r0 : BitVec 32 := Scalar.select true_166_r0 v172_r0 v165_r0
  let c2_i32_167_r0 : BitVec 32 := 2#32
  let v174_r0 : BitVec 1 := Scalar.cmpi .eq v173_r0 c2_i32_167_r0
  let c1_i32_169_r0 : BitVec 32 := 1#32
  let v176_r0 : BitVec 32 := Scalar.addi v169_r0 c1_i32_169_r0
  let v177_r0 : BitVec 32 := Scalar.select v174_r0 v176_r0 v169_r0
  let c8_i32_170_r0 : BitVec 32 := 8#32
  let v178_r0 : BitVec 1 := Scalar.cmpi .eq v177_r0 c8_i32_170_r0
  let c0_i32_171_r0 : BitVec 32 := 0#32
  let v179_r0 : BitVec 32 := Scalar.select v178_r0 c0_i32_171_r0 v177_r0
  let c0_i32_172_r0 : BitVec 32 := 0#32
  let v180_r0 : BitVec 32 := Scalar.addi v179_r0 c0_i32_172_r0
  let v192_r0 : BitVec 1 := Scalar.cmpi .ne v170_r0 v180_r0
  let c0_i32_164_r0 : BitVec 32 := 0#32
  let v171_r0 : BitVec 32 := Scalar.addi v165_r0 c0_i32_164_r0
  let c0_i32_168_r0 : BitVec 32 := 0#32
  let v175_r0 : BitVec 32 := Scalar.select v174_r0 c0_i32_168_r0 v173_r0
  let c0_i32_173_r0 : BitVec 32 := 0#32
  let v181_r0 : BitVec 32 := Scalar.addi v175_r0 c0_i32_173_r0
  let v193_r0 : BitVec 1 := Scalar.cmpi .ne v171_r0 v181_r0
  let v194_r0 : BitVec 1 := Scalar.ori v192_r0 v193_r0
  let c0_i32_90_r0 : BitVec 32 := 0#32
  let c1_i32_91_r0 : BitVec 32 := 1#32
  let arg6_r0 : BitVec 32 := Scf.iv c0_i32_90_r0 c1_i32_91_r0 k0_t1
  let c14_i32_r0 : BitVec 32 := 14#32
  let v195_r0 : BitVec 1 := Scalar.cmpi .sge arg6_r0 c14_i32_r0
  let true_183_r0 : BitVec 1 := 1#1
  let v196_r0 : BitVec 1 := Scalar.xori v195_r0 true_183_r0
  let v197_r0 : BitVec 1 := Scalar.andi v194_r0 v196_r0
  let true_184_r0 : BitVec 1 := 1#1
  let v198_r0 : BitVec 1 := Scalar.andi v197_r0 true_184_r0
  let v199_r0 : BitVec 32 := Scalar.extui v198_r0
  let c0_i32_185_r0 : BitVec 32 := 0#32
  let v200_r0 : BitVec 1 := Scalar.cmpi .ne v199_r0 c0_i32_185_r0
  v200_r0

def k0_off15 (arg7_r0 : BitVec 32) : Fin 4 → Nat :=
  let c3_i32_277_r0 : BitVec 32 := 3#32
  let v400_r0 : BitVec 32 := Scalar.remui arg7_r0 c3_i32_277_r0
  let c0_i32_280_r0 : BitVec 32 := 0#32
  let c0_i32_281_r0 : BitVec 32 := 0#32
  let c0_i32_282_r0 : BitVec 32 := 0#32
  ![v400_r0.toNat, 0, 0, 0]
def k0_off16 (arg15_r0 : BitVec 32) (arg16_r0 : BitVec 32) : Fin 3 → Nat :=
  let c1_i32_278_r0 : BitVec 32 := 1#32
  let true_166_r0 : BitVec 1 := 1#1
  let true_157_r0 : BitVec 1 := 1#1
  let c1_i32_156_r0 : BitVec 32 := 1#32
  let v162_r0 : BitVec 32 := Scalar.addi arg16_r0 c1_i32_156_r0
  let v163_r0 : BitVec 32 := Scalar.select true_157_r0 v162_r0 arg16_r0
  let c2_i32_158_r0 : BitVec 32 := 2#32
  let v164_r0 : BitVec 1 := Scalar.cmpi .eq v163_r0 c2_i32_158_r0
  let c0_i32_159_r0 : BitVec 32 := 0#32
  let v165_r0 : BitVec 32 := Scalar.select v164_r0 c0_i32_159_r0 v163_r0
  let c1_i32_165_r0 : BitVec 32 := 1#32
  let v172_r0 : BitVec 32 := Scalar.addi v165_r0 c1_i32_165_r0
  let v173_r0 : BitVec 32 := Scalar.select true_166_r0 v172_r0 v165_r0
  let c2_i32_167_r0 : BitVec 32 := 2#32
  let v174_r0 : BitVec 1 := Scalar.cmpi .eq v173_r0 c2_i32_167_r0
  let c1_i32_160_r0 : BitVec 32 := 1#32
  let v166_r0 : BitVec 32 := Scalar.addi arg15_r0 c1_i32_160_r0
  let v167_r0 : BitVec 32 := Scalar.select v164_r0 v166_r0 arg15_r0
  let c8_i32_161_r0 : BitVec 32 := 8#32
  let v168_r0 : BitVec 1 := Scalar.cmpi .eq v167_r0 c8_i32_161_r0
  let c0_i32_162_r0 : BitVec 32 := 0#32
  let v169_r0 : BitVec 32 := Scalar.select v168_r0 c0_i32_162_r0 v167_r0
  let c1_i32_169_r0 : BitVec 32 := 1#32
  let v176_r0 : BitVec 32 := Scalar.addi v169_r0 c1_i32_169_r0
  let v177_r0 : BitVec 32 := Scalar.select v174_r0 v176_r0 v169_r0
  let c8_i32_170_r0 : BitVec 32 := 8#32
  let v178_r0 : BitVec 1 := Scalar.cmpi .eq v177_r0 c8_i32_170_r0
  let c0_i32_171_r0 : BitVec 32 := 0#32
  let v179_r0 : BitVec 32 := Scalar.select v178_r0 c0_i32_171_r0 v177_r0
  let c0_i32_172_r0 : BitVec 32 := 0#32
  let v180_r0 : BitVec 32 := Scalar.addi v179_r0 c0_i32_172_r0
  let v401_r0 : BitVec 32 := Scalar.muli c1_i32_278_r0 v180_r0
  let c0_i32_283_r0 : BitVec 32 := 0#32
  let c1024_i32_279_r0 : BitVec 32 := 1024#32
  let c0_i32_168_r0 : BitVec 32 := 0#32
  let v175_r0 : BitVec 32 := Scalar.select v174_r0 c0_i32_168_r0 v173_r0
  let c0_i32_173_r0 : BitVec 32 := 0#32
  let v181_r0 : BitVec 32 := Scalar.addi v175_r0 c0_i32_173_r0
  let v402_r0 : BitVec 32 := Scalar.muli c1024_i32_279_r0 v181_r0
  ![v401_r0.toNat, 0, v402_r0.toNat]
def k0_off17 (arg9_r0 : BitVec 32) : Fin 1 → Nat :=
  let c3_i32_277_r0 : BitVec 32 := 3#32
  let v400_r0 : BitVec 32 := Scalar.remui arg9_r0 c3_i32_277_r0
  ![v400_r0.toNat]
def k0_cond5 (k0_t1 : Fin k0_t1_loop.trips) (arg15_r0 : BitVec 32) (arg16_r0 : BitVec 32) : BitVec 1 :=
  let true_157_r0 : BitVec 1 := 1#1
  let c1_i32_156_r0 : BitVec 32 := 1#32
  let v162_r0 : BitVec 32 := Scalar.addi arg16_r0 c1_i32_156_r0
  let v163_r0 : BitVec 32 := Scalar.select true_157_r0 v162_r0 arg16_r0
  let c2_i32_158_r0 : BitVec 32 := 2#32
  let v164_r0 : BitVec 1 := Scalar.cmpi .eq v163_r0 c2_i32_158_r0
  let c1_i32_160_r0 : BitVec 32 := 1#32
  let v166_r0 : BitVec 32 := Scalar.addi arg15_r0 c1_i32_160_r0
  let v167_r0 : BitVec 32 := Scalar.select v164_r0 v166_r0 arg15_r0
  let c8_i32_161_r0 : BitVec 32 := 8#32
  let v168_r0 : BitVec 1 := Scalar.cmpi .eq v167_r0 c8_i32_161_r0
  let c0_i32_162_r0 : BitVec 32 := 0#32
  let v169_r0 : BitVec 32 := Scalar.select v168_r0 c0_i32_162_r0 v167_r0
  let c0_i32_163_r0 : BitVec 32 := 0#32
  let v170_r0 : BitVec 32 := Scalar.addi v169_r0 c0_i32_163_r0
  let true_166_r0 : BitVec 1 := 1#1
  let c0_i32_159_r0 : BitVec 32 := 0#32
  let v165_r0 : BitVec 32 := Scalar.select v164_r0 c0_i32_159_r0 v163_r0
  let c1_i32_165_r0 : BitVec 32 := 1#32
  let v172_r0 : BitVec 32 := Scalar.addi v165_r0 c1_i32_165_r0
  let v173_r0 : BitVec 32 := Scalar.select true_166_r0 v172_r0 v165_r0
  let c2_i32_167_r0 : BitVec 32 := 2#32
  let v174_r0 : BitVec 1 := Scalar.cmpi .eq v173_r0 c2_i32_167_r0
  let c1_i32_169_r0 : BitVec 32 := 1#32
  let v176_r0 : BitVec 32 := Scalar.addi v169_r0 c1_i32_169_r0
  let v177_r0 : BitVec 32 := Scalar.select v174_r0 v176_r0 v169_r0
  let c8_i32_170_r0 : BitVec 32 := 8#32
  let v178_r0 : BitVec 1 := Scalar.cmpi .eq v177_r0 c8_i32_170_r0
  let c0_i32_171_r0 : BitVec 32 := 0#32
  let v179_r0 : BitVec 32 := Scalar.select v178_r0 c0_i32_171_r0 v177_r0
  let c0_i32_172_r0 : BitVec 32 := 0#32
  let v180_r0 : BitVec 32 := Scalar.addi v179_r0 c0_i32_172_r0
  let v204_r0 : BitVec 1 := Scalar.cmpi .ne v170_r0 v180_r0
  let c0_i32_164_r0 : BitVec 32 := 0#32
  let v171_r0 : BitVec 32 := Scalar.addi v165_r0 c0_i32_164_r0
  let c0_i32_168_r0 : BitVec 32 := 0#32
  let v175_r0 : BitVec 32 := Scalar.select v174_r0 c0_i32_168_r0 v173_r0
  let c0_i32_173_r0 : BitVec 32 := 0#32
  let v181_r0 : BitVec 32 := Scalar.addi v175_r0 c0_i32_173_r0
  let v205_r0 : BitVec 1 := Scalar.cmpi .ne v171_r0 v181_r0
  let v206_r0 : BitVec 1 := Scalar.ori v204_r0 v205_r0
  let c0_i32_90_r0 : BitVec 32 := 0#32
  let c1_i32_91_r0 : BitVec 32 := 1#32
  let arg6_r0 : BitVec 32 := Scf.iv c0_i32_90_r0 c1_i32_91_r0 k0_t1
  let c14_i32_188_r0 : BitVec 32 := 14#32
  let v207_r0 : BitVec 1 := Scalar.cmpi .sge arg6_r0 c14_i32_188_r0
  let true_189_r0 : BitVec 1 := 1#1
  let v208_r0 : BitVec 1 := Scalar.xori v207_r0 true_189_r0
  let v209_r0 : BitVec 1 := Scalar.andi v206_r0 v208_r0
  let true_190_r0 : BitVec 1 := 1#1
  let v210_r0 : BitVec 1 := Scalar.andi v209_r0 true_190_r0
  let v211_r0 : BitVec 32 := Scalar.extui v210_r0
  let c0_i32_191_r0 : BitVec 32 := 0#32
  let v212_r0 : BitVec 1 := Scalar.cmpi .ne v211_r0 c0_i32_191_r0
  v212_r0

def k0_off18 (arg9_r0 : BitVec 32) : Fin 4 → Nat :=
  let c3_i32_277_r0 : BitVec 32 := 3#32
  let v400_r0 : BitVec 32 := Scalar.remui arg9_r0 c3_i32_277_r0
  let c0_i32_280_r0 : BitVec 32 := 0#32
  let c0_i32_281_r0 : BitVec 32 := 0#32
  let c0_i32_282_r0 : BitVec 32 := 0#32
  ![v400_r0.toNat, 0, 0, 0]
def k0_off19 (arg15_r0 : BitVec 32) (arg16_r0 : BitVec 32) : Fin 3 → Nat :=
  let c1_i32_278_r0 : BitVec 32 := 1#32
  let true_166_r0 : BitVec 1 := 1#1
  let true_157_r0 : BitVec 1 := 1#1
  let c1_i32_156_r0 : BitVec 32 := 1#32
  let v162_r0 : BitVec 32 := Scalar.addi arg16_r0 c1_i32_156_r0
  let v163_r0 : BitVec 32 := Scalar.select true_157_r0 v162_r0 arg16_r0
  let c2_i32_158_r0 : BitVec 32 := 2#32
  let v164_r0 : BitVec 1 := Scalar.cmpi .eq v163_r0 c2_i32_158_r0
  let c0_i32_159_r0 : BitVec 32 := 0#32
  let v165_r0 : BitVec 32 := Scalar.select v164_r0 c0_i32_159_r0 v163_r0
  let c1_i32_165_r0 : BitVec 32 := 1#32
  let v172_r0 : BitVec 32 := Scalar.addi v165_r0 c1_i32_165_r0
  let v173_r0 : BitVec 32 := Scalar.select true_166_r0 v172_r0 v165_r0
  let c2_i32_167_r0 : BitVec 32 := 2#32
  let v174_r0 : BitVec 1 := Scalar.cmpi .eq v173_r0 c2_i32_167_r0
  let c1_i32_160_r0 : BitVec 32 := 1#32
  let v166_r0 : BitVec 32 := Scalar.addi arg15_r0 c1_i32_160_r0
  let v167_r0 : BitVec 32 := Scalar.select v164_r0 v166_r0 arg15_r0
  let c8_i32_161_r0 : BitVec 32 := 8#32
  let v168_r0 : BitVec 1 := Scalar.cmpi .eq v167_r0 c8_i32_161_r0
  let c0_i32_162_r0 : BitVec 32 := 0#32
  let v169_r0 : BitVec 32 := Scalar.select v168_r0 c0_i32_162_r0 v167_r0
  let c1_i32_169_r0 : BitVec 32 := 1#32
  let v176_r0 : BitVec 32 := Scalar.addi v169_r0 c1_i32_169_r0
  let v177_r0 : BitVec 32 := Scalar.select v174_r0 v176_r0 v169_r0
  let c8_i32_170_r0 : BitVec 32 := 8#32
  let v178_r0 : BitVec 1 := Scalar.cmpi .eq v177_r0 c8_i32_170_r0
  let c0_i32_171_r0 : BitVec 32 := 0#32
  let v179_r0 : BitVec 32 := Scalar.select v178_r0 c0_i32_171_r0 v177_r0
  let c0_i32_172_r0 : BitVec 32 := 0#32
  let v180_r0 : BitVec 32 := Scalar.addi v179_r0 c0_i32_172_r0
  let v401_r0 : BitVec 32 := Scalar.muli c1_i32_278_r0 v180_r0
  let c1024_i32_279_r0 : BitVec 32 := 1024#32
  let c0_i32_168_r0 : BitVec 32 := 0#32
  let v175_r0 : BitVec 32 := Scalar.select v174_r0 c0_i32_168_r0 v173_r0
  let c0_i32_173_r0 : BitVec 32 := 0#32
  let v181_r0 : BitVec 32 := Scalar.addi v175_r0 c0_i32_173_r0
  let v402_r0 : BitVec 32 := Scalar.muli c1024_i32_279_r0 v181_r0
  let c0_i32_283_r0 : BitVec 32 := 0#32
  ![v401_r0.toNat, v402_r0.toNat, 0]
def k0_off20 (arg11_r0 : BitVec 32) : Fin 1 → Nat :=
  let c3_i32_277_r0 : BitVec 32 := 3#32
  let v400_r0 : BitVec 32 := Scalar.remui arg11_r0 c3_i32_277_r0
  ![v400_r0.toNat]
def k0_cond6 (k0_t1 : Fin k0_t1_loop.trips) (arg15_r0 : BitVec 32) (arg16_r0 : BitVec 32) : BitVec 1 :=
  let true_157_r0 : BitVec 1 := 1#1
  let c1_i32_156_r0 : BitVec 32 := 1#32
  let v162_r0 : BitVec 32 := Scalar.addi arg16_r0 c1_i32_156_r0
  let v163_r0 : BitVec 32 := Scalar.select true_157_r0 v162_r0 arg16_r0
  let c2_i32_158_r0 : BitVec 32 := 2#32
  let v164_r0 : BitVec 1 := Scalar.cmpi .eq v163_r0 c2_i32_158_r0
  let c1_i32_160_r0 : BitVec 32 := 1#32
  let v166_r0 : BitVec 32 := Scalar.addi arg15_r0 c1_i32_160_r0
  let v167_r0 : BitVec 32 := Scalar.select v164_r0 v166_r0 arg15_r0
  let c8_i32_161_r0 : BitVec 32 := 8#32
  let v168_r0 : BitVec 1 := Scalar.cmpi .eq v167_r0 c8_i32_161_r0
  let c0_i32_162_r0 : BitVec 32 := 0#32
  let v169_r0 : BitVec 32 := Scalar.select v168_r0 c0_i32_162_r0 v167_r0
  let c0_i32_163_r0 : BitVec 32 := 0#32
  let v170_r0 : BitVec 32 := Scalar.addi v169_r0 c0_i32_163_r0
  let true_166_r0 : BitVec 1 := 1#1
  let c0_i32_159_r0 : BitVec 32 := 0#32
  let v165_r0 : BitVec 32 := Scalar.select v164_r0 c0_i32_159_r0 v163_r0
  let c1_i32_165_r0 : BitVec 32 := 1#32
  let v172_r0 : BitVec 32 := Scalar.addi v165_r0 c1_i32_165_r0
  let v173_r0 : BitVec 32 := Scalar.select true_166_r0 v172_r0 v165_r0
  let c2_i32_167_r0 : BitVec 32 := 2#32
  let v174_r0 : BitVec 1 := Scalar.cmpi .eq v173_r0 c2_i32_167_r0
  let c1_i32_169_r0 : BitVec 32 := 1#32
  let v176_r0 : BitVec 32 := Scalar.addi v169_r0 c1_i32_169_r0
  let v177_r0 : BitVec 32 := Scalar.select v174_r0 v176_r0 v169_r0
  let c8_i32_170_r0 : BitVec 32 := 8#32
  let v178_r0 : BitVec 1 := Scalar.cmpi .eq v177_r0 c8_i32_170_r0
  let c0_i32_171_r0 : BitVec 32 := 0#32
  let v179_r0 : BitVec 32 := Scalar.select v178_r0 c0_i32_171_r0 v177_r0
  let c0_i32_172_r0 : BitVec 32 := 0#32
  let v180_r0 : BitVec 32 := Scalar.addi v179_r0 c0_i32_172_r0
  let v216_r0 : BitVec 1 := Scalar.cmpi .ne v170_r0 v180_r0
  let c0_i32_164_r0 : BitVec 32 := 0#32
  let v171_r0 : BitVec 32 := Scalar.addi v165_r0 c0_i32_164_r0
  let c0_i32_168_r0 : BitVec 32 := 0#32
  let v175_r0 : BitVec 32 := Scalar.select v174_r0 c0_i32_168_r0 v173_r0
  let c0_i32_173_r0 : BitVec 32 := 0#32
  let v181_r0 : BitVec 32 := Scalar.addi v175_r0 c0_i32_173_r0
  let v217_r0 : BitVec 1 := Scalar.cmpi .ne v171_r0 v181_r0
  let v218_r0 : BitVec 1 := Scalar.ori v216_r0 v217_r0
  let c0_i32_90_r0 : BitVec 32 := 0#32
  let c1_i32_91_r0 : BitVec 32 := 1#32
  let arg6_r0 : BitVec 32 := Scf.iv c0_i32_90_r0 c1_i32_91_r0 k0_t1
  let c14_i32_194_r0 : BitVec 32 := 14#32
  let v219_r0 : BitVec 1 := Scalar.cmpi .sge arg6_r0 c14_i32_194_r0
  let true_195_r0 : BitVec 1 := 1#1
  let v220_r0 : BitVec 1 := Scalar.xori v219_r0 true_195_r0
  let v221_r0 : BitVec 1 := Scalar.andi v218_r0 v220_r0
  let true_196_r0 : BitVec 1 := 1#1
  let v222_r0 : BitVec 1 := Scalar.andi v221_r0 true_196_r0
  let v223_r0 : BitVec 32 := Scalar.extui v222_r0
  let c0_i32_197_r0 : BitVec 32 := 0#32
  let v224_r0 : BitVec 1 := Scalar.cmpi .ne v223_r0 c0_i32_197_r0
  v224_r0

def k0_off21 (arg11_r0 : BitVec 32) : Fin 4 → Nat :=
  let c3_i32_277_r0 : BitVec 32 := 3#32
  let v400_r0 : BitVec 32 := Scalar.remui arg11_r0 c3_i32_277_r0
  let c0_i32_280_r0 : BitVec 32 := 0#32
  let c0_i32_281_r0 : BitVec 32 := 0#32
  let c0_i32_282_r0 : BitVec 32 := 0#32
  ![v400_r0.toNat, 0, 0, 0]
def k0_off22 (arg15_r0 : BitVec 32) (arg16_r0 : BitVec 32) : Fin 3 → Nat :=
  let c1_i32_278_r0 : BitVec 32 := 1#32
  let true_166_r0 : BitVec 1 := 1#1
  let true_157_r0 : BitVec 1 := 1#1
  let c1_i32_156_r0 : BitVec 32 := 1#32
  let v162_r0 : BitVec 32 := Scalar.addi arg16_r0 c1_i32_156_r0
  let v163_r0 : BitVec 32 := Scalar.select true_157_r0 v162_r0 arg16_r0
  let c2_i32_158_r0 : BitVec 32 := 2#32
  let v164_r0 : BitVec 1 := Scalar.cmpi .eq v163_r0 c2_i32_158_r0
  let c0_i32_159_r0 : BitVec 32 := 0#32
  let v165_r0 : BitVec 32 := Scalar.select v164_r0 c0_i32_159_r0 v163_r0
  let c1_i32_165_r0 : BitVec 32 := 1#32
  let v172_r0 : BitVec 32 := Scalar.addi v165_r0 c1_i32_165_r0
  let v173_r0 : BitVec 32 := Scalar.select true_166_r0 v172_r0 v165_r0
  let c2_i32_167_r0 : BitVec 32 := 2#32
  let v174_r0 : BitVec 1 := Scalar.cmpi .eq v173_r0 c2_i32_167_r0
  let c1_i32_160_r0 : BitVec 32 := 1#32
  let v166_r0 : BitVec 32 := Scalar.addi arg15_r0 c1_i32_160_r0
  let v167_r0 : BitVec 32 := Scalar.select v164_r0 v166_r0 arg15_r0
  let c8_i32_161_r0 : BitVec 32 := 8#32
  let v168_r0 : BitVec 1 := Scalar.cmpi .eq v167_r0 c8_i32_161_r0
  let c0_i32_162_r0 : BitVec 32 := 0#32
  let v169_r0 : BitVec 32 := Scalar.select v168_r0 c0_i32_162_r0 v167_r0
  let c1_i32_169_r0 : BitVec 32 := 1#32
  let v176_r0 : BitVec 32 := Scalar.addi v169_r0 c1_i32_169_r0
  let v177_r0 : BitVec 32 := Scalar.select v174_r0 v176_r0 v169_r0
  let c8_i32_170_r0 : BitVec 32 := 8#32
  let v178_r0 : BitVec 1 := Scalar.cmpi .eq v177_r0 c8_i32_170_r0
  let c0_i32_171_r0 : BitVec 32 := 0#32
  let v179_r0 : BitVec 32 := Scalar.select v178_r0 c0_i32_171_r0 v177_r0
  let c0_i32_172_r0 : BitVec 32 := 0#32
  let v180_r0 : BitVec 32 := Scalar.addi v179_r0 c0_i32_172_r0
  let v401_r0 : BitVec 32 := Scalar.muli c1_i32_278_r0 v180_r0
  let c1024_i32_279_r0 : BitVec 32 := 1024#32
  let c0_i32_168_r0 : BitVec 32 := 0#32
  let v175_r0 : BitVec 32 := Scalar.select v174_r0 c0_i32_168_r0 v173_r0
  let c0_i32_173_r0 : BitVec 32 := 0#32
  let v181_r0 : BitVec 32 := Scalar.addi v175_r0 c0_i32_173_r0
  let v402_r0 : BitVec 32 := Scalar.muli c1024_i32_279_r0 v181_r0
  let c0_i32_283_r0 : BitVec 32 := 0#32
  ![v401_r0.toNat, v402_r0.toNat, 0]
def k0_off23 (arg8_r0 : BitVec 32) : Fin 1 → Nat :=
  let c3_i32_279_r0 : BitVec 32 := 3#32
  let v402_r0 : BitVec 32 := Scalar.remui arg8_r0 c3_i32_279_r0
  ![v402_r0.toNat]
def k0_cond7 (k0_t1 : Fin k0_t1_loop.trips) (arg15_r0 : BitVec 32) (arg16_r0 : BitVec 32) : BitVec 1 :=
  let c0_i32_145_r0 : BitVec 32 := 0#32
  let v150_r0 : BitVec 32 := Scalar.addi arg15_r0 c0_i32_145_r0
  let true_148_r0 : BitVec 1 := 1#1
  let c1_i32_147_r0 : BitVec 32 := 1#32
  let v152_r0 : BitVec 32 := Scalar.subi arg16_r0 c1_i32_147_r0
  let v153_r0 : BitVec 32 := Scalar.select true_148_r0 v152_r0 arg16_r0
  let c_m1_i32_149_r0 : BitVec 32 := 4294967295#32
  let v154_r0 : BitVec 1 := Scalar.cmpi .eq v153_r0 c_m1_i32_149_r0
  let c1_i32_151_r0 : BitVec 32 := 1#32
  let v156_r0 : BitVec 32 := Scalar.subi arg15_r0 c1_i32_151_r0
  let v157_r0 : BitVec 32 := Scalar.select v154_r0 v156_r0 arg15_r0
  let c_m1_i32_152_r0 : BitVec 32 := 4294967295#32
  let v158_r0 : BitVec 1 := Scalar.cmpi .eq v157_r0 c_m1_i32_152_r0
  let c7_i32_153_r0 : BitVec 32 := 7#32
  let v159_r0 : BitVec 32 := Scalar.select v158_r0 c7_i32_153_r0 v157_r0
  let c0_i32_154_r0 : BitVec 32 := 0#32
  let v160_r0 : BitVec 32 := Scalar.addi v159_r0 c0_i32_154_r0
  let v234_r0 : BitVec 1 := Scalar.cmpi .ne v150_r0 v160_r0
  let c0_i32_146_r0 : BitVec 32 := 0#32
  let v151_r0 : BitVec 32 := Scalar.addi arg16_r0 c0_i32_146_r0
  let c1_i32_150_r0 : BitVec 32 := 1#32
  let v155_r0 : BitVec 32 := Scalar.select v154_r0 c1_i32_150_r0 v153_r0
  let c0_i32_155_r0 : BitVec 32 := 0#32
  let v161_r0 : BitVec 32 := Scalar.addi v155_r0 c0_i32_155_r0
  let v235_r0 : BitVec 1 := Scalar.cmpi .ne v151_r0 v161_r0
  let v236_r0 : BitVec 1 := Scalar.ori v234_r0 v235_r0
  let c0_i32_90_r0 : BitVec 32 := 0#32
  let c1_i32_91_r0 : BitVec 32 := 1#32
  let arg6_r0 : BitVec 32 := Scf.iv c0_i32_90_r0 c1_i32_91_r0 k0_t1
  let c0_i32_144_r0 : BitVec 32 := 0#32
  let v148_r0 : BitVec 1 := Scalar.cmpi .eq arg6_r0 c0_i32_144_r0
  let v237_r0 : BitVec 1 := Scalar.ori v236_r0 v148_r0
  let c0_i32_202_r0 : BitVec 32 := 0#32
  let v238_r0 : BitVec 1 := Scalar.cmpi .sge arg6_r0 c0_i32_202_r0
  let v239_r0 : BitVec 1 := Scalar.andi v237_r0 v238_r0
  let v240_r0 : BitVec 32 := Scalar.extui v239_r0
  let c0_i32_203_r0 : BitVec 32 := 0#32
  let v241_r0 : BitVec 1 := Scalar.cmpi .ne v240_r0 c0_i32_203_r0
  v241_r0

def k0_off24 (arg8_r0 : BitVec 32) : Fin 4 → Nat :=
  let c3_i32_279_r0 : BitVec 32 := 3#32
  let v402_r0 : BitVec 32 := Scalar.remui arg8_r0 c3_i32_279_r0
  let c0_i32_280_r0 : BitVec 32 := 0#32
  let c0_i32_281_r0 : BitVec 32 := 0#32
  let c0_i32_282_r0 : BitVec 32 := 0#32
  ![v402_r0.toNat, 0, 0, 0]
def k0_off25 (arg15_r0 : BitVec 32) (arg16_r0 : BitVec 32) : Fin 3 → Nat :=
  let c1_i32_277_r0 : BitVec 32 := 1#32
  let c0_i32_145_r0 : BitVec 32 := 0#32
  let v150_r0 : BitVec 32 := Scalar.addi arg15_r0 c0_i32_145_r0
  let v400_r0 : BitVec 32 := Scalar.muli c1_i32_277_r0 v150_r0
  let c0_i32_283_r0 : BitVec 32 := 0#32
  let c1024_i32_278_r0 : BitVec 32 := 1024#32
  let c0_i32_146_r0 : BitVec 32 := 0#32
  let v151_r0 : BitVec 32 := Scalar.addi arg16_r0 c0_i32_146_r0
  let v401_r0 : BitVec 32 := Scalar.muli c1024_i32_278_r0 v151_r0
  ![v400_r0.toNat, 0, v401_r0.toNat]
def k0_off26 (arg10_r0 : BitVec 32) : Fin 1 → Nat :=
  let c3_i32_279_r0 : BitVec 32 := 3#32
  let v402_r0 : BitVec 32 := Scalar.remui arg10_r0 c3_i32_279_r0
  ![v402_r0.toNat]
def k0_cond8 (k0_t1 : Fin k0_t1_loop.trips) (arg15_r0 : BitVec 32) (arg16_r0 : BitVec 32) : BitVec 1 :=
  let c0_i32_145_r0 : BitVec 32 := 0#32
  let v150_r0 : BitVec 32 := Scalar.addi arg15_r0 c0_i32_145_r0
  let true_148_r0 : BitVec 1 := 1#1
  let c1_i32_147_r0 : BitVec 32 := 1#32
  let v152_r0 : BitVec 32 := Scalar.subi arg16_r0 c1_i32_147_r0
  let v153_r0 : BitVec 32 := Scalar.select true_148_r0 v152_r0 arg16_r0
  let c_m1_i32_149_r0 : BitVec 32 := 4294967295#32
  let v154_r0 : BitVec 1 := Scalar.cmpi .eq v153_r0 c_m1_i32_149_r0
  let c1_i32_151_r0 : BitVec 32 := 1#32
  let v156_r0 : BitVec 32 := Scalar.subi arg15_r0 c1_i32_151_r0
  let v157_r0 : BitVec 32 := Scalar.select v154_r0 v156_r0 arg15_r0
  let c_m1_i32_152_r0 : BitVec 32 := 4294967295#32
  let v158_r0 : BitVec 1 := Scalar.cmpi .eq v157_r0 c_m1_i32_152_r0
  let c7_i32_153_r0 : BitVec 32 := 7#32
  let v159_r0 : BitVec 32 := Scalar.select v158_r0 c7_i32_153_r0 v157_r0
  let c0_i32_154_r0 : BitVec 32 := 0#32
  let v160_r0 : BitVec 32 := Scalar.addi v159_r0 c0_i32_154_r0
  let v242_r0 : BitVec 1 := Scalar.cmpi .ne v150_r0 v160_r0
  let c0_i32_146_r0 : BitVec 32 := 0#32
  let v151_r0 : BitVec 32 := Scalar.addi arg16_r0 c0_i32_146_r0
  let c1_i32_150_r0 : BitVec 32 := 1#32
  let v155_r0 : BitVec 32 := Scalar.select v154_r0 c1_i32_150_r0 v153_r0
  let c0_i32_155_r0 : BitVec 32 := 0#32
  let v161_r0 : BitVec 32 := Scalar.addi v155_r0 c0_i32_155_r0
  let v243_r0 : BitVec 1 := Scalar.cmpi .ne v151_r0 v161_r0
  let v244_r0 : BitVec 1 := Scalar.ori v242_r0 v243_r0
  let c0_i32_90_r0 : BitVec 32 := 0#32
  let c1_i32_91_r0 : BitVec 32 := 1#32
  let arg6_r0 : BitVec 32 := Scf.iv c0_i32_90_r0 c1_i32_91_r0 k0_t1
  let c0_i32_144_r0 : BitVec 32 := 0#32
  let v148_r0 : BitVec 1 := Scalar.cmpi .eq arg6_r0 c0_i32_144_r0
  let v245_r0 : BitVec 1 := Scalar.ori v244_r0 v148_r0
  let c0_i32_204_r0 : BitVec 32 := 0#32
  let v246_r0 : BitVec 1 := Scalar.cmpi .sge arg6_r0 c0_i32_204_r0
  let v247_r0 : BitVec 1 := Scalar.andi v245_r0 v246_r0
  let v248_r0 : BitVec 32 := Scalar.extui v247_r0
  let c0_i32_205_r0 : BitVec 32 := 0#32
  let v249_r0 : BitVec 1 := Scalar.cmpi .ne v248_r0 c0_i32_205_r0
  v249_r0

def k0_off27 (arg10_r0 : BitVec 32) : Fin 4 → Nat :=
  let c3_i32_279_r0 : BitVec 32 := 3#32
  let v402_r0 : BitVec 32 := Scalar.remui arg10_r0 c3_i32_279_r0
  let c0_i32_280_r0 : BitVec 32 := 0#32
  let c0_i32_281_r0 : BitVec 32 := 0#32
  let c0_i32_282_r0 : BitVec 32 := 0#32
  ![v402_r0.toNat, 0, 0, 0]
def k0_off28 (arg15_r0 : BitVec 32) (arg16_r0 : BitVec 32) : Fin 3 → Nat :=
  let c1_i32_277_r0 : BitVec 32 := 1#32
  let c0_i32_145_r0 : BitVec 32 := 0#32
  let v150_r0 : BitVec 32 := Scalar.addi arg15_r0 c0_i32_145_r0
  let v400_r0 : BitVec 32 := Scalar.muli c1_i32_277_r0 v150_r0
  let c1024_i32_278_r0 : BitVec 32 := 1024#32
  let c0_i32_146_r0 : BitVec 32 := 0#32
  let v151_r0 : BitVec 32 := Scalar.addi arg16_r0 c0_i32_146_r0
  let v401_r0 : BitVec 32 := Scalar.muli c1024_i32_278_r0 v151_r0
  let c0_i32_283_r0 : BitVec 32 := 0#32
  ![v400_r0.toNat, v401_r0.toNat, 0]
def k0_off29 (arg12_r0 : BitVec 32) : Fin 1 → Nat :=
  let c3_i32_279_r0 : BitVec 32 := 3#32
  let v402_r0 : BitVec 32 := Scalar.remui arg12_r0 c3_i32_279_r0
  ![v402_r0.toNat]
def k0_cond9 (k0_t1 : Fin k0_t1_loop.trips) (arg15_r0 : BitVec 32) (arg16_r0 : BitVec 32) : BitVec 1 :=
  let c0_i32_145_r0 : BitVec 32 := 0#32
  let v150_r0 : BitVec 32 := Scalar.addi arg15_r0 c0_i32_145_r0
  let true_148_r0 : BitVec 1 := 1#1
  let c1_i32_147_r0 : BitVec 32 := 1#32
  let v152_r0 : BitVec 32 := Scalar.subi arg16_r0 c1_i32_147_r0
  let v153_r0 : BitVec 32 := Scalar.select true_148_r0 v152_r0 arg16_r0
  let c_m1_i32_149_r0 : BitVec 32 := 4294967295#32
  let v154_r0 : BitVec 1 := Scalar.cmpi .eq v153_r0 c_m1_i32_149_r0
  let c1_i32_151_r0 : BitVec 32 := 1#32
  let v156_r0 : BitVec 32 := Scalar.subi arg15_r0 c1_i32_151_r0
  let v157_r0 : BitVec 32 := Scalar.select v154_r0 v156_r0 arg15_r0
  let c_m1_i32_152_r0 : BitVec 32 := 4294967295#32
  let v158_r0 : BitVec 1 := Scalar.cmpi .eq v157_r0 c_m1_i32_152_r0
  let c7_i32_153_r0 : BitVec 32 := 7#32
  let v159_r0 : BitVec 32 := Scalar.select v158_r0 c7_i32_153_r0 v157_r0
  let c0_i32_154_r0 : BitVec 32 := 0#32
  let v160_r0 : BitVec 32 := Scalar.addi v159_r0 c0_i32_154_r0
  let v250_r0 : BitVec 1 := Scalar.cmpi .ne v150_r0 v160_r0
  let c0_i32_146_r0 : BitVec 32 := 0#32
  let v151_r0 : BitVec 32 := Scalar.addi arg16_r0 c0_i32_146_r0
  let c1_i32_150_r0 : BitVec 32 := 1#32
  let v155_r0 : BitVec 32 := Scalar.select v154_r0 c1_i32_150_r0 v153_r0
  let c0_i32_155_r0 : BitVec 32 := 0#32
  let v161_r0 : BitVec 32 := Scalar.addi v155_r0 c0_i32_155_r0
  let v251_r0 : BitVec 1 := Scalar.cmpi .ne v151_r0 v161_r0
  let v252_r0 : BitVec 1 := Scalar.ori v250_r0 v251_r0
  let c0_i32_90_r0 : BitVec 32 := 0#32
  let c1_i32_91_r0 : BitVec 32 := 1#32
  let arg6_r0 : BitVec 32 := Scf.iv c0_i32_90_r0 c1_i32_91_r0 k0_t1
  let c0_i32_144_r0 : BitVec 32 := 0#32
  let v148_r0 : BitVec 1 := Scalar.cmpi .eq arg6_r0 c0_i32_144_r0
  let v253_r0 : BitVec 1 := Scalar.ori v252_r0 v148_r0
  let c0_i32_206_r0 : BitVec 32 := 0#32
  let v254_r0 : BitVec 1 := Scalar.cmpi .sge arg6_r0 c0_i32_206_r0
  let v255_r0 : BitVec 1 := Scalar.andi v253_r0 v254_r0
  let v256_r0 : BitVec 32 := Scalar.extui v255_r0
  let c0_i32_207_r0 : BitVec 32 := 0#32
  let v257_r0 : BitVec 1 := Scalar.cmpi .ne v256_r0 c0_i32_207_r0
  v257_r0

def k0_off30 (arg12_r0 : BitVec 32) : Fin 4 → Nat :=
  let c3_i32_279_r0 : BitVec 32 := 3#32
  let v402_r0 : BitVec 32 := Scalar.remui arg12_r0 c3_i32_279_r0
  let c0_i32_280_r0 : BitVec 32 := 0#32
  let c0_i32_281_r0 : BitVec 32 := 0#32
  let c0_i32_282_r0 : BitVec 32 := 0#32
  ![v402_r0.toNat, 0, 0, 0]
def k0_off31 (arg15_r0 : BitVec 32) (arg16_r0 : BitVec 32) : Fin 3 → Nat :=
  let c1_i32_277_r0 : BitVec 32 := 1#32
  let c0_i32_145_r0 : BitVec 32 := 0#32
  let v150_r0 : BitVec 32 := Scalar.addi arg15_r0 c0_i32_145_r0
  let v400_r0 : BitVec 32 := Scalar.muli c1_i32_277_r0 v150_r0
  let c1024_i32_278_r0 : BitVec 32 := 1024#32
  let c0_i32_146_r0 : BitVec 32 := 0#32
  let v151_r0 : BitVec 32 := Scalar.addi arg16_r0 c0_i32_146_r0
  let v401_r0 : BitVec 32 := Scalar.muli c1024_i32_278_r0 v151_r0
  let c0_i32_283_r0 : BitVec 32 := 0#32
  ![v400_r0.toNat, v401_r0.toNat, 0]
def k0_off32 (arg8_r0 : BitVec 32) : Fin 4 → Nat :=
  let c3_i32_210_r0 : BitVec 32 := 3#32
  let v266_r0 : BitVec 32 := Scalar.remui arg8_r0 c3_i32_210_r0
  let c0_i32_214_r0 : BitVec 32 := 0#32
  let c0_i32_215_r0 : BitVec 32 := 0#32
  let c0_i32_216_r0 : BitVec 32 := 0#32
  ![v266_r0.toNat, 0, 0, 0]

def k0_chk2 (arg8_r0 : BitVec 32) : Prop :=
  (∀ a, (k0_off32 arg8_r0) a + S1x1x512x1024.size a ≤ S3x1x512x1024.size a)
theorem k0_off32_inb : ∀ (arg8_r0 : BitVec 32) (k0_hw2 : k0_chk2 arg8_r0), ∀ a, (k0_off32 arg8_r0) a + S1x1x512x1024.size a ≤ S3x1x512x1024.size a := fun arg8_r0 k0_hw2 => k0_hw2

def k0_off33 (arg10_r0 : BitVec 32) : Fin 4 → Nat :=
  let c3_i32_211_r0 : BitVec 32 := 3#32
  let v267_r0 : BitVec 32 := Scalar.remui arg10_r0 c3_i32_211_r0
  let c0_i32_221_r0 : BitVec 32 := 0#32
  let c0_i32_222_r0 : BitVec 32 := 0#32
  let c0_i32_223_r0 : BitVec 32 := 0#32
  ![v267_r0.toNat, 0, 0, 0]

def k0_chk3 (arg10_r0 : BitVec 32) : Prop :=
  (∀ a, (k0_off33 arg10_r0) a + S1x1x1024x512.size a ≤ S3x1x1024x512.size a)
theorem k0_off33_inb : ∀ (arg10_r0 : BitVec 32) (k0_hw3 : k0_chk3 arg10_r0), ∀ a, (k0_off33 arg10_r0) a + S1x1x1024x512.size a ≤ S3x1x1024x512.size a := fun arg10_r0 k0_hw3 => k0_hw3

def k0_off34 (arg12_r0 : BitVec 32) : Fin 4 → Nat :=
  let c3_i32_212_r0 : BitVec 32 := 3#32
  let v268_r0 : BitVec 32 := Scalar.remui arg12_r0 c3_i32_212_r0
  let c0_i32_229_r0 : BitVec 32 := 0#32
  let c0_i32_230_r0 : BitVec 32 := 0#32
  let c0_i32_231_r0 : BitVec 32 := 0#32
  ![v268_r0.toNat, 0, 0, 0]

def k0_chk4 (arg12_r0 : BitVec 32) : Prop :=
  (∀ a, (k0_off34 arg12_r0) a + S1x1x1024x1024.size a ≤ S3x1x1024x1024.size a)
theorem k0_off34_inb : ∀ (arg12_r0 : BitVec 32) (k0_hw4 : k0_chk4 arg12_r0), ∀ a, (k0_off34 arg12_r0) a + S1x1x1024x1024.size a ≤ S3x1x1024x1024.size a := fun arg12_r0 k0_hw4 => k0_hw4

def k0_off35 (arg13_r0 : BitVec 32) : Fin 4 → Nat :=
  let c2_i32_213_r0 : BitVec 32 := 2#32
  let v269_r0 : BitVec 32 := Scalar.remui arg13_r0 c2_i32_213_r0
  let c0_i32_240_r0 : BitVec 32 := 0#32
  let c0_i32_241_r0 : BitVec 32 := 0#32
  let c0_i32_242_r0 : BitVec 32 := 0#32
  ![v269_r0.toNat, 0, 0, 0]

def k0_chk5 (arg13_r0 : BitVec 32) : Prop :=
  (∀ a, (k0_off35 arg13_r0) a + S1x1x1024x1024.size a ≤ S2x1x1024x1024.size a)
theorem k0_off35_inb : ∀ (arg13_r0 : BitVec 32) (k0_hw5 : k0_chk5 arg13_r0), ∀ a, (k0_off35 arg13_r0) a + S1x1x1024x1024.size a ≤ S2x1x1024x1024.size a := fun arg13_r0 k0_hw5 => k0_hw5

def k0_off36 (arg13_r0 : BitVec 32) : Fin 1 → Nat :=
  let c2_i32_277_r0 : BitVec 32 := 2#32
  let v400_r0 : BitVec 32 := Scalar.remui arg13_r0 c2_i32_277_r0
  ![v400_r0.toNat]
def k0_cond14 (k0_t1 : Fin k0_t1_loop.trips) (arg15_r0 : BitVec 32) (arg16_r0 : BitVec 32) : BitVec 1 :=
  let c0_i32_145_r0 : BitVec 32 := 0#32
  let v150_r0 : BitVec 32 := Scalar.addi arg15_r0 c0_i32_145_r0
  let true_157_r0 : BitVec 1 := 1#1
  let c1_i32_156_r0 : BitVec 32 := 1#32
  let v162_r0 : BitVec 32 := Scalar.addi arg16_r0 c1_i32_156_r0
  let v163_r0 : BitVec 32 := Scalar.select true_157_r0 v162_r0 arg16_r0
  let c2_i32_158_r0 : BitVec 32 := 2#32
  let v164_r0 : BitVec 1 := Scalar.cmpi .eq v163_r0 c2_i32_158_r0
  let c1_i32_160_r0 : BitVec 32 := 1#32
  let v166_r0 : BitVec 32 := Scalar.addi arg15_r0 c1_i32_160_r0
  let v167_r0 : BitVec 32 := Scalar.select v164_r0 v166_r0 arg15_r0
  let c8_i32_161_r0 : BitVec 32 := 8#32
  let v168_r0 : BitVec 1 := Scalar.cmpi .eq v167_r0 c8_i32_161_r0
  let c0_i32_162_r0 : BitVec 32 := 0#32
  let v169_r0 : BitVec 32 := Scalar.select v168_r0 c0_i32_162_r0 v167_r0
  let c0_i32_163_r0 : BitVec 32 := 0#32
  let v170_r0 : BitVec 32 := Scalar.addi v169_r0 c0_i32_163_r0
  let v331_r0 : BitVec 1 := Scalar.cmpi .ne v150_r0 v170_r0
  let c0_i32_146_r0 : BitVec 32 := 0#32
  let v151_r0 : BitVec 32 := Scalar.addi arg16_r0 c0_i32_146_r0
  let c0_i32_159_r0 : BitVec 32 := 0#32
  let v165_r0 : BitVec 32 := Scalar.select v164_r0 c0_i32_159_r0 v163_r0
  let c0_i32_164_r0 : BitVec 32 := 0#32
  let v171_r0 : BitVec 32 := Scalar.addi v165_r0 c0_i32_164_r0
  let v332_r0 : BitVec 1 := Scalar.cmpi .ne v151_r0 v171_r0
  let v333_r0 : BitVec 1 := Scalar.ori v331_r0 v332_r0
  let c0_i32_90_r0 : BitVec 32 := 0#32
  let c1_i32_91_r0 : BitVec 32 := 1#32
  let arg6_r0 : BitVec 32 := Scf.iv c0_i32_90_r0 c1_i32_91_r0 k0_t1
  let c15_i32_r0 : BitVec 32 := 15#32
  let v149_r0 : BitVec 1 := Scalar.cmpi .eq arg6_r0 c15_i32_r0
  let v334_r0 : BitVec 1 := Scalar.ori v333_r0 v149_r0
  let v335_r0 : BitVec 32 := Scalar.extui v334_r0
  let c0_i32_251_r0 : BitVec 32 := 0#32
  let v336_r0 : BitVec 1 := Scalar.cmpi .ne v335_r0 c0_i32_251_r0
  v336_r0

def k0_off37 (arg15_r0 : BitVec 32) (arg16_r0 : BitVec 32) : Fin 3 → Nat :=
  let c1_i32_278_r0 : BitVec 32 := 1#32
  let c0_i32_145_r0 : BitVec 32 := 0#32
  let v150_r0 : BitVec 32 := Scalar.addi arg15_r0 c0_i32_145_r0
  let v401_r0 : BitVec 32 := Scalar.muli c1_i32_278_r0 v150_r0
  let c1024_i32_279_r0 : BitVec 32 := 1024#32
  let c0_i32_146_r0 : BitVec 32 := 0#32
  let v151_r0 : BitVec 32 := Scalar.addi arg16_r0 c0_i32_146_r0
  let v402_r0 : BitVec 32 := Scalar.muli c1024_i32_279_r0 v151_r0
  let c0_i32_280_r0 : BitVec 32 := 0#32
  ![v401_r0.toNat, v402_r0.toNat, 0]
def k0_off38 (arg13_r0 : BitVec 32) : Fin 4 → Nat :=
  let c2_i32_277_r0 : BitVec 32 := 2#32
  let v400_r0 : BitVec 32 := Scalar.remui arg13_r0 c2_i32_277_r0
  let c0_i32_281_r0 : BitVec 32 := 0#32
  let c0_i32_282_r0 : BitVec 32 := 0#32
  let c0_i32_283_r0 : BitVec 32 := 0#32
  ![v400_r0.toNat, 0, 0, 0]
def k0_off39 (arg14_r0 : BitVec 32) : Fin 1 → Nat :=
  let c2_i32_277_r0 : BitVec 32 := 2#32
  let v400_r0 : BitVec 32 := Scalar.remui arg14_r0 c2_i32_277_r0
  ![v400_r0.toNat]
def k0_cond18 (k0_t1 : Fin k0_t1_loop.trips) (arg15_r0 : BitVec 32) (arg16_r0 : BitVec 32) : BitVec 1 :=
  let c0_i32_145_r0 : BitVec 32 := 0#32
  let v150_r0 : BitVec 32 := Scalar.addi arg15_r0 c0_i32_145_r0
  let true_148_r0 : BitVec 1 := 1#1
  let c1_i32_147_r0 : BitVec 32 := 1#32
  let v152_r0 : BitVec 32 := Scalar.subi arg16_r0 c1_i32_147_r0
  let v153_r0 : BitVec 32 := Scalar.select true_148_r0 v152_r0 arg16_r0
  let c_m1_i32_149_r0 : BitVec 32 := 4294967295#32
  let v154_r0 : BitVec 1 := Scalar.cmpi .eq v153_r0 c_m1_i32_149_r0
  let c1_i32_151_r0 : BitVec 32 := 1#32
  let v156_r0 : BitVec 32 := Scalar.subi arg15_r0 c1_i32_151_r0
  let v157_r0 : BitVec 32 := Scalar.select v154_r0 v156_r0 arg15_r0
  let c_m1_i32_152_r0 : BitVec 32 := 4294967295#32
  let v158_r0 : BitVec 1 := Scalar.cmpi .eq v157_r0 c_m1_i32_152_r0
  let c7_i32_153_r0 : BitVec 32 := 7#32
  let v159_r0 : BitVec 32 := Scalar.select v158_r0 c7_i32_153_r0 v157_r0
  let c0_i32_154_r0 : BitVec 32 := 0#32
  let v160_r0 : BitVec 32 := Scalar.addi v159_r0 c0_i32_154_r0
  let v364_r0 : BitVec 1 := Scalar.cmpi .ne v150_r0 v160_r0
  let c0_i32_146_r0 : BitVec 32 := 0#32
  let v151_r0 : BitVec 32 := Scalar.addi arg16_r0 c0_i32_146_r0
  let c1_i32_150_r0 : BitVec 32 := 1#32
  let v155_r0 : BitVec 32 := Scalar.select v154_r0 c1_i32_150_r0 v153_r0
  let c0_i32_155_r0 : BitVec 32 := 0#32
  let v161_r0 : BitVec 32 := Scalar.addi v155_r0 c0_i32_155_r0
  let v365_r0 : BitVec 1 := Scalar.cmpi .ne v151_r0 v161_r0
  let v366_r0 : BitVec 1 := Scalar.ori v364_r0 v365_r0
  let c0_i32_90_r0 : BitVec 32 := 0#32
  let c1_i32_91_r0 : BitVec 32 := 1#32
  let arg6_r0 : BitVec 32 := Scf.iv c0_i32_90_r0 c1_i32_91_r0 k0_t1
  let c0_i32_144_r0 : BitVec 32 := 0#32
  let v148_r0 : BitVec 1 := Scalar.cmpi .eq arg6_r0 c0_i32_144_r0
  let true_263_r0 : BitVec 1 := 1#1
  let v367_r0 : BitVec 1 := Scalar.xori v148_r0 true_263_r0
  let v368_r0 : BitVec 1 := Scalar.andi v366_r0 v367_r0
  let v369_r0 : BitVec 32 := Scalar.extui v368_r0
  let c0_i32_264_r0 : BitVec 32 := 0#32
  let v370_r0 : BitVec 1 := Scalar.cmpi .ne v369_r0 c0_i32_264_r0
  v370_r0

def k0_off40 (arg15_r0 : BitVec 32) (arg16_r0 : BitVec 32) : Fin 3 → Nat :=
  let c1_i32_278_r0 : BitVec 32 := 1#32
  let true_148_r0 : BitVec 1 := 1#1
  let c1_i32_147_r0 : BitVec 32 := 1#32
  let v152_r0 : BitVec 32 := Scalar.subi arg16_r0 c1_i32_147_r0
  let v153_r0 : BitVec 32 := Scalar.select true_148_r0 v152_r0 arg16_r0
  let c_m1_i32_149_r0 : BitVec 32 := 4294967295#32
  let v154_r0 : BitVec 1 := Scalar.cmpi .eq v153_r0 c_m1_i32_149_r0
  let c1_i32_151_r0 : BitVec 32 := 1#32
  let v156_r0 : BitVec 32 := Scalar.subi arg15_r0 c1_i32_151_r0
  let v157_r0 : BitVec 32 := Scalar.select v154_r0 v156_r0 arg15_r0
  let c_m1_i32_152_r0 : BitVec 32 := 4294967295#32
  let v158_r0 : BitVec 1 := Scalar.cmpi .eq v157_r0 c_m1_i32_152_r0
  let c7_i32_153_r0 : BitVec 32 := 7#32
  let v159_r0 : BitVec 32 := Scalar.select v158_r0 c7_i32_153_r0 v157_r0
  let c0_i32_154_r0 : BitVec 32 := 0#32
  let v160_r0 : BitVec 32 := Scalar.addi v159_r0 c0_i32_154_r0
  let v401_r0 : BitVec 32 := Scalar.muli c1_i32_278_r0 v160_r0
  let c1024_i32_279_r0 : BitVec 32 := 1024#32
  let c1_i32_150_r0 : BitVec 32 := 1#32
  let v155_r0 : BitVec 32 := Scalar.select v154_r0 c1_i32_150_r0 v153_r0
  let c0_i32_155_r0 : BitVec 32 := 0#32
  let v161_r0 : BitVec 32 := Scalar.addi v155_r0 c0_i32_155_r0
  let v402_r0 : BitVec 32 := Scalar.muli c1024_i32_279_r0 v161_r0
  let c0_i32_280_r0 : BitVec 32 := 0#32
  ![v401_r0.toNat, v402_r0.toNat, 0]
def k0_off41 (arg14_r0 : BitVec 32) : Fin 4 → Nat :=
  let c2_i32_277_r0 : BitVec 32 := 2#32
  let v400_r0 : BitVec 32 := Scalar.remui arg14_r0 c2_i32_277_r0
  let c0_i32_281_r0 : BitVec 32 := 0#32
  let c0_i32_282_r0 : BitVec 32 := 0#32
  let c0_i32_283_r0 : BitVec 32 := 0#32
  ![v400_r0.toNat, 0, 0, 0]

def k0_chk1 (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) : Prop :=
  (∀ (k0_h4 : k0_cond4 k0_t1 arg15_r0 arg16_r0 = 1#1), ∀ a, (k0_off14 arg7_r0) a + S1.size a ≤ S3.size a) ∧
  (∀ (k0_h4 : k0_cond4 k0_t1 arg15_r0 arg16_r0 = 1#1), ∀ a, (k0_off15 arg7_r0) a + S1x1x512x1024.size a ≤ S3x1x512x1024.size a) ∧
  (∀ (k0_h4 : k0_cond4 k0_t1 arg15_r0 arg16_r0 = 1#1), ∀ a, (k0_off16 arg15_r0 arg16_r0) a + S1x512x1024.size a ≤ S8x512x2048.size a) ∧
  (∀ (k0_h4 : k0_cond4 k0_t1 arg15_r0 arg16_r0 = 1#1), ∀ (hinb : ∀ a, (k0_off16 arg15_r0 arg16_r0) a + S1x512x1024.size a ≤ S8x512x2048.size a), (Rect.unit (s := S8x512x2048) (k0_off16 arg15_r0 arg16_r0) S1x512x1024.size hinb).WholeWords (EltTy.packing .bf16)) ∧
  (∀ (k0_h4 : k0_cond4 k0_t1 arg15_r0 arg16_r0 = 1#1), ∀ (hinb : ∀ a, (k0_off15 arg7_r0) a + S1x1x512x1024.size a ≤ S3x1x512x1024.size a), (Rect.unit (s := S3x1x512x1024) (k0_off15 arg7_r0) S1x1x512x1024.size hinb).WholeWords (EltTy.packing .bf16)) ∧
  (∀ (k0_h5 : k0_cond5 k0_t1 arg15_r0 arg16_r0 = 1#1), ∀ a, (k0_off17 arg9_r0) a + S1.size a ≤ S3.size a) ∧
  (∀ (k0_h5 : k0_cond5 k0_t1 arg15_r0 arg16_r0 = 1#1), ∀ a, (k0_off18 arg9_r0) a + S1x1x1024x512.size a ≤ S3x1x1024x512.size a) ∧
  (∀ (k0_h5 : k0_cond5 k0_t1 arg15_r0 arg16_r0 = 1#1), ∀ a, (k0_off19 arg15_r0 arg16_r0) a + S1x1024x512.size a ≤ S8x2048x512.size a) ∧
  (∀ (k0_h5 : k0_cond5 k0_t1 arg15_r0 arg16_r0 = 1#1), ∀ (hinb : ∀ a, (k0_off19 arg15_r0 arg16_r0) a + S1x1024x512.size a ≤ S8x2048x512.size a), (Rect.unit (s := S8x2048x512) (k0_off19 arg15_r0 arg16_r0) S1x1024x512.size hinb).WholeWords (EltTy.packing .bf16)) ∧
  (∀ (k0_h5 : k0_cond5 k0_t1 arg15_r0 arg16_r0 = 1#1), ∀ (hinb : ∀ a, (k0_off18 arg9_r0) a + S1x1x1024x512.size a ≤ S3x1x1024x512.size a), (Rect.unit (s := S3x1x1024x512) (k0_off18 arg9_r0) S1x1x1024x512.size hinb).WholeWords (EltTy.packing .bf16)) ∧
  (∀ (k0_h6 : k0_cond6 k0_t1 arg15_r0 arg16_r0 = 1#1), ∀ a, (k0_off20 arg11_r0) a + S1.size a ≤ S3.size a) ∧
  (∀ (k0_h6 : k0_cond6 k0_t1 arg15_r0 arg16_r0 = 1#1), ∀ a, (k0_off21 arg11_r0) a + S1x1x1024x1024.size a ≤ S3x1x1024x1024.size a) ∧
  (∀ (k0_h6 : k0_cond6 k0_t1 arg15_r0 arg16_r0 = 1#1), ∀ a, (k0_off22 arg15_r0 arg16_r0) a + S1x1024x1024.size a ≤ S8x2048x1024.size a) ∧
  (∀ (k0_h7 : k0_cond7 k0_t1 arg15_r0 arg16_r0 = 1#1), ∀ a, (k0_off23 arg8_r0) a + S1.size a ≤ S3.size a) ∧
  (∀ (k0_h7 : k0_cond7 k0_t1 arg15_r0 arg16_r0 = 1#1), ∀ a, (k0_off24 arg8_r0) a + S1x1x512x1024.size a ≤ S3x1x512x1024.size a) ∧
  (∀ (k0_h7 : k0_cond7 k0_t1 arg15_r0 arg16_r0 = 1#1), ∀ a, (k0_off25 arg15_r0 arg16_r0) a + S1x512x1024.size a ≤ S8x512x2048.size a) ∧
  (∀ (k0_h7 : k0_cond7 k0_t1 arg15_r0 arg16_r0 = 1#1), ∀ (hinb : ∀ a, (k0_off25 arg15_r0 arg16_r0) a + S1x512x1024.size a ≤ S8x512x2048.size a), (Rect.unit (s := S8x512x2048) (k0_off25 arg15_r0 arg16_r0) S1x512x1024.size hinb).WholeWords (EltTy.packing .bf16)) ∧
  (∀ (k0_h7 : k0_cond7 k0_t1 arg15_r0 arg16_r0 = 1#1), ∀ (hinb : ∀ a, (k0_off24 arg8_r0) a + S1x1x512x1024.size a ≤ S3x1x512x1024.size a), (Rect.unit (s := S3x1x512x1024) (k0_off24 arg8_r0) S1x1x512x1024.size hinb).WholeWords (EltTy.packing .bf16)) ∧
  (∀ (k0_h8 : k0_cond8 k0_t1 arg15_r0 arg16_r0 = 1#1), ∀ a, (k0_off26 arg10_r0) a + S1.size a ≤ S3.size a) ∧
  (∀ (k0_h8 : k0_cond8 k0_t1 arg15_r0 arg16_r0 = 1#1), ∀ a, (k0_off27 arg10_r0) a + S1x1x1024x512.size a ≤ S3x1x1024x512.size a) ∧
  (∀ (k0_h8 : k0_cond8 k0_t1 arg15_r0 arg16_r0 = 1#1), ∀ a, (k0_off28 arg15_r0 arg16_r0) a + S1x1024x512.size a ≤ S8x2048x512.size a) ∧
  (∀ (k0_h8 : k0_cond8 k0_t1 arg15_r0 arg16_r0 = 1#1), ∀ (hinb : ∀ a, (k0_off28 arg15_r0 arg16_r0) a + S1x1024x512.size a ≤ S8x2048x512.size a), (Rect.unit (s := S8x2048x512) (k0_off28 arg15_r0 arg16_r0) S1x1024x512.size hinb).WholeWords (EltTy.packing .bf16)) ∧
  (∀ (k0_h8 : k0_cond8 k0_t1 arg15_r0 arg16_r0 = 1#1), ∀ (hinb : ∀ a, (k0_off27 arg10_r0) a + S1x1x1024x512.size a ≤ S3x1x1024x512.size a), (Rect.unit (s := S3x1x1024x512) (k0_off27 arg10_r0) S1x1x1024x512.size hinb).WholeWords (EltTy.packing .bf16)) ∧
  (∀ (k0_h9 : k0_cond9 k0_t1 arg15_r0 arg16_r0 = 1#1), ∀ a, (k0_off29 arg12_r0) a + S1.size a ≤ S3.size a) ∧
  (∀ (k0_h9 : k0_cond9 k0_t1 arg15_r0 arg16_r0 = 1#1), ∀ a, (k0_off30 arg12_r0) a + S1x1x1024x1024.size a ≤ S3x1x1024x1024.size a) ∧
  (∀ (k0_h9 : k0_cond9 k0_t1 arg15_r0 arg16_r0 = 1#1), ∀ a, (k0_off31 arg15_r0 arg16_r0) a + S1x1024x1024.size a ≤ S8x2048x1024.size a) ∧
  (∀ (k0_h14 : k0_cond14 k0_t1 arg15_r0 arg16_r0 = 1#1), ∀ a, (k0_off36 arg13_r0) a + S1.size a ≤ S2.size a) ∧
  (∀ (k0_h14 : k0_cond14 k0_t1 arg15_r0 arg16_r0 = 1#1), ∀ a, (k0_off37 arg15_r0 arg16_r0) a + S1x1024x1024.size a ≤ S8x2048x1024.size a) ∧
  (∀ (k0_h14 : k0_cond14 k0_t1 arg15_r0 arg16_r0 = 1#1), ∀ a, (k0_off38 arg13_r0) a + S1x1x1024x1024.size a ≤ S2x1x1024x1024.size a) ∧
  (∀ (k0_h18 : k0_cond18 k0_t1 arg15_r0 arg16_r0 = 1#1), ∀ a, (k0_off39 arg14_r0) a + S1.size a ≤ S2.size a) ∧
  (∀ (k0_h18 : k0_cond18 k0_t1 arg15_r0 arg16_r0 = 1#1), ∀ a, (k0_off40 arg15_r0 arg16_r0) a + S1x1024x1024.size a ≤ S8x2048x1024.size a) ∧
  (∀ (k0_h18 : k0_cond18 k0_t1 arg15_r0 arg16_r0 = 1#1), ∀ a, (k0_off41 arg14_r0) a + S1x1x1024x1024.size a ≤ S2x1x1024x1024.size a)
theorem k0_off14_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h4 : k0_cond4 k0_t1 arg15_r0 arg16_r0 = 1#1), ∀ a, (k0_off14 arg7_r0) a + S1.size a ≤ S3.size a := fun k0_t1 arg7_r0 arg8_r0 arg9_r0 arg10_r0 arg11_r0 arg12_r0 arg13_r0 arg14_r0 arg15_r0 arg16_r0 k0_hw1 k0_h4 => k0_hw1.1 k0_h4
theorem k0_off15_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h4 : k0_cond4 k0_t1 arg15_r0 arg16_r0 = 1#1), ∀ a, (k0_off15 arg7_r0) a + S1x1x512x1024.size a ≤ S3x1x512x1024.size a := fun k0_t1 arg7_r0 arg8_r0 arg9_r0 arg10_r0 arg11_r0 arg12_r0 arg13_r0 arg14_r0 arg15_r0 arg16_r0 k0_hw1 k0_h4 => k0_hw1.2.1 k0_h4
theorem k0_off16_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h4 : k0_cond4 k0_t1 arg15_r0 arg16_r0 = 1#1), ∀ a, (k0_off16 arg15_r0 arg16_r0) a + S1x512x1024.size a ≤ S8x512x2048.size a := fun k0_t1 arg7_r0 arg8_r0 arg9_r0 arg10_r0 arg11_r0 arg12_r0 arg13_r0 arg14_r0 arg15_r0 arg16_r0 k0_hw1 k0_h4 => k0_hw1.2.2.1 k0_h4
theorem k0_off16_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h4 : k0_cond4 k0_t1 arg15_r0 arg16_r0 = 1#1), (Rect.unit (s := S8x512x2048) (k0_off16 arg15_r0 arg16_r0) S1x512x1024.size (k0_off16_inb k0_t1 arg7_r0 arg8_r0 arg9_r0 arg10_r0 arg11_r0 arg12_r0 arg13_r0 arg14_r0 arg15_r0 arg16_r0 k0_hw1 k0_h4)).WholeWords (EltTy.packing .bf16) := fun k0_t1 arg7_r0 arg8_r0 arg9_r0 arg10_r0 arg11_r0 arg12_r0 arg13_r0 arg14_r0 arg15_r0 arg16_r0 k0_hw1 k0_h4 => k0_hw1.2.2.2.1 k0_h4 (k0_off16_inb k0_t1 arg7_r0 arg8_r0 arg9_r0 arg10_r0 arg11_r0 arg12_r0 arg13_r0 arg14_r0 arg15_r0 arg16_r0 k0_hw1 k0_h4)
theorem k0_off15_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h4 : k0_cond4 k0_t1 arg15_r0 arg16_r0 = 1#1), (Rect.unit (s := S3x1x512x1024) (k0_off15 arg7_r0) S1x1x512x1024.size (k0_off15_inb k0_t1 arg7_r0 arg8_r0 arg9_r0 arg10_r0 arg11_r0 arg12_r0 arg13_r0 arg14_r0 arg15_r0 arg16_r0 k0_hw1 k0_h4)).WholeWords (EltTy.packing .bf16) := fun k0_t1 arg7_r0 arg8_r0 arg9_r0 arg10_r0 arg11_r0 arg12_r0 arg13_r0 arg14_r0 arg15_r0 arg16_r0 k0_hw1 k0_h4 => k0_hw1.2.2.2.2.1 k0_h4 (k0_off15_inb k0_t1 arg7_r0 arg8_r0 arg9_r0 arg10_r0 arg11_r0 arg12_r0 arg13_r0 arg14_r0 arg15_r0 arg16_r0 k0_hw1 k0_h4)
theorem k0_off17_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h5 : k0_cond5 k0_t1 arg15_r0 arg16_r0 = 1#1), ∀ a, (k0_off17 arg9_r0) a + S1.size a ≤ S3.size a := fun k0_t1 arg7_r0 arg8_r0 arg9_r0 arg10_r0 arg11_r0 arg12_r0 arg13_r0 arg14_r0 arg15_r0 arg16_r0 k0_hw1 k0_h5 => k0_hw1.2.2.2.2.2.1 k0_h5
theorem k0_off18_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h5 : k0_cond5 k0_t1 arg15_r0 arg16_r0 = 1#1), ∀ a, (k0_off18 arg9_r0) a + S1x1x1024x512.size a ≤ S3x1x1024x512.size a := fun k0_t1 arg7_r0 arg8_r0 arg9_r0 arg10_r0 arg11_r0 arg12_r0 arg13_r0 arg14_r0 arg15_r0 arg16_r0 k0_hw1 k0_h5 => k0_hw1.2.2.2.2.2.2.1 k0_h5
theorem k0_off19_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h5 : k0_cond5 k0_t1 arg15_r0 arg16_r0 = 1#1), ∀ a, (k0_off19 arg15_r0 arg16_r0) a + S1x1024x512.size a ≤ S8x2048x512.size a := fun k0_t1 arg7_r0 arg8_r0 arg9_r0 arg10_r0 arg11_r0 arg12_r0 arg13_r0 arg14_r0 arg15_r0 arg16_r0 k0_hw1 k0_h5 => k0_hw1.2.2.2.2.2.2.2.1 k0_h5
theorem k0_off19_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h5 : k0_cond5 k0_t1 arg15_r0 arg16_r0 = 1#1), (Rect.unit (s := S8x2048x512) (k0_off19 arg15_r0 arg16_r0) S1x1024x512.size (k0_off19_inb k0_t1 arg7_r0 arg8_r0 arg9_r0 arg10_r0 arg11_r0 arg12_r0 arg13_r0 arg14_r0 arg15_r0 arg16_r0 k0_hw1 k0_h5)).WholeWords (EltTy.packing .bf16) := fun k0_t1 arg7_r0 arg8_r0 arg9_r0 arg10_r0 arg11_r0 arg12_r0 arg13_r0 arg14_r0 arg15_r0 arg16_r0 k0_hw1 k0_h5 => k0_hw1.2.2.2.2.2.2.2.2.1 k0_h5 (k0_off19_inb k0_t1 arg7_r0 arg8_r0 arg9_r0 arg10_r0 arg11_r0 arg12_r0 arg13_r0 arg14_r0 arg15_r0 arg16_r0 k0_hw1 k0_h5)
theorem k0_off18_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h5 : k0_cond5 k0_t1 arg15_r0 arg16_r0 = 1#1), (Rect.unit (s := S3x1x1024x512) (k0_off18 arg9_r0) S1x1x1024x512.size (k0_off18_inb k0_t1 arg7_r0 arg8_r0 arg9_r0 arg10_r0 arg11_r0 arg12_r0 arg13_r0 arg14_r0 arg15_r0 arg16_r0 k0_hw1 k0_h5)).WholeWords (EltTy.packing .bf16) := fun k0_t1 arg7_r0 arg8_r0 arg9_r0 arg10_r0 arg11_r0 arg12_r0 arg13_r0 arg14_r0 arg15_r0 arg16_r0 k0_hw1 k0_h5 => k0_hw1.2.2.2.2.2.2.2.2.2.1 k0_h5 (k0_off18_inb k0_t1 arg7_r0 arg8_r0 arg9_r0 arg10_r0 arg11_r0 arg12_r0 arg13_r0 arg14_r0 arg15_r0 arg16_r0 k0_hw1 k0_h5)
theorem k0_off20_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h6 : k0_cond6 k0_t1 arg15_r0 arg16_r0 = 1#1), ∀ a, (k0_off20 arg11_r0) a + S1.size a ≤ S3.size a := fun k0_t1 arg7_r0 arg8_r0 arg9_r0 arg10_r0 arg11_r0 arg12_r0 arg13_r0 arg14_r0 arg15_r0 arg16_r0 k0_hw1 k0_h6 => k0_hw1.2.2.2.2.2.2.2.2.2.2.1 k0_h6
theorem k0_off21_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h6 : k0_cond6 k0_t1 arg15_r0 arg16_r0 = 1#1), ∀ a, (k0_off21 arg11_r0) a + S1x1x1024x1024.size a ≤ S3x1x1024x1024.size a := fun k0_t1 arg7_r0 arg8_r0 arg9_r0 arg10_r0 arg11_r0 arg12_r0 arg13_r0 arg14_r0 arg15_r0 arg16_r0 k0_hw1 k0_h6 => k0_hw1.2.2.2.2.2.2.2.2.2.2.2.1 k0_h6
theorem k0_off22_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h6 : k0_cond6 k0_t1 arg15_r0 arg16_r0 = 1#1), ∀ a, (k0_off22 arg15_r0 arg16_r0) a + S1x1024x1024.size a ≤ S8x2048x1024.size a := fun k0_t1 arg7_r0 arg8_r0 arg9_r0 arg10_r0 arg11_r0 arg12_r0 arg13_r0 arg14_r0 arg15_r0 arg16_r0 k0_hw1 k0_h6 => k0_hw1.2.2.2.2.2.2.2.2.2.2.2.2.1 k0_h6
theorem k0_off23_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h7 : k0_cond7 k0_t1 arg15_r0 arg16_r0 = 1#1), ∀ a, (k0_off23 arg8_r0) a + S1.size a ≤ S3.size a := fun k0_t1 arg7_r0 arg8_r0 arg9_r0 arg10_r0 arg11_r0 arg12_r0 arg13_r0 arg14_r0 arg15_r0 arg16_r0 k0_hw1 k0_h7 => k0_hw1.2.2.2.2.2.2.2.2.2.2.2.2.2.1 k0_h7
theorem k0_off24_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h7 : k0_cond7 k0_t1 arg15_r0 arg16_r0 = 1#1), ∀ a, (k0_off24 arg8_r0) a + S1x1x512x1024.size a ≤ S3x1x512x1024.size a := fun k0_t1 arg7_r0 arg8_r0 arg9_r0 arg10_r0 arg11_r0 arg12_r0 arg13_r0 arg14_r0 arg15_r0 arg16_r0 k0_hw1 k0_h7 => k0_hw1.2.2.2.2.2.2.2.2.2.2.2.2.2.2.1 k0_h7
theorem k0_off25_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h7 : k0_cond7 k0_t1 arg15_r0 arg16_r0 = 1#1), ∀ a, (k0_off25 arg15_r0 arg16_r0) a + S1x512x1024.size a ≤ S8x512x2048.size a := fun k0_t1 arg7_r0 arg8_r0 arg9_r0 arg10_r0 arg11_r0 arg12_r0 arg13_r0 arg14_r0 arg15_r0 arg16_r0 k0_hw1 k0_h7 => k0_hw1.2.2.2.2.2.2.2.2.2.2.2.2.2.2.2.1 k0_h7
theorem k0_off25_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h7 : k0_cond7 k0_t1 arg15_r0 arg16_r0 = 1#1), (Rect.unit (s := S8x512x2048) (k0_off25 arg15_r0 arg16_r0) S1x512x1024.size (k0_off25_inb k0_t1 arg7_r0 arg8_r0 arg9_r0 arg10_r0 arg11_r0 arg12_r0 arg13_r0 arg14_r0 arg15_r0 arg16_r0 k0_hw1 k0_h7)).WholeWords (EltTy.packing .bf16) := fun k0_t1 arg7_r0 arg8_r0 arg9_r0 arg10_r0 arg11_r0 arg12_r0 arg13_r0 arg14_r0 arg15_r0 arg16_r0 k0_hw1 k0_h7 => k0_hw1.2.2.2.2.2.2.2.2.2.2.2.2.2.2.2.2.1 k0_h7 (k0_off25_inb k0_t1 arg7_r0 arg8_r0 arg9_r0 arg10_r0 arg11_r0 arg12_r0 arg13_r0 arg14_r0 arg15_r0 arg16_r0 k0_hw1 k0_h7)
theorem k0_off24_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h7 : k0_cond7 k0_t1 arg15_r0 arg16_r0 = 1#1), (Rect.unit (s := S3x1x512x1024) (k0_off24 arg8_r0) S1x1x512x1024.size (k0_off24_inb k0_t1 arg7_r0 arg8_r0 arg9_r0 arg10_r0 arg11_r0 arg12_r0 arg13_r0 arg14_r0 arg15_r0 arg16_r0 k0_hw1 k0_h7)).WholeWords (EltTy.packing .bf16) := fun k0_t1 arg7_r0 arg8_r0 arg9_r0 arg10_r0 arg11_r0 arg12_r0 arg13_r0 arg14_r0 arg15_r0 arg16_r0 k0_hw1 k0_h7 => k0_hw1.2.2.2.2.2.2.2.2.2.2.2.2.2.2.2.2.2.1 k0_h7 (k0_off24_inb k0_t1 arg7_r0 arg8_r0 arg9_r0 arg10_r0 arg11_r0 arg12_r0 arg13_r0 arg14_r0 arg15_r0 arg16_r0 k0_hw1 k0_h7)
theorem k0_off26_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h8 : k0_cond8 k0_t1 arg15_r0 arg16_r0 = 1#1), ∀ a, (k0_off26 arg10_r0) a + S1.size a ≤ S3.size a := fun k0_t1 arg7_r0 arg8_r0 arg9_r0 arg10_r0 arg11_r0 arg12_r0 arg13_r0 arg14_r0 arg15_r0 arg16_r0 k0_hw1 k0_h8 => k0_hw1.2.2.2.2.2.2.2.2.2.2.2.2.2.2.2.2.2.2.1 k0_h8
theorem k0_off27_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h8 : k0_cond8 k0_t1 arg15_r0 arg16_r0 = 1#1), ∀ a, (k0_off27 arg10_r0) a + S1x1x1024x512.size a ≤ S3x1x1024x512.size a := fun k0_t1 arg7_r0 arg8_r0 arg9_r0 arg10_r0 arg11_r0 arg12_r0 arg13_r0 arg14_r0 arg15_r0 arg16_r0 k0_hw1 k0_h8 => k0_hw1.2.2.2.2.2.2.2.2.2.2.2.2.2.2.2.2.2.2.2.1 k0_h8
theorem k0_off28_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h8 : k0_cond8 k0_t1 arg15_r0 arg16_r0 = 1#1), ∀ a, (k0_off28 arg15_r0 arg16_r0) a + S1x1024x512.size a ≤ S8x2048x512.size a := fun k0_t1 arg7_r0 arg8_r0 arg9_r0 arg10_r0 arg11_r0 arg12_r0 arg13_r0 arg14_r0 arg15_r0 arg16_r0 k0_hw1 k0_h8 => k0_hw1.2.2.2.2.2.2.2.2.2.2.2.2.2.2.2.2.2.2.2.2.1 k0_h8
theorem k0_off28_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h8 : k0_cond8 k0_t1 arg15_r0 arg16_r0 = 1#1), (Rect.unit (s := S8x2048x512) (k0_off28 arg15_r0 arg16_r0) S1x1024x512.size (k0_off28_inb k0_t1 arg7_r0 arg8_r0 arg9_r0 arg10_r0 arg11_r0 arg12_r0 arg13_r0 arg14_r0 arg15_r0 arg16_r0 k0_hw1 k0_h8)).WholeWords (EltTy.packing .bf16) := fun k0_t1 arg7_r0 arg8_r0 arg9_r0 arg10_r0 arg11_r0 arg12_r0 arg13_r0 arg14_r0 arg15_r0 arg16_r0 k0_hw1 k0_h8 => k0_hw1.2.2.2.2.2.2.2.2.2.2.2.2.2.2.2.2.2.2.2.2.2.1 k0_h8 (k0_off28_inb k0_t1 arg7_r0 arg8_r0 arg9_r0 arg10_r0 arg11_r0 arg12_r0 arg13_r0 arg14_r0 arg15_r0 arg16_r0 k0_hw1 k0_h8)
theorem k0_off27_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h8 : k0_cond8 k0_t1 arg15_r0 arg16_r0 = 1#1), (Rect.unit (s := S3x1x1024x512) (k0_off27 arg10_r0) S1x1x1024x512.size (k0_off27_inb k0_t1 arg7_r0 arg8_r0 arg9_r0 arg10_r0 arg11_r0 arg12_r0 arg13_r0 arg14_r0 arg15_r0 arg16_r0 k0_hw1 k0_h8)).WholeWords (EltTy.packing .bf16) := fun k0_t1 arg7_r0 arg8_r0 arg9_r0 arg10_r0 arg11_r0 arg12_r0 arg13_r0 arg14_r0 arg15_r0 arg16_r0 k0_hw1 k0_h8 => k0_hw1.2.2.2.2.2.2.2.2.2.2.2.2.2.2.2.2.2.2.2.2.2.2.1 k0_h8 (k0_off27_inb k0_t1 arg7_r0 arg8_r0 arg9_r0 arg10_r0 arg11_r0 arg12_r0 arg13_r0 arg14_r0 arg15_r0 arg16_r0 k0_hw1 k0_h8)
theorem k0_off29_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h9 : k0_cond9 k0_t1 arg15_r0 arg16_r0 = 1#1), ∀ a, (k0_off29 arg12_r0) a + S1.size a ≤ S3.size a := fun k0_t1 arg7_r0 arg8_r0 arg9_r0 arg10_r0 arg11_r0 arg12_r0 arg13_r0 arg14_r0 arg15_r0 arg16_r0 k0_hw1 k0_h9 => k0_hw1.2.2.2.2.2.2.2.2.2.2.2.2.2.2.2.2.2.2.2.2.2.2.2.1 k0_h9
theorem k0_off30_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h9 : k0_cond9 k0_t1 arg15_r0 arg16_r0 = 1#1), ∀ a, (k0_off30 arg12_r0) a + S1x1x1024x1024.size a ≤ S3x1x1024x1024.size a := fun k0_t1 arg7_r0 arg8_r0 arg9_r0 arg10_r0 arg11_r0 arg12_r0 arg13_r0 arg14_r0 arg15_r0 arg16_r0 k0_hw1 k0_h9 => k0_hw1.2.2.2.2.2.2.2.2.2.2.2.2.2.2.2.2.2.2.2.2.2.2.2.2.1 k0_h9
theorem k0_off31_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h9 : k0_cond9 k0_t1 arg15_r0 arg16_r0 = 1#1), ∀ a, (k0_off31 arg15_r0 arg16_r0) a + S1x1024x1024.size a ≤ S8x2048x1024.size a := fun k0_t1 arg7_r0 arg8_r0 arg9_r0 arg10_r0 arg11_r0 arg12_r0 arg13_r0 arg14_r0 arg15_r0 arg16_r0 k0_hw1 k0_h9 => k0_hw1.2.2.2.2.2.2.2.2.2.2.2.2.2.2.2.2.2.2.2.2.2.2.2.2.2.1 k0_h9
theorem k0_off36_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h14 : k0_cond14 k0_t1 arg15_r0 arg16_r0 = 1#1), ∀ a, (k0_off36 arg13_r0) a + S1.size a ≤ S2.size a := fun k0_t1 arg7_r0 arg8_r0 arg9_r0 arg10_r0 arg11_r0 arg12_r0 arg13_r0 arg14_r0 arg15_r0 arg16_r0 k0_hw1 k0_h14 => k0_hw1.2.2.2.2.2.2.2.2.2.2.2.2.2.2.2.2.2.2.2.2.2.2.2.2.2.2.1 k0_h14
theorem k0_off37_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h14 : k0_cond14 k0_t1 arg15_r0 arg16_r0 = 1#1), ∀ a, (k0_off37 arg15_r0 arg16_r0) a + S1x1024x1024.size a ≤ S8x2048x1024.size a := fun k0_t1 arg7_r0 arg8_r0 arg9_r0 arg10_r0 arg11_r0 arg12_r0 arg13_r0 arg14_r0 arg15_r0 arg16_r0 k0_hw1 k0_h14 => k0_hw1.2.2.2.2.2.2.2.2.2.2.2.2.2.2.2.2.2.2.2.2.2.2.2.2.2.2.2.1 k0_h14
theorem k0_off38_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h14 : k0_cond14 k0_t1 arg15_r0 arg16_r0 = 1#1), ∀ a, (k0_off38 arg13_r0) a + S1x1x1024x1024.size a ≤ S2x1x1024x1024.size a := fun k0_t1 arg7_r0 arg8_r0 arg9_r0 arg10_r0 arg11_r0 arg12_r0 arg13_r0 arg14_r0 arg15_r0 arg16_r0 k0_hw1 k0_h14 => k0_hw1.2.2.2.2.2.2.2.2.2.2.2.2.2.2.2.2.2.2.2.2.2.2.2.2.2.2.2.2.1 k0_h14
theorem k0_off39_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h18 : k0_cond18 k0_t1 arg15_r0 arg16_r0 = 1#1), ∀ a, (k0_off39 arg14_r0) a + S1.size a ≤ S2.size a := fun k0_t1 arg7_r0 arg8_r0 arg9_r0 arg10_r0 arg11_r0 arg12_r0 arg13_r0 arg14_r0 arg15_r0 arg16_r0 k0_hw1 k0_h18 => k0_hw1.2.2.2.2.2.2.2.2.2.2.2.2.2.2.2.2.2.2.2.2.2.2.2.2.2.2.2.2.2.1 k0_h18
theorem k0_off40_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h18 : k0_cond18 k0_t1 arg15_r0 arg16_r0 = 1#1), ∀ a, (k0_off40 arg15_r0 arg16_r0) a + S1x1024x1024.size a ≤ S8x2048x1024.size a := fun k0_t1 arg7_r0 arg8_r0 arg9_r0 arg10_r0 arg11_r0 arg12_r0 arg13_r0 arg14_r0 arg15_r0 arg16_r0 k0_hw1 k0_h18 => k0_hw1.2.2.2.2.2.2.2.2.2.2.2.2.2.2.2.2.2.2.2.2.2.2.2.2.2.2.2.2.2.2.1 k0_h18
theorem k0_off41_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg7_r0 arg8_r0 arg9_r0 arg10_r0 arg11_r0 arg12_r0 arg13_r0 arg14_r0 arg15_r0 arg16_r0), ∀ (k0_h18 : k0_cond18 k0_t1 arg15_r0 arg16_r0 = 1#1), ∀ a, (k0_off41 arg14_r0) a + S1x1x1024x1024.size a ≤ S2x1x1024x1024.size a := fun k0_t1 arg7_r0 arg8_r0 arg9_r0 arg10_r0 arg11_r0 arg12_r0 arg13_r0 arg14_r0 arg15_r0 arg16_r0 k0_hw1 k0_h18 => k0_hw1.2.2.2.2.2.2.2.2.2.2.2.2.2.2.2.2.2.2.2.2.2.2.2.2.2.2.2.2.2.2.2 k0_h18

def k0_off42 (v89_7_r0 : BitVec 32) : Fin 1 → Nat :=
  let c2_i32_138_r0 : BitVec 32 := 2#32
  let v140_r0 : BitVec 32 := Scalar.remui v89_7_r0 c2_i32_138_r0
  ![v140_r0.toNat]

def k0_off43 (v89_9_r0 : BitVec 32) (v89_8_r0 : BitVec 32) : Fin 3 → Nat :=
  let c1_i32_139_r0 : BitVec 32 := 1#32
  let true_94_r0 : BitVec 1 := 1#1
  let c1_i32_93_r0 : BitVec 32 := 1#32
  let v90_r0 : BitVec 32 := Scalar.subi v89_9_r0 c1_i32_93_r0
  let v91_r0 : BitVec 32 := Scalar.select true_94_r0 v90_r0 v89_9_r0
  let c_m1_i32_95_r0 : BitVec 32 := 4294967295#32
  let v92_r0 : BitVec 1 := Scalar.cmpi .eq v91_r0 c_m1_i32_95_r0
  let c1_i32_97_r0 : BitVec 32 := 1#32
  let v94_r0 : BitVec 32 := Scalar.subi v89_8_r0 c1_i32_97_r0
  let v95_r0 : BitVec 32 := Scalar.select v92_r0 v94_r0 v89_8_r0
  let c_m1_i32_98_r0 : BitVec 32 := 4294967295#32
  let v96_r0 : BitVec 1 := Scalar.cmpi .eq v95_r0 c_m1_i32_98_r0
  let c7_i32_99_r0 : BitVec 32 := 7#32
  let v97_r0 : BitVec 32 := Scalar.select v96_r0 c7_i32_99_r0 v95_r0
  let c0_i32_100_r0 : BitVec 32 := 0#32
  let v98_r0 : BitVec 32 := Scalar.addi v97_r0 c0_i32_100_r0
  let v141_r0 : BitVec 32 := Scalar.muli c1_i32_139_r0 v98_r0
  let c1024_i32_r0 : BitVec 32 := 1024#32
  let c1_i32_96_r0 : BitVec 32 := 1#32
  let v93_r0 : BitVec 32 := Scalar.select v92_r0 c1_i32_96_r0 v91_r0
  let c0_i32_101_r0 : BitVec 32 := 0#32
  let v99_r0 : BitVec 32 := Scalar.addi v93_r0 c0_i32_101_r0
  let v142_r0 : BitVec 32 := Scalar.muli c1024_i32_r0 v99_r0
  let c0_i32_140_r0 : BitVec 32 := 0#32
  ![v141_r0.toNat, v142_r0.toNat, 0]

def k0_chk7 (v89_9_r0 : BitVec 32) (v89_8_r0 : BitVec 32) : Prop :=
  (∀ a, (k0_off43 v89_9_r0 v89_8_r0) a + S1x1024x1024.size a ≤ S8x2048x1024.size a)
theorem k0_off43_inb : ∀ (v89_9_r0 : BitVec 32) (v89_8_r0 : BitVec 32) (k0_hw7 : k0_chk7 v89_9_r0 v89_8_r0), ∀ a, (k0_off43 v89_9_r0 v89_8_r0) a + S1x1024x1024.size a ≤ S8x2048x1024.size a := fun v89_9_r0 v89_8_r0 k0_hw7 => k0_hw7

def k0_off44 (v89_7_r0 : BitVec 32) : Fin 4 → Nat :=
  let c2_i32_138_r0 : BitVec 32 := 2#32
  let v140_r0 : BitVec 32 := Scalar.remui v89_7_r0 c2_i32_138_r0
  let c0_i32_141_r0 : BitVec 32 := 0#32
  let c0_i32_142_r0 : BitVec 32 := 0#32
  let c0_i32_143_r0 : BitVec 32 := 0#32
  ![v140_r0.toNat, 0, 0, 0]

def k0_chk6 (v89_7_r0 : BitVec 32) : Prop :=
  (∀ a, (k0_off42 v89_7_r0) a + S1.size a ≤ S2.size a) ∧
  (∀ a, (k0_off44 v89_7_r0) a + S1x1x1024x1024.size a ≤ S2x1x1024x1024.size a)
theorem k0_off42_inb : ∀ (v89_7_r0 : BitVec 32) (k0_hw6 : k0_chk6 v89_7_r0), ∀ a, (k0_off42 v89_7_r0) a + S1.size a ≤ S2.size a := fun v89_7_r0 k0_hw6 => k0_hw6.1
theorem k0_off44_inb : ∀ (v89_7_r0 : BitVec 32) (k0_hw6 : k0_chk6 v89_7_r0), ∀ a, (k0_off44 v89_7_r0) a + S1x1x1024x1024.size a ≤ S2x1x1024x1024.size a := fun v89_7_r0 k0_hw6 => k0_hw6.2

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x2048x512 : Shape := ⟨3, ![8, 2048, 512]⟩
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x5632 : Shape := ⟨2, ![1024, 5632]⟩
abbrev S3x1x5632 : Shape := ⟨3, ![3, 1, 5632]⟩
abbrev S5632 : Shape := ⟨1, ![5632]⟩
abbrev S2816x1024 : Shape := ⟨2, ![2816, 1024]⟩
abbrev S1x1024 : Shape := ⟨2, ![1, 1024]⟩
abbrev S3x5632 : Shape := ⟨2, ![3, 5632]⟩
abbrev S1x5632 : Shape := ⟨2, ![1, 5632]⟩
abbrev S1x512x1024 : Shape := ⟨3, ![1, 512, 1024]⟩
abbrev S512x1024 : Shape := ⟨2, ![512, 1024]⟩
abbrev S520x512 : Shape := ⟨2, ![520, 512]⟩
abbrev S11x8x512 : Shape := ⟨3, ![11, 8, 512]⟩
abbrev S512x2816 : Shape := ⟨2, ![512, 2816]⟩
abbrev S512 : Shape := ⟨1, ![512]⟩
abbrev S512x1 : Shape := ⟨2, ![512, 1]⟩
abbrev S1x512 : Shape := ⟨2, ![1, 512]⟩
abbrev S1024x256 : Shape := ⟨2, ![1024, 256]⟩
abbrev S1024x512 : Shape := ⟨2, ![1024, 512]⟩
abbrev S512x512 : Shape := ⟨2, ![512, 512]⟩
abbrev S1x8x512 : Shape := ⟨3, ![1, 8, 512]⟩
abbrev S8x512 : Shape := ⟨2, ![8, 512]⟩
abbrev S1x256 : Shape := ⟨2, ![1, 256]⟩
abbrev S512x256 : Shape := ⟨2, ![512, 256]⟩

abbrev nBuf : Space → Nat
  | .hbm => 14
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S3x1x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S3x5632, .f32⟩
  | .hbm, ⟨10, _⟩ => ⟨S1x5632, .f32⟩
  | .hbm, ⟨11, _⟩ => ⟨S2816x1024, .bf16⟩
  | .hbm, ⟨12, _⟩ => ⟨S1x1024, .f32⟩
  | .hbm, ⟨13, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | .local _ .vmem, ⟨11, _⟩ => ⟨S520x512, .f32⟩
  | .local _ .vmem, ⟨12, _⟩ => ⟨S520x512, .f32⟩
  | .local _ .vmem, ⟨13, _⟩ => ⟨S11x8x512, .f32⟩
  | .local _ .vmem, ⟨14, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x2048x1024 : Shape := ⟨3, ![8, 2048, 1024]⟩
abbrev S1024 : Shape := ⟨1, ![1024]⟩
abbrev S1024x5632 : Shape := ⟨2, ![1024, 5632]⟩
abbrev S3x1x5632 : Shape := ⟨3, ![3, 1, 5632]⟩
abbrev S5632 : Shape := ⟨1, ![5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2050x5632 : Shape := ⟨3, ![8, 2050, 5632]⟩
abbrev S1x1x5632 : Shape := ⟨3, ![1, 1, 5632]⟩
abbrev S8x2048x2816 : Shape := ⟨3, ![8, 2048, 2816]⟩

abbrev nBuf : Space → Nat
  | .hbm => 83
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S3x1x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x5632, .f32⟩
  | .hbm, ⟨24, _⟩ => ⟨S_, .i32⟩
  | .hbm, ⟨25, _⟩ => ⟨S_, .f32⟩
  | .hbm, ⟨26, _⟩ => ⟨S8x2050x5632, .f32⟩
  | .hbm, ⟨27, _⟩ => ⟨S8x2048x5632, .f32⟩
  | .hbm, ⟨28, _⟩ => ⟨S1x1x5632, .f32⟩
  | .hbm, ⟨29, _⟩ => ⟨S5632, .f32⟩
  | .hbm, ⟨30, _⟩ => ⟨S1x1x5632, .f32⟩
  | .hbm, ⟨31, _⟩ => ⟨S8x2048x5632, .f32⟩
  | .hbm, ⟨32, _⟩ => ⟨S8x2048x5632, .f32⟩
  | .hbm, ⟨33, _⟩ => ⟨S_, .f32⟩
  | .hbm, ⟨34, _⟩ => ⟨S8x2048x5632, .f32⟩
  | .hbm, ⟨35, _⟩ => ⟨S8x2048x5632, .f32⟩
  | .hbm, ⟨36, _⟩ => ⟨S8x2048x5632, .f32⟩
  | .hbm, ⟨37, _⟩ => ⟨S1x1x5632, .f32⟩
  | .hbm, ⟨38, _⟩ => ⟨S5632, .f32⟩
  | .hbm, ⟨39, _⟩ => ⟨S1x1x5632, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S1x1x5632, .f32⟩
  | .hbm, ⟨45, _⟩ => ⟨S5632, .f32⟩
  | .hbm, ⟨46, _⟩ => ⟨S1x1x5632, .f32⟩
  | .hbm, ⟨47, _⟩ => ⟨S8x2048x5632, .f32⟩
  | .hbm, ⟨48, _⟩ => ⟨S8x2048x5632, .f32⟩
  | .hbm, ⟨49, _⟩ => ⟨S8x2048x5632, .f32⟩
  | .hbm, ⟨50, _⟩ => ⟨S1x1x5632, .f32⟩
  | .hbm, ⟨51, _⟩ => ⟨S8x2048x5632, .f32⟩
  | .hbm, ⟨52, _⟩ => ⟨S8x2048x5632, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S_, .f32⟩
  | .hbm, ⟨58, _⟩ => ⟨S8x2048x2816, .f32⟩
  | .hbm, ⟨59, _⟩ => ⟨S8x2048x2816, .f32⟩
  | .hbm, ⟨60, _⟩ => ⟨S_, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1, .f32⟩
  | .hbm, ⟨77, _⟩ => ⟨S8x2048x1024, .f32⟩
  | .hbm, ⟨78, _⟩ => ⟨S8x2048x1024, .f32⟩
  | .hbm, ⟨79, _⟩ => ⟨S1x1x1024, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S1024x1024 : Shape := ⟨2, ![1024, 1024]⟩
abbrev S1024x5632 : Shape := ⟨2, ![1024, 5632]⟩
abbrev S2816x1024 : Shape := ⟨2, ![2816, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S1x512 : Shape := ⟨2, ![1, 512]⟩
abbrev S8x512x2048 : Shape := ⟨3, ![8, 512, 2048]⟩
abbrev S8x2048x512 : Shape := ⟨3, ![8, 2048, 512]⟩
abbrev S1x1024x1024 : Shape := ⟨3, ![1, 1024, 1024]⟩
abbrev S1024x128 : Shape := ⟨2, ![1024, 128]⟩
abbrev S64x1024 : Shape := ⟨2, ![64, 1024]⟩
abbrev S64x5632 : Shape := ⟨2, ![64, 5632]⟩
abbrev S176x1024 : Shape := ⟨2, ![176, 1024]⟩
abbrev S1x512x1024 : Shape := ⟨3, ![1, 512, 1024]⟩
abbrev S1x1024x512 : Shape := ⟨3, ![1, 1024, 512]⟩
abbrev S536x512 : Shape := ⟨2, ![536, 512]⟩
abbrev S536x384 : Shape := ⟨2, ![536, 384]⟩
abbrev S536x256 : Shape := ⟨2, ![536, 256]⟩
abbrev S16x512 : Shape := ⟨2, ![16, 512]⟩
abbrev S8x512 : Shape := ⟨2, ![8, 512]⟩
abbrev S8x384 : Shape := ⟨2, ![8, 384]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩
abbrev S528x512 : Shape := ⟨2, ![528, 512]⟩
abbrev S528x384 : Shape := ⟨2, ![528, 384]⟩
abbrev S528x256 : Shape := ⟨2, ![528, 256]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩
abbrev S1x512x512 : Shape := ⟨3, ![1, 512, 512]⟩

abbrev nBuf : Space → Nat
  | .hbm => 50
  | .vmem => 36
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2048, .f32⟩
  | .hbm, ⟨3, _⟩ => ⟨S4x128x128, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024x5632, .f32⟩
  | .hbm, ⟨8, _⟩ => ⟨S2816x1024, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048, .f32⟩
  | .hbm, ⟨24, _⟩ => ⟨S2048x1, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x64, .f32⟩
  | .hbm, ⟨32, _⟩ => ⟨S1x2048x1x64, .f32⟩
  | .hbm, ⟨33, _⟩ => ⟨S1x2048x2x64, .f32⟩
  | .hbm, ⟨34, _⟩ => ⟨S2048x128, .f32⟩
  | .hbm, ⟨35, _⟩ => ⟨S2048x32, .f32⟩
  | .hbm, ⟨36, _⟩ => ⟨S2048x64, .f32⟩
  | .hbm, ⟨37, _⟩ => ⟨S1x2048x1x64, .f32⟩
  | .hbm, ⟨38, _⟩ => ⟨S1x2048x2x64, .f32⟩
  | .hbm, ⟨39, _⟩ => ⟨S2048x128, .f32⟩
  | .hbm, ⟨40, _⟩ => ⟨S1x1024, .f32⟩
  | .hbm, ⟨41, _⟩ => ⟨S1x512, .f32⟩
  | .hbm, ⟨42, _⟩ => ⟨S1x512, .f32⟩
  | .hbm, ⟨43, _⟩ => ⟨S8x512x2048, .bf16⟩
  | .hbm, ⟨44, _⟩ => ⟨S8x2048x512, .bf16⟩
  | .hbm, ⟨45, _⟩ => ⟨S8x512x2048, .bf16⟩
  | .hbm, ⟨46, _⟩ => ⟨S8x2048x512, .bf16⟩
  | .hbm, ⟨47, _⟩ => ⟨S1024x1024, .bf16⟩
  | .hbm, ⟨48, _⟩ => ⟨S1024x5632, .bf16⟩
  | .hbm, ⟨49, _⟩ => ⟨S2816x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2048, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S4x128x128, .f32⟩
  | .local _ .vmem, ⟨9, _⟩ => ⟨S1x512, .f32⟩
  | .local _ .vmem, ⟨10, _⟩ => ⟨S1x512, .f32⟩
  | .local _ .vmem, ⟨11, _⟩ => ⟨S64x1024, .f32⟩
  | .local _ .vmem, ⟨12, _⟩ => ⟨S64x1024, .f32⟩
  | .local _ .vmem, ⟨13, _⟩ => ⟨S64x5632, .f32⟩
  | .local _ .vmem, ⟨14, _⟩ => ⟨S64x5632, .f32⟩
  | .local _ .vmem, ⟨15, _⟩ => ⟨S176x1024, .f32⟩
  | .local _ .vmem, ⟨16, _⟩ => ⟨S176x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x1024x512, .bf16⟩
  | .local _ .vmem, ⟨24, _⟩ => ⟨S1x1024x512, .bf16⟩
  | .local _ .vmem, ⟨25, _⟩ => ⟨S64x1024, .bf16⟩
  | .local _ .vmem, ⟨26, _⟩ => ⟨S64x1024, .bf16⟩
  | .local _ .vmem, ⟨27, _⟩ => ⟨S64x5632, .bf16⟩
  | .local _ .vmem, ⟨28, _⟩ => ⟨S64x5632, .bf16⟩
  | .local _ .vmem, ⟨29, _⟩ => ⟨S176x1024, .bf16⟩
  | .local _ .vmem, ⟨30, _⟩ => ⟨S176x1024, .bf16⟩
  | .local _ .vmem, ⟨31, _⟩ => ⟨S1024x2048, .bf16⟩
  | .local _ .vmem, ⟨32, _⟩ => ⟨S536x512, .f32⟩
  | .local _ .vmem, ⟨33, _⟩ => ⟨S536x512, .f32⟩
  | .local _ .vmem, ⟨34, _⟩ => ⟨S536x384, .f32⟩
  | .local _ .vmem, ⟨35, _⟩ => ⟨S536x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev main_v30_3 : Ref sig .tc := ⟨.hbm, 46, rfl⟩
abbrev main_v30_4 : Ref sig .tc := ⟨.hbm, 47, rfl⟩
abbrev main_v30_5 : Ref sig .tc := ⟨.hbm, 48, rfl⟩
abbrev main_v30_6 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S176x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S8x2048x1024 : Shape := ⟨3, ![8, 2048, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S8x2048x512 : Shape := ⟨3, ![8, 2048, 512]⟩
abbrev S8x2048x8x64 : Shape := ⟨4, ![8, 2048, 8, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x8x32 : Shape := ⟨4, ![8, 2048, 8, 32]⟩
abbrev S1x2048x1x32 : Shape := ⟨4, ![1, 2048, 1, 32]⟩
abbrev S8x512x2048 : Shape := ⟨3, ![8, 512, 2048]⟩
abbrev S8x2048x4x128 : Shape := ⟨4, ![8, 2048, 4, 128]⟩
abbrev S8x2048x1x128 : Shape := ⟨4, ![8, 2048, 1, 128]⟩
abbrev S8x2048x128 : Shape := ⟨3, ![8, 2048, 128]⟩
abbrev S8x2049x128 : Shape := ⟨3, ![8, 2049, 128]⟩
abbrev S1x2048x1 : Shape := ⟨3, ![1, 2048, 1]⟩
abbrev S8x2051x128 : Shape := ⟨3, ![8, 2051, 128]⟩
abbrev S8x2055x128 : Shape := ⟨3, ![8, 2055, 128]⟩
abbrev S8x2063x128 : Shape := ⟨3, ![8, 2063, 128]⟩
abbrev S1x128x128 : Shape := ⟨3, ![1, 128, 128]⟩
abbrev S128x128 : Shape := ⟨2, ![128, 128]⟩
abbrev S1x1x512 : Shape := ⟨3, ![1, 1, 512]⟩

abbrev nBuf : Space → Nat
  | .hbm => 292
  | .vmem => 0
  | .smem => 0
  | _ => 0

abbrev hbmTy0_0 (i : Nat) : BufTy := match i % 128 with
  | 0 => ⟨S8x2048x1024, .f32⟩
  | 1 => ⟨S1024, .f32⟩
  | 2 => ⟨S1024x2048, .f32⟩
  | 3 => ⟨S4x128x128, .f32⟩
  | 4 => ⟨S512, .f32⟩
  | 5 => ⟨S512, .f32⟩
  | 6 => ⟨S1024x1024, .f32⟩
  | 7 => ⟨S1024x5632, .f32⟩
  | 8 => ⟨S2816x1024, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S8x2048x2048, .f32⟩
  | 26 => ⟨S8x2048x512, .f32⟩
  | 27 => ⟨S8x2048x8x64, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S2048, .f32⟩
  | 43 => ⟨S2048x1, .f32⟩
  | 44 => ⟨S1x32, .f32⟩
  | 45 => ⟨S2048x32, .f32⟩
  | 46 => ⟨S2048x32, .f32⟩
  | 47 => ⟨S2048x32, .f32⟩
  | 48 => ⟨S2048x32, .f32⟩
  | 49 => ⟨S2048x1x32, .f32⟩
  | 50 => ⟨S2048x32, .f32⟩
  | 51 => ⟨S2048x1x32, .f32⟩
  | 52 => ⟨S8x2048x8x32, .f32⟩
  | 53 => ⟨S8x2048x8x32, .f32⟩
  | 54 => ⟨S1x2048x1x32, .f32⟩
  | 55 => ⟨S8x2048x8x32, .f32⟩
  | 56 => ⟨S8x2048x8x32, .f32⟩
  | 57 => ⟨S1x2048x1x32, .f32⟩
  | 58 => ⟨S8x2048x8x32, .f32⟩
  | 59 => ⟨S8x2048x8x32, .f32⟩
  | 60 => ⟨S8x2048x8x32, .f32⟩
  | 61 => ⟨S1x2048x1x32, .f32⟩
  | 62 => ⟨S8x2048x8x32, .f32⟩
  | 63 => ⟨S8x2048x8x32, .f32⟩
  | 64 => ⟨S1x2048x1x32, .f32⟩
  | 65 => ⟨S8x2048x8x32, .f32⟩
  | 66 => ⟨S8x2048x8x32, .f32⟩
  | 67 => ⟨S8x2048x8x32, .f32⟩
  | 68 => ⟨S8x2048x8x64, .f32⟩
  | 69 => ⟨S8x2048x512, .f32⟩
  | 70 => ⟨S8x2048x8x64, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S2048, .f32⟩
  | 86 => ⟨S2048x1, .f32⟩
  | 87 => ⟨S1x32, .f32⟩
  | 88 => ⟨S2048x32, .f32⟩
  | 89 => ⟨S2048x32, .f32⟩
  | 90 => ⟨S2048x32, .f32⟩
  | 91 => ⟨S2048x32, .f32⟩
  | 92 => ⟨S2048x1x32, .f32⟩
  | 93 => ⟨S2048x32, .f32⟩
  | 94 => ⟨S2048x1x32, .f32⟩
  | 95 => ⟨S8x2048x8x32, .f32⟩
  | 96 => ⟨S8x2048x8x32, .f32⟩
  | 97 => ⟨S1x2048x1x32, .f32⟩
  | 98 => ⟨S8x2048x8x32, .f32⟩
  | 99 => ⟨S8x2048x8x32, .f32⟩
  | 100 => ⟨S1x2048x1x32, .f32⟩
  | 101 => ⟨S8x2048x8x32, .f32⟩
  | 102 => ⟨S8x2048x8x32, .f32⟩
  | 103 => ⟨S8x2048x8x32, .f32⟩
  | 104 => ⟨S1x2048x1x32, .f32⟩
  | 105 => ⟨S8x2048x8x32, .f32⟩
  | 106 => ⟨S8x2048x8x32, .f32⟩
  | 107 => ⟨S1x2048x1x32, .f32⟩
  | 108 => ⟨S8x2048x8x32, .f32⟩
  | 109 => ⟨S8x2048x8x32, .f32⟩
  | 110 => ⟨S8x2048x8x32, .f32⟩
  | 111 => ⟨S8x2048x8x64, .f32⟩
  | 112 => ⟨S8x2048x512, .f32⟩
  | 113 => ⟨S8x2048x512, .f32⟩
  | 114 => ⟨S_, .f32⟩
  | 115 => ⟨S8x2048x8x64, .f32⟩
  | 116 => ⟨S8x2048x8x64, .f32⟩
  | 117 => ⟨S8x2048x512, .f32⟩
  | 118 => ⟨S8x512x2048, .f32⟩
  | 119 => ⟨S8x512x2048, .bf16⟩
  | 120 => ⟨S8x2048x512, .f32⟩
  | 121 => ⟨S8x2048x512, .bf16⟩
  | 122 => ⟨S8x512x2048, .f32⟩
  | 123 => ⟨S8x512x2048, .bf16⟩
  | 124 => ⟨S8x2048x4x128, .f32⟩
  | 125 => ⟨S8x2048x1x128, .f32⟩
  | 126 => ⟨S8x2048x128, .f32⟩
  | 127 => ⟨S_, .i32⟩
  | _ => ⟨S8x2048x1024, .f32⟩

abbrev hbmTy0_1 (i : Nat) : BufTy := match i % 128 with
  | 0 => ⟨S_, .f32⟩
  | 1 => ⟨S8x2049x128, .f32⟩
  | 2 => ⟨S2048, .i32⟩
  | 3 => ⟨S_, .i32⟩
  | 4 => ⟨S2048, .i32⟩
  | 5 => ⟨S2048, .i32⟩
  | 6 => ⟨S_, .i32⟩
  | 7 => ⟨S2048, .i32⟩
  | 8 => ⟨S2048, .i32⟩
  | 9 => ⟨S2048, .f32⟩
  | 10 => ⟨S8x2048x128, .f32⟩
  | 11 => ⟨S_, .f32⟩
  | 12 => ⟨S8x2048x128, .f32⟩
  | 13 => ⟨S8x2048x128, .f32⟩
  | 14 => ⟨S8x2048x128, .f32⟩
  | 15 => ⟨S8x2048x128, .f32⟩
  | 16 => ⟨S1x2048x1, .f32⟩
  | 17 => ⟨S8x2048x128, .f32⟩
  | 18 => ⟨S8x2048x128, .f32⟩
  | 19 => ⟨S8x2048x1x128, .f32⟩
  | 20 => ⟨S8x2048x128, .f32⟩
  | 21 => ⟨S8x2048x128, .f32⟩
  | 22 => ⟨S8x2048x1x128, .f32⟩
  | 23 => ⟨S8x2048x128, .f32⟩
  | 24 => ⟨S_, .i32⟩
  | 25 => ⟨S_, .f32⟩
  | 26 => ⟨S8x2051x128, .f32⟩
  | 27 => ⟨S2048, .i32⟩
  | 28 => ⟨S_, .i32⟩
  | 29 => ⟨S2048, .i32⟩
  | 30 => ⟨S2048, .i32⟩
  | 31 => ⟨S_, .i32⟩
  | 32 => ⟨S2048, .i32⟩
  | 33 => ⟨S2048, .i32⟩
  | 34 => ⟨S2048, .f32⟩
  | 35 => ⟨S8x2048x128, .f32⟩
  | 36 => ⟨S_, .f32⟩
  | 37 => ⟨S8x2048x128, .f32⟩
  | 38 => ⟨S8x2048x128, .f32⟩
  | 39 => ⟨S8x2048x128, .f32⟩
  | 40 => ⟨S8x2048x128, .f32⟩
  | 41 => ⟨S8x2048x128, .f32⟩
  | 42 => ⟨S8x2048x128, .f32⟩
  | 43 => ⟨S8x2048x128, .f32⟩
  | 44 => ⟨S8x2048x128, .f32⟩
  | 45 => ⟨S1x2048x1, .f32⟩
  | 46 => ⟨S8x2048x128, .f32⟩
  | 47 => ⟨S8x2048x128, .f32⟩
  | 48 => ⟨S8x2048x1x128, .f32⟩
  | 49 => ⟨S8x2048x128, .f32⟩
  | 50 => ⟨S8x2048x128, .f32⟩
  | 51 => ⟨S8x2048x1x128, .f32⟩
  | 52 => ⟨S8x2048x128, .f32⟩
  | 53 => ⟨S_, .i32⟩
  | 54 => ⟨S_, .f32⟩
  | 55 => ⟨S8x2055x128, .f32⟩
  | 56 => ⟨S2048, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i32⟩
  | 63 => ⟨S2048, .f32⟩
  | 64 => ⟨S8x2048x128, .f32⟩
  | 65 => ⟨S_, .f32⟩
  | 66 => ⟨S8x2048x128, .f32⟩
  | 67 => ⟨S8x2048x128, .f32⟩
  | 68 => ⟨S8x2048x128, .f32⟩
  | 69 => ⟨S8x2048x128, .f32⟩
  | 70 => ⟨S8x2048x128, .f32⟩
  | 71 => ⟨S8x2048x128, .f32⟩
  | 72 => ⟨S8x2048x128, .f32⟩
  | 73 => ⟨S8x2048x128, .f32⟩
  | 74 => ⟨S8x2048x128, .f32⟩
  | 75 => ⟨S8x2048x128, .f32⟩
  | 76 => ⟨S8x2048x128, .f32⟩
  | 77 => ⟨S8x2048x128, .f32⟩
  | 78 => ⟨S8x2048x128, .f32⟩
  | 79 => ⟨S8x2048x128, .f32⟩
  | 80 => ⟨S8x2048x128, .f32⟩
  | 81 => ⟨S8x2048x128, .f32⟩
  | 82 => ⟨S1x2048x1, .f32⟩
  | 83 => ⟨S8x2048x128, .f32⟩
  | 84 => ⟨S8x2048x128, .f32⟩
  | 85 => ⟨S8x2048x1x128, .f32⟩
  | 86 => ⟨S8x2048x128, .f32⟩
  | 87 => ⟨S8x2048x128, .f32⟩
  | 88 => ⟨S8x2048x1x128, .f32⟩
  | 89 => ⟨S8x2048x128, .f32⟩
  | 90 => ⟨S_, .i32⟩
  | 91 => ⟨S_, .f32⟩
  | 92 => ⟨S8x2063x128, .f32⟩
  | 93 => ⟨S2048, .i32⟩
  | 94 => ⟨S_, .i32⟩
  | 95 => ⟨S2048, .i32⟩
  | 96 => ⟨S2048, .i32⟩
  | 97 => ⟨S_, .i32⟩
  | 98 => ⟨S2048, .i32⟩
  | 99 => ⟨S2048, .i32⟩
  | 100 => ⟨S2048, .f32⟩
  | 101 => ⟨S8x2048x128, .f32⟩
  | 102 => ⟨S_, .f32⟩
  | 103 => ⟨S8x2048x128, .f32⟩
  | 104 => ⟨S8x2048x128, .f32⟩
  | 105 => ⟨S8x2048x128, .f32⟩
  | 106 => ⟨S8x2048x128, .f32⟩
  | 107 => ⟨S8x2048x128, .f32⟩
  | 108 => ⟨S8x2048x128, .f32⟩
  | 109 => ⟨S8x2048x128, .f32⟩
  | 110 => ⟨S8x2048x128, .f32⟩
  | 111 => ⟨S8x2048x128, .f32⟩
  | 112 => ⟨S8x2048x128, .f32⟩
  | 113 => ⟨S8x2048x128, .f32⟩
  | 114 => ⟨S8x2048x128, .f32⟩
  | 115 => ⟨S8x2048x128, .f32⟩
  | 116 => ⟨S8x2048x128, .f32⟩
  | 117 => ⟨S8x2048x128, .f32⟩
  | 118 => ⟨S8x2048x128, .f32⟩
  | 119 => ⟨S8x2048x128, .f32⟩
  | 120 => ⟨S8x2048x128, .f32⟩
  | 121 => ⟨S8x2048x128, .f32⟩
  | 122 => ⟨S8x2048x128, .f32⟩
  | 123 => ⟨S8x2048x128, .f32⟩
  | 124 => ⟨S8x2048x128, .f32⟩
  | 125 => ⟨S8x2048x128, .f32⟩
  | 126 => ⟨S8x2048x128, .f32⟩
  | 127 => ⟨S8x2048x128, .f32⟩
  | _ => ⟨S8x2048x1024, .f32⟩

abbrev hbmTy0_2 (i : Nat) : BufTy := match i % 128 with
  | 0 => ⟨S8x2048x128, .f32⟩
  | 1 => ⟨S8x2048x128, .f32⟩
  | 2 => ⟨S8x2048x128, .f32⟩
  | 3 => ⟨S8x2048x128, .f32⟩
  | 4 => ⟨S8x2048x128, .f32⟩
  | 5 => ⟨S8x2048x128, .f32⟩
  | 6 => ⟨S8x2048x128, .f32⟩
  | 7 => ⟨S1x2048x1, .f32⟩
  | 8 => ⟨S8x2048x128, .f32⟩
  | 9 => ⟨S8x2048x128, .f32⟩
  | 10 => ⟨S8x2048x1x128, .f32⟩
  | 11 => ⟨S8x2048x128, .f32⟩
  | 12 => ⟨S8x2048x128, .f32⟩
  | 13 => ⟨S1x128x128, .f32⟩
  | 14 => ⟨S128x128, .f32⟩
  | 15 => ⟨S8x2048x128, .f32⟩
  | 16 => ⟨S1x128x128, .f32⟩
  | 17 => ⟨S128x128, .f32⟩
  | 18 => ⟨S8x2048x128, .f32⟩
  | 19 => ⟨S1x128x128, .f32⟩
  | 20 => ⟨S128x128, .f32⟩
  | 21 => ⟨S8x2048x128, .f32⟩
  | 22 => ⟨S1x128x128, .f32⟩
  | 23 => ⟨S128x128, .f32⟩
  | 24 => ⟨S8x2048x128, .f32⟩
  | 25 => ⟨S8x2048x512, .f32⟩
  | 26 => ⟨S1x1x512, .f32⟩
  | 27 => ⟨S8x2048x512, .f32⟩
  | 28 => ⟨S8x2048x512, .f32⟩
  | 29 => ⟨S1x1x512, .f32⟩
  | 30 => ⟨S8x2048x512, .f32⟩
  | 31 => ⟨S8x2048x512, .f32⟩
  | 32 => ⟨S8x2048x512, .bf16⟩
  | 33 => ⟨S1024x1024, .bf16⟩
  | 34 => ⟨S1024x5632, .bf16⟩
  | 35 => ⟨S2816x1024, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_10 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_c : Ref sig .tc := ⟨.hbm, 127, rfl⟩
abbrev main_call0_v0 : Ref sig .tc := ⟨.hbm, 128, rfl⟩
abbrev main_v106 : Ref sig .tc := ⟨.hbm, 129, rfl⟩
abbrev main_v107 : Ref sig .tc := ⟨.hbm, 130, rfl⟩
abbrev main_c_11 : Ref sig .tc := ⟨.hbm, 131, rfl⟩
abbrev main_v108 : Ref sig .tc := ⟨.hbm, 132, rfl⟩
abbrev main_v109 : Ref sig .tc := ⟨.hbm, 133, rfl⟩
abbrev main_c_12 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_13 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_c_14 : Ref sig .tc := ⟨.hbm, 152, rfl⟩
abbrev main_call1_v0 : Ref sig .tc := ⟨.hbm, 153, rfl⟩
abbrev main_v126 : Ref sig .tc := ⟨.hbm, 154, rfl⟩
abbrev main_v127 : Ref sig .tc := ⟨.hbm, 155, rfl⟩
abbrev main_c_15 : Ref sig .tc := ⟨.hbm, 156, rfl⟩
abbrev main_v128 : Ref sig .tc := ⟨.hbm, 157, rfl⟩
abbrev main_v129 : Ref sig .tc := ⟨.hbm, 158, rfl⟩
abbrev main_c_16 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_17 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_c_18 : Ref sig .tc := ⟨.hbm, 181, rfl⟩
abbrev main_call2_v0 : Ref sig .tc := ⟨.hbm, 182, rfl⟩
abbrev main_v150 : Ref sig .tc := ⟨.hbm, 183, rfl⟩
abbrev main_v151 : Ref sig .tc := ⟨.hbm, 184, rfl⟩
abbrev main_c_19 : Ref sig .tc := ⟨.hbm, 185, rfl⟩
abbrev main_v152 : Ref sig .tc := ⟨.hbm, 186, rfl⟩
abbrev main_v153 : Ref sig .tc := ⟨.hbm, 187, rfl⟩
abbrev main_c_20 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_21 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_c_22 : Ref sig .tc := ⟨.hbm, 218, rfl⟩
abbrev main_call3_v0 : Ref sig .tc := ⟨.hbm, 219, rfl⟩
abbrev main_v182 : Ref sig .tc := ⟨.hbm, 220, rfl⟩
abbrev main_v183 : Ref sig .tc := ⟨.hbm, 221, rfl⟩
abbrev main_c_23 : Ref sig .tc := ⟨.hbm, 222, rfl⟩
abbrev main_v184 : Ref sig .tc := ⟨.hbm, 223, rfl⟩
abbrev main_v185 : Ref sig .tc := ⟨.hbm, 224, rfl⟩
abbrev main_c_24 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_cst_25 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩

abbrev nD : Nat := 1
abbrev τ : Topo := Topo.v7x

variable {F : FTy → Type} [FloatOps F]
-- ==== Proof.MixOut.Canon.lean ====
/-
  The output-projection call: closed forms of what its block pipeline carries and computes, and canonical names for the
  blocks of its four arrays left in HBM, the slots of its four VMEM buffers and the slots' semaphores. Block `p` of 16 is
  batch `p / 2`, sequence half `p % 2`. Everything here is decided trip by trip over the sixteen trips.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

noncomputable section

namespace Cert.Proof.MixOut

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The carried words before trip `k` -/

/-- The read rings' issue counter: two ahead, stopping at 16. -/
def wI (k : ℕ) : BitVec 32 := BitVec.ofNat 32 (2 + min k 14)
/-- The read rings' wait counter and the write ring's issue counter. -/
def wK (k : ℕ) : BitVec 32 := BitVec.ofNat 32 k
/-- The write ring's wait counter, one behind. -/
def wP (k : ℕ) : BitVec 32 := BitVec.ofNat 32 (k - 1)
/-- The batch, and -/
def wB (k : ℕ) : BitVec 32 := BitVec.ofNat 32 (k / 2 % 8)
/-- the half of the sequence. -/
def wS (k : ℕ) : BitVec 32 := BitVec.ofNat 32 (k % 2)

/-- The ten carried words before trip `k`. -/
def carried (k : ℕ) : BitVec 32 × BitVec 32 × BitVec 32 × BitVec 32 × BitVec 32 × BitVec 32 × BitVec 32 × BitVec 32 × BitVec 32 × BitVec 32 :=
  (wI k, wK k, wI k, wK k, wI k, wK k, wK k, wP k, wB k, wS k)

theorem trips_eq : k0_t1_loop.trips = 16 := by decide
theorem lt16 (k : Fin k0_t1_loop.trips) : k.val < 16 := Nat.lt_of_lt_of_eq k.isLt trips_eq

/-! ## Names -/

/-- Where block `p` starts, in the arrays tiled along the last axis (`yt`) and along the middle one. -/
abbrev hOff (p : Fin 16) : Fin 3 → Nat := ![p.val / 2, 1024 * (p.val % 2), 0]
abbrev tOff (p : Fin 16) : Fin 3 → Nat := ![p.val / 2, 0, 1024 * (p.val % 2)]
abbrev slotOff {n : ℕ} (s : Fin n) : Fin 4 → Nat := ![s.val, 0, 0, 0]
abbrev semOff {n : ℕ} (s : Fin n) : Fin 1 → Nat := ![s.val]

/-! ### Array `Y` -/
theorem inbY (p : Fin 16) : ∀ a, tOff p a + S1x512x1024.size a ≤ S8x512x2048.size a := by
  revert p; decide
theorem sinbY (s : Fin 3) : ∀ a, slotOff s a + S1x1x512x1024.size a ≤ S3x1x512x1024.size a := by
  revert s; decide
theorem cinbY (s : Fin 3) : ∀ a, semOff s a + S1.size a ≤ S3.size a := by
  revert s; decide
/-- The array, block `p` of it, the buffer, slot `s` of it, slot `s`'s semaphore. -/
abbrev arrY : Memref sig .tc .hbm S8x512x2048 .bf16 := Memref.whole main_v1
def blkY (p : Fin 16) : Memref sig .tc .hbm S1x512x1024 .bf16 :=
  arrY.slice (Rect.unit (s := S8x512x2048) (tOff p) S1x512x1024.size (inbY p)) (fun _ => rfl)
abbrev bufY : Memref sig .tc .vmem S3x1x512x1024 .bf16 := Memref.whole cc0_scoped0
def slotY (s : Fin 3) : Memref sig .tc .vmem S1x512x1024 .bf16 :=
  (bufY.slice (Rect.unit (s := S3x1x512x1024) (slotOff s) S1x1x512x1024.size (sinbY s)) (fun _ => rfl)).squeeze S1x512x1024 squeezes_S1x1x512x1024_S1x512x1024
def semY (s : Fin 3) : DmaSems sig S_ := (cc0_scoped1.slice (Rect.unit (s := S3) (semOff s) S1.size (cinbY s))).squeeze S_ squeezes_S1_S_
theorem semY_congr {o : Fin 1 → Nat} {s : Fin 3} (h : o = semOff s) (hh) :
    (cc0_scoped1.slice (Rect.unit (s := S3) o S1.size hh)).squeeze S_ squeezes_S1_S_ = semY s :=
  congrArg (fun A : DmaSems sig S1 => A.squeeze S_ squeezes_S1_S_) (SemArray.slice_unit_congr _ h _ _)
theorem slotY_congr {o : Fin 4 → Nat} {s : Fin 3} (h : o = slotOff s) (hh hs) :
    (bufY.slice (Rect.unit (s := S3x1x512x1024) o S1x1x512x1024.size hh) hs).squeeze S1x512x1024 squeezes_S1x1x512x1024_S1x512x1024 = slotY s :=
  congrArg (fun M : Memref sig .tc .vmem S1x1x512x1024 .bf16 => M.squeeze S1x512x1024 squeezes_S1x1x512x1024_S1x512x1024) (Memref.slice_unit_congr _ h _ _ _ _)
theorem blkY_congr {o : Fin 3 → Nat} {p : Fin 16} (h : o = tOff p) (hh hs) :
    arrY.slice (Rect.unit (s := S8x512x2048) o S1x512x1024.size hh) hs = blkY p :=
  Memref.slice_unit_congr _ h _ _ _ (fun _ => rfl)

/-! ### Array `P` -/
theorem inbP (p : Fin 16) : ∀ a, hOff p a + S1x1024x512.size a ≤ S8x2048x512.size a := by
  revert p; decide
theorem sinbP (s : Fin 3) : ∀ a, slotOff s a + S1x1x1024x512.size a ≤ S3x1x1024x512.size a := by
  revert s; decide
theorem cinbP (s : Fin 3) : ∀ a, semOff s a + S1.size a ≤ S3.size a := by
  revert s; decide
/-- The array, block `p` of it, the buffer, slot `s` of it, slot `s`'s semaphore. -/
abbrev arrP : Memref sig .tc .hbm S8x2048x512 .bf16 := Memref.whole main_v2
def blkP (p : Fin 16) : Memref sig .tc .hbm S1x1024x512 .bf16 :=
  arrP.slice (Rect.unit (s := S8x2048x512) (hOff p) S1x1024x512.size (inbP p)) (fun _ => rfl)
abbrev bufP : Memref sig .tc .vmem S3x1x1024x512 .bf16 := Memref.whole cc0_scoped2
def slotP (s : Fin 3) : Memref sig .tc .vmem S1x1024x512 .bf16 :=
  (bufP.slice (Rect.unit (s := S3x1x1024x512) (slotOff s) S1x1x1024x512.size (sinbP s)) (fun _ => rfl)).squeeze S1x1024x512 squeezes_S1x1x1024x512_S1x1024x512
def semP (s : Fin 3) : DmaSems sig S_ := (cc0_scoped3.slice (Rect.unit (s := S3) (semOff s) S1.size (cinbP s))).squeeze S_ squeezes_S1_S_
theorem semP_congr {o : Fin 1 → Nat} {s : Fin 3} (h : o = semOff s) (hh) :
    (cc0_scoped3.slice (Rect.unit (s := S3) o S1.size hh)).squeeze S_ squeezes_S1_S_ = semP s :=
  congrArg (fun A : DmaSems sig S1 => A.squeeze S_ squeezes_S1_S_) (SemArray.slice_unit_congr _ h _ _)
theorem slotP_congr {o : Fin 4 → Nat} {s : Fin 3} (h : o = slotOff s) (hh hs) :
    (bufP.slice (Rect.unit (s := S3x1x1024x512) o S1x1x1024x512.size hh) hs).squeeze S1x1024x512 squeezes_S1x1x1024x512_S1x1024x512 = slotP s :=
  congrArg (fun M : Memref sig .tc .vmem S1x1x1024x512 .bf16 => M.squeeze S1x1024x512 squeezes_S1x1x1024x512_S1x1024x512) (Memref.slice_unit_congr _ h _ _ _ _)
theorem blkP_congr {o : Fin 3 → Nat} {p : Fin 16} (h : o = hOff p) (hh hs) :
    arrP.slice (Rect.unit (s := S8x2048x512) o S1x1024x512.size hh) hs = blkP p :=
  Memref.slice_unit_congr _ h _ _ _ (fun _ => rfl)

/-! ### Array `X` -/
theorem inbX (p : Fin 16) : ∀ a, hOff p a + S1x1024x1024.size a ≤ S8x2048x1024.size a := by
  revert p; decide
theorem sinbX (s : Fin 3) : ∀ a, slotOff s a + S1x1x1024x1024.size a ≤ S3x1x1024x1024.size a := by
  revert s; decide
theorem cinbX (s : Fin 3) : ∀ a, semOff s a + S1.size a ≤ S3.size a := by
  revert s; decide
/-- The array, block `p` of it, the buffer, slot `s` of it, slot `s`'s semaphore. -/
abbrev arrX : Memref sig .tc .hbm S8x2048x1024 .f32 := Memref.whole main_arg2
def blkX (p : Fin 16) : Memref sig .tc .hbm S1x1024x1024 .f32 :=
  arrX.slice (Rect.unit (s := S8x2048x1024) (hOff p) S1x1024x1024.size (inbX p)) (fun _ => rfl)
abbrev bufX : Memref sig .tc .vmem S3x1x1024x1024 .f32 := Memref.whole cc0_scoped4
def slotX (s : Fin 3) : Memref sig .tc .vmem S1x1024x1024 .f32 :=
  (bufX.slice (Rect.unit (s := S3x1x1024x1024) (slotOff s) S1x1x1024x1024.size (sinbX s)) (fun _ => rfl)).squeeze S1x1024x1024 squeezes_S1x1x1024x1024_S1x1024x1024
def semX (s : Fin 3) : DmaSems sig S_ := (cc0_scoped5.slice (Rect.unit (s := S3) (semOff s) S1.size (cinbX s))).squeeze S_ squeezes_S1_S_
theorem semX_congr {o : Fin 1 → Nat} {s : Fin 3} (h : o = semOff s) (hh) :
    (cc0_scoped5.slice (Rect.unit (s := S3) o S1.size hh)).squeeze S_ squeezes_S1_S_ = semX s :=
  congrArg (fun A : DmaSems sig S1 => A.squeeze S_ squeezes_S1_S_) (SemArray.slice_unit_congr _ h _ _)
theorem slotX_congr {o : Fin 4 → Nat} {s : Fin 3} (h : o = slotOff s) (hh hs) :
    (bufX.slice (Rect.unit (s := S3x1x1024x1024) o S1x1x1024x1024.size hh) hs).squeeze S1x1024x1024 squeezes_S1x1x1024x1024_S1x1024x1024 = slotX s :=
  congrArg (fun M : Memref sig .tc .vmem S1x1x1024x1024 .f32 => M.squeeze S1x1024x1024 squeezes_S1x1x1024x1024_S1x1024x1024) (Memref.slice_unit_congr _ h _ _ _ _)
theorem blkX_congr {o : Fin 3 → Nat} {p : Fin 16} (h : o = hOff p) (hh hs) :
    arrX.slice (Rect.unit (s := S8x2048x1024) o S1x1024x1024.size hh) hs = blkX p :=
  Memref.slice_unit_congr _ h _ _ _ (fun _ => rfl)

/-! ### Array `O` -/
theorem inbO (p : Fin 16) : ∀ a, hOff p a + S1x1024x1024.size a ≤ S8x2048x1024.size a := by
  revert p; decide
theorem sinbO (s : Fin 2) : ∀ a, slotOff s a + S1x1x1024x1024.size a ≤ S2x1x1024x1024.size a := by
  revert s; decide
theorem cinbO (s : Fin 2) : ∀ a, semOff s a + S1.size a ≤ S2.size a := by
  revert s; decide
/-- The array, block `p` of it, the buffer, slot `s` of it, slot `s`'s semaphore. -/
abbrev arrO : Memref sig .tc .hbm S8x2048x1024 .f32 := Memref.whole main_v5
def blkO (p : Fin 16) : Memref sig .tc .hbm S1x1024x1024 .f32 :=
  arrO.slice (Rect.unit (s := S8x2048x1024) (hOff p) S1x1024x1024.size (inbO p)) (fun _ => rfl)
abbrev bufO : Memref sig .tc .vmem S2x1x1024x1024 .f32 := Memref.whole cc0_scoped6
def slotO (s : Fin 2) : Memref sig .tc .vmem S1x1024x1024 .f32 :=
  (bufO.slice (Rect.unit (s := S2x1x1024x1024) (slotOff s) S1x1x1024x1024.size (sinbO s)) (fun _ => rfl)).squeeze S1x1024x1024 squeezes_S1x1x1024x1024_S1x1024x1024
def semO (s : Fin 2) : DmaSems sig S_ := (cc0_scoped7.slice (Rect.unit (s := S2) (semOff s) S1.size (cinbO s))).squeeze S_ squeezes_S1_S_
theorem semO_congr {o : Fin 1 → Nat} {s : Fin 2} (h : o = semOff s) (hh) :
    (cc0_scoped7.slice (Rect.unit (s := S2) o S1.size hh)).squeeze S_ squeezes_S1_S_ = semO s :=
  congrArg (fun A : DmaSems sig S1 => A.squeeze S_ squeezes_S1_S_) (SemArray.slice_unit_congr _ h _ _)
theorem slotO_congr {o : Fin 4 → Nat} {s : Fin 2} (h : o = slotOff s) (hh hs) :
    (bufO.slice (Rect.unit (s := S2x1x1024x1024) o S1x1x1024x1024.size hh) hs).squeeze S1x1024x1024 squeezes_S1x1x1024x1024_S1x1024x1024 = slotO s :=
  congrArg (fun M : Memref sig .tc .vmem S1x1x1024x1024 .f32 => M.squeeze S1x1024x1024 squeezes_S1x1x1024x1024_S1x1024x1024) (Memref.slice_unit_congr _ h _ _ _ _)
theorem blkO_congr {o : Fin 3 → Nat} {p : Fin 16} (h : o = hOff p) (hh hs) :
    arrO.slice (Rect.unit (s := S8x2048x1024) o S1x1024x1024.size hh) hs = blkO p :=
  Memref.slice_unit_congr _ h _ _ _ (fun _ => rfl)

/-! ## The prologue's blocks 0 and 1 -/
@[sl_canon] theorem p0semY (hh) : (cc0_scoped1.slice (Rect.unit (s := S3) k0_off1 S1.size hh)).squeeze S_ squeezes_S1_S_ = semY 0 := semY_congr (by decide) _
@[sl_canon] theorem p0slotY (hh hs) : (bufY.slice (Rect.unit (s := S3x1x512x1024) k0_off2 S1x1x512x1024.size hh) hs).squeeze S1x512x1024 squeezes_S1x1x512x1024_S1x512x1024 = slotY 0 := slotY_congr (by decide) _ _
@[sl_canon] theorem p0blkY (hh hs) : arrY.slice (Rect.unit (s := S8x512x2048) ![0, 0, 0] S1x512x1024.size hh) hs = blkY 0 := blkY_congr (by decide) _ _
@[sl_canon] theorem p0semP (hh) : (cc0_scoped3.slice (Rect.unit (s := S3) k0_off1 S1.size hh)).squeeze S_ squeezes_S1_S_ = semP 0 := semP_congr (by decide) _
@[sl_canon] theorem p0slotP (hh hs) : (bufP.slice (Rect.unit (s := S3x1x1024x512) k0_off3 S1x1x1024x512.size hh) hs).squeeze S1x1024x512 squeezes_S1x1x1024x512_S1x1024x512 = slotP 0 := slotP_congr (by decide) _ _
@[sl_canon] theorem p0blkP (hh hs) : arrP.slice (Rect.unit (s := S8x2048x512) ![0, 0, 0] S1x1024x512.size hh) hs = blkP 0 := blkP_congr (by decide) _ _
@[sl_canon] theorem p0semX (hh) : (cc0_scoped5.slice (Rect.unit (s := S3) k0_off1 S1.size hh)).squeeze S_ squeezes_S1_S_ = semX 0 := semX_congr (by decide) _
@[sl_canon] theorem p0slotX (hh hs) : (bufX.slice (Rect.unit (s := S3x1x1024x1024) k0_off4 S1x1x1024x1024.size hh) hs).squeeze S1x1024x1024 squeezes_S1x1x1024x1024_S1x1024x1024 = slotX 0 := slotX_congr (by decide) _ _
@[sl_canon] theorem p0blkX (hh hs) : arrX.slice (Rect.unit (s := S8x2048x1024) ![0, 0, 0] S1x1024x1024.size hh) hs = blkX 0 := blkX_congr (by decide) _ _
@[sl_canon] theorem p1semY (hh) : (cc0_scoped1.slice (Rect.unit (s := S3) k0_off5 S1.size hh)).squeeze S_ squeezes_S1_S_ = semY 1 := semY_congr (by decide) _
@[sl_canon] theorem p1slotY (hh hs) : (bufY.slice (Rect.unit (s := S3x1x512x1024) k0_off6 S1x1x512x1024.size hh) hs).squeeze S1x512x1024 squeezes_S1x1x512x1024_S1x512x1024 = slotY 1 := slotY_congr (by decide) _ _
@[sl_canon] theorem p1blkY (hh hs) : arrY.slice (Rect.unit (s := S8x512x2048) k0_off7 S1x512x1024.size hh) hs = blkY 1 := blkY_congr (by decide) _ _
@[sl_canon] theorem p1semP (hh) : (cc0_scoped3.slice (Rect.unit (s := S3) k0_off8 S1.size hh)).squeeze S_ squeezes_S1_S_ = semP 1 := semP_congr (by decide) _
@[sl_canon] theorem p1slotP (hh hs) : (bufP.slice (Rect.unit (s := S3x1x1024x512) k0_off9 S1x1x1024x512.size hh) hs).squeeze S1x1024x512 squeezes_S1x1x1024x512_S1x1024x512 = slotP 1 := slotP_congr (by decide) _ _
@[sl_canon] theorem p1blkP (hh hs) : arrP.slice (Rect.unit (s := S8x2048x512) k0_off10 S1x1024x512.size hh) hs = blkP 1 := blkP_congr (by decide) _ _
@[sl_canon] theorem p1semX (hh) : (cc0_scoped5.slice (Rect.unit (s := S3) k0_off11 S1.size hh)).squeeze S_ squeezes_S1_S_ = semX 1 := semX_congr (by decide) _
@[sl_canon] theorem p1slotX (hh hs) : (bufX.slice (Rect.unit (s := S3x1x1024x1024) k0_off12 S1x1x1024x1024.size hh) hs).squeeze S1x1024x1024 squeezes_S1x1x1024x1024_S1x1024x1024 = slotX 1 := slotX_congr (by decide) _ _
@[sl_canon] theorem p1blkX (hh hs) : arrX.slice (Rect.unit (s := S8x2048x1024) k0_off13 S1x1024x1024.size hh) hs = blkX 1 := blkX_congr (by decide) _ _
theorem cond1 : k0_cond1 = 1#1 := by decide
theorem cond2 : k0_cond2 = 1#1 := by decide
theorem cond3 : k0_cond3 = 1#1 := by decide
/-! ## Trip `k`: the checks, the conditions, the offsets -/
theorem chk1 : ∀ k : Fin k0_t1_loop.trips, k0_chk1 k (wI k.val) (wK k.val) (wI k.val) (wK k.val) (wI k.val) (wK k.val) (wK k.val) (wP k.val) (wB k.val) (wS k.val) := by decide +kernel
theorem chk2 : ∀ k : Fin k0_t1_loop.trips, k0_chk2 (wK k.val) := by decide +kernel
theorem chk3 : ∀ k : Fin k0_t1_loop.trips, k0_chk3 (wK k.val) := by decide +kernel
theorem chk4 : ∀ k : Fin k0_t1_loop.trips, k0_chk4 (wK k.val) := by decide +kernel
theorem chk5 : ∀ k : Fin k0_t1_loop.trips, k0_chk5 (wK k.val) := by decide +kernel
theorem chk6 : k0_chk6 (wP 16) := by decide +kernel
theorem chk7 : k0_chk7 (wS 16) (wB 16) := by decide +kernel
theorem cond4 : ∀ k : Fin k0_t1_loop.trips, k.val < 14 → k0_cond4 k (wB k.val) (wS k.val) = 1#1 := by decide +kernel
theorem ncond4 : ∀ k : Fin k0_t1_loop.trips, ¬ k.val < 14 → ¬ k0_cond4 k (wB k.val) (wS k.val) = 1#1 := by decide +kernel
theorem cond5 : ∀ k : Fin k0_t1_loop.trips, k.val < 14 → k0_cond5 k (wB k.val) (wS k.val) = 1#1 := by decide +kernel
theorem ncond5 : ∀ k : Fin k0_t1_loop.trips, ¬ k.val < 14 → ¬ k0_cond5 k (wB k.val) (wS k.val) = 1#1 := by decide +kernel
theorem cond6 : ∀ k : Fin k0_t1_loop.trips, k.val < 14 → k0_cond6 k (wB k.val) (wS k.val) = 1#1 := by decide +kernel
theorem ncond6 : ∀ k : Fin k0_t1_loop.trips, ¬ k.val < 14 → ¬ k0_cond6 k (wB k.val) (wS k.val) = 1#1 := by decide +kernel
theorem cond7 : ∀ k : Fin k0_t1_loop.trips, k0_cond7 k (wB k.val) (wS k.val) = 1#1 := by decide +kernel
theorem cond8 : ∀ k : Fin k0_t1_loop.trips, k0_cond8 k (wB k.val) (wS k.val) = 1#1 := by decide +kernel
theorem cond9 : ∀ k : Fin k0_t1_loop.trips, k0_cond9 k (wB k.val) (wS k.val) = 1#1 := by decide +kernel
theorem cond14 : ∀ k : Fin k0_t1_loop.trips, k0_cond14 k (wB k.val) (wS k.val) = 1#1 := by decide +kernel
theorem cond18 : ∀ k : Fin k0_t1_loop.trips, ¬ k.val = 0 → k0_cond18 k (wB k.val) (wS k.val) = 1#1 := by decide +kernel
theorem ncond18 : ∀ k : Fin k0_t1_loop.trips, k.val = 0 → ¬ k0_cond18 k (wB k.val) (wS k.val) = 1#1 := by decide +kernel
theorem off14_eq : ∀ k : Fin k0_t1_loop.trips, k.val < 14 → k0_off14 (wI k.val) = semOff (Ring.sl 3 (k.val + 2)) := by decide +kernel
@[sl_canon] theorem isemY (k : Fin k0_t1_loop.trips) (h : k.val < 14) (hh) : (cc0_scoped1.slice (Rect.unit (s := S3) (k0_off14 (wI k.val)) S1.size hh)).squeeze S_ squeezes_S1_S_ = semY (Ring.sl 3 (k.val + 2)) := semY_congr (off14_eq k h) _
theorem off15_eq : ∀ k : Fin k0_t1_loop.trips, k.val < 14 → k0_off15 (wI k.val) = slotOff (Ring.sl 3 (k.val + 2)) := by decide +kernel
@[sl_canon] theorem islotY (k : Fin k0_t1_loop.trips) (h : k.val < 14) (hh hs) : (bufY.slice (Rect.unit (s := S3x1x512x1024) (k0_off15 (wI k.val)) S1x1x512x1024.size hh) hs).squeeze S1x512x1024 squeezes_S1x1x512x1024_S1x512x1024 = slotY (Ring.sl 3 (k.val + 2)) := slotY_congr (off15_eq k h) _ _
theorem off16_eq : ∀ k : Fin k0_t1_loop.trips, k.val < 14 → k0_off16 (wB k.val) (wS k.val) = tOff (Ring.bk 16 (k.val + 2)) := by decide +kernel
@[sl_canon] theorem iblkY (k : Fin k0_t1_loop.trips) (h : k.val < 14) (hh hs) : arrY.slice (Rect.unit (s := S8x512x2048) (k0_off16 (wB k.val) (wS k.val)) S1x512x1024.size hh) hs = blkY (Ring.bk 16 (k.val + 2)) := blkY_congr (off16_eq k h) _ _
theorem off17_eq : ∀ k : Fin k0_t1_loop.trips, k.val < 14 → k0_off17 (wI k.val) = semOff (Ring.sl 3 (k.val + 2)) := by decide +kernel
@[sl_canon] theorem isemP (k : Fin k0_t1_loop.trips) (h : k.val < 14) (hh) : (cc0_scoped3.slice (Rect.unit (s := S3) (k0_off17 (wI k.val)) S1.size hh)).squeeze S_ squeezes_S1_S_ = semP (Ring.sl 3 (k.val + 2)) := semP_congr (off17_eq k h) _
theorem off18_eq : ∀ k : Fin k0_t1_loop.trips, k.val < 14 → k0_off18 (wI k.val) = slotOff (Ring.sl 3 (k.val + 2)) := by decide +kernel
@[sl_canon] theorem islotP (k : Fin k0_t1_loop.trips) (h : k.val < 14) (hh hs) : (bufP.slice (Rect.unit (s := S3x1x1024x512) (k0_off18 (wI k.val)) S1x1x1024x512.size hh) hs).squeeze S1x1024x512 squeezes_S1x1x1024x512_S1x1024x512 = slotP (Ring.sl 3 (k.val + 2)) := slotP_congr (off18_eq k h) _ _
theorem off19_eq : ∀ k : Fin k0_t1_loop.trips, k.val < 14 → k0_off19 (wB k.val) (wS k.val) = hOff (Ring.bk 16 (k.val + 2)) := by decide +kernel
@[sl_canon] theorem iblkP (k : Fin k0_t1_loop.trips) (h : k.val < 14) (hh hs) : arrP.slice (Rect.unit (s := S8x2048x512) (k0_off19 (wB k.val) (wS k.val)) S1x1024x512.size hh) hs = blkP (Ring.bk 16 (k.val + 2)) := blkP_congr (off19_eq k h) _ _
theorem off20_eq : ∀ k : Fin k0_t1_loop.trips, k.val < 14 → k0_off20 (wI k.val) = semOff (Ring.sl 3 (k.val + 2)) := by decide +kernel
@[sl_canon] theorem isemX (k : Fin k0_t1_loop.trips) (h : k.val < 14) (hh) : (cc0_scoped5.slice (Rect.unit (s := S3) (k0_off20 (wI k.val)) S1.size hh)).squeeze S_ squeezes_S1_S_ = semX (Ring.sl 3 (k.val + 2)) := semX_congr (off20_eq k h) _
theorem off21_eq : ∀ k : Fin k0_t1_loop.trips, k.val < 14 → k0_off21 (wI k.val) = slotOff (Ring.sl 3 (k.val + 2)) := by decide +kernel
@[sl_canon] theorem islotX (k : Fin k0_t1_loop.trips) (h : k.val < 14) (hh hs) : (bufX.slice (Rect.unit (s := S3x1x1024x1024) (k0_off21 (wI k.val)) S1x1x1024x1024.size hh) hs).squeeze S1x1024x1024 squeezes_S1x1x1024x1024_S1x1024x1024 = slotX (Ring.sl 3 (k.val + 2)) := slotX_congr (off21_eq k h) _ _
theorem off22_eq : ∀ k : Fin k0_t1_loop.trips, k.val < 14 → k0_off22 (wB k.val) (wS k.val) = hOff (Ring.bk 16 (k.val + 2)) := by decide +kernel
@[sl_canon] theorem iblkX (k : Fin k0_t1_loop.trips) (h : k.val < 14) (hh hs) : arrX.slice (Rect.unit (s := S8x2048x1024) (k0_off22 (wB k.val) (wS k.val)) S1x1024x1024.size hh) hs = blkX (Ring.bk 16 (k.val + 2)) := blkX_congr (off22_eq k h) _ _
theorem off23_eq : ∀ k : Fin k0_t1_loop.trips, k0_off23 (wK k.val) = semOff (Ring.sl 3 k.val) := by decide +kernel
@[sl_canon] theorem wsemY (k : Fin k0_t1_loop.trips) (hh) : (cc0_scoped1.slice (Rect.unit (s := S3) (k0_off23 (wK k.val)) S1.size hh)).squeeze S_ squeezes_S1_S_ = semY (Ring.sl 3 k.val) := semY_congr (off23_eq k) _
theorem off24_eq : ∀ k : Fin k0_t1_loop.trips, k0_off24 (wK k.val) = slotOff (Ring.sl 3 k.val) := by decide +kernel
@[sl_canon] theorem wslotY (k : Fin k0_t1_loop.trips) (hh hs) : (bufY.slice (Rect.unit (s := S3x1x512x1024) (k0_off24 (wK k.val)) S1x1x512x1024.size hh) hs).squeeze S1x512x1024 squeezes_S1x1x512x1024_S1x512x1024 = slotY (Ring.sl 3 k.val) := slotY_congr (off24_eq k) _ _
theorem off25_eq : ∀ k : Fin k0_t1_loop.trips, k0_off25 (wB k.val) (wS k.val) = tOff (Ring.bk 16 k.val) := by decide +kernel
@[sl_canon] theorem wblkY (k : Fin k0_t1_loop.trips) (hh hs) : arrY.slice (Rect.unit (s := S8x512x2048) (k0_off25 (wB k.val) (wS k.val)) S1x512x1024.size hh) hs = blkY (Ring.bk 16 k.val) := blkY_congr (off25_eq k) _ _
theorem off32_eq : ∀ k : Fin k0_t1_loop.trips, k0_off32 (wK k.val) = slotOff (Ring.sl 3 k.val) := by decide +kernel
@[sl_canon] theorem lslotY (k : Fin k0_t1_loop.trips) (hh hs) : (bufY.slice (Rect.unit (s := S3x1x512x1024) (k0_off32 (wK k.val)) S1x1x512x1024.size hh) hs).squeeze S1x512x1024 squeezes_S1x1x512x1024_S1x512x1024 = slotY (Ring.sl 3 k.val) := slotY_congr (off32_eq k) _ _
theorem off26_eq : ∀ k : Fin k0_t1_loop.trips, k0_off26 (wK k.val) = semOff (Ring.sl 3 k.val) := by decide +kernel
@[sl_canon] theorem wsemP (k : Fin k0_t1_loop.trips) (hh) : (cc0_scoped3.slice (Rect.unit (s := S3) (k0_off26 (wK k.val)) S1.size hh)).squeeze S_ squeezes_S1_S_ = semP (Ring.sl 3 k.val) := semP_congr (off26_eq k) _
theorem off27_eq : ∀ k : Fin k0_t1_loop.trips, k0_off27 (wK k.val) = slotOff (Ring.sl 3 k.val) := by decide +kernel
@[sl_canon] theorem wslotP (k : Fin k0_t1_loop.trips) (hh hs) : (bufP.slice (Rect.unit (s := S3x1x1024x512) (k0_off27 (wK k.val)) S1x1x1024x512.size hh) hs).squeeze S1x1024x512 squeezes_S1x1x1024x512_S1x1024x512 = slotP (Ring.sl 3 k.val) := slotP_congr (off27_eq k) _ _
theorem off28_eq : ∀ k : Fin k0_t1_loop.trips, k0_off28 (wB k.val) (wS k.val) = hOff (Ring.bk 16 k.val) := by decide +kernel
@[sl_canon] theorem wblkP (k : Fin k0_t1_loop.trips) (hh hs) : arrP.slice (Rect.unit (s := S8x2048x512) (k0_off28 (wB k.val) (wS k.val)) S1x1024x512.size hh) hs = blkP (Ring.bk 16 k.val) := blkP_congr (off28_eq k) _ _
theorem off33_eq : ∀ k : Fin k0_t1_loop.trips, k0_off33 (wK k.val) = slotOff (Ring.sl 3 k.val) := by decide +kernel
@[sl_canon] theorem lslotP (k : Fin k0_t1_loop.trips) (hh hs) : (bufP.slice (Rect.unit (s := S3x1x1024x512) (k0_off33 (wK k.val)) S1x1x1024x512.size hh) hs).squeeze S1x1024x512 squeezes_S1x1x1024x512_S1x1024x512 = slotP (Ring.sl 3 k.val) := slotP_congr (off33_eq k) _ _
theorem off29_eq : ∀ k : Fin k0_t1_loop.trips, k0_off29 (wK k.val) = semOff (Ring.sl 3 k.val) := by decide +kernel
@[sl_canon] theorem wsemX (k : Fin k0_t1_loop.trips) (hh) : (cc0_scoped5.slice (Rect.unit (s := S3) (k0_off29 (wK k.val)) S1.size hh)).squeeze S_ squeezes_S1_S_ = semX (Ring.sl 3 k.val) := semX_congr (off29_eq k) _
theorem off30_eq : ∀ k : Fin k0_t1_loop.trips, k0_off30 (wK k.val) = slotOff (Ring.sl 3 k.val) := by decide +kernel
@[sl_canon] theorem wslotX (k : Fin k0_t1_loop.trips) (hh hs) : (bufX.slice (Rect.unit (s := S3x1x1024x1024) (k0_off30 (wK k.val)) S1x1x1024x1024.size hh) hs).squeeze S1x1024x1024 squeezes_S1x1x1024x1024_S1x1024x1024 = slotX (Ring.sl 3 k.val) := slotX_congr (off30_eq k) _ _
theorem off31_eq : ∀ k : Fin k0_t1_loop.trips, k0_off31 (wB k.val) (wS k.val) = hOff (Ring.bk 16 k.val) := by decide +kernel
@[sl_canon] theorem wblkX (k : Fin k0_t1_loop.trips) (hh hs) : arrX.slice (Rect.unit (s := S8x2048x1024) (k0_off31 (wB k.val) (wS k.val)) S1x1024x1024.size hh) hs = blkX (Ring.bk 16 k.val) := blkX_congr (off31_eq k) _ _
theorem off34_eq : ∀ k : Fin k0_t1_loop.trips, k0_off34 (wK k.val) = slotOff (Ring.sl 3 k.val) := by decide +kernel
@[sl_canon] theorem lslotX (k : Fin k0_t1_loop.trips) (hh hs) : (bufX.slice (Rect.unit (s := S3x1x1024x1024) (k0_off34 (wK k.val)) S1x1x1024x1024.size hh) hs).squeeze S1x1024x1024 squeezes_S1x1x1024x1024_S1x1024x1024 = slotX (Ring.sl 3 k.val) := slotX_congr (off34_eq k) _ _
theorem off35_eq : ∀ k : Fin k0_t1_loop.trips, k0_off35 (wK k.val) = slotOff (Ring.sl 2 k.val) := by decide +kernel
@[sl_canon] theorem sslotO (k : Fin k0_t1_loop.trips) (hh hs) : (bufO.slice (Rect.unit (s := S2x1x1024x1024) (k0_off35 (wK k.val)) S1x1x1024x1024.size hh) hs).squeeze S1x1024x1024 squeezes_S1x1x1024x1024_S1x1024x1024 = slotO (Ring.sl 2 k.val) := slotO_congr (off35_eq k) _ _
theorem off36_eq : ∀ k : Fin k0_t1_loop.trips, k0_off36 (wK k.val) = semOff (Ring.sl 2 k.val) := by decide +kernel
@[sl_canon] theorem osemO (k : Fin k0_t1_loop.trips) (hh) : (cc0_scoped7.slice (Rect.unit (s := S2) (k0_off36 (wK k.val)) S1.size hh)).squeeze S_ squeezes_S1_S_ = semO (Ring.sl 2 k.val) := semO_congr (off36_eq k) _
theorem off37_eq : ∀ k : Fin k0_t1_loop.trips, k0_off37 (wB k.val) (wS k.val) = hOff (Ring.bk 16 k.val) := by decide +kernel
@[sl_canon] theorem oblkO (k : Fin k0_t1_loop.trips) (hh hs) : arrO.slice (Rect.unit (s := S8x2048x1024) (k0_off37 (wB k.val) (wS k.val)) S1x1024x1024.size hh) hs = blkO (Ring.bk 16 k.val) := blkO_congr (off37_eq k) _ _
theorem off38_eq : ∀ k : Fin k0_t1_loop.trips, k0_off38 (wK k.val) = slotOff (Ring.sl 2 k.val) := by decide +kernel
@[sl_canon] theorem oslotO (k : Fin k0_t1_loop.trips) (hh hs) : (bufO.slice (Rect.unit (s := S2x1x1024x1024) (k0_off38 (wK k.val)) S1x1x1024x1024.size hh) hs).squeeze S1x1024x1024 squeezes_S1x1x1024x1024_S1x1024x1024 = slotO (Ring.sl 2 k.val) := slotO_congr (off38_eq k) _ _
theorem off39_eq : ∀ k : Fin k0_t1_loop.trips, ¬ k.val = 0 → k0_off39 (wP k.val) = semOff (Ring.sl 2 (k.val - 1)) := by decide +kernel
@[sl_canon] theorem bsemO (k : Fin k0_t1_loop.trips) (h : ¬ k.val = 0) (hh) : (cc0_scoped7.slice (Rect.unit (s := S2) (k0_off39 (wP k.val)) S1.size hh)).squeeze S_ squeezes_S1_S_ = semO (Ring.sl 2 (k.val - 1)) := semO_congr (off39_eq k h) _
theorem off40_eq : ∀ k : Fin k0_t1_loop.trips, ¬ k.val = 0 → k0_off40 (wB k.val) (wS k.val) = hOff (Ring.bk 16 (k.val - 1)) := by decide +kernel
@[sl_canon] theorem bblkO (k : Fin k0_t1_loop.trips) (h : ¬ k.val = 0) (hh hs) : arrO.slice (Rect.unit (s := S8x2048x1024) (k0_off40 (wB k.val) (wS k.val)) S1x1024x1024.size hh) hs = blkO (Ring.bk 16 (k.val - 1)) := blkO_congr (off40_eq k h) _ _
theorem off41_eq : ∀ k : Fin k0_t1_loop.trips, ¬ k.val = 0 → k0_off41 (wP k.val) = slotOff (Ring.sl 2 (k.val - 1)) := by decide +kernel
@[sl_canon] theorem bslotO (k : Fin k0_t1_loop.trips) (h : ¬ k.val = 0) (hh hs) : (bufO.slice (Rect.unit (s := S2x1x1024x1024) (k0_off41 (wP k.val)) S1x1x1024x1024.size hh) hs).squeeze S1x1024x1024 squeezes_S1x1x1024x1024_S1x1024x1024 = slotO (Ring.sl 2 (k.val - 1)) := slotO_congr (off41_eq k h) _ _
/-! ## The drain of block 15 -/
@[sl_canon] theorem esemO (hh) : (cc0_scoped7.slice (Rect.unit (s := S2) (k0_off42 (wP 16)) S1.size hh)).squeeze S_ squeezes_S1_S_ = semO 1 := semO_congr (by decide +kernel) _
@[sl_canon] theorem eblkO (hh hs) : arrO.slice (Rect.unit (s := S8x2048x1024) (k0_off43 (wS 16) (wB 16)) S1x1024x1024.size hh) hs = blkO 15 := blkO_congr (by decide +kernel) _ _
@[sl_canon] theorem eslotO (hh hs) : (bufO.slice (Rect.unit (s := S2x1x1024x1024) (k0_off44 (wP 16)) S1x1x1024x1024.size hh) hs).squeeze S1x1024x1024 squeezes_S1x1x1024x1024_S1x1024x1024 = slotO 1 := slotO_congr (by decide +kernel) _ _

end Cert.Proof.MixOut

end
-- ==== Proof.MixOut.Trip.lean ====
/-
  One trip of the output projection's block pipeline, and the loop's invariant.

  Before trip `k`: of each of the three input arrays, block `k` is in flight into slot `k % 3`, block `k + 1` into slot
  `(k + 1) % 3` (as far as there are such blocks), the third slot is free, the other blocks are home; of the output, the
  blocks before `k - 1` are written, block `k - 1` is in flight out of slot `(k + 1) % 2`, slot `k % 2` is free, the blocks
  from `k` on are untouched.
-/
module

public import proofs.«01_k».proof.Proof.MixOut.Canon

@[expose] public section

noncomputable section

namespace Cert.Proof.MixOut

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters of the kernel's own transfers. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Pieces -/

section Pieces
variable (c : Dev nD)

abbrev MemY (c : Dev nD) : Type := Buf (Elt F) (arrY.view.loc (c : Thread nD τ))
abbrev SMemY (c : Dev nD) : Type := Buf (Elt F) (bufY.view.loc (c : Thread nD τ))
abbrev cellY (s : Fin 3) : sProp 𝕄 := semVal ((c : Thread nD τ), SemLoc.dma (semY s).sem) 0
abbrev heldY (s : Fin 3) (f : Buf (Elt F) ((slotY s).view.loc (c : Thread nD τ))) : sProp 𝕄 :=
  (slotY s).view.loc (c : Thread nD τ) ↦[(slotY s).view.set]{fullShare} f
/-- Block `p` of the array, at the array's contents `A`. -/
abbrev homeY (A : Buf (Elt F) (arrY.view.loc (c : Thread nD τ))) (p : Fin 16) : sProp 𝕄 :=
  (blkY p).view.loc (c : Thread nD τ) ↦[(blkY p).view.set]{fullShare} A
/-- A free slot with its semaphore at zero. -/
def freeY (s : Fin 3) : sProp 𝕄 := iprop(cellY c s ∗ ∃ f, heldY c s f)
abbrev MemP (c : Dev nD) : Type := Buf (Elt F) (arrP.view.loc (c : Thread nD τ))
abbrev SMemP (c : Dev nD) : Type := Buf (Elt F) (bufP.view.loc (c : Thread nD τ))
abbrev cellP (s : Fin 3) : sProp 𝕄 := semVal ((c : Thread nD τ), SemLoc.dma (semP s).sem) 0
abbrev heldP (s : Fin 3) (f : Buf (Elt F) ((slotP s).view.loc (c : Thread nD τ))) : sProp 𝕄 :=
  (slotP s).view.loc (c : Thread nD τ) ↦[(slotP s).view.set]{fullShare} f
/-- Block `p` of the array, at the array's contents `A`. -/
abbrev homeP (A : Buf (Elt F) (arrP.view.loc (c : Thread nD τ))) (p : Fin 16) : sProp 𝕄 :=
  (blkP p).view.loc (c : Thread nD τ) ↦[(blkP p).view.set]{fullShare} A
/-- A free slot with its semaphore at zero. -/
def freeP (s : Fin 3) : sProp 𝕄 := iprop(cellP c s ∗ ∃ f, heldP c s f)
abbrev MemX (c : Dev nD) : Type := Buf (Elt F) (arrX.view.loc (c : Thread nD τ))
abbrev SMemX (c : Dev nD) : Type := Buf (Elt F) (bufX.view.loc (c : Thread nD τ))
abbrev cellX (s : Fin 3) : sProp 𝕄 := semVal ((c : Thread nD τ), SemLoc.dma (semX s).sem) 0
abbrev heldX (s : Fin 3) (f : Buf (Elt F) ((slotX s).view.loc (c : Thread nD τ))) : sProp 𝕄 :=
  (slotX s).view.loc (c : Thread nD τ) ↦[(slotX s).view.set]{fullShare} f
/-- Block `p` of the array, at the array's contents `A`. -/
abbrev homeX (A : Buf (Elt F) (arrX.view.loc (c : Thread nD τ))) (p : Fin 16) : sProp 𝕄 :=
  (blkX p).view.loc (c : Thread nD τ) ↦[(blkX p).view.set]{fullShare} A
/-- A free slot with its semaphore at zero. -/
def freeX (s : Fin 3) : sProp 𝕄 := iprop(cellX c s ∗ ∃ f, heldX c s f)
abbrev MemO (c : Dev nD) : Type := Buf (Elt F) (arrO.view.loc (c : Thread nD τ))
abbrev SMemO (c : Dev nD) : Type := Buf (Elt F) (bufO.view.loc (c : Thread nD τ))
abbrev cellO (s : Fin 2) : sProp 𝕄 := semVal ((c : Thread nD τ), SemLoc.dma (semO s).sem) 0
abbrev heldO (s : Fin 2) (f : Buf (Elt F) ((slotO s).view.loc (c : Thread nD τ))) : sProp 𝕄 :=
  (slotO s).view.loc (c : Thread nD τ) ↦[(slotO s).view.set]{fullShare} f
/-- Block `p` of the array, at the array's contents `A`. -/
abbrev homeO (A : Buf (Elt F) (arrO.view.loc (c : Thread nD τ))) (p : Fin 16) : sProp 𝕄 :=
  (blkO p).view.loc (c : Thread nD τ) ↦[(blkO p).view.set]{fullShare} A
/-- A free slot with its semaphore at zero. -/
def freeO (s : Fin 2) : sProp 𝕄 := iprop(cellO c s ∗ ∃ f, heldO c s f)
/-- Block `p`'s words, as a transfer carries them. -/
abbrev wordsY (A : Buf (Elt F) (arrY.view.loc (c : Thread nD τ))) (p : Fin 16) : S1x512x1024.Idx → Elt F .bf16 :=
  ReadAs.same.apply ((blkY p).view.read (Elt F) A)
/-- Block `p` in flight into slot `s`, over contents `f`. -/
abbrev flightY (A : Buf (Elt F) (arrY.view.loc (c : Thread nD τ))) (s : Fin 3) (p : Fin 16) (f : Buf (Elt F) ((slotY s).view.loc (c : Thread nD τ))) : sProp 𝕄 :=
  Transfers.Flight countersEmb (c : Thread nD τ) (SemLoc.dma (semY s).sem) () 32768
    iprop(heldY c s ((slotY s).view.writes (Elt F) f [⟨Rect.whole S1x512x1024, wordsY c A p⟩]) ∗ homeY c A p)
/-- What slot `k % 3` holds: block `k` in flight, or nothing once the blocks are through. -/
def roleY (A : Buf (Elt F) (arrY.view.loc (c : Thread nD τ))) (k : ℕ) : sProp 𝕄 :=
  if k < 16 then iprop(∃ f, flightY c A (Ring.sl 3 k) (Ring.bk 16 k) f) else freeY c (Ring.sl 3 k)
theorem roleY_lt (A : Buf (Elt F) (arrY.view.loc (c : Thread nD τ))) {k : ℕ} (h : k < 16) :
    roleY c A k = iprop(∃ f, flightY c A (Ring.sl 3 k) (Ring.bk 16 k) f) := if_pos h
theorem roleY_ge (A : Buf (Elt F) (arrY.view.loc (c : Thread nD τ))) {k : ℕ} (h : ¬ k < 16) :
    roleY c A k = freeY c (Ring.sl 3 k) := if_neg h

/-- Block `p`'s words, as a transfer carries them. -/
abbrev wordsP (A : Buf (Elt F) (arrP.view.loc (c : Thread nD τ))) (p : Fin 16) : S1x1024x512.Idx → Elt F .bf16 :=
  ReadAs.same.apply ((blkP p).view.read (Elt F) A)
/-- Block `p` in flight into slot `s`, over contents `f`. -/
abbrev flightP (A : Buf (Elt F) (arrP.view.loc (c : Thread nD τ))) (s : Fin 3) (p : Fin 16) (f : Buf (Elt F) ((slotP s).view.loc (c : Thread nD τ))) : sProp 𝕄 :=
  Transfers.Flight countersEmb (c : Thread nD τ) (SemLoc.dma (semP s).sem) () 32768
    iprop(heldP c s ((slotP s).view.writes (Elt F) f [⟨Rect.whole S1x1024x512, wordsP c A p⟩]) ∗ homeP c A p)
/-- What slot `k % 3` holds: block `k` in flight, or nothing once the blocks are through. -/
def roleP (A : Buf (Elt F) (arrP.view.loc (c : Thread nD τ))) (k : ℕ) : sProp 𝕄 :=
  if k < 16 then iprop(∃ f, flightP c A (Ring.sl 3 k) (Ring.bk 16 k) f) else freeP c (Ring.sl 3 k)
theorem roleP_lt (A : Buf (Elt F) (arrP.view.loc (c : Thread nD τ))) {k : ℕ} (h : k < 16) :
    roleP c A k = iprop(∃ f, flightP c A (Ring.sl 3 k) (Ring.bk 16 k) f) := if_pos h
theorem roleP_ge (A : Buf (Elt F) (arrP.view.loc (c : Thread nD τ))) {k : ℕ} (h : ¬ k < 16) :
    roleP c A k = freeP c (Ring.sl 3 k) := if_neg h

/-- Block `p`'s words, as a transfer carries them. -/
abbrev wordsX (A : Buf (Elt F) (arrX.view.loc (c : Thread nD τ))) (p : Fin 16) : S1x1024x1024.Idx → Elt F .f32 :=
  ReadAs.same.apply ((blkX p).view.read (Elt F) A)
/-- Block `p` in flight into slot `s`, over contents `f`. -/
abbrev flightX (A : Buf (Elt F) (arrX.view.loc (c : Thread nD τ))) (s : Fin 3) (p : Fin 16) (f : Buf (Elt F) ((slotX s).view.loc (c : Thread nD τ))) : sProp 𝕄 :=
  Transfers.Flight countersEmb (c : Thread nD τ) (SemLoc.dma (semX s).sem) () 131072
    iprop(heldX c s ((slotX s).view.writes (Elt F) f [⟨Rect.whole S1x1024x1024, wordsX c A p⟩]) ∗ homeX c A p)
/-- What slot `k % 3` holds: block `k` in flight, or nothing once the blocks are through. -/
def roleX (A : Buf (Elt F) (arrX.view.loc (c : Thread nD τ))) (k : ℕ) : sProp 𝕄 :=
  if k < 16 then iprop(∃ f, flightX c A (Ring.sl 3 k) (Ring.bk 16 k) f) else freeX c (Ring.sl 3 k)
theorem roleX_lt (A : Buf (Elt F) (arrX.view.loc (c : Thread nD τ))) {k : ℕ} (h : k < 16) :
    roleX c A k = iprop(∃ f, flightX c A (Ring.sl 3 k) (Ring.bk 16 k) f) := if_pos h
theorem roleX_ge (A : Buf (Elt F) (arrX.view.loc (c : Thread nD τ))) {k : ℕ} (h : ¬ k < 16) :
    roleX c A k = freeX c (Ring.sl 3 k) := if_neg h

/-- Block `p` of the output in flight out of slot `s`, whose contents are `g`, over the block's contents `f`. -/
abbrev flightO (s : Fin 2) (p : Fin 16) (f : Buf (Elt F) ((blkO p).view.loc (c : Thread nD τ))) (g : Buf (Elt F) ((slotO s).view.loc (c : Thread nD τ))) : sProp 𝕄 :=
  Transfers.Flight countersEmb (c : Thread nD τ) (SemLoc.dma (semO s).sem) () 131072
    iprop(((blkO p).view.loc (c : Thread nD τ) ↦[(blkO p).view.set]{fullShare}
        (blkO p).view.writes (Elt F) f [⟨Rect.whole S1x1024x1024, ReadAs.same.apply ((slotO s).view.read (Elt F) g)⟩]) ∗ heldO c s g)

end Pieces

/-! ## The homes, one trip to the next -/

section Sets

theorem home_out (Φ : Fin 16 → sProp 𝕄) (k : ℕ) (h : k < 14) :
    bigSep (Ring.homeSet 2 k) Φ = iprop(Φ (Ring.bk 16 (k + 2)) ∗ bigSep ((Ring.homeSet 2 k).erase (Ring.bk 16 (k + 2))) Φ) := by
  conv_lhs => rw [Ring.homeSet_out 2 k (show k + 2 < 16 by omega), bigSep_insert (Ring.bkL_not_mem_erase 2 k)]
  rfl
theorem home_in (Φ : Fin 16 → sProp 𝕄) (k : ℕ) (h : k < 14) :
    bigSep (Ring.homeSet 2 (k + 1)) Φ = iprop(Φ (Ring.bk 16 k) ∗ bigSep ((Ring.homeSet 2 k).erase (Ring.bk 16 (k + 2))) Φ) := by
  conv_lhs => rw [Ring.homeSet_succ 2 k (show k + 2 < 16 by omega), bigSep_insert (Ring.bk_not_mem_erase 2 k (by omega) (by decide))]
  rfl
theorem home_tail (Φ : Fin 16 → sProp 𝕄) (k : ℕ) (h : ¬ k < 14) (h' : k < 16) :
    bigSep (Ring.homeSet 2 (k + 1)) Φ = iprop(Φ (Ring.bk 16 k) ∗ bigSep (Ring.homeSet 2 k) Φ) := by
  conv_lhs => rw [Ring.homeSet_succ_tail 2 k (show 16 ≤ k + 2 by omega) h', bigSep_insert (Ring.bk_not_mem_homeSet 2 k h' (by decide))]
  rfl
theorem ahead_out (Φ : Fin 16 → sProp 𝕄) (k : ℕ) (h : k < 16) :
    bigSep (Ring.aheadSet k) Φ = iprop(Φ (Ring.bk 16 k) ∗ bigSep (Ring.aheadSet (k + 1)) Φ) := by
  conv_lhs => rw [Ring.aheadSet_open k h, bigSep_insert (Ring.bk_not_mem_aheadSet_succ k h)]
  rfl
theorem behind_in (Φ : Fin 16 → sProp 𝕄) (k : ℕ) (h : k < 17) (h0 : ¬ k = 0) :
    bigSep (Ring.behindSet 1 (k + 1)) Φ = iprop(Φ (Ring.bk 16 (k - 1)) ∗ bigSep (Ring.behindSet 1 k) Φ) := by
  have e : Ring.behindSet (NB := 16) 1 (k + 1) = insert (Ring.bk 16 (k - 1)) (Ring.behindSet 1 k) := by
    ext b; simp only [Ring.mem_behindSet, Finset.mem_insert, Fin.ext_iff, Ring.bk_val (show k - 1 < 16 by omega)]; omega
  have e' : Ring.bk 16 (k - 1) ∉ Ring.behindSet (NB := 16) 1 k := by
    rw [Ring.mem_behindSet, Ring.bk_val (show k - 1 < 16 by omega)]; omega
  rw [e, bigSep_insert e']; rfl
theorem behind_zero (Φ : Fin 16 → sProp 𝕄) (k : ℕ) (h : k ≤ 1) : bigSep (Ring.behindSet 1 k) Φ = bigSep ∅ Φ := by
  rw [Ring.behindSet_boot 1 k h]
theorem sl3_add3 (k : ℕ) : Ring.sl 3 (k + 1 + 2) = Ring.sl 3 k := Ring.sl_add 3 k
end Sets

section Trip
variable (c : Dev nD)
  (XY : Buf (Elt F) (arrY.view.loc (c : Thread nD τ))) (XP : Buf (Elt F) (arrP.view.loc (c : Thread nD τ)))
  (XX : Buf (Elt F) (arrX.view.loc (c : Thread nD τ))) (XO : Buf (Elt F) (arrO.view.loc (c : Thread nD τ)))
  (arg3 : Memref sig .tc .vmem S1024x1024 .bf16) (harg3 : arg3.IsWhole)
  (arg4 : Memref sig .tc .vmem S1x1024 .f32) (harg4 : arg4.IsWhole)
  (w3 : Buf (Elt F) (arg3.view.loc (c : Thread nD τ))) (g4 : Buf (Elt F) (arg4.view.loc (c : Thread nD τ)))

/-! ## What the output becomes -/

/-- The weight's two halves and the norm's weight, as the trip loads them. -/
abbrev woTop : S512x1024.Idx → Elt F .bf16 :=
  arg3.view.readAt (Elt F) (Rect.unit (s := S1024x1024) ![0, 0] S512x1024.size inb_S1024x1024_S512x1024_0_0).toLoadRect w3
abbrev woBot : S512x1024.Idx → Elt F .bf16 :=
  arg3.view.readAt (Elt F) (Rect.unit (s := S1024x1024) ![512, 0] S512x1024.size inb_S1024x1024_S512x1024_512_0).toLoadRect w3
abbrev gRow : S1x1024.Idx → Elt F .f32 :=
  arg4.view.readAt (Elt F) (Rect.unit (s := S1x1024) ![0, 0] S1x1024.size inb_S1x1024_S1x1024_0_0).toLoadRect g4

/-- Block `p` of the output, of the inputs' blocks `p`. -/
def tileOf (yt : S1x512x1024.Idx → Elt F .bf16) (wt : S512x1024.Idx → Elt F .bf16) (yp : S1x1024x512.Idx → Elt F .bf16)
    (wb : S512x1024.Idx → Elt F .bf16) (x : S1x1024x1024.Idx → Elt F .f32) (g : S1x1024.Idx → Elt F .f32) : S1x1024x1024.Idx → Elt F .f32 :=
  k0_pay3 (F := F) (k0_pay1 (F := F) yt wt) (k0_pay2 (F := F) yp wb) x g
def tile (p : Fin 16) : S1x1024x1024.Idx → Elt F .f32 :=
  tileOf (wordsY c XY p) (woTop c arg3 w3) (wordsP c XP p) (woBot c arg3 w3) (wordsX c XX p) (gRow c arg4 g4)

/-- The block an element of the output lies in, and where. -/
def blockOf (i : S8x2048x1024.Idx) : Fin 16 := ⟨2 * (i 0).val + (i 1).val / 1024, by
  have h0 : (i 0).val < 8 := (i 0).isLt
  have h1 : (i 1).val < 2048 := (i 1).isLt
  omega⟩
def inBlock (i : S8x2048x1024.Idx) : S1x1024x1024.Idx
  | ⟨0, _⟩ => ⟨0, by show 0 < 1; omega⟩
  | ⟨1, _⟩ => ⟨(i 1).val % 1024, by show (i 1).val % 1024 < 1024; omega⟩
  | ⟨2, _⟩ => ⟨(i 2).val, (i 2).isLt⟩
/-- The whole output: each block its tile. -/
def OUT : Buf (Elt F) (arrO.view.loc (c : Thread nD τ)) :=
  fun i : S8x2048x1024.Idx => tile c XY XP XX arg3 arg4 w3 g4 (blockOf i) (inBlock i)

theorem read_OUT (p : Fin 16) : (blkO p).view.read (Elt F) (OUT c XY XP XX arg3 arg4 w3 g4) = tile c XY XP XX arg3 arg4 w3 g4 p := by
  funext x
  have x0 : (x 0).val < 1 := (x 0).isLt
  have x1 : (x 1).val < 1024 := (x 1).isLt
  have x2 : (x 2).val < 1024 := (x 2).isLt
  have hp := p.isLt
  show tile c XY XP XX arg3 arg4 w3 g4 (blockOf ((Rect.unit (s := S8x2048x1024) (hOff p) S1x1024x1024.size (inbO p)).emb x))
    (inBlock ((Rect.unit (s := S8x2048x1024) (hOff p) S1x1024x1024.size (inbO p)).emb x)) = _
  have e1 : blockOf ((Rect.unit (s := S8x2048x1024) (hOff p) S1x1024x1024.size (inbO p)).emb x) = p := by
    apply Fin.ext
    show 2 * (p.val / 2 + 1 * (x 0).val) + (1024 * (p.val % 2) + 1 * (x 1).val) / 1024 = p.val
    omega
  have e2 : inBlock ((Rect.unit (s := S8x2048x1024) (hOff p) S1x1024x1024.size (inbO p)).emb x) = x := by
    funext a; apply Fin.ext
    fin_cases a
    · show 0 = (x 0).val; omega
    · show (1024 * (p.val % 2) + 1 * (x 1).val) % 1024 = (x 1).val; omega
    · show 0 + 1 * (x 2).val = (x 2).val; omega
  rw [e1, e2]

/-- A block written whole with its tile is the block of the whole output. -/
theorem homeO_OUT (p : Fin 16) (f : Buf (Elt F) ((blkO p).view.loc (c : Thread nD τ))) (t : S1x1024x1024.Idx → Elt F .f32)
    (h : t = tile c XY XP XX arg3 arg4 w3 g4 p) :
    ((blkO p).view.loc (c : Thread nD τ) ↦[(blkO p).view.set]{fullShare}
        (blkO p).view.writes (Elt F) f [⟨Rect.whole S1x1024x1024, ReadAs.same.apply t⟩] : sProp 𝕄)
      ⊢ homeO c (OUT c XY XP XX arg3 arg4 w3 g4) p := by
  unfold homeO
  rw [pointsTo_rep (c : Thread nD τ) (blkO p), View.read_writes_whole, pointsTo_rep (c : Thread nD τ) (blkO p) (OUT c XY XP XX arg3 arg4 w3 g4),
    read_OUT, h]

theorem emb_zero {s : Shape} {off : Fin s.rank → ℕ} (h : ∀ a, off a = 0) (inb : ∀ a, off a + s.size a ≤ s.size a) (y : s.Idx) :
    (Rect.unit off s.size inb).emb y = y := by
  funext a
  apply Fin.ext
  show off a + 1 * (y a).val = (y a).val
  rw [h a]; omega
/-- A buffer stored whole at the origin reads as what was stored; -/
theorem store_whole {κ : Kind} {sp : Space} {s : Shape} {e : EltTy} (v : View sig κ sp s e) (f : v.ty.Contents (Elt F)) {off : Fin s.rank → ℕ}
    (h : ∀ a, off a = 0) (inb : ∀ a, off a + s.size a ≤ s.size a) (w : s.Idx → Elt F e) :
    v.read (Elt F) (v.writes (Elt F) f [⟨Rect.unit off s.size inb, w⟩]) = w := by
  funext y
  have hr := View.read_writes_cons_emb (v := v) (f := f) (Rect.unit off s.size inb) w [] y
  rwa [emb_zero h inb y] at hr
/-- filled whole and loaded from the origin, what it was filled with. -/
theorem load_whole {κ : Kind} {sp : Space} {s : Shape} {e : EltTy} (v : View sig κ sp s e) {off : Fin s.rank → ℕ}
    (h : ∀ a, off a = 0) (inb : ∀ a, off a + s.size a ≤ s.size a) (w : s.Idx → Elt F e) :
    v.readCov [⟨Rect.whole s, w⟩] (Rect.unit off s.size inb).toLoadRect = w := by
  funext y
  show v.read (Elt F) (v.writes (Elt F) v.junk [⟨Rect.whole s, w⟩]) ((Rect.unit off s.size inb).emb y) = w y
  rw [View.read_writes_whole, emb_zero h inb y]
theorem zero3 : ∀ a : Fin 3, (![0, 0, 0] : Fin 3 → ℕ) a = 0 := by decide
theorem stored_tile (p : Fin 16) (s s' : Fin 3) (so : Fin 2) (f : Buf (Elt F) ((slotO so).view.loc (c : Thread nD τ))) :
    (slotO so).view.read (Elt F) ((slotO so).view.writes (Elt F) f
        [⟨Rect.unit ![0, 0, 0] S1x1024x1024.size inb_S1x1024x1024_S1x1024x1024_0_0_0,
          k0_pay3 (F := F) (k0_pay1 (F := F)
            ((slotY s).view.readCov [⟨Rect.whole S1x512x1024, wordsY c XY p⟩] (Rect.unit ![0, 0, 0] S1x512x1024.size inb_S1x512x1024_S1x512x1024_0_0_0).toLoadRect)
            (woTop c arg3 w3))
            (k0_pay2 (F := F) ((slotP s).view.readCov [⟨Rect.whole S1x1024x512, wordsP c XP p⟩] (Rect.unit ![0, 0, 0] S1x1024x512.size inb_S1x1024x512_S1x1024x512_0_0_0).toLoadRect)
            (woBot c arg3 w3))
          ((slotX s').view.readCov [⟨Rect.whole S1x1024x1024, wordsX c XX p⟩] (Rect.unit ![0, 0, 0] S1x1024x1024.size inb_S1x1024x1024_S1x1024x1024_0_0_0).toLoadRect)
          (gRow c arg4 g4)⟩])
      = tile c XY XP XX arg3 arg4 w3 g4 p := by
  rw [store_whole _ _ zero3, load_whole _ zero3, load_whole _ zero3, load_whole _ zero3]
  rfl

/-- The output slot not about to be written: free at the first trip, then block `k - 1` on its way out. -/
def roleO (k : ℕ) : sProp 𝕄 :=
  if k = 0 then freeO c (Ring.sl 2 1) else
    iprop(∃ f g, ⌜(slotO (Ring.sl 2 (k - 1))).view.read (Elt F) g = tile c XY XP XX arg3 arg4 w3 g4 (Ring.bk 16 (k - 1))⌝
      ∗ flightO c (Ring.sl 2 (k - 1)) (Ring.bk 16 (k - 1)) f g)
theorem roleO_zero {k : ℕ} (h : k = 0) : roleO c XY XP XX arg3 arg4 w3 g4 k = freeO c (Ring.sl 2 1) := if_pos h
theorem roleO_pos {k : ℕ} (h : ¬ k = 0) : roleO c XY XP XX arg3 arg4 w3 g4 k =
    iprop(∃ f g, ⌜(slotO (Ring.sl 2 (k - 1))).view.read (Elt F) g = tile c XY XP XX arg3 arg4 w3 g4 (Ring.bk 16 (k - 1))⌝
      ∗ flightO c (Ring.sl 2 (k - 1)) (Ring.bk 16 (k - 1)) f g) := if_neg h

abbrev stage3 : sProp 𝕄 := arg3.view.loc (c : Thread nD τ) ↦[arg3.view.set]{fullShare} w3
abbrev stage4 : sProp 𝕄 := arg4.view.loc (c : Thread nD τ) ↦[arg4.view.set]{fullShare} g4

/-- The resources before trip `k`. -/
def resAt (k : ℕ) : sProp 𝕄 :=
  iprop(stage3 c arg3 w3 ∗ stage4 c arg4 g4 ∗ (∃ W, owes (c : Thread nD τ) 0 W)
    ∗ (bigSep (Ring.homeSet 2 k) (homeY c XY) ∗ roleY c XY k ∗ roleY c XY (k + 1) ∗ freeY c (Ring.sl 3 (k + 2)))
    ∗ (bigSep (Ring.homeSet 2 k) (homeP c XP) ∗ roleP c XP k ∗ roleP c XP (k + 1) ∗ freeP c (Ring.sl 3 (k + 2)))
    ∗ (bigSep (Ring.homeSet 2 k) (homeX c XX) ∗ roleX c XX k ∗ roleX c XX (k + 1) ∗ freeX c (Ring.sl 3 (k + 2)))
    ∗ (bigSep (Ring.aheadSet k) (homeO c XO) ∗ bigSep (Ring.behindSet 1 k) (homeO c (OUT c XY XP XX arg3 arg4 w3 g4))
      ∗ freeO c (Ring.sl 2 k) ∗ roleO c XY XP XX arg3 arg4 w3 g4 k))

abbrev Carried : Type :=
  BitVec 32 × BitVec 32 × BitVec 32 × BitVec 32 × BitVec 32 × BitVec 32 × BitVec 32 × BitVec 32 × BitVec 32 × BitVec 32

/-- The invariant before trip `k`: the carried words, and those. -/
@[irreducible] def invAt (k : ℕ) (acc : Carried) : sProp 𝕄 :=
  iprop(⌜acc = carried k⌝ ∗ resAt c XY XP XX XO arg3 arg4 w3 g4 k)
theorem invAt_eq (k : ℕ) (acc : Carried) : invAt c XY XP XX XO arg3 arg4 w3 g4 k acc
    = iprop(⌜acc = carried k⌝ ∗ resAt c XY XP XX XO arg3 arg4 w3 g4 k) := by unfold invAt; rfl

abbrev tripG (k : Fin k0_t1_loop.trips) : Prog (TpuEff nD τ sig (Elt F) Λ₀ .tc) Carried :=
  k0_t1_body (F := F) arrY (Memref.isWhole_whole _) arrP (Memref.isWhole_whole _) arrX (Memref.isWhole_whole _) arg3 harg3 arg4 harg4 arrO (Memref.isWhole_whole _)
    bufY (Memref.isWhole_whole _) cc0_scoped1 bufP (Memref.isWhole_whole _) cc0_scoped3 bufX (Memref.isWhole_whole _) cc0_scoped5 bufO (Memref.isWhole_whole _) cc0_scoped7
    2#32 2#32 2#32 0#32 0#32 k (carried k.val)

/-- The first trip: the blocks two ahead are issued, no output block is waited. -/
theorem trip_zero (k : Fin k0_t1_loop.trips) (h0 : k.val = 0) (hk : k.val < 14) :
    resAt c XY XP XX XO arg3 arg4 w3 g4 k.val
      ⊢ wp frame (wpE (defs₀ (F := F)) 𝒱₀ (c : Thread nD τ) none) Set.univ (tripG arg3 harg3 arg4 harg4 k)
        (fun acc => invAt c XY XP XX XO arg3 arg4 w3 g4 (k.val + 1) acc) := by
  have h16 := lt16 k
  have hc1 := chk1 k
  have hc2 := chk2 k
  have hc3 := chk3 k
  have hc4 := chk4 k
  have hc5 := chk5 k
  have d4 := cond4 k hk
  have d5 := cond5 k hk
  have d6 := cond6 k hk
  have d7 := cond7 k
  have d8 := cond8 k
  have d9 := cond9 k
  have d14 := cond14 k
  have d18 := ncond18 k h0
  unfold invAt resAt
  rw [home_out (homeY c XY) _ hk, home_out (homeP c XP) _ hk, home_out (homeX c XX) _ hk,
    home_in (homeY c XY) _ hk, home_in (homeP c XP) _ hk, home_in (homeX c XX) _ hk]
  rw [sl3_add3, roleY_lt c XY h16, roleP_lt c XP h16, roleX_lt c XX h16, ahead_out (homeO c XO) _ h16,
    roleO_pos c XY XP XX arg3 arg4 w3 g4 (show ¬ k.val + 1 = 0 by omega), Nat.add_sub_cancel]
  rw [roleY_lt c XY (show k.val + 1 + 1 < 16 by omega), roleP_lt c XP (show k.val + 1 + 1 < 16 by omega), roleX_lt c XX (show k.val + 1 + 1 < 16 by omega)]
  rw [behind_zero (homeO c (OUT c XY XP XX arg3 arg4 w3 g4)) k.val (by omega), behind_zero (homeO c (OUT c XY XP XX arg3 arg4 w3 g4)) (k.val + 1) (by omega), roleO_zero c XY XP XX arg3 arg4 w3 g4 h0]
  unfold freeY freeP freeX freeO
  iintro ⟨H3, H4, ⟨%W, HW⟩, ⟨⟨HY, HrY⟩, ⟨%fY, FY⟩, RY, ⟨CY, ⟨%eY, SY⟩⟩⟩, ⟨⟨HP, HrP⟩, ⟨%fP, FP⟩, RP, ⟨CP, ⟨%eP, SP⟩⟩⟩, ⟨⟨HX, HrX⟩, ⟨%fX, FX⟩, RX, ⟨CX, ⟨%eX, SX⟩⟩⟩, ⟨⟨HO, Ha⟩, Hb, ⟨CO, ⟨%eO, SO⟩⟩, RO⟩⟩
  dsimp only [tripG, carried]
  sl_unfold [k0_t1_body]
  sl_exec
  sl_step
  isplitr
  · ipureintro; repeat' apply congrArg₂ Prod.mk
    all_goals (clear * -; revert k; decide +kernel)
  isplitl [H3]; · iexact H3
  isplitl [H4]; · iexact H4
  isplitl [HW]; · iexists _; iexact HW
  isplitl [CY HrY FY FY_src FY_dst RY]
  · isplitl [HrY FY_src]
    · isplitl [FY_src]; · iexact FY_src
      iexact HrY
    isplitl [RY]; · iexact RY
    isplitl [CY]; · iexists eY; iexact CY
    isplitl [FY]; · iexact FY
    iexists _; iexact FY_dst
  isplitl [CP HrP FP FP_src FP_dst RP]
  · isplitl [HrP FP_src]
    · isplitl [FP_src]; · iexact FP_src
      iexact HrP
    isplitl [RP]; · iexact RP
    isplitl [CP]; · iexists eP; iexact CP
    isplitl [FP]; · iexact FP
    iexists _; iexact FP_dst
  isplitl [CX HrX FX FX_src FX_dst RX]
  · isplitl [HrX FX_src]
    · isplitl [FX_src]; · iexact FX_src
      iexact HrX
    isplitl [RX]; · iexact RX
    isplitl [CX]; · iexists eX; iexact CX
    isplitl [FX]; · iexact FX
    iexists _; iexact FX_dst
  isplitl [Ha]; · iexact Ha
  isplitl [Hb]; · iexact Hb
  isplitl [RO]
  · rw [h0]; iexact RO
  iexists XO; iexists _
  isplitr
  swap; · iexact CO
  ipureintro
  exact stored_tile c XY XP XX arg3 arg4 w3 g4 _ _ _ _ eO

/-- A middle trip: the blocks two ahead are issued, the previous output block is waited. -/
theorem trip_mid (k : Fin k0_t1_loop.trips) (h0 : ¬ k.val = 0) (hk : k.val < 14) :
    resAt c XY XP XX XO arg3 arg4 w3 g4 k.val
      ⊢ wp frame (wpE (defs₀ (F := F)) 𝒱₀ (c : Thread nD τ) none) Set.univ (tripG arg3 harg3 arg4 harg4 k)
        (fun acc => invAt c XY XP XX XO arg3 arg4 w3 g4 (k.val + 1) acc) := by
  have h16 := lt16 k
  have hc1 := chk1 k
  have hc2 := chk2 k
  have hc3 := chk3 k
  have hc4 := chk4 k
  have hc5 := chk5 k
  have d4 := cond4 k hk
  have d5 := cond5 k hk
  have d6 := cond6 k hk
  have d7 := cond7 k
  have d8 := cond8 k
  have d9 := cond9 k
  have d14 := cond14 k
  have d18 := cond18 k h0
  unfold invAt resAt
  rw [home_out (homeY c XY) _ hk, home_out (homeP c XP) _ hk, home_out (homeX c XX) _ hk,
    home_in (homeY c XY) _ hk, home_in (homeP c XP) _ hk, home_in (homeX c XX) _ hk]
  rw [sl3_add3, roleY_lt c XY h16, roleP_lt c XP h16, roleX_lt c XX h16, ahead_out (homeO c XO) _ h16,
    roleO_pos c XY XP XX arg3 arg4 w3 g4 (show ¬ k.val + 1 = 0 by omega), Nat.add_sub_cancel]
  rw [roleY_lt c XY (show k.val + 1 + 1 < 16 by omega), roleP_lt c XP (show k.val + 1 + 1 < 16 by omega), roleX_lt c XX (show k.val + 1 + 1 < 16 by omega)]
  rw [behind_in (homeO c (OUT c XY XP XX arg3 arg4 w3 g4)) k.val (by omega) h0, roleO_pos c XY XP XX arg3 arg4 w3 g4 h0, Ring.sl2_succ_eq_pred k.val (by omega)]
  unfold freeY freeP freeX freeO
  iintro ⟨H3, H4, ⟨%W, HW⟩, ⟨⟨HY, HrY⟩, ⟨%fY, FY⟩, RY, ⟨CY, ⟨%eY, SY⟩⟩⟩, ⟨⟨HP, HrP⟩, ⟨%fP, FP⟩, RP, ⟨CP, ⟨%eP, SP⟩⟩⟩, ⟨⟨HX, HrX⟩, ⟨%fX, FX⟩, RX, ⟨CX, ⟨%eX, SX⟩⟩⟩, ⟨⟨HO, Ha⟩, Hb, ⟨CO, ⟨%eO, SO⟩⟩, ⟨%fO, %gO, %hO, FO⟩⟩⟩
  dsimp only [tripG, carried]
  sl_unfold [k0_t1_body]
  sl_exec
  sl_step
  isplitr
  · ipureintro; repeat' apply congrArg₂ Prod.mk
    all_goals (clear * -; revert k; decide +kernel)
  isplitl [H3]; · iexact H3
  isplitl [H4]; · iexact H4
  isplitl [HW]; · iexists _; iexact HW
  isplitl [CY HrY FY FY_src FY_dst RY]
  · isplitl [HrY FY_src]
    · isplitl [FY_src]; · iexact FY_src
      iexact HrY
    isplitl [RY]; · iexact RY
    isplitl [CY]; · iexists eY; iexact CY
    isplitl [FY]; · iexact FY
    iexists _; iexact FY_dst
  isplitl [CP HrP FP FP_src FP_dst RP]
  · isplitl [HrP FP_src]
    · isplitl [FP_src]; · iexact FP_src
      iexact HrP
    isplitl [RP]; · iexact RP
    isplitl [CP]; · iexists eP; iexact CP
    isplitl [FP]; · iexact FP
    iexists _; iexact FP_dst
  isplitl [CX HrX FX FX_src FX_dst RX]
  · isplitl [HrX FX_src]
    · isplitl [FX_src]; · iexact FX_src
      iexact HrX
    isplitl [RX]; · iexact RX
    isplitl [CX]; · iexists eX; iexact CX
    isplitl [FX]; · iexact FX
    iexists _; iexact FX_dst
  isplitl [Ha]; · iexact Ha
  isplitl [Hb FO_dst]
  · isplitl [FO_dst]
    · iapply (homeO_OUT c XY XP XX arg3 arg4 w3 g4 (Ring.bk 16 (k.val - 1)) fO _ hO); iexact FO_dst
    iexact Hb
  isplitl [FO FO_src]
  · isplitl [FO]; · iexact FO
    iexists _; iexact FO_src
  iexists XO; iexists _
  isplitr
  swap; · iexact CO
  ipureintro
  exact stored_tile c XY XP XX arg3 arg4 w3 g4 _ _ _ _ eO

/-- The last two trips: nothing left to issue. -/
theorem trip_last (k : Fin k0_t1_loop.trips) (h0 : ¬ k.val = 0) (hk : ¬ k.val < 14) :
    resAt c XY XP XX XO arg3 arg4 w3 g4 k.val
      ⊢ wp frame (wpE (defs₀ (F := F)) 𝒱₀ (c : Thread nD τ) none) Set.univ (tripG arg3 harg3 arg4 harg4 k)
        (fun acc => invAt c XY XP XX XO arg3 arg4 w3 g4 (k.val + 1) acc) := by
  have h16 := lt16 k
  have hc1 := chk1 k
  have hc2 := chk2 k
  have hc3 := chk3 k
  have hc4 := chk4 k
  have hc5 := chk5 k
  have d4 := ncond4 k hk
  have d5 := ncond5 k hk
  have d6 := ncond6 k hk
  have d7 := cond7 k
  have d8 := cond8 k
  have d9 := cond9 k
  have d14 := cond14 k
  have d18 := cond18 k h0
  unfold invAt resAt
  rw [home_tail (homeY c XY) _ hk h16, home_tail (homeP c XP) _ hk h16, home_tail (homeX c XX) _ hk h16]
  rw [sl3_add3, roleY_lt c XY h16, roleP_lt c XP h16, roleX_lt c XX h16, ahead_out (homeO c XO) _ h16,
    roleO_pos c XY XP XX arg3 arg4 w3 g4 (show ¬ k.val + 1 = 0 by omega), Nat.add_sub_cancel]
  rw [roleY_ge c XY (show ¬ k.val + 1 + 1 < 16 by omega), roleP_ge c XP (show ¬ k.val + 1 + 1 < 16 by omega), roleX_ge c XX (show ¬ k.val + 1 + 1 < 16 by omega)]
  rw [behind_in (homeO c (OUT c XY XP XX arg3 arg4 w3 g4)) k.val (by omega) h0, roleO_pos c XY XP XX arg3 arg4 w3 g4 h0, Ring.sl2_succ_eq_pred k.val (by omega)]
  unfold freeY freeP freeX freeO
  iintro ⟨H3, H4, ⟨%W, HW⟩, ⟨HrY, ⟨%fY, FY⟩, RY, BY⟩, ⟨HrP, ⟨%fP, FP⟩, RP, BP⟩, ⟨HrX, ⟨%fX, FX⟩, RX, BX⟩, ⟨⟨HO, Ha⟩, Hb, ⟨CO, ⟨%eO, SO⟩⟩, ⟨%fO, %gO, %hO, FO⟩⟩⟩
  dsimp only [tripG, carried]
  sl_unfold [k0_t1_body]
  sl_exec
  sl_step
  isplitr
  · ipureintro; repeat' apply congrArg₂ Prod.mk
    all_goals (clear * -; revert k; decide +kernel)
  isplitl [H3]; · iexact H3
  isplitl [H4]; · iexact H4
  isplitl [HW]; · iexists _; iexact HW
  isplitl [HrY FY FY_src FY_dst RY BY]
  · isplitl [HrY FY_src]
    · isplitl [FY_src]; · iexact FY_src
      iexact HrY
    isplitl [RY]; · iexact RY
    isplitl [BY]; · iexact BY
    isplitl [FY]; · iexact FY
    iexists _; iexact FY_dst
  isplitl [HrP FP FP_src FP_dst RP BP]
  · isplitl [HrP FP_src]
    · isplitl [FP_src]; · iexact FP_src
      iexact HrP
    isplitl [RP]; · iexact RP
    isplitl [BP]; · iexact BP
    isplitl [FP]; · iexact FP
    iexists _; iexact FP_dst
  isplitl [HrX FX FX_src FX_dst RX BX]
  · isplitl [HrX FX_src]
    · isplitl [FX_src]; · iexact FX_src
      iexact HrX
    isplitl [RX]; · iexact RX
    isplitl [BX]; · iexact BX
    isplitl [FX]; · iexact FX
    iexists _; iexact FX_dst
  isplitl [Ha]; · iexact Ha
  isplitl [Hb FO_dst]
  · isplitl [FO_dst]
    · iapply (homeO_OUT c XY XP XX arg3 arg4 w3 g4 (Ring.bk 16 (k.val - 1)) fO _ hO); iexact FO_dst
    iexact Hb
  isplitl [FO FO_src]
  · isplitl [FO]; · iexact FO
    iexists _; iexact FO_src
  iexists XO; iexists _
  isplitr
  swap; · iexact CO
  ipureintro
  exact stored_tile c XY XP XX arg3 arg4 w3 g4 _ _ _ _ eO

set_option warn.classDefReducibility false in
/-- The loop's invariant. -/
@[sl_loop] def loopInv :
    LoopInvTy_k0_t1 (F := F) Unit ℕ (UU nD τ) ℕ 𝒱₀ c none Set.univ arrY (Memref.isWhole_whole _) arrP (Memref.isWhole_whole _) arrX (Memref.isWhole_whole _)
      arg3 harg3 arg4 harg4 arrO (Memref.isWhole_whole _) bufY (Memref.isWhole_whole _) cc0_scoped1 bufP (Memref.isWhole_whole _) cc0_scoped3
      bufX (Memref.isWhole_whole _) cc0_scoped5 bufO (Memref.isWhole_whole _) cc0_scoped7 2#32 2#32 2#32 0#32 0#32
      (2#32, 0#32, 2#32, 0#32, 2#32, 0#32, 0#32, 0#32, 0#32, 0#32) where
  inv k acc := invAt c XY XP XX XO arg3 arg4 w3 g4 k acc
  step k acc := by
    rw [invAt_eq c XY XP XX XO arg3 arg4 w3 g4 k.val acc]
    iintro ⟨%e, H⟩
    subst e
    have t : resAt c XY XP XX XO arg3 arg4 w3 g4 k.val
        ⊢ wp frame (wpE (defs₀ (F := F)) 𝒱₀ (c : Thread nD τ) none) Set.univ (tripG arg3 harg3 arg4 harg4 k)
          (fun acc => invAt c XY XP XX XO arg3 arg4 w3 g4 (k.val + 1) acc) := by
      by_cases h0 : k.val = 0
      · exact trip_zero c XY XP XX XO arg3 harg3 arg4 harg4 w3 g4 k h0 (by omega)
      · by_cases hk : k.val < 14
        · exact trip_mid c XY XP XX XO arg3 harg3 arg4 harg4 w3 g4 k h0 hk
        · exact trip_last c XY XP XX XO arg3 harg3 arg4 harg4 w3 g4 k h0 hk
    iapply t; iexact H

end Trip

end Cert.Proof.MixOut

end
-- ==== Proof.MixOut.Run.lean ====
/-
  The output projection's body: the first two blocks issued, the loop, the last output block waited; and the launch,
  whose pipeline stages the weight and the norm's weight whole while the four blocked arrays reach the body in HBM.
-/
module

public import proofs.«01_k».proof.Proof.MixOut.Trip

@[expose] public section

noncomputable section

namespace Cert.Proof.MixOut

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Body
variable (c : Dev nD)
  (XY : Buf (Elt F) (arrY.view.loc (c : Thread nD τ))) (XP : Buf (Elt F) (arrP.view.loc (c : Thread nD τ)))
  (XX : Buf (Elt F) (arrX.view.loc (c : Thread nD τ))) (XO : Buf (Elt F) (arrO.view.loc (c : Thread nD τ)))
  (arg3 : Memref sig .tc .vmem S1024x1024 .bf16) (harg3 : arg3.IsWhole)
  (arg4 : Memref sig .tc .vmem S1x1024 .f32) (harg4 : arg4.IsWhole)
  (w3 : Buf (Elt F) (arg3.view.loc (c : Thread nD τ))) (g4 : Buf (Elt F) (arg4.view.loc (c : Thread nD τ)))

/-- The body on the two staging buffers. -/
abbrev bodyG : Prog (TpuEff nD τ sig (Elt F) Λ₀ .tc) PUnit :=
  cc0_mix_out (F := F) arrY (Memref.isWhole_whole _) arrP (Memref.isWhole_whole _) arrX (Memref.isWhole_whole _) arg3 harg3 arg4 harg4 arrO (Memref.isWhole_whole _)
    bufY (Memref.isWhole_whole _) cc0_scoped1 bufP (Memref.isWhole_whole _) cc0_scoped3 bufX (Memref.isWhole_whole _) cc0_scoped5 bufO (Memref.isWhole_whole _) cc0_scoped7

/-- What the body is handed: the staged weights, the blocks, every slot free. -/
abbrev PRE : sProp 𝕄 :=
  iprop(stage3 c arg3 w3 ∗ stage4 c arg4 g4 ∗ (∃ W, owes (c : Thread nD τ) 0 W)
    ∗ (homeY c XY 0 ∗ homeY c XY 1 ∗ bigSep (Ring.homeSet 2 0) (homeY c XY) ∗ freeY c 0 ∗ freeY c 1 ∗ freeY c 2)
    ∗ (homeP c XP 0 ∗ homeP c XP 1 ∗ bigSep (Ring.homeSet 2 0) (homeP c XP) ∗ freeP c 0 ∗ freeP c 1 ∗ freeP c 2)
    ∗ (homeX c XX 0 ∗ homeX c XX 1 ∗ bigSep (Ring.homeSet 2 0) (homeX c XX) ∗ freeX c 0 ∗ freeX c 1 ∗ freeX c 2)
    ∗ (bigSep (Ring.aheadSet 0) (homeO c XO) ∗ freeO c 0 ∗ freeO c 1))
/-- What it hands back: the same, the output at its value. -/
abbrev POST : sProp 𝕄 :=
  iprop(stage3 c arg3 w3 ∗ stage4 c arg4 g4 ∗ (∃ W, owes (c : Thread nD τ) 0 W)
    ∗ (bigSep Finset.univ (homeY c XY) ∗ freeY c 0 ∗ freeY c 1 ∗ freeY c 2)
    ∗ (bigSep Finset.univ (homeP c XP) ∗ freeP c 0 ∗ freeP c 1 ∗ freeP c 2)
    ∗ (bigSep Finset.univ (homeX c XX) ∗ freeX c 0 ∗ freeX c 1 ∗ freeX c 2)
    ∗ (bigSep Finset.univ (homeO c (OUT c XY XP XX arg3 arg4 w3 g4)) ∗ freeO c 0 ∗ freeO c 1))

theorem carried_zero : carried 0 = (2#32, 0#32, 2#32, 0#32, 2#32, 0#32, 0#32, 0#32, 0#32, 0#32) := by
  repeat' apply congrArg₂ Prod.mk
  all_goals decide
theorem bk16_0 : Ring.bk 16 0 = 0 := by decide
theorem bk16_1 : Ring.bk 16 (0 + 1) = 1 := by decide
theorem sl3_0 : Ring.sl 3 0 = 0 := by decide
theorem sl3_1 : Ring.sl 3 (0 + 1) = 1 := by decide
theorem sl3_2 : Ring.sl 3 (0 + 2) = 2 := by decide
theorem sl3_16 : Ring.sl 3 16 = 1 := by decide
theorem sl3_17 : Ring.sl 3 (16 + 1) = 2 := by decide
theorem sl3_18 : Ring.sl 3 (16 + 2) = 0 := by decide
theorem sl2_0 : Ring.sl 2 0 = 0 := by decide
theorem sl2_1 : Ring.sl 2 1 = 1 := by decide
theorem sl2_15 : Ring.sl 2 (16 - 1) = 1 := by decide
theorem sl2_16 : Ring.sl 2 16 = 0 := by decide
theorem bk16_15 : Ring.bk 16 (16 - 1) = 15 := by decide

/-- Entering the loop, out of what the prologue leaves. -/
theorem enter (fY fP fX gY gP gX) :
    iprop(stage3 c arg3 w3 ∗ stage4 c arg4 g4 ∗ (∃ W, owes (c : Thread nD τ) 0 W)
    ∗ (bigSep (Ring.homeSet 2 0) (homeY c XY) ∗ flightY c XY 0 0 fY ∗ flightY c XY 1 1 gY ∗ freeY c 2)
    ∗ (bigSep (Ring.homeSet 2 0) (homeP c XP) ∗ flightP c XP 0 0 fP ∗ flightP c XP 1 1 gP ∗ freeP c 2)
    ∗ (bigSep (Ring.homeSet 2 0) (homeX c XX) ∗ flightX c XX 0 0 fX ∗ flightX c XX 1 1 gX ∗ freeX c 2)
    ∗ (bigSep (Ring.aheadSet 0) (homeO c XO) ∗ freeO c 0 ∗ freeO c 1))
      ⊢ invAt c XY XP XX XO arg3 arg4 w3 g4 0 (2#32, 0#32, 2#32, 0#32, 2#32, 0#32, 0#32, 0#32, 0#32, 0#32) := by
  unfold invAt resAt
  rw [roleY_lt c XY (show 0 < 16 by omega), roleY_lt c XY (show 0 + 1 < 16 by omega),
    roleP_lt c XP (show 0 < 16 by omega), roleP_lt c XP (show 0 + 1 < 16 by omega),
    roleX_lt c XX (show 0 < 16 by omega), roleX_lt c XX (show 0 + 1 < 16 by omega), roleO_zero c XY XP XX arg3 arg4 w3 g4 rfl,
    behind_zero (homeO c (OUT c XY XP XX arg3 arg4 w3 g4)) 0 (by omega), bigSep_empty,
    bk16_0, bk16_1, sl3_0, sl3_1, sl3_2, sl2_0, sl2_1, carried_zero]
  iintro ⟨H3, H4, HW, ⟨HY, FY, GY, BY⟩, ⟨HP, FP, GP, BP⟩, ⟨HX, FX, GX, BX⟩, Ha, B0, B1⟩
  isplitr; · ipureintro; rfl
  isplitl [H3]; · iexact H3
  isplitl [H4]; · iexact H4
  isplitl [HW]; · iexact HW
  isplitl [HY FY GY BY]
  · isplitl [HY]; · iexact HY
    isplitl [FY]; · iexists fY; iexact FY
    isplitl [GY]; · iexists gY; iexact GY
    iexact BY
  isplitl [HP FP GP BP]
  · isplitl [HP]; · iexact HP
    isplitl [FP]; · iexists fP; iexact FP
    isplitl [GP]; · iexists gP; iexact GP
    iexact BP
  isplitl [HX FX GX BX]
  · isplitl [HX]; · iexact HX
    isplitl [FX]; · iexists fX; iexact FX
    isplitl [GX]; · iexists gX; iexact GX
    iexact BX
  isplitl [Ha]; · iexact Ha
  isplitr; · iempintro
  isplitl [B0]; · iexact B0
  iexact B1

theorem home_all (Φ : Fin 16 → sProp 𝕄) : bigSep (Ring.homeSet 2 16) Φ = bigSep Finset.univ Φ := by
  have e : Ring.homeSet (NB := 16) 2 16 = Finset.univ := by
    ext b; have := b.isLt; simp only [Ring.mem_homeSet, Finset.mem_univ, iff_true]; omega
  rw [e]
theorem behind_all (Φ : Fin 16 → sProp 𝕄) : bigSep (Ring.behindSet 1 (16 + 1)) Φ = bigSep Finset.univ Φ := by
  have e : Ring.behindSet (NB := 16) 1 (16 + 1) = Finset.univ := by
    ext b; have := b.isLt; simp only [Ring.mem_behindSet, Finset.mem_univ, iff_true]; omega
  rw [e]

/-- Leaving the loop. -/
theorem leave (acc : Carried) :
    invAt c XY XP XX XO arg3 arg4 w3 g4 (Scf.trips k0_t1_loop.lb k0_t1_loop.ub k0_t1_loop.st) acc ⊢
    iprop(⌜acc = carried 16⌝ ∗ stage3 c arg3 w3 ∗ stage4 c arg4 g4 ∗ (∃ W, owes (c : Thread nD τ) 0 W)
    ∗ (bigSep Finset.univ (homeY c XY) ∗ freeY c 1 ∗ freeY c 2 ∗ freeY c 0)
    ∗ (bigSep Finset.univ (homeP c XP) ∗ freeP c 1 ∗ freeP c 2 ∗ freeP c 0)
    ∗ (bigSep Finset.univ (homeX c XX) ∗ freeX c 1 ∗ freeX c 2 ∗ freeX c 0)
    ∗ (bigSep (Ring.behindSet 1 16) (homeO c (OUT c XY XP XX arg3 arg4 w3 g4)) ∗ freeO c 0
      ∗ (∃ f g, ⌜(slotO 1).view.read (Elt F) g = tile c XY XP XX arg3 arg4 w3 g4 15⌝ ∗ flightO c 1 15 f g))) := by
  rw [show Scf.trips k0_t1_loop.lb k0_t1_loop.ub k0_t1_loop.st = 16 from trips_eq]
  unfold invAt resAt
  rw [roleY_ge c XY (show ¬ 16 < 16 by omega), roleY_ge c XY (show ¬ 16 + 1 < 16 by omega),
    roleP_ge c XP (show ¬ 16 < 16 by omega), roleP_ge c XP (show ¬ 16 + 1 < 16 by omega),
    roleX_ge c XX (show ¬ 16 < 16 by omega), roleX_ge c XX (show ¬ 16 + 1 < 16 by omega),
    roleO_pos c XY XP XX arg3 arg4 w3 g4 (show ¬ 16 = 0 by omega), Ring.aheadSet_end 16 (le_refl 16), bigSep_empty,
    home_all, home_all, home_all, sl3_16, sl3_17, sl3_18, sl2_15, sl2_16, bk16_15]
  iintro ⟨%e, H3, H4, HW, HY, HP, HX, -, Hb, B0, FO⟩
  isplitr; · ipureintro; exact e
  isplitl [H3]; · iexact H3
  isplitl [H4]; · iexact H4
  isplitl [HW]; · iexact HW
  isplitl [HY]; · iexact HY
  isplitl [HP]; · iexact HP
  isplitl [HX]; · iexact HX
  isplitl [Hb]; · iexact Hb
  isplitl [B0]; · iexact B0
  iexact FO

theorem bodyRun (Q : PUnit → sProp 𝕄) :
    iprop(PRE c XY XP XX XO arg3 arg4 w3 g4 ∗ (POST c XY XP XX arg3 arg4 w3 g4 -∗ Q ⟨⟩))
      ⊢ wp frame (wpE (defs₀ (F := F)) 𝒱₀ (c : Thread nD τ) none) Set.univ (bodyG arg3 harg3 arg4 harg4) Q := by
  have d1 := cond1
  have d2 := cond2
  have d3 := cond3
  unfold PRE freeY freeP freeX
  iintro ⟨⟨H3, H4, ⟨%W, HW⟩, ⟨HY0, HY1, HY, ⟨CY0, ⟨%fY0, SY0⟩⟩, ⟨CY1, ⟨%fY1, SY1⟩⟩, BY⟩, ⟨HP0, HP1, HP, ⟨CP0, ⟨%fP0, SP0⟩⟩, ⟨CP1, ⟨%fP1, SP1⟩⟩, BP⟩, ⟨HX0, HX1, HX, ⟨CX0, ⟨%fX0, SX0⟩⟩, ⟨CX1, ⟨%fX1, SX1⟩⟩, BX⟩, Ha, B0, B1⟩, Hk⟩
  sl_exec
  ihave Hi := (enter c XY XP XX XO arg3 arg4 w3 g4 fY0 fP0 fX0 fY1 fP1 fX1) $$ [H3 H4 HW HY BY HP BP HX BX Ha B0 B1 CY0 CP0 CX0 CY1 CP1 CX1]
  · unfold freeY freeP freeX
    isplitl [H3]; · iexact H3
    isplitl [H4]; · iexact H4
    isplitl [HW]; · iexists _; iexact HW

    isplitl [HY BY CY0 CY1]
    · isplitl [HY]; · iexact HY
      isplitl [CY0]; · iexact CY0
      isplitl [CY1]; · iexact CY1
      iexact BY
    isplitl [HP BP CP0 CP1]
    · isplitl [HP]; · iexact HP
      isplitl [CP0]; · iexact CP0
      isplitl [CP1]; · iexact CP1
      iexact BP
    isplitl [HX BX CX0 CX1]
    · isplitl [HX]; · iexact HX
      isplitl [CX0]; · iexact CX0
      isplitl [CX1]; · iexact CX1
      iexact BX
    isplitl [Ha]; · iexact Ha
    isplitl [B0]; · iexact B0
    iexact B1
  sl_exec
  rename_i acc
  ihave Hl := (leave c XY XP XX XO arg3 arg4 w3 g4 acc) $$ Hi
  icases Hl with ⟨%ea, H3, H4, HW, ⟨HY, BY1, BY2, BY0⟩, ⟨HP, BP1, BP2, BP0⟩, ⟨HX, BX1, BX2, BX0⟩, Hb, B0, ⟨%f, %g, %hg, FO⟩⟩
  icases HW with ⟨%W', HW⟩
  subst ea
  have hc6 := chk6
  have hc7 := chk7
  dsimp only [carried]
  sl_exec
  sl_step
  iapply Hk
  isplitl [H3]; · iexact H3
  isplitl [H4]; · iexact H4
  isplitl [HW]; · iexists _; iexact HW

  isplitl [HY BY0 BY1 BY2]
  · isplitl [HY]; · iexact HY
    isplitl [BY0]; · iexact BY0
    isplitl [BY1]; · iexact BY1
    iexact BY2
  isplitl [HP BP0 BP1 BP2]
  · isplitl [HP]; · iexact HP
    isplitl [BP0]; · iexact BP0
    isplitl [BP1]; · iexact BP1
    iexact BP2
  isplitl [HX BX0 BX1 BX2]
  · isplitl [HX]; · iexact HX
    isplitl [BX0]; · iexact BX0
    isplitl [BX1]; · iexact BX1
    iexact BX2
  isplitl [Hb FO_dst]
  · rw [← behind_all, behind_in (homeO c (OUT c XY XP XX arg3 arg4 w3 g4)) 16 (by omega) (by omega), bk16_15]
    isplitl [FO_dst]
    · iapply (homeO_OUT c XY XP XX arg3 arg4 w3 g4 15 f _ hg); iexact FO_dst
    iexact Hb
  isplitl [B0]; · iexact B0
  unfold freeO
  isplitl [FO]; · iexact FO
  iexists _; iexact FO_src

end Body

end Cert.Proof.MixOut

end
-- ==== Proof.MixOut.Launch.lean ====
/-
  The output projection launched: its arrays cut into blocks and its buffers into slots, the run of the whole program,
  and the claim that it returns with its arguments as they were and every counter at zero.
-/
module

public import proofs.«01_k».proof.Defs
public import proofs.«01_k».proof.Proof.Gen.Kernel
public import proofs.«01_k».proof.Proof.MixOut.Run
public import Idealize.ShloMosaic.Lib.Pipeline.Frame

@[expose] public section

noncomputable section

namespace Cert.Proof.MixOut

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

omit [FloatOps F] in
theorem entails_of_eq {P Q : sProp 𝕄} (e : P = Q) : P ⊢ Q := e ▸ .rfl

/-! ## Element sets: each array's sixteen blocks, each buffer's slots -/

abbrev setY (p : Fin 16) : Finset S8x512x2048.Idx := (Rect.unit (s := S8x512x2048) (tOff p) S1x512x1024.size (inbY p)).set
abbrev ssetY (s : Fin 3) : Finset S3x1x512x1024.Idx := (Rect.unit (s := S3x1x512x1024) (slotOff s) S1x1x512x1024.size (sinbY s)).set
omit [FloatOps F] in
theorem blkY_set (p : Fin 16) : (blkY p : Memref sig .tc .hbm _ _).view.set = setY p := View.set_slice_whole _ _
omit [FloatOps F] in
theorem slotY_set (s : Fin 3) : (slotY s : Memref sig .tc .vmem _ _).view.set = ssetY s := (View.set_reshape _ _).trans (View.set_slice_whole _ _)
theorem mem_setY (p : Fin 16) (y : S8x512x2048.Idx) : y ∈ setY p ↔ (y 0).val = p.val / 2 ∧ (y 2).val / 1024 = p.val % 2 := by
  rw [Rect.mem_set_unit]
  have h0 : (y 0).val < 8 := (y 0).isLt
  have h1 : (y 1).val < 512 := (y 1).isLt
  have h2 : (y 2).val < 2048 := (y 2).isLt
  constructor
  · intro H
    have a0 : p.val / 2 ≤ (y 0).val ∧ (y 0).val < p.val / 2 + 1 := H 0
    have a1 : 1024 * (p.val % 2) ≤ (y 2).val ∧ (y 2).val < 1024 * (p.val % 2) + 1024 := H 2
    omega
  · intro H i; fin_cases i
    · show p.val / 2 ≤ (y 0).val ∧ (y 0).val < p.val / 2 + 1; omega
    · show 0 ≤ (y 1).val ∧ (y 1).val < 0 + 512; omega
    · show 1024 * (p.val % 2) ≤ (y 2).val ∧ (y 2).val < 1024 * (p.val % 2) + 1024; omega
theorem setY_disjoint : ∀ p p' : Fin 16, p ≠ p' → Disjoint (setY p) (setY p') := by
  intro p p' hne; rw [Finset.disjoint_left]; intro y hy hy'; rw [mem_setY] at hy hy'; exact hne (Fin.ext (by omega))
theorem setY_cover : (Finset.univ : Finset (Fin 16)).biUnion setY = Finset.univ := by
  ext y
  have h0 : (y 0).val < 8 := (y 0).isLt
  have h1 : (y 2).val < 2048 := (y 2).isLt
  simp only [Finset.mem_biUnion, Finset.mem_univ, true_and, iff_true]
  exact ⟨⟨2 * (y 0).val + (y 2).val / 1024, by omega⟩, by rw [mem_setY]; show (y 0).val = (2 * (y 0).val + (y 2).val / 1024) / 2 ∧ (y 2).val / 1024 = (2 * (y 0).val + (y 2).val / 1024) % 2; omega⟩
theorem mem_ssetY (s : Fin 3) (y : S3x1x512x1024.Idx) : y ∈ ssetY s ↔ (y 0).val = s.val := by
  rw [Rect.mem_set_unit]
  have h1 : (y 1).val < 1 := (y 1).isLt
  have h2 : (y 2).val < 512 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 512; omega
    · show 0 ≤ (y 3).val ∧ (y 3).val < 0 + 1024; omega
theorem ssetY_disjoint : ∀ s s' : Fin 3, s ≠ s' → Disjoint (ssetY s) (ssetY s') := by
  intro s s' hne; rw [Finset.disjoint_left]; intro y hy hy'; rw [mem_ssetY] at hy hy'; exact hne (Fin.ext (hy.symm.trans hy'))
theorem ssetY_cover : (Finset.univ : Finset (Fin 3)).biUnion ssetY = Finset.univ := by
  ext y; simp only [Finset.mem_biUnion, Finset.mem_univ, true_and, iff_true]; exact ⟨(y 0).cast (by decide), by rw [mem_ssetY]; rfl⟩

/-- The array whole is its blocks. -/
theorem wholeY (c : Dev nD) (A : Buf (Elt F) (arrY.view.loc (c : Thread nD τ))) :
    (((c : Thread nD τ).loc main_v1) ↦{fullShare} A : sProp 𝕄) = bigSep Finset.univ (homeY c A) := by
  rw [Ring.pointsTo_blocks (ℓ := (c : Thread nD τ).loc main_v1) setY setY_disjoint setY_cover]
  exact bigSep_congr fun b _ => by rw [← blkY_set]; rfl
omit [FloatOps F] in
theorem heldY_eq (c : Dev nD) (s : Fin 3) (f) : heldY c s f = (((c : Thread nD τ).loc cc0_scoped0) ↦[ssetY s]{fullShare} f : sProp 𝕄) :=
  congrArg (fun S => (_ ↦[S]{fullShare} f : sProp 𝕄)) (slotY_set s)

abbrev setP (p : Fin 16) : Finset S8x2048x512.Idx := (Rect.unit (s := S8x2048x512) (hOff p) S1x1024x512.size (inbP p)).set
abbrev ssetP (s : Fin 3) : Finset S3x1x1024x512.Idx := (Rect.unit (s := S3x1x1024x512) (slotOff s) S1x1x1024x512.size (sinbP s)).set
omit [FloatOps F] in
theorem blkP_set (p : Fin 16) : (blkP p : Memref sig .tc .hbm _ _).view.set = setP p := View.set_slice_whole _ _
omit [FloatOps F] in
theorem slotP_set (s : Fin 3) : (slotP s : Memref sig .tc .vmem _ _).view.set = ssetP s := (View.set_reshape _ _).trans (View.set_slice_whole _ _)
theorem mem_setP (p : Fin 16) (y : S8x2048x512.Idx) : y ∈ setP p ↔ (y 0).val = p.val / 2 ∧ (y 1).val / 1024 = p.val % 2 := by
  rw [Rect.mem_set_unit]
  have h0 : (y 0).val < 8 := (y 0).isLt
  have h1 : (y 1).val < 2048 := (y 1).isLt
  have h2 : (y 2).val < 512 := (y 2).isLt
  constructor
  · intro H
    have a0 : p.val / 2 ≤ (y 0).val ∧ (y 0).val < p.val / 2 + 1 := H 0
    have a1 : 1024 * (p.val % 2) ≤ (y 1).val ∧ (y 1).val < 1024 * (p.val % 2) + 1024 := H 1
    omega
  · intro H i; fin_cases i
    · show p.val / 2 ≤ (y 0).val ∧ (y 0).val < p.val / 2 + 1; omega
    · show 1024 * (p.val % 2) ≤ (y 1).val ∧ (y 1).val < 1024 * (p.val % 2) + 1024; omega
    · show 0 ≤ (y 2).val ∧ (y 2).val < 0 + 512; omega
theorem setP_disjoint : ∀ p p' : Fin 16, p ≠ p' → Disjoint (setP p) (setP p') := by
  intro p p' hne; rw [Finset.disjoint_left]; intro y hy hy'; rw [mem_setP] at hy hy'; exact hne (Fin.ext (by omega))
theorem setP_cover : (Finset.univ : Finset (Fin 16)).biUnion setP = Finset.univ := by
  ext y
  have h0 : (y 0).val < 8 := (y 0).isLt
  have h1 : (y 1).val < 2048 := (y 1).isLt
  simp only [Finset.mem_biUnion, Finset.mem_univ, true_and, iff_true]
  exact ⟨⟨2 * (y 0).val + (y 1).val / 1024, by omega⟩, by rw [mem_setP]; show (y 0).val = (2 * (y 0).val + (y 1).val / 1024) / 2 ∧ (y 1).val / 1024 = (2 * (y 0).val + (y 1).val / 1024) % 2; omega⟩
theorem mem_ssetP (s : Fin 3) (y : S3x1x1024x512.Idx) : y ∈ ssetP s ↔ (y 0).val = s.val := by
  rw [Rect.mem_set_unit]
  have h1 : (y 1).val < 1 := (y 1).isLt
  have h2 : (y 2).val < 1024 := (y 2).isLt
  have h3 : (y 3).val < 512 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1024; omega
    · show 0 ≤ (y 3).val ∧ (y 3).val < 0 + 512; omega
theorem ssetP_disjoint : ∀ s s' : Fin 3, s ≠ s' → Disjoint (ssetP s) (ssetP s') := by
  intro s s' hne; rw [Finset.disjoint_left]; intro y hy hy'; rw [mem_ssetP] at hy hy'; exact hne (Fin.ext (hy.symm.trans hy'))
theorem ssetP_cover : (Finset.univ : Finset (Fin 3)).biUnion ssetP = Finset.univ := by
  ext y; simp only [Finset.mem_biUnion, Finset.mem_univ, true_and, iff_true]; exact ⟨(y 0).cast (by decide), by rw [mem_ssetP]; rfl⟩

/-- The array whole is its blocks. -/
theorem wholeP (c : Dev nD) (A : Buf (Elt F) (arrP.view.loc (c : Thread nD τ))) :
    (((c : Thread nD τ).loc main_v2) ↦{fullShare} A : sProp 𝕄) = bigSep Finset.univ (homeP c A) := by
  rw [Ring.pointsTo_blocks (ℓ := (c : Thread nD τ).loc main_v2) setP setP_disjoint setP_cover]
  exact bigSep_congr fun b _ => by rw [← blkP_set]; rfl
omit [FloatOps F] in
theorem heldP_eq (c : Dev nD) (s : Fin 3) (f) : heldP c s f = (((c : Thread nD τ).loc cc0_scoped2) ↦[ssetP s]{fullShare} f : sProp 𝕄) :=
  congrArg (fun S => (_ ↦[S]{fullShare} f : sProp 𝕄)) (slotP_set s)

abbrev setX (p : Fin 16) : Finset S8x2048x1024.Idx := (Rect.unit (s := S8x2048x1024) (hOff p) S1x1024x1024.size (inbX p)).set
abbrev ssetX (s : Fin 3) : Finset S3x1x1024x1024.Idx := (Rect.unit (s := S3x1x1024x1024) (slotOff s) S1x1x1024x1024.size (sinbX s)).set
omit [FloatOps F] in
theorem blkX_set (p : Fin 16) : (blkX p : Memref sig .tc .hbm _ _).view.set = setX p := View.set_slice_whole _ _
omit [FloatOps F] in
theorem slotX_set (s : Fin 3) : (slotX s : Memref sig .tc .vmem _ _).view.set = ssetX s := (View.set_reshape _ _).trans (View.set_slice_whole _ _)
theorem mem_setX (p : Fin 16) (y : S8x2048x1024.Idx) : y ∈ setX p ↔ (y 0).val = p.val / 2 ∧ (y 1).val / 1024 = p.val % 2 := by
  rw [Rect.mem_set_unit]
  have h0 : (y 0).val < 8 := (y 0).isLt
  have h1 : (y 1).val < 2048 := (y 1).isLt
  have h2 : (y 2).val < 1024 := (y 2).isLt
  constructor
  · intro H
    have a0 : p.val / 2 ≤ (y 0).val ∧ (y 0).val < p.val / 2 + 1 := H 0
    have a1 : 1024 * (p.val % 2) ≤ (y 1).val ∧ (y 1).val < 1024 * (p.val % 2) + 1024 := H 1
    omega
  · intro H i; fin_cases i
    · show p.val / 2 ≤ (y 0).val ∧ (y 0).val < p.val / 2 + 1; omega
    · show 1024 * (p.val % 2) ≤ (y 1).val ∧ (y 1).val < 1024 * (p.val % 2) + 1024; omega
    · show 0 ≤ (y 2).val ∧ (y 2).val < 0 + 1024; omega
theorem setX_disjoint : ∀ p p' : Fin 16, p ≠ p' → Disjoint (setX p) (setX p') := by
  intro p p' hne; rw [Finset.disjoint_left]; intro y hy hy'; rw [mem_setX] at hy hy'; exact hne (Fin.ext (by omega))
theorem setX_cover : (Finset.univ : Finset (Fin 16)).biUnion setX = Finset.univ := by
  ext y
  have h0 : (y 0).val < 8 := (y 0).isLt
  have h1 : (y 1).val < 2048 := (y 1).isLt
  simp only [Finset.mem_biUnion, Finset.mem_univ, true_and, iff_true]
  exact ⟨⟨2 * (y 0).val + (y 1).val / 1024, by omega⟩, by rw [mem_setX]; show (y 0).val = (2 * (y 0).val + (y 1).val / 1024) / 2 ∧ (y 1).val / 1024 = (2 * (y 0).val + (y 1).val / 1024) % 2; omega⟩
theorem mem_ssetX (s : Fin 3) (y : S3x1x1024x1024.Idx) : y ∈ ssetX s ↔ (y 0).val = s.val := by
  rw [Rect.mem_set_unit]
  have h1 : (y 1).val < 1 := (y 1).isLt
  have h2 : (y 2).val < 1024 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1024; omega
    · show 0 ≤ (y 3).val ∧ (y 3).val < 0 + 1024; omega
theorem ssetX_disjoint : ∀ s s' : Fin 3, s ≠ s' → Disjoint (ssetX s) (ssetX s') := by
  intro s s' hne; rw [Finset.disjoint_left]; intro y hy hy'; rw [mem_ssetX] at hy hy'; exact hne (Fin.ext (hy.symm.trans hy'))
theorem ssetX_cover : (Finset.univ : Finset (Fin 3)).biUnion ssetX = Finset.univ := by
  ext y; simp only [Finset.mem_biUnion, Finset.mem_univ, true_and, iff_true]; exact ⟨(y 0).cast (by decide), by rw [mem_ssetX]; rfl⟩

/-- The array whole is its blocks. -/
theorem wholeX (c : Dev nD) (A : Buf (Elt F) (arrX.view.loc (c : Thread nD τ))) :
    (((c : Thread nD τ).loc main_arg2) ↦{fullShare} A : sProp 𝕄) = bigSep Finset.univ (homeX c A) := by
  rw [Ring.pointsTo_blocks (ℓ := (c : Thread nD τ).loc main_arg2) setX setX_disjoint setX_cover]
  exact bigSep_congr fun b _ => by rw [← blkX_set]; rfl
omit [FloatOps F] in
theorem heldX_eq (c : Dev nD) (s : Fin 3) (f) : heldX c s f = (((c : Thread nD τ).loc cc0_scoped4) ↦[ssetX s]{fullShare} f : sProp 𝕄) :=
  congrArg (fun S => (_ ↦[S]{fullShare} f : sProp 𝕄)) (slotX_set s)

abbrev setO (p : Fin 16) : Finset S8x2048x1024.Idx := (Rect.unit (s := S8x2048x1024) (hOff p) S1x1024x1024.size (inbO p)).set
abbrev ssetO (s : Fin 2) : Finset S2x1x1024x1024.Idx := (Rect.unit (s := S2x1x1024x1024) (slotOff s) S1x1x1024x1024.size (sinbO s)).set
omit [FloatOps F] in
theorem blkO_set (p : Fin 16) : (blkO p : Memref sig .tc .hbm _ _).view.set = setO p := View.set_slice_whole _ _
omit [FloatOps F] in
theorem slotO_set (s : Fin 2) : (slotO s : Memref sig .tc .vmem _ _).view.set = ssetO s := (View.set_reshape _ _).trans (View.set_slice_whole _ _)
theorem mem_setO (p : Fin 16) (y : S8x2048x1024.Idx) : y ∈ setO p ↔ (y 0).val = p.val / 2 ∧ (y 1).val / 1024 = p.val % 2 := by
  rw [Rect.mem_set_unit]
  have h0 : (y 0).val < 8 := (y 0).isLt
  have h1 : (y 1).val < 2048 := (y 1).isLt
  have h2 : (y 2).val < 1024 := (y 2).isLt
  constructor
  · intro H
    have a0 : p.val / 2 ≤ (y 0).val ∧ (y 0).val < p.val / 2 + 1 := H 0
    have a1 : 1024 * (p.val % 2) ≤ (y 1).val ∧ (y 1).val < 1024 * (p.val % 2) + 1024 := H 1
    omega
  · intro H i; fin_cases i
    · show p.val / 2 ≤ (y 0).val ∧ (y 0).val < p.val / 2 + 1; omega
    · show 1024 * (p.val % 2) ≤ (y 1).val ∧ (y 1).val < 1024 * (p.val % 2) + 1024; omega
    · show 0 ≤ (y 2).val ∧ (y 2).val < 0 + 1024; omega
theorem setO_disjoint : ∀ p p' : Fin 16, p ≠ p' → Disjoint (setO p) (setO p') := by
  intro p p' hne; rw [Finset.disjoint_left]; intro y hy hy'; rw [mem_setO] at hy hy'; exact hne (Fin.ext (by omega))
theorem setO_cover : (Finset.univ : Finset (Fin 16)).biUnion setO = Finset.univ := by
  ext y
  have h0 : (y 0).val < 8 := (y 0).isLt
  have h1 : (y 1).val < 2048 := (y 1).isLt
  simp only [Finset.mem_biUnion, Finset.mem_univ, true_and, iff_true]
  exact ⟨⟨2 * (y 0).val + (y 1).val / 1024, by omega⟩, by rw [mem_setO]; show (y 0).val = (2 * (y 0).val + (y 1).val / 1024) / 2 ∧ (y 1).val / 1024 = (2 * (y 0).val + (y 1).val / 1024) % 2; omega⟩
theorem mem_ssetO (s : Fin 2) (y : S2x1x1024x1024.Idx) : y ∈ ssetO s ↔ (y 0).val = s.val := by
  rw [Rect.mem_set_unit]
  have h1 : (y 1).val < 1 := (y 1).isLt
  have h2 : (y 2).val < 1024 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1024; omega
    · show 0 ≤ (y 3).val ∧ (y 3).val < 0 + 1024; omega
theorem ssetO_disjoint : ∀ s s' : Fin 2, s ≠ s' → Disjoint (ssetO s) (ssetO s') := by
  intro s s' hne; rw [Finset.disjoint_left]; intro y hy hy'; rw [mem_ssetO] at hy hy'; exact hne (Fin.ext (hy.symm.trans hy'))
theorem ssetO_cover : (Finset.univ : Finset (Fin 2)).biUnion ssetO = Finset.univ := by
  ext y; simp only [Finset.mem_biUnion, Finset.mem_univ, true_and, iff_true]; exact ⟨(y 0).cast (by decide), by rw [mem_ssetO]; rfl⟩

/-- The array whole is its blocks. -/
theorem wholeO (c : Dev nD) (A : Buf (Elt F) (arrO.view.loc (c : Thread nD τ))) :
    (((c : Thread nD τ).loc main_v5) ↦{fullShare} A : sProp 𝕄) = bigSep Finset.univ (homeO c A) := by
  rw [Ring.pointsTo_blocks (ℓ := (c : Thread nD τ).loc main_v5) setO setO_disjoint setO_cover]
  exact bigSep_congr fun b _ => by rw [← blkO_set]; rfl
omit [FloatOps F] in
theorem heldO_eq (c : Dev nD) (s : Fin 2) (f) : heldO c s f = (((c : Thread nD τ).loc cc0_scoped6) ↦[ssetO s]{fullShare} f : sProp 𝕄) :=
  congrArg (fun S => (_ ↦[S]{fullShare} f : sProp 𝕄)) (slotO_set s)

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
/-- Blocks 0 and 1 apart from the rest. -/
theorem homes_zero (Φ : Fin 16 → sProp 𝕄) :
    bigSep Finset.univ Φ = iprop(Φ 0 ∗ Φ 1 ∗ bigSep (Ring.homeSet 2 0) Φ) := by
  have e : (Finset.univ : Finset (Fin 16)) = insert 0 (insert 1 (Ring.homeSet (NB := 16) 2 0)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; rfl

/-- The buffer and its semaphores are its free slots, and back. -/
theorem splitY (c : Dev nD) :
    iprop((∃ f : Buf (Elt F) ((c : Thread nD τ).loc cc0_scoped0), ((c : Thread nD τ).loc cc0_scoped0) ↦{fullShare} f) ∗ cellY c 0 ∗ cellY c 1 ∗ cellY c 2)
      ⊢ (iprop(freeY c 0 ∗ freeY c 1 ∗ freeY c 2) : sProp 𝕄) := by
  unfold freeY
  iintro ⟨⟨%f, H⟩, C0, C1, C2⟩
  ihave H2 := (entails_of_eq ((Ring.pointsTo_blocks (Ix := Unit) (Name := ℕ) (U := UU nD τ) (Lvl := ℕ) (q := fullShare) (ℓ := (c : Thread nD τ).loc cc0_scoped0) ssetY ssetY_disjoint ssetY_cover f).trans (bigSep_fin3 _))) $$ H
  icases H2 with ⟨H0, H1, H2⟩
  isplitl [C0 H0]
  · isplitl [C0]; · iexact C0
    iexists f; iapply (entails_of_eq (heldY_eq c 0 f).symm); iexact H0
  isplitl [C1 H1]
  · isplitl [C1]; · iexact C1
    iexists f; iapply (entails_of_eq (heldY_eq c 1 f).symm); iexact H1
  isplitl [C2]; · iexact C2
  iexists f; iapply (entails_of_eq (heldY_eq c 2 f).symm); iexact H2
theorem joinY (c : Dev nD) :
    iprop(freeY c 0 ∗ freeY c 1 ∗ freeY c 2)
      ⊢ (iprop((∃ f : Buf (Elt F) ((c : Thread nD τ).loc cc0_scoped0), ((c : Thread nD τ).loc cc0_scoped0) ↦{fullShare} f) ∗ cellY c 0 ∗ cellY c 1 ∗ cellY c 2) : sProp 𝕄) := by
  unfold freeY
  iintro ⟨⟨C0, ⟨%f0, H0⟩⟩, ⟨C1, ⟨%f1, H1⟩⟩, ⟨C2, ⟨%f2, H2⟩⟩⟩
  isplitl [H0 H1 H2]
  · iapply (Ring.pointsTo_blocks_join_exists (ℓ := (c : Thread nD τ).loc cc0_scoped0) ssetY ssetY_disjoint ssetY_cover f0)
    irw [bigSep_fin3]
    isplitl [H0]; · iexists f0; iapply (entails_of_eq (heldY_eq c 0 f0)); iexact H0
    isplitl [H1]; · iexists f1; iapply (entails_of_eq (heldY_eq c 1 f1)); iexact H1
    iexists f2; iapply (entails_of_eq (heldY_eq c 2 f2)); iexact H2
  isplitl [C0]; · iexact C0
  isplitl [C1]; · iexact C1
  iexact C2
/-- The buffer and its semaphores are its free slots, and back. -/
theorem splitP (c : Dev nD) :
    iprop((∃ f : Buf (Elt F) ((c : Thread nD τ).loc cc0_scoped2), ((c : Thread nD τ).loc cc0_scoped2) ↦{fullShare} f) ∗ cellP c 0 ∗ cellP c 1 ∗ cellP c 2)
      ⊢ (iprop(freeP c 0 ∗ freeP c 1 ∗ freeP c 2) : sProp 𝕄) := by
  unfold freeP
  iintro ⟨⟨%f, H⟩, C0, C1, C2⟩
  ihave H2 := (entails_of_eq ((Ring.pointsTo_blocks (Ix := Unit) (Name := ℕ) (U := UU nD τ) (Lvl := ℕ) (q := fullShare) (ℓ := (c : Thread nD τ).loc cc0_scoped2) ssetP ssetP_disjoint ssetP_cover f).trans (bigSep_fin3 _))) $$ H
  icases H2 with ⟨H0, H1, H2⟩
  isplitl [C0 H0]
  · isplitl [C0]; · iexact C0
    iexists f; iapply (entails_of_eq (heldP_eq c 0 f).symm); iexact H0
  isplitl [C1 H1]
  · isplitl [C1]; · iexact C1
    iexists f; iapply (entails_of_eq (heldP_eq c 1 f).symm); iexact H1
  isplitl [C2]; · iexact C2
  iexists f; iapply (entails_of_eq (heldP_eq c 2 f).symm); iexact H2
theorem joinP (c : Dev nD) :
    iprop(freeP c 0 ∗ freeP c 1 ∗ freeP c 2)
      ⊢ (iprop((∃ f : Buf (Elt F) ((c : Thread nD τ).loc cc0_scoped2), ((c : Thread nD τ).loc cc0_scoped2) ↦{fullShare} f) ∗ cellP c 0 ∗ cellP c 1 ∗ cellP c 2) : sProp 𝕄) := by
  unfold freeP
  iintro ⟨⟨C0, ⟨%f0, H0⟩⟩, ⟨C1, ⟨%f1, H1⟩⟩, ⟨C2, ⟨%f2, H2⟩⟩⟩
  isplitl [H0 H1 H2]
  · iapply (Ring.pointsTo_blocks_join_exists (ℓ := (c : Thread nD τ).loc cc0_scoped2) ssetP ssetP_disjoint ssetP_cover f0)
    irw [bigSep_fin3]
    isplitl [H0]; · iexists f0; iapply (entails_of_eq (heldP_eq c 0 f0)); iexact H0
    isplitl [H1]; · iexists f1; iapply (entails_of_eq (heldP_eq c 1 f1)); iexact H1
    iexists f2; iapply (entails_of_eq (heldP_eq c 2 f2)); iexact H2
  isplitl [C0]; · iexact C0
  isplitl [C1]; · iexact C1
  iexact C2
/-- The buffer and its semaphores are its free slots, and back. -/
theorem splitX (c : Dev nD) :
    iprop((∃ f : Buf (Elt F) ((c : Thread nD τ).loc cc0_scoped4), ((c : Thread nD τ).loc cc0_scoped4) ↦{fullShare} f) ∗ cellX c 0 ∗ cellX c 1 ∗ cellX c 2)
      ⊢ (iprop(freeX c 0 ∗ freeX c 1 ∗ freeX c 2) : sProp 𝕄) := by
  unfold freeX
  iintro ⟨⟨%f, H⟩, C0, C1, C2⟩
  ihave H2 := (entails_of_eq ((Ring.pointsTo_blocks (Ix := Unit) (Name := ℕ) (U := UU nD τ) (Lvl := ℕ) (q := fullShare) (ℓ := (c : Thread nD τ).loc cc0_scoped4) ssetX ssetX_disjoint ssetX_cover f).trans (bigSep_fin3 _))) $$ H
  icases H2 with ⟨H0, H1, H2⟩
  isplitl [C0 H0]
  · isplitl [C0]; · iexact C0
    iexists f; iapply (entails_of_eq (heldX_eq c 0 f).symm); iexact H0
  isplitl [C1 H1]
  · isplitl [C1]; · iexact C1
    iexists f; iapply (entails_of_eq (heldX_eq c 1 f).symm); iexact H1
  isplitl [C2]; · iexact C2
  iexists f; iapply (entails_of_eq (heldX_eq c 2 f).symm); iexact H2
theorem joinX (c : Dev nD) :
    iprop(freeX c 0 ∗ freeX c 1 ∗ freeX c 2)
      ⊢ (iprop((∃ f : Buf (Elt F) ((c : Thread nD τ).loc cc0_scoped4), ((c : Thread nD τ).loc cc0_scoped4) ↦{fullShare} f) ∗ cellX c 0 ∗ cellX c 1 ∗ cellX c 2) : sProp 𝕄) := by
  unfold freeX
  iintro ⟨⟨C0, ⟨%f0, H0⟩⟩, ⟨C1, ⟨%f1, H1⟩⟩, ⟨C2, ⟨%f2, H2⟩⟩⟩
  isplitl [H0 H1 H2]
  · iapply (Ring.pointsTo_blocks_join_exists (ℓ := (c : Thread nD τ).loc cc0_scoped4) ssetX ssetX_disjoint ssetX_cover f0)
    irw [bigSep_fin3]
    isplitl [H0]; · iexists f0; iapply (entails_of_eq (heldX_eq c 0 f0)); iexact H0
    isplitl [H1]; · iexists f1; iapply (entails_of_eq (heldX_eq c 1 f1)); iexact H1
    iexists f2; iapply (entails_of_eq (heldX_eq c 2 f2)); iexact H2
  isplitl [C0]; · iexact C0
  isplitl [C1]; · iexact C1
  iexact C2
/-- The buffer and its semaphores are its free slots, and back. -/
theorem splitO (c : Dev nD) :
    iprop((∃ f : Buf (Elt F) ((c : Thread nD τ).loc cc0_scoped6), ((c : Thread nD τ).loc cc0_scoped6) ↦{fullShare} f) ∗ cellO c 0 ∗ cellO c 1)
      ⊢ (iprop(freeO c 0 ∗ freeO c 1) : sProp 𝕄) := by
  unfold freeO
  iintro ⟨⟨%f, H⟩, C0, C1⟩
  ihave H2 := (entails_of_eq ((Ring.pointsTo_blocks (Ix := Unit) (Name := ℕ) (U := UU nD τ) (Lvl := ℕ) (q := fullShare) (ℓ := (c : Thread nD τ).loc cc0_scoped6) ssetO ssetO_disjoint ssetO_cover f).trans (bigSep_fin2 _))) $$ H
  icases H2 with ⟨H0, H1⟩
  isplitl [C0 H0]
  · isplitl [C0]; · iexact C0
    iexists f; iapply (entails_of_eq (heldO_eq c 0 f).symm); iexact H0
  isplitl [C1]; · iexact C1
  iexists f; iapply (entails_of_eq (heldO_eq c 1 f).symm); iexact H1
theorem joinO (c : Dev nD) :
    iprop(freeO c 0 ∗ freeO c 1)
      ⊢ (iprop((∃ f : Buf (Elt F) ((c : Thread nD τ).loc cc0_scoped6), ((c : Thread nD τ).loc cc0_scoped6) ↦{fullShare} f) ∗ cellO c 0 ∗ cellO c 1) : sProp 𝕄) := by
  unfold freeO
  iintro ⟨⟨C0, ⟨%f0, H0⟩⟩, ⟨C1, ⟨%f1, H1⟩⟩⟩
  isplitl [H0 H1]
  · iapply (Ring.pointsTo_blocks_join_exists (ℓ := (c : Thread nD τ).loc cc0_scoped6) ssetO ssetO_disjoint ssetO_cover f0)
    irw [bigSep_fin2]
    isplitl [H0]; · iexists f0; iapply (entails_of_eq (heldO_eq c 0 f0)); iexact H0
    iexists f1; iapply (entails_of_eq (heldO_eq c 1 f1)); iexact H1
  isplitl [C0]; · iexact C0
  iexact C1

/-! ## The kernel's own semaphores -/

def osem : Fin 11 → SemLoc sig
  | 0 => .dma (semY 0).sem | 1 => .dma (semY 1).sem | 2 => .dma (semY 2).sem
  | 3 => .dma (semP 0).sem | 4 => .dma (semP 1).sem | 5 => .dma (semP 2).sem
  | 6 => .dma (semX 0).sem | 7 => .dma (semX 1).sem | 8 => .dma (semX 2).sem
  | 9 => .dma (semO 0).sem | 10 => .dma (semO 1).sem
theorem ownSemFacts : Pipeline.OwnSemFacts spec0 osem := by decide

omit [FloatOps F] in
theorem ownSems0_eq (c : Dev nD) : (Pipeline.ownSems0 (Ix := Unit) (Name := ℕ) (U := UU nD τ) (Lvl := ℕ) (Val := Elt F) (τ := τ) osem c : sProp 𝕄)
    = iprop(cellY c 0 ∗ cellY c 1 ∗ cellY c 2 ∗ cellP c 0 ∗ cellP c 1 ∗ cellP c 2 ∗ cellX c 0 ∗ cellX c 1 ∗ cellX c 2 ∗ cellO c 0 ∗ cellO c 1) := by
  unfold Pipeline.ownSems0
  exact bigSep_univ_eq_bigSepL [(0 : Fin 11), 1, 2, 3, 4, 5, 6, 7, 8, 9, 10] (by decide) (by decide) _

/-! ## The launch -/

/-- A buffer's contents when the kernel is launched, after the host's lines. -/
abbrev V (c : Dev nD) (b : Ref sig .tc) : Buf (Elt F) ((c : Thread nD τ).loc b) :=
  StableHlo.after hostOps0 (fun b => m (c, b)) (Proc.devRef .tc b)

abbrev st0 (t : Fin cfg0.N) : Memref sig .tc .vmem S1024x1024 .bf16 := win0_0.stage (cfg0.slots t 0)
abbrev st1 (t : Fin cfg0.N) : Memref sig .tc .vmem S1x1024 .f32 := win0_1.stage (cfg0.slots t 1)
abbrev hst0 (t : Fin cfg0.N) : (st0 t).IsWhole := hstage0_0 0
abbrev hst1 (t : Fin cfg0.N) : (st1 t).IsWhole := hstage0_1 0

/-- Window `w`'s block at the one point, read off its array at launch. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The one point of the launch's grid. -/
def t0 : Fin cfg0.N := ⟨0, by decide⟩

/-- The output the launch leaves. -/
def outV (c : Dev nD) : Buf (Elt F) (arrO.view.loc (c : Thread nD τ)) :=
  OUT c (V m c main_v1) (V m c main_v2) (V m c main_arg2) (st0 t0) (st1 t0) ((st0 t0).view.rep (iblk m c 0 t0)) ((st1 t0).view.rep (iblk m c 1 t0))

/-- The four blocked arrays at the one point's two ends, and every slot free. -/
def Φ (c : Dev nD) (A : Buf (Elt F) (arrO.view.loc (c : Thread nD τ))) : sProp 𝕄 :=
  iprop((bigSep Finset.univ (homeY c (V m c main_v1)) ∗ bigSep Finset.univ (homeP c (V m c main_v2)) ∗ bigSep Finset.univ (homeX c (V m c main_arg2)) ∗ bigSep Finset.univ (homeO c A))
    ∗ (freeY c 0 ∗ freeY c 1 ∗ freeY c 2) ∗ (freeP c 0 ∗ freeP c 1 ∗ freeP c 2) ∗ (freeX c 0 ∗ freeX c 1 ∗ freeX c 2) ∗ (freeO c 0 ∗ freeO c 1))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ t := Φ m c (if t.val = 0 then V m c main_v5 else outV m c)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

theorem defs_tc : (defs₀ (F := F)) .tc cfg0.body
    = fun a => bodyG (win0_0.stage (a.2 0)) (hstage0_0 0) (win0_1.stage (a.2 1)) (hstage0_1 0) := rfl
theorem prog_eq (t : Fin cfg0.N) : (defs₀ (F := F)) .tc cfg0.body (cfg0.bodyArgs t (cfg0.slots t)) = bodyG (st0 t) (hst0 t) (st1 t) (hst1 t) :=
  (congrFun defs_tc _).trans rfl

theorem ahead_all (Φ : Fin 16 → sProp 𝕄) : bigSep (Ring.aheadSet 0) Φ = bigSep Finset.univ Φ := by
  rw [Ring.aheadSet_zero]

set_option backward.isDefEq.respectTransparency.types false in
theorem body_obligation (c : Dev nD) : BodyObligation (dats (F := F) m 0 c) (defs₀ (F := F)) 𝒱₀ () Set.univ := fun t => by
  have ht : t = t0 := Fin.ext (by have : t.val < 1 := t.isLt; show t.val = 0; omega)
  subst ht
  rw [bigSep_W0, bigSep_W0]
  dsimp only
  simp only [before_w0, before_w1, after_w0, after_w1]
  rw [show (dats m 0 c).Φ t0.castSucc = Φ m c (V m c main_v5) from rfl, show (dats m 0 c).Φ t0.succ = Φ m c (outV m c) from rfl]
  unfold Dat.owesAt Pipeline.owesWithin
  rw [show (dats m 0 c).owed t0.castSucc = 0 from rfl, show (dats m 0 c).owed t0.succ = 0 from rfl]
  unfold owns Φ
  rw [homes_zero (homeY c (V m c main_v1)), homes_zero (homeP c (V m c main_v2)), homes_zero (homeX c (V m c main_arg2))]
  rw [← ahead_all (homeO c (V m c main_v5))]
  iintro ⟨⟨⟨⟨Y0, Y1, YR⟩, ⟨P0, P1, PR⟩, ⟨X0, X1, XR⟩, Ha⟩, ⟨BY0, BY1, BY2⟩, ⟨BP0, BP1, BP2⟩, ⟨BX0, BX1, BX2⟩, BO⟩, ⟨%W, -, HW⟩, ⟨%d0, %g0, %hg0, H3⟩, ⟨%d1, %g1, %hg1, H4⟩⟩
  ihave H3' := (pointsTo_rep_entails (c : Thread nD τ) (st0 t0) g0 fullShare) $$ H3
  ihave H4' := (pointsTo_rep_entails (c : Thread nD τ) (st1 t0) g1 fullShare) $$ H4
  rw [hg0, hg1]
  sl_rw [prog_eq t0]
  iapply (bodyRun c (V m c main_v1) (V m c main_v2) (V m c main_arg2) (V m c main_v5) (st0 t0) (hst0 t0) (st1 t0) (hst1 t0) _ _ _)
  isplitl [H3' H4' HW Y0 Y1 YR P0 P1 PR X0 X1 XR Ha BY0 BY1 BY2 BP0 BP1 BP2 BX0 BX1 BX2 BO]
  · isplitl [H3']; · iexact H3'
    isplitl [H4']; · iexact H4'
    isplitl [HW]; · iexists _; iexact HW
    isplitl [Y0 Y1 YR BY0 BY1 BY2]
    · isplitl [Y0]; · iexact Y0
      isplitl [Y1]; · iexact Y1
      isplitl [YR]; · iexact YR
      isplitl [BY0]; · iexact BY0
      isplitl [BY1]; · iexact BY1
      iexact BY2
    isplitl [P0 P1 PR BP0 BP1 BP2]
    · isplitl [P0]; · iexact P0
      isplitl [P1]; · iexact P1
      isplitl [PR]; · iexact PR
      isplitl [BP0]; · iexact BP0
      isplitl [BP1]; · iexact BP1
      iexact BP2
    isplitl [X0 X1 XR BX0 BX1 BX2]
    · isplitl [X0]; · iexact X0
      isplitl [X1]; · iexact X1
      isplitl [XR]; · iexact XR
      isplitl [BX0]; · iexact BX0
      isplitl [BX1]; · iexact BX1
      iexact BX2
    isplitl [Ha]; · iexact Ha
    iexact BO
  · rw [← homes_zero (homeY c (V m c main_v1)), ← homes_zero (homeP c (V m c main_v2)), ← homes_zero (homeX c (V m c main_arg2))]
    iintro ⟨H3, H4, ⟨%W', HW⟩, ⟨HY, BY⟩, ⟨HP, BP⟩, ⟨HX, BX⟩, ⟨HO, BO⟩⟩
    isplitl [HY HP HX HO BY BP BX BO]
    · isplitl [HY HP HX HO]
      · isplitl [HY]; · iexact HY
        isplitl [HP]; · iexact HP
        isplitl [HX]; · iexact HX
        iexact HO
      isplitl [BY]; · iexact BY
      isplitl [BP]; · iexact BP
      isplitl [BX]; · iexact BX
      iexact BO
    isplitl [HW]
    · iexists W'; isplitr; · ipureintro; exact fun _ _ => Or.inl trivial
      iexact HW
    isplitl [H3]
    · iexists _; isplitr; · ipureintro; exact View.read_rep _ _
      iexact H3
    iexists _; isplitr; · ipureintro; exact View.read_rep _ _
    iexact H4

/-! ## The run -/

/-- The four blocked arrays, the output at `A`. -/
def arrays (c : Dev nD) (A : Buf (Elt F) (arrO.view.loc (c : Thread nD τ))) : sProp 𝕄 :=
  iprop((((c : Thread nD τ).loc main_v1) ↦{fullShare} V m c main_v1) ∗ (((c : Thread nD τ).loc main_v2) ↦{fullShare} V m c main_v2)
    ∗ (((c : Thread nD τ).loc main_arg2) ↦{fullShare} V m c main_arg2) ∗ (((c : Thread nD τ).loc main_v5) ↦{fullShare} A))
def u₀ : UU nD τ := (initOf (Pipeline.cells cfgs Cert.KernelIdeal.Gen.cellOf_inj) (Pipeline.launchToks cfgs Cert.KernelIdeal.Gen.cellOf_inj), 1)
/-- The arguments the kernel doesn't touch. -/
def rests (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg3) ↦{fullShare} V m c main_arg3) ∗ (((c : Thread nD τ).loc main_arg4) ↦{fullShare} V m c main_arg4))
theorem V_main_arg0 (c : Dev nD) : V m c main_arg0 = m ((c : Thread nD τ).loc main_arg0) := by
  unfold V
  after_results
theorem V_main_arg1 (c : Dev nD) : V m c main_arg1 = m ((c : Thread nD τ).loc main_arg1) := by
  unfold V
  after_results
theorem V_main_arg2 (c : Dev nD) : V m c main_arg2 = m ((c : Thread nD τ).loc main_arg2) := by
  unfold V
  after_results
theorem V_main_arg3 (c : Dev nD) : V m c main_arg3 = m ((c : Thread nD τ).loc main_arg3) := by
  unfold V
  after_results
theorem V_main_arg4 (c : Dev nD) : V m c main_arg4 = m ((c : Thread nD τ).loc main_arg4) := by
  unfold V
  after_results
/-- What the run leaves: the arguments as they were, the output at its value. -/
def QY (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_v5) = outV m c

set_option backward.isDefEq.respectTransparency.types false in
theorem run_main : θ_run defs (onTc (τ := τ) (main (F := F))) (s₀ m ρ) (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub (StableHlo.forall_fresh_of_map rfl) main_chain)
    (hA := fun _ _ => rfl)
    (X := fun c => iprop(arrays m c (V m c main_v5) ∗ Pipeline.ownSems0 osem c)) (Y := fun c => arrays m c (outV m c)) (Z := rests m)
    (hX := fun c => by
      rw [unscopedRest0_eq]
      unfold arrays rests
      iintro ⟨⟨A0, A1, A2, A3, A4, -, V1, V2, V5⟩, HS, -, -, -⟩; imodintro
      isplitl [A2 V1 V2 V5 HS]
      · isplitl [A2 V1 V2 V5]
        · isplitl [V1]; · iexact V1
          isplitl [V2]; · iexact V2
          isplitl [A2]; · iexact A2
          iexact V5
        iexact HS
      isplitl [A0]; · iexact A0
      isplitl [A1]; · iexact A1
      isplitl [A3]; · iexact A3
      iexact A4)
    (hin := fun c => by
      rw [scopedRest0_eq, show (dats m 0 c).Φ 0 = Φ m c (V m c main_v5) from rfl]
      unfold arrays Φ; rw [ownSems0_eq, wholeY, wholeP, wholeX, wholeO]
      iintro ⟨⟨H0, CY0, CY1, CY2, CP0, CP1, CP2, CX0, CX1, CX2, CO0, CO1⟩, BY, BP, BX, BO⟩
      isplitl [H0]; · iexact H0
      isplitl [BY CY0 CY1 CY2]
      · iapply (splitY c)
        isplitl [BY]; · iexact BY
        isplitl [CY0]; · iexact CY0
        isplitl [CY1]; · iexact CY1
        iexact CY2
      isplitl [BP CP0 CP1 CP2]
      · iapply (splitP c)
        isplitl [BP]; · iexact BP
        isplitl [CP0]; · iexact CP0
        isplitl [CP1]; · iexact CP1
        iexact CP2
      isplitl [BX CX0 CX1 CX2]
      · iapply (splitX c)
        isplitl [BX]; · iexact BX
        isplitl [CX0]; · iexact CX0
        isplitl [CX1]; · iexact CX1
        iexact CX2
      iapply (splitO c)
      isplitl [BO]; · iexact BO
      isplitl [CO0]; · iexact CO0
      iexact CO1)
    (hout := fun c => by
      rw [scopedRest0_eq, show (dats m 0 c).Φ (Fin.last cfg0.N) = Φ m c (outV m c) from rfl, ownSems0_eq]
      unfold Φ arrays; rw [wholeY, wholeP, wholeX, wholeO]
      iintro ⟨H0, BY, BP, BX, BO⟩
      ihave HY := (joinY c) $$ BY
      ihave HP := (joinP c) $$ BP
      ihave HX := (joinX c) $$ BX
      ihave HO := (joinO c) $$ BO
      icases HY with ⟨BY, CY0, CY1, CY2⟩
      icases HP with ⟨BP, CP0, CP1, CP2⟩
      icases HX with ⟨BX, CX0, CX1, CX2⟩
      icases HO with ⟨BO, CO0, CO1⟩
      isplitl [H0]; · iexact H0
      isplitl [CY0 CY1 CY2 CP0 CP1 CP2 CX0 CX1 CX2 CO0 CO1]
      · isplitl [CY0]; · iexact CY0
        isplitl [CY1]; · iexact CY1
        isplitl [CY2]; · iexact CY2
        isplitl [CP0]; · iexact CP0
        isplitl [CP1]; · iexact CP1
        isplitl [CP2]; · iexact CP2
        isplitl [CX0]; · iexact CX0
        isplitl [CX1]; · iexact CX1
        isplitl [CX2]; · iexact CX2
        isplitl [CO0]; · iexact CO0
        iexact CO1
      isplitl [BY]; · iexact BY
      isplitl [BP]; · iexact BP
      isplitl [BX]; · iexact BX
      iexact BO)
    (QY := QY m)
    (hY := fun c s' => by
      unfold arrays rests
      iintro ⟨⟨-, -, H2, H5⟩, ⟨H0, H1, H3, H4⟩, HSI⟩
      icombine HSI H0 gives %h0
      icombine HSI H1 gives %h1
      icombine HSI H2 gives %h2
      icombine HSI H3 gives %h3
      icombine HSI H4 gives %h4
      icombine HSI H5 gives %h5
      imodintro
      isplitr
      · ipureintro
        exact ⟨(Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c),
          (Buf.eq_of_forall_mem_univ h4).trans (V_main_arg4 m c), Buf.eq_of_forall_mem_univ h5⟩
      iexact HSI)
    (hQ := fun _ hh hz => ⟨fun c => (hh c).2, hz⟩)

/-! ## The frames -/

/-- It returns with its arguments as they were and every counter at zero, over any float values. -/
theorem run_kept : θ_run (defs (F := F)) (onTc (τ := τ) (main (F := F))) ⟨m, fun _ => 0, ρ⟩ (fun r => (∀ c : Dev nD,
      r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ hh => ⟨fun c => ⟨(hh.1 c).1, (hh.1 c).2.1, (hh.1 c).2.2.1, (hh.1 c).2.2.2.1, (hh.1 c).2.2.2.2.1⟩, hh.2⟩) (run_main m ρ)
theorem frame_ideal : Cert.quiescent_KernelIdeal := fun m ρ _ => run_kept m ρ

/-! The two programs are one text: the claim about the other is read off the same run, over the float values as bits. -/

theorem body_same : (Cert.Kernel.defs₀ (F := Bits)) = (Cert.KernelIdeal.defs₀ (F := Bits)) := by
  funext p
  cases p with
  | tc =>
    funext l
    match l with
    | ⟨0, _⟩ => rfl
  | scScalar i => rfl
  | scVector i j => rfl
theorem defs_same : (Cert.Kernel.defs (F := Bits)) = (Cert.KernelIdeal.defs (F := Bits)) :=
  congrArg (Pipeline.defs (Cert.KernelIdeal.pcfgs (F := Bits))) body_same
theorem frame_kernel : Cert.quiescent_Kernel (hKernel := Cert.Kernel.Gen.facts) := fun m ρ _ => by
  have h := run_kept (F := Bits) m ρ
  rw [← defs_same] at h
  exact h

end Cert.Proof.MixOut

end
-- ==== Proof.MixOut.Value.lean ====
/-
  What the output projection computes, read at an element: the kernel's tile and the plain formula agree.
-/
module

public import proofs.«01_k».proof.Proof.MixOut.Launch
public import proofs.«01_k».proof.Proof.Gen.ReferenceIdeal
public import proofs.«01_k».proof.Proof.Gen.ReferenceIdeal.Run
public import Idealize.ShloMosaic.Lib.Pointwise
public import Idealize.ShloMosaic.Lib.Pipeline.Value

@[expose] public section

noncomputable section

namespace Cert.Proof.MixOut

open Idealize.ShloMosaic Idealize.SL.Sem Idealize.ShloMosaic.TcCoe
open scoped BigOperators

section Kernel
open Cert.KernelIdeal Cert.KernelIdeal.Gen

theorem pay1_at (yt : Vec Ideal S1x512x1024 .bf16) (wt : Vec Ideal S512x1024 .bf16) (r n : Fin 1024) :
    k0_pay1 yt wt (ix2 r n) = ∑ k : Fin 512, yt (ix3 0 k r) * wt (ix2 k n) := by
  pointwise [k0_pay1]
theorem pay2_at (yp : Vec Ideal S1x1024x512 .bf16) (wb : Vec Ideal S512x1024 .bf16) (r n : Fin 1024) :
    k0_pay2 yp wb (ix2 r n) = ∑ k : Fin 512, yp (ix3 0 r k) * wb (ix2 k n) := by
  pointwise [k0_pay2]
theorem pay3_at (p q : Vec Ideal S1024x1024 .f32) (x : Vec Ideal S1x1024x1024 .f32) (g : Vec Ideal S1x1024 .f32) (r n : Fin 1024) :
    k0_pay3 p q x g (ix3 0 r n) = x (ix3 0 r n) + (p (ix2 r n) + q (ix2 r n)) * Ideal.rsqrt (Ideal.div (∑ k : Fin 1024, (p (ix2 r k) + q (ix2 r k)) * (p (ix2 r k) + q (ix2 r k)))
      (Ideal.ofBits .f32 0x44800000#32) + Ideal.ofBits .f32 0x358637BD#32) * g (ix2 0 n) := by
  pointwise [k0_pay3]
end Kernel

section Reference
open Cert.ReferenceIdeal Cert.ReferenceIdeal.Gen

/-- The mixers' outputs side by side, projected. -/
def mixRef (ya yp : FVec Ideal S8x2048x512 .f32) (wo : FVec Ideal S1024x1024 .f32) : FVec Ideal S8x2048x1024 .f32 :=
  Host.dotGeneral dot_S8x2048x1024_S1024x1024_S8x2048x1024_2_0_01_1_n_n none (concatenate S8x2048x1024 2 [⟨S8x2048x512, ya⟩, ⟨S8x2048x512, yp⟩] concatenates_S8x2048x512_S8x2048x512_S8x2048x1024_d2) wo
/-- The projection normed, scaled and added to the residual. -/
def normRef (mix x : FVec Ideal S8x2048x1024 .f32) (g : FVec Ideal S1024 .f32) : FVec Ideal S8x2048x1024 .f32 :=
  addf x (mulf (mulf mix (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf mix mix) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g)))

theorem mixRef_sum (ya yp : FVec Ideal S8x2048x512 .f32) (wo : FVec Ideal S1024x1024 .f32) (b : Fin 8) (s : Fin 2048) (n : Fin 1024) :
    mixRef ya yp wo (ix3 b s n) = (∑ k : Fin 512, ya (ix3 b s k) * wo (ix2 (⟨k.val, by omega⟩ : Fin 1024) n))
      + ∑ k : Fin 512, yp (ix3 b s k) * wo (ix2 (⟨512 + k.val, by omega⟩ : Fin 1024) n) := by
  pointwise [mixRef]

theorem normRef_at (mix x : FVec Ideal S8x2048x1024 .f32) (g : FVec Ideal S1024 .f32) (b : Fin 8) (s : Fin 2048) (n : Fin 1024) :
    normRef mix x g (ix3 b s n) = x (ix3 b s n) + mix (ix3 b s n) * Ideal.rsqrt (Ideal.div (∑ k : Fin 1024, mix (ix3 b s k) * mix (ix3 b s k))
      (Ideal.ofBits .f32 0x44800000#32) + Ideal.ofBits .f32 0x358637BD#32) * g (ix1 n) := by
  pointwise [normRef]
end Reference

/-! ## What the launch leaves, in the arguments -/

section Left
open Cert.KernelIdeal Cert.KernelIdeal.Gen
variable (m : (ℓ : Loc nD τ sig) → Buf (Elt Ideal) ℓ) (c : Dev nD)

/-- The arguments as arrays. -/
abbrev yaV : FVec Ideal S8x2048x512 .f32 := m ((c.tc : Thread nD τ).loc main_arg0)
abbrev ypV : FVec Ideal S8x2048x512 .f32 := m ((c.tc : Thread nD τ).loc main_arg1)
abbrev xV : FVec Ideal S8x2048x1024 .f32 := m ((c.tc : Thread nD τ).loc main_arg2)
abbrev woV : FVec Ideal S1024x1024 .f32 := m ((c.tc : Thread nD τ).loc main_arg3)
abbrev gV : FVec Ideal S1024 .f32 := m ((c.tc : Thread nD τ).loc main_arg4)

theorem V_v1 : V m c main_v1 = truncf .bf16 (transpose S8x512x2048 [0, 2, 1] (yaV m c) transposes_S8x2048x512_S8x512x2048_0_2_1) bitsLt_bf16_f32 := by
  unfold V; after_results
theorem V_v2 : V m c main_v2 = truncf .bf16 (ypV m c) bitsLt_bf16_f32 := by unfold V; after_results
theorem V_v3 : V m c main_v3 = truncf .bf16 (woV m c) bitsLt_bf16_f32 := by unfold V; after_results
theorem V_v4 : V m c main_v4 = broadcastInDim S1x1024 ![1] bcast_S1024_S1x1024_1 (gV m c) := by unfold V; after_results

/-- Position `r` of half `p % 2` of batch `p / 2`. -/
abbrev bOf (p : Fin 16) : Fin 8 := ⟨p.val / 2, by omega⟩
abbrev sOf (p : Fin 16) (r : Fin 1024) : Fin 2048 := ⟨1024 * (p.val % 2) + r.val, by omega⟩

theorem wordsY_at (p : Fin 16) (k : Fin 512) (r : Fin 1024) :
    wordsY c (V m c main_v1) p (ix3 0 k r) = yaV m c (ix3 (bOf p) (sOf p r) k) := by
  have h : wordsY c (V m c main_v1) p (ix3 0 k r) = (V m c main_v1 : FVec Ideal S8x512x2048 .bf16) (ix3 (bOf p) k (sOf p r)) := by
    show (V m c main_v1 : FVec Ideal S8x512x2048 .bf16) ((Rect.unit (s := S8x512x2048) (tOff p) S1x512x1024.size (inbY p)).emb (ix3 0 k r)) = _
    refine congrArg _ (funext fun a => Fin.ext ?_)
    fin_cases a
    · show p.val / 2 + 1 * 0 = p.val / 2; omega
    · show 0 + 1 * k.val = k.val; omega
    · show 1024 * (p.val % 2) + 1 * r.val = 1024 * (p.val % 2) + r.val; omega
  rw [h, V_v1]
  pointwise
theorem wordsP_at (p : Fin 16) (r : Fin 1024) (k : Fin 512) :
    wordsP c (V m c main_v2) p (ix3 0 r k) = ypV m c (ix3 (bOf p) (sOf p r) k) := by
  have h : wordsP c (V m c main_v2) p (ix3 0 r k) = (V m c main_v2 : FVec Ideal S8x2048x512 .bf16) (ix3 (bOf p) (sOf p r) k) := by
    show (V m c main_v2 : FVec Ideal S8x2048x512 .bf16) ((Rect.unit (s := S8x2048x512) (hOff p) S1x1024x512.size (inbP p)).emb (ix3 0 r k)) = _
    refine congrArg _ (funext fun a => Fin.ext ?_)
    fin_cases a
    · show p.val / 2 + 1 * 0 = p.val / 2; omega
    · show 1024 * (p.val % 2) + 1 * r.val = 1024 * (p.val % 2) + r.val; omega
    · show 0 + 1 * k.val = k.val; omega
  rw [h, V_v2]
  pointwise
theorem wordsX_at (p : Fin 16) (r n : Fin 1024) :
    wordsX c (V m c main_arg2) p (ix3 0 r n) = xV m c (ix3 (bOf p) (sOf p r) n) := by
  rw [V_main_arg2]
  show (xV m c) ((Rect.unit (s := S8x2048x1024) (hOff p) S1x1024x1024.size (inbX p)).emb (ix3 0 r n)) = _
  refine congrArg _ (funext fun a => Fin.ext ?_)
  fin_cases a
  · show p.val / 2 + 1 * 0 = p.val / 2; omega
  · show 1024 * (p.val % 2) + 1 * r.val = 1024 * (p.val % 2) + r.val; omega
  · show 0 + 1 * n.val = n.val; omega

theorem iblk0_at (k n : Fin 1024) : (iblk m c 0 t0 : FVec Ideal S1024x1024 .bf16) (ix2 k n) = woV m c (ix2 k n) := by
  have h : (iblk m c 0 t0 : FVec Ideal S1024x1024 .bf16) (ix2 k n) = (V m c main_v3 : FVec Ideal S1024x1024 .bf16) (ix2 k n) := by
    refine congrArg (V m c main_v3 : FVec Ideal S1024x1024 .bf16) (funext fun a => Fin.ext ?_)
    fin_cases a
    · show 0 + 1 * k.val = k.val; omega
    · show 0 + 1 * n.val = n.val; omega
  rw [h, V_v3]
  pointwise
theorem iblk1_at (n : Fin 1024) : (iblk m c 1 t0 : FVec Ideal S1x1024 .f32) (ix2 0 n) = gV m c (ix1 n) := by
  have h : (iblk m c 1 t0 : FVec Ideal S1x1024 .f32) (ix2 0 n) = (V m c main_v4 : FVec Ideal S1x1024 .f32) (ix2 0 n) := by
    refine congrArg (V m c main_v4 : FVec Ideal S1x1024 .f32) (funext fun a => Fin.ext ?_)
    fin_cases a
    · show 0 + 1 * 0 = 0; omega
    · show 0 + 1 * n.val = n.val; omega
  rw [h, V_v4]
  pointwise

theorem woTop_at (k : Fin 512) (n : Fin 1024) :
    woTop c (st0 t0) ((st0 t0).view.rep (iblk m c 0 t0)) (ix2 k n) = woV m c (ix2 (⟨k.val, by omega⟩ : Fin 1024) n) := by
  unfold woTop
  rw [View.readAt_rep, ← iblk0_at]
  refine congrArg (iblk m c 0 t0) (funext fun a => Fin.ext ?_)
  fin_cases a
  · show 0 + 1 * k.val = k.val; omega
  · show 0 + 1 * n.val = n.val; omega
theorem woBot_at (k : Fin 512) (n : Fin 1024) :
    woBot c (st0 t0) ((st0 t0).view.rep (iblk m c 0 t0)) (ix2 k n) = woV m c (ix2 (⟨512 + k.val, by omega⟩ : Fin 1024) n) := by
  unfold woBot
  rw [View.readAt_rep, ← iblk0_at]
  refine congrArg (iblk m c 0 t0) (funext fun a => Fin.ext ?_)
  fin_cases a
  · show 512 + 1 * k.val = 512 + k.val; omega
  · show 0 + 1 * n.val = n.val; omega
theorem gRow_at (n : Fin 1024) :
    gRow c (st1 t0) ((st1 t0).view.rep (iblk m c 1 t0)) (ix2 0 n) = gV m c (ix1 n) := by
  unfold gRow
  rw [View.readAt_rep, ← iblk1_at]
  refine congrArg (iblk m c 1 t0) (funext fun a => Fin.ext ?_)
  fin_cases a
  · show 0 + 1 * 0 = 0; omega
  · show 0 + 1 * n.val = n.val; omega

/-- A tile, element by element: the plain formula at its place. -/
theorem tile_at (p : Fin 16) (r n : Fin 1024) :
    tile c (V m c main_v1) (V m c main_v2) (V m c main_arg2) (st0 t0) (st1 t0) ((st0 t0).view.rep (iblk m c 0 t0)) ((st1 t0).view.rep (iblk m c 1 t0)) p (ix3 0 r n)
      = normRef (mixRef (yaV m c) (ypV m c) (woV m c)) (xV m c) (gV m c) (ix3 (bOf p) (sOf p r) n) := by
  have e (n : Fin 1024) : k0_pay1 (wordsY c (V m c main_v1) p) (woTop c (st0 t0) ((st0 t0).view.rep (iblk m c 0 t0))) (ix2 r n)
      + k0_pay2 (wordsP c (V m c main_v2) p) (woBot c (st0 t0) ((st0 t0).view.rep (iblk m c 0 t0))) (ix2 r n)
      = mixRef (yaV m c) (ypV m c) (woV m c) (ix3 (bOf p) (sOf p r) n) := by
    rw [pay1_at, pay2_at, mixRef_sum]
    exact congrArg₂ _ (Finset.sum_congr rfl fun k _ => congrArg₂ _ (wordsY_at m c p k r) (woTop_at m c k n))
      (Finset.sum_congr rfl fun k _ => congrArg₂ _ (wordsP_at m c p r k) (woBot_at m c k n))
  unfold tile tileOf
  rw [pay3_at, normRef_at]
  simp only [e]
  rw [wordsX_at, gRow_at]

theorem outV_eq : outV m c = normRef (mixRef (yaV m c) (ypV m c) (woV m c)) (xV m c) (gV m c) := by
  funext i
  obtain ⟨b, s, n, rfl⟩ : ∃ (b : Fin 8) (s : Fin 2048) (n : Fin 1024), i = ix3 b s n := ⟨i 0, i 1, i 2, ValueIdx.eq_ix3 i⟩
  have e : inBlock (ix3 b s n) = ix3 (0 : Fin 1) (⟨s.val % 1024, by omega⟩ : Fin 1024) n := by
    funext a; fin_cases a <;> rfl
  show tile c (V m c main_v1) (V m c main_v2) (V m c main_arg2) (st0 t0) (st1 t0) _ _ (blockOf (ix3 b s n)) (inBlock (ix3 b s n)) = _
  rw [e, tile_at]
  refine congrArg _ ?_
  have hb : bOf (blockOf (ix3 b s n)) = b := Fin.ext (by show (2 * b.val + s.val / 1024) / 2 = b.val; omega)
  have hs : sOf (blockOf (ix3 b s n)) ⟨s.val % 1024, by omega⟩ = s :=
    Fin.ext (by show 1024 * ((2 * b.val + s.val / 1024) % 2) + s.val % 1024 = s.val; omega)
  rw [hb, hs]
end Left

/-! ## The claims -/

/-- The reference leaves its arguments as they were; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both leave the plain formula of the arguments in their result. -/
theorem same_value : Cert.algebraic_KernelIdeal_ReferenceIdeal := fun m ρ m' ρ' _ h => by
  refine ⟨outV m, (θ_run Cert.KernelIdeal.defs _ _).mono (fun _ hh c => ?_) (run_main m ρ),
    (θ_run Cert.ReferenceIdeal.defs _ _).mono (fun _ hh c => ⟨(hh c).1.trans ?_, (hh c).2⟩) (Cert.ReferenceIdeal.Value.run (F := Ideal) m' ρ')⟩
  · have q := hh.1 c
    exact ⟨q.2.2.2.2.2, q.1, q.2.1, q.2.2.1, q.2.2.2.1, q.2.2.2.2.1⟩
  · obtain ⟨e0, e1, e2, e3, e4⟩ := h c
    rw [outV_eq, e0, e1, e2, e3, e4]
    rfl

end Cert.Proof.MixOut

end
-- ==== Proof.ConvFfn.Point.lean ====
/-
  One grid point of the convolutional feed-forward call: what it writes to the output's block and what it leaves in the
  carried rows, as functions of the point's blocks and of the rows carried in. The eleven column chunks are one function
  of the chunk's number.
-/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.ConvFfn

open Idealize.ShloMosaic Idealize.ShloMosaic.TcCoe Idealize.ShloMosaic.Tactic
open Cert.Kernel2Ideal Cert.Kernel2Ideal.Gen

variable {F : FTy → Type} [FloatOps F]

/-! ## Reading back what was stored piece by piece -/

section Pieces
variable {s : Shape} {e : EltTy} {Val : EltTy → Type}

/-- Blocks `n - 1`, …, `0` of a function stored one over another, the last first. -/
def blocks (N : ℕ) (r : Fin N → Rect s) (w : (k : Fin N) → (r k).shape.Idx → Val e) : (n : ℕ) → n ≤ N → List (View.Piece Val s e)
  | 0, _ => []
  | n + 1, h => ⟨r ⟨n, h⟩, w ⟨n, h⟩⟩ :: blocks N r w n (Nat.le_of_succ_le h)

theorem blocks_of {N : ℕ} {r : Fin N → Rect s} {w : (k : Fin N) → (r k).shape.Idx → Val e} (G : s.Idx → Val e) (hG : ∀ k x, w k x = G ((r k).emb x)) :
    ∀ (n : ℕ) (h : n ≤ N), View.PiecesOf G (blocks N r w n h)
  | 0, _ => trivial
  | n + 1, h => ⟨hG _, blocks_of G hG n _⟩

theorem mem_blocks {N : ℕ} {r : Fin N → Rect s} {w : (k : Fin N) → (r k).shape.Idx → Val e} :
    ∀ (n : ℕ) (h : n ≤ N) (k : Fin N), k.val < n → ⟨r k, w k⟩ ∈ blocks N r w n h
  | 0, _, _, hk => absurd hk (Nat.not_lt_zero _)
  | n + 1, h, k, hk => by
    rcases Nat.lt_succ_iff_lt_or_eq.mp hk with hk | rfl
    · exact List.mem_cons_of_mem _ (mem_blocks n _ k hk)
    · exact List.mem_cons_self

/-- Blocks of one function that cover it leave it, whatever was stored before them. -/
theorem canon_blocks [∀ e, Nonempty (Val e)] {N : ℕ} {r : Fin N → Rect s} {w : (k : Fin N) → (r k).shape.Idx → Val e} (G : s.Idx → Val e)
    (hG : ∀ k x, w k x = G ((r k).emb x)) (hc : ∀ y, ∃ k, y ∈ (r k).set) (L : List (View.Piece Val s e)) :
    View.canon (blocks N r w N le_rfl ++ L) = G := by
  funext y
  obtain ⟨k, hk⟩ := hc y
  exact View.canon_append_of_piecesOf G L _ (blocks_of G hG _ _) y ⟨_, mem_blocks N _ k k.isLt, hk⟩
end Pieces

/-- Rows of a tile moved down by `back`, the first `back` of them from the eight rows kept of the tile above. -/
def shifted (back : ℕ) (kept : Vec F S8x512 .f32) (a : Vec F S512x512 .f32) : Vec F S512x512 .f32 := fun x =>
  if h : (x 0).val < back then kept (ix2 ⟨(x 0).val + 8 - back, by omega⟩ ⟨(x 1).val, (x 1).isLt⟩)
  else a (ix2 ⟨(x 0).val - back, Nat.lt_of_le_of_lt (Nat.sub_le _ _) (x 0).isLt⟩ ⟨(x 1).val, (x 1).isLt⟩)

theorem readCov_shifted {sig : RefSig} {κ : Kind} {sp : Space} (v : View sig κ sp S520x512 .f32) (o : ℕ) (a : Vec F S512x512 .f32) (kept : Vec F S8x512 .f32)
    (L : List (View.Piece (Elt F) S520x512 .f32))
    (i₁ : ∀ b, (![8, 0] : Fin 2 → ℕ) b + (![512, 512] : Fin 2 → ℕ) b ≤ S520x512.size b)
    (i₂ : ∀ b, (![0, 0] : Fin 2 → ℕ) b + (![8, 512] : Fin 2 → ℕ) b ≤ S520x512.size b)
    (i₃ : ∀ b, (![o, 0] : Fin 2 → ℕ) b + (![512, 512] : Fin 2 → ℕ) b ≤ S520x512.size b) :
    v.readCov (⟨Rect.unit (s := S520x512) ![8, 0] ![512, 512] i₁, a⟩ :: ⟨Rect.unit (s := S520x512) ![0, 0] ![8, 512] i₂, kept⟩ :: L)
      (Rect.unit (s := S520x512) ![o, 0] ![512, 512] i₃).toLoadRect = shifted (8 - o) kept a := by
  have ho : o + 512 ≤ 520 := i₃ 0
  rw [View.readCov_eq_canon']
  funext x
  have hx0 : (x 0).val < 512 := (x 0).isLt
  by_cases h : (x 0).val < 8 - o
  · rw [shifted, dif_pos h, View.canon_cons_of_not_mem]
    · exact (congrArg _ (funext fun b => Fin.ext (by fin_cases b <;> simp <;> omega))).trans (View.canon_cons_emb (Val := Elt F) _ _ _ _)
    · intro hm
      have h0 := (Rect.mem_set_unit (inb := i₁)).mp hm 0
      simp at h0
      omega
  · rw [shifted, dif_neg h]
    exact (congrArg _ (funext fun b => Fin.ext (by fin_cases b <;> simp <;> omega))).trans (View.canon_cons_emb (Val := Elt F) _ _ _ _)

/-! ## The chunks -/

section Chunks
variable (h : Vec F S512x1024 .bf16) (wup : Vec F S1024x5632 .bf16) (cw : Vec F S3x5632 .f32) (cb : Vec F S1x5632 .f32) (kept : Vec F S11x8x512 .f32) (k : Fin 11)

/-- Chunk `k`'s columns: 256 of the gate's, and the same 256 of the value's. -/
theorem inb_gate {n r : ℕ} (o : ℕ) (ho : o + r ≤ n) : ∀ b, (![o, k.val * 256] : Fin 2 → ℕ) b + (![r, 256] : Fin 2 → ℕ) b ≤ (![n, 5632] : Fin 2 → ℕ) b := by
  intro b; have := k.isLt; fin_cases b <;> simp <;> omega
theorem inb_val {n r : ℕ} (o : ℕ) (ho : o + r ≤ n) : ∀ b, (![o, k.val * 256 + 2816] : Fin 2 → ℕ) b + (![r, 256] : Fin 2 → ℕ) b ≤ (![n, 5632] : Fin 2 → ℕ) b := by
  intro b; have := k.isLt; fin_cases b <;> simp <;> omega
theorem inb_kept : ∀ b, (![k.val, 0, 0] : Fin 3 → ℕ) b + (![1, 8, 512] : Fin 3 → ℕ) b ≤ S11x8x512.size b := by
  intro b; have := k.isLt; fin_cases b <;> simp [S11x8x512] <;> omega
theorem inb_z : ∀ b, (![0, k.val * 256] : Fin 2 → ℕ) b + (![512, 256] : Fin 2 → ℕ) b ≤ S512x2816.size b := by
  intro b; have := k.isLt; fin_cases b <;> simp [S512x2816] <;> omega

def wGate : Vec F S1024x256 .bf16 := View.ld wup (Rect.unit (s := S1024x5632) ![0, k.val * 256] ![1024, 256] (inb_gate k 0 (by omega)))
def wVal : Vec F S1024x256 .bf16 := View.ld wup (Rect.unit (s := S1024x5632) ![0, k.val * 256 + 2816] ![1024, 256] (inb_val k 0 (by omega)))
def tapGate (j : Fin 3) : Vec F S1x256 .f32 := View.ld cw (Rect.unit (s := S3x5632) ![j.val, k.val * 256] ![1, 256] (inb_gate k j.val (by omega)))
def tapVal (j : Fin 3) : Vec F S1x256 .f32 := View.ld cw (Rect.unit (s := S3x5632) ![j.val, k.val * 256 + 2816] ![1, 256] (inb_val k j.val (by omega)))
def biasGate : Vec F S1x256 .f32 := View.ld cb (Rect.unit (s := S1x5632) ![0, k.val * 256] ![1, 256] (inb_gate k 0 (by omega)))
def biasVal : Vec F S1x256 .f32 := View.ld cb (Rect.unit (s := S1x5632) ![0, k.val * 256 + 2816] ![1, 256] (inb_val k 0 (by omega)))

/-- The projection of the tile's normed rows to the chunk's columns, -/
def proj : FVec F S512x512 .f32 := k0_pay13 h (wGate wup k) (wVal wup k)
/-- its rows moved down by `back`, -/
def projBack (back : ℕ) : Vec F S512x512 .f32 :=
  shifted back (k0_pay14 (View.ld kept (Rect.unit (s := S11x8x512) ![k.val, 0, 0] ![1, 8, 512] (inb_kept k)))) (k0_pay15 (proj h wup k))
/-- the gated activations of the chunk, -/
def gated : FVec F S512x256 .bf16 :=
  k0_pay18 k0_pay4
    (k0_pay17 k0_pay4 (proj h wup k) (tapGate cw k 2) (tapVal cw k 2) (biasGate cb k) (biasVal cb k) (projBack h wup kept k 1) (tapGate cw k 1) (tapVal cw k 1))
    (projBack h wup kept k 2) (tapGate cw k 0) (tapVal cw k 0)
/-- and the rows it keeps. -/
def keptRows : FVec F S1x8x512 .f32 := k0_pay16 (proj h wup k)
end Chunks

/-- The gated activations of all the chunks, side by side. -/
def gatedAll (h : Vec F S512x1024 .bf16) (wup : Vec F S1024x5632 .bf16) (cw : Vec F S3x5632 .f32) (cb : Vec F S1x5632 .f32) (kept : Vec F S11x8x512 .f32) :
    Vec F S512x2816 .bf16 := fun y =>
  gated h wup cw cb kept ⟨(y 1).val / 256, by have : (y 1).val < 2816 := (y 1).isLt; omega⟩
    (ix2 ⟨(y 0).val, (y 0).isLt⟩ ⟨(y 1).val % 256, Nat.mod_lt _ (by omega)⟩)

/-- The kept rows of all the chunks. -/
def keptAll (h : Vec F S512x1024 .bf16) (wup : Vec F S1024x5632 .bf16) : Vec F S11x8x512 .f32 := fun y =>
  keptRows h wup ⟨(y 0).val, (y 0).isLt⟩ (ix3 0 ⟨(y 1).val, (y 1).isLt⟩ ⟨(y 2).val, (y 2).isLt⟩)

/-- The tile of the output. -/
def tileOut (x : Vec F S1x512x1024 .f32) (gpre : Vec F S1x1024 .f32) (wup : Vec F S1024x5632 .bf16) (cw : Vec F S3x5632 .f32) (cb : Vec F S1x5632 .f32)
    (wd : Vec F S2816x1024 .bf16) (gpost : Vec F S1x1024 .f32) (kept : Vec F S11x8x512 .f32) : FVec F S1x512x1024 .f32 :=
  k0_pay1 (k0_pay83 (gatedAll (k0_pay3 x gpre) wup cw cb kept) wd) (k0_pay84 x) (k0_pay85 (gatedAll (k0_pay3 x gpre) wup cw cb kept) wd) gpost

theorem gated_block (h : Vec F S512x1024 .bf16) (wup : Vec F S1024x5632 .bf16) (cw : Vec F S3x5632 .f32) (cb : Vec F S1x5632 .f32) (kept : Vec F S11x8x512 .f32)
    (k : Fin 11) (x : S512x256.Idx) :
    gated h wup cw cb kept k x = gatedAll h wup cw cb kept ((Rect.unit (s := S512x2816) ![0, k.val * 256] ![512, 256] (inb_z k)).emb x) := by
  have h1 : (x 1).val < 256 := (x 1).isLt
  have e : ((Rect.unit (s := S512x2816) ![0, k.val * 256] ![512, 256] (inb_z k)).emb x 1).val = k.val * 256 + (x 1).val := by simp
  have e0 : ((Rect.unit (s := S512x2816) ![0, k.val * 256] ![512, 256] (inb_z k)).emb x 0).val = (x 0).val := by simp
  unfold gatedAll
  have hk : ∀ h, (⟨((Rect.unit (s := S512x2816) ![0, k.val * 256] ![512, 256] (inb_z k)).emb x 1).val / 256, h⟩ : Fin 11) = k := fun h => Fin.ext (by simp only [e]; omega)
  rw [hk]
  refine congrArg _ (funext fun b => Fin.ext ?_)
  fin_cases b
  · exact e0.symm
  · show (x 1).val = _ % 256
    rw [e]; omega

theorem kept_block (h : Vec F S512x1024 .bf16) (wup : Vec F S1024x5632 .bf16) (k : Fin 11) (x : S1x8x512.Idx) :
    keptRows h wup k x = keptAll h wup ((Rect.unit (s := S11x8x512) ![k.val, 0, 0] ![1, 8, 512] (inb_kept k)).emb x) := by
  have h0 : (x 0).val < 1 := (x 0).isLt
  have e (b : Fin 3) : ((Rect.unit (s := S11x8x512) ![k.val, 0, 0] ![1, 8, 512] (inb_kept k)).emb x b).val = (![k.val, 0, 0] : Fin 3 → ℕ) b + (x b).val := by simp
  unfold keptAll
  refine congrArg₂ (fun k' y => keptRows h wup k' y) (Fin.ext ?_) (funext fun b => Fin.ext ?_)
  · rw [e]; show k.val = k.val + (x 0).val; omega
  fin_cases b
  · show (x 0).val = 0; omega
  · exact (Nat.zero_add _).symm.trans (e 1).symm
  · exact (Nat.zero_add _).symm.trans (e 2).symm

/-- The chunks' stores into the array of gated activations, read back. -/
theorem canon_gated (h : Vec F S512x1024 .bf16) (wup : Vec F S1024x5632 .bf16) (cw : Vec F S3x5632 .f32) (cb : Vec F S1x5632 .f32) (kept : Vec F S11x8x512 .f32)
    (L : List (View.Piece (Elt F) S512x2816 .bf16)) :
    View.canon (blocks 11 (fun k => Rect.unit (s := S512x2816) ![0, k.val * 256] ![512, 256] (inb_z k)) (gated h wup cw cb kept) 11 le_rfl ++ L)
      = gatedAll h wup cw cb kept := by
  refine canon_blocks _ (gated_block h wup cw cb kept) (fun y => ?_) L
  have h0 : (y 0).val < 512 := (y 0).isLt
  have h1 : (y 1).val < 2816 := (y 1).isLt
  refine ⟨⟨(y 1).val / 256, by omega⟩, Rect.mem_set_unit.mpr fun a => ?_⟩
  fin_cases a
  · show 0 ≤ (y 0).val ∧ (y 0).val < 0 + 512; omega
  · show (y 1).val / 256 * 256 ≤ (y 1).val ∧ (y 1).val < (y 1).val / 256 * 256 + 256; omega

/-- The chunks' stores into the array of kept rows, read back. -/
theorem canon_kept (h : Vec F S512x1024 .bf16) (wup : Vec F S1024x5632 .bf16) (L : List (View.Piece (Elt F) S11x8x512 .f32)) :
    View.canon (blocks 11 (fun k => Rect.unit (s := S11x8x512) ![k.val, 0, 0] ![1, 8, 512] (inb_kept k)) (keptRows h wup) 11 le_rfl ++ L)
      = keptAll h wup := by
  refine canon_blocks _ (kept_block h wup) (fun y => ?_) L
  have h1 : (y 1).val < 8 := (y 1).isLt
  have h2 : (y 2).val < 512 := (y 2).isLt
  refine ⟨⟨(y 0).val, (y 0).isLt⟩, Rect.mem_set_unit.mpr fun a => ?_⟩
  fin_cases a
  · show (y 0).val ≤ (y 0).val ∧ (y 0).val < (y 0).val + 1; omega
  · show 0 ≤ (y 1).val ∧ (y 1).val < 0 + 8; omega
  · show 0 ≤ (y 2).val ∧ (y 2).val < 0 + 512; omega

theorem tileOut_of_stores {sig : RefSig} {κ : Kind} {sp : Space} (v : View sig κ sp S512x2816 .bf16) (x : Vec F S1x512x1024 .f32) (gpre : Vec F S1x1024 .f32)
    (wup : Vec F S1024x5632 .bf16) (cw : Vec F S3x5632 .f32) (cb : Vec F S1x5632 .f32)
    (wd : Vec F S2816x1024 .bf16) (gpost : Vec F S1x1024 .f32) (kept : Vec F S11x8x512 .f32) (L : List (View.Piece (Elt F) S512x2816 .bf16))
    (hL : L = blocks 11 (fun k => Rect.unit (s := S512x2816) ![0, k.val * 256] ![512, 256] (inb_z k)) (gated (k0_pay3 x gpre) wup cw cb kept) 11 le_rfl ++ [])
    (inb : ∀ b, (![0, 0] : Fin 2 → ℕ) b + (![512, 2816] : Fin 2 → ℕ) b ≤ S512x2816.size b) :
    k0_pay1 (k0_pay83 (v.readCov L (Rect.unit (s := S512x2816) ![0, 0] ![512, 2816] inb).toLoadRect) wd) (k0_pay84 x)
      (k0_pay85 (v.readCov L (Rect.unit (s := S512x2816) ![0, 0] ![512, 2816] inb).toLoadRect) wd) gpost = tileOut x gpre wup cw cb wd gpost kept := by
  have e : v.readCov L (Rect.unit (s := S512x2816) ![0, 0] ![512, 2816] inb).toLoadRect = gatedAll (k0_pay3 x gpre) wup cw cb kept := by
    rw [View.readCov_eq_canon', hL, canon_gated]
    exact funext fun j => congrArg _ (funext fun b => Fin.ext (by fin_cases b <;> simp))
  rw [e]; rfl

variable (m : (ℓ : Loc nD τ sig) → Buf (Elt F) ℓ)

set_option maxHeartbeats 2000000 in
/-- At a batch's first tile the rows carried in are the zeros just stored. -/
theorem out_first (c : Dev nD) (t : Fin cfg0.N) (h0 : t.val % 4 = 0) :
    outsAt0 m c t.val t.isLt
      = (tileOut (iblk m c 0 t) (iblk m c 1 t) (iblk m c 2 t) (iblk m c 3 t) (iblk m c 4 t) (iblk m c 5 t) (iblk m c 6 t) k0_pay2,
        keptAll (k0_pay3 (iblk m c 0 t) (iblk m c 1 t)) (iblk m c 2 t)) := by
  rw [outsAt0_A m c t h0]
  refine Prod.ext ?_ ?_
  · frame_open
    simp (disch := decide) only [↓ View.readCov_skip, ↓ View.readCov_cons_toLoadRect, ↓ View.readCov_fill]
    frame_out
    simp only [readCov_shifted]
    exact tileOut_of_stores _ _ _ _ _ _ _ _ _ _ rfl _
  · frame_open
    simp (disch := decide) only [↓ View.readCov_skip, ↓ View.readCov_cons_toLoadRect, ↓ View.readCov_fill]
    frame_out
    exact canon_kept (F := F) _ _ [_]

set_option maxHeartbeats 2000000 in
/-- At a later tile they are the ones the tile before left. -/
theorem out_next (c : Dev nD) (t : Fin cfg0.N) (h0 : ¬t.val % 4 = 0) :
    outsAt0 m c t.val t.isLt
      = (tileOut (iblk m c 0 t) (iblk m c 1 t) (iblk m c 2 t) (iblk m c 3 t) (iblk m c 4 t) (iblk m c 5 t) (iblk m c 6 t)
          (outsAt0 m c (t.val - 1) (Nat.lt_of_le_of_lt (Nat.sub_le _ _) t.isLt)).2,
        keptAll (k0_pay3 (iblk m c 0 t) (iblk m c 1 t)) (iblk m c 2 t)) := by
  rw [outsAt0_B m c t h0]
  generalize (outsAt0 m c (t.val - 1) (Nat.lt_of_le_of_lt (Nat.sub_le _ _) t.isLt)).2 = kept
  refine Prod.ext ?_ ?_
  · frame_open
    simp (disch := decide) only [↓ View.readCov_skip, ↓ View.readCov_cons_toLoadRect, ↓ View.readCov_fill]
    frame_out
    simp only [read_unread_whole, readCov_shifted]
    exact tileOut_of_stores _ _ _ _ _ _ _ _ _ _ rfl _
  · frame_open
    simp (disch := decide) only [↓ View.readCov_skip, ↓ View.readCov_cons_toLoadRect, ↓ View.readCov_fill]
    frame_out
    exact canon_kept (F := F) _ _ []

end Cert.Proof.ConvFfn
-- ==== Proof.ConvFfn.Scalars.lean ====
/-
  Facts of extended reals the layer's value needs: what stays a real number, and the gate's two forms.
-/
module

public import Idealize.ShloMosaic.Lib.Pointwise

@[expose] public section

noncomputable section

namespace Cert.Proof.ConvFfn

open Idealize.ShloMosaic
open scoped BigOperators

/-- The mean square of a row of 1024 with the norm's small constant added. -/
def meanSq (a : Fin 1024 → EReal) : EReal :=
  Ideal.div (∑ k : Fin 1024, a k * a k) (Ideal.ofBits .f32 0x44800000#32) + Ideal.ofBits .f32 0x358637BD#32

/-- The value is a real number, no infinity. -/
def IsReal (a : EReal) : Prop := ∃ r : ℝ, a = r

theorem isReal_mul {a b : EReal} : IsReal a → IsReal b → IsReal (a * b) := by
  rintro ⟨r, rfl⟩ ⟨s, rfl⟩; exact ⟨r * s, (EReal.coe_mul r s).symm⟩
theorem isReal_add {a b : EReal} : IsReal a → IsReal b → IsReal (a + b) := by
  rintro ⟨r, rfl⟩ ⟨s, rfl⟩; exact ⟨r + s, (EReal.coe_add r s).symm⟩
theorem isReal_zero : IsReal 0 := ⟨0, rfl⟩
theorem isReal_sum {n : ℕ} {f : Fin n → EReal} (h : ∀ k, IsReal (f k)) : IsReal (∑ k, f k) :=
  Finset.sum_induction f IsReal (fun _ _ => isReal_add) isReal_zero fun k _ => h k

/-- A value whose absolute value is below the infinity is a real number. -/
theorem isReal_of_abs_lt {a : EReal} (h : Ideal.cmp .olt (max a (-a)) ⊤ = 1#1) : IsReal a := by
  induction a with
  | bot => simp [Ideal.cmp] at h
  | top => simp [Ideal.cmp] at h
  | coe r => exact ⟨r, rfl⟩

theorem ofBits_half : Ideal.ofBits .f32 0x3F000000#32 = ((1 / 2 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_eps : ∃ e : ℝ, 0 < e ∧ Ideal.ofBits .f32 0x358637BD#32 = (e : EReal) := by
  refine ⟨(2 ^ 23 + 407485) * 2 ^ (-43 : ℤ), by positivity, ?_⟩
  simp [Ideal.ofBits, Ideal.ieee, -EReal.coe_mul]; norm_num

/-- The scale of a half, carried by each tap, comes out of the sum of the taps. -/
theorem half_taps (a b1 b2 w2 w1 w0 c : EReal) :
    a * (w2 * ((1 / 2 : ℝ) : EReal)) + c * ((1 / 2 : ℝ) : EReal) + b1 * (w1 * ((1 / 2 : ℝ) : EReal)) + b2 * (w0 * ((1 / 2 : ℝ) : EReal))
      = ((1 / 2 : ℝ) : EReal) * (b2 * w0 + b1 * w1 + a * w2 + c) := by
  have p : (0 : EReal) ≤ ((1 / 2 : ℝ) : EReal) := by exact_mod_cast (by norm_num : (0 : ℝ) ≤ 1 / 2)
  have t : ((1 / 2 : ℝ) : EReal) ≠ ⊤ := EReal.coe_ne_top _
  rw [EReal.left_distrib_of_nonneg_of_ne_top p t, EReal.left_distrib_of_nonneg_of_ne_top p t, EReal.left_distrib_of_nonneg_of_ne_top p t]
  simp only [mul_comm, mul_left_comm, mul_assoc]
  abel

/-- A normed entry is a real number, whatever the row holds: an infinity in the row makes the factor zero. -/
theorem isReal_normed (a : Fin 1024 → EReal) (d : Fin 1024) : IsReal (a d * Ideal.rsqrt (meanSq a)) := by
  obtain ⟨e, he, h⟩ := ofBits_eps
  have sq (k : Fin 1024) : 0 ≤ a k * a k := by
    induction a k with
    | bot => simp
    | top => simp
    | coe r => exact_mod_cast mul_self_nonneg r
  unfold meanSq
  rw [h, ofBits_1024, Ideal.div, if_neg (by exact_mod_cast (by norm_num : (1024 : ℝ) ≠ 0)), ← EReal.coe_inv]
  have nonneg : 0 ≤ ∑ k, a k * a k := Finset.sum_nonneg fun k _ => sq k
  have le : a d * a d ≤ ∑ k, a k * a k := Finset.single_le_sum (f := fun k => a k * a k) (fun k _ => sq k) (Finset.mem_univ d)
  generalize hs : ∑ k, a k * a k = s at nonneg le
  induction s with
  | bot => simp at nonneg
  | top =>
    rw [EReal.top_mul_coe_of_pos (by positivity), EReal.top_add_coe]
    exact ⟨0, by show a d * 0 = _; simp⟩
  | coe s =>
    have hs0 : 0 ≤ s := by exact_mod_cast nonneg
    refine isReal_mul ?_ ?_
    · induction ha : a d with
      | bot => rw [ha] at le; simp at le
      | top => rw [ha] at le; simp at le
      | coe r => exact ⟨r, rfl⟩
    · rw [← EReal.coe_mul, ← EReal.coe_add]
      have p : 0 < s * 1024⁻¹ + e := by positivity
      exact ⟨(Real.sqrt (s * 1024⁻¹ + e))⁻¹, by show (if _ then _ else if _ then _ else _ : EReal) = _; rw [if_neg p.le.not_gt, if_neg p.ne']⟩

/-- The gate's half-angle form is the plain one, on the real numbers. -/
theorem gate_eq (g : ℝ) :
    (((1 / 2 : ℝ) : EReal) * g) + (((1 / 2 : ℝ) : EReal) * g) * Ideal.tanh (((1 / 2 : ℝ) : EReal) * g)
      = g * Ideal.div 1 (1 + Ideal.exp (-(g : EReal))) := by
  have e1 : Ideal.exp (-(g : EReal)) = ((Real.exp (-g) : ℝ) : EReal) := rfl
  have e2 : Ideal.tanh (((1 / 2 : ℝ) : EReal) * g) = ((Real.tanh (1 / 2 * g) : ℝ) : EReal) := rfl
  have p : 0 < 1 + Real.exp (-g) := by positivity
  have e3 : Ideal.div ((1 : ℝ) : EReal) (((1 : ℝ) : EReal) + ((Real.exp (-g) : ℝ) : EReal)) = (((1 + Real.exp (-g))⁻¹ : ℝ) : EReal) := by
    rw [← EReal.coe_add, Ideal.div, if_neg (by exact_mod_cast p.ne'), EReal.coe_one, one_mul, EReal.coe_inv]
  rw [e1, e2, ← EReal.coe_one, e3, ← EReal.coe_mul, ← EReal.coe_mul, ← EReal.coe_add, ← EReal.coe_mul]
  refine congrArg _ ?_
  have q : Real.exp (-g) = Real.exp (-(1 / 2 * g)) * Real.exp (-(1 / 2 * g)) := by rw [← Real.exp_add]; ring_nf
  rw [Real.tanh_eq_sinh_div_cosh, Real.sinh_eq, Real.cosh_eq, q, Real.exp_neg]
  have := Real.exp_pos (1 / 2 * g)
  field_simp
  ring

end Cert.Proof.ConvFfn

end
-- ==== Proof.ConvFfn.Tile.lean ====
/-
  What a tile's step computes, read at an element.
-/
module

public import proofs.«01_k».proof.Proof.ConvFfn.Point
public import proofs.«01_k».proof.Proof.ConvFfn.Scalars
public import Idealize.ShloMosaic.Lib.Pointwise
public import Idealize.ShloMosaic.Lib.Pipeline.Value
public import Idealize.ShloMosaic.Lib.WordCmp

@[expose] public section

noncomputable section

namespace Cert.Proof.ConvFfn

open Idealize.ShloMosaic Idealize.SL.Sem Idealize.ShloMosaic.TcCoe
open Cert.Kernel2Ideal Cert.Kernel2Ideal.Gen
open scoped BigOperators

/-! ## The operations at an element -/

theorem pay1_at (f x : FVec Ideal S512x1024 .f32) (s : FVec Ideal S512x1 .f32) (g : Vec Ideal S1x1024 .f32) (r : Fin 512) (n : Fin 1024) :
    k0_pay1 f x s g (ix3 0 r n) = x (ix2 r n) + f (ix2 r n) * Ideal.rsqrt (s (ix2 r 0)) * g (ix2 0 n) := by
  pointwise [k0_pay1]
theorem pay2_at (i : S11x8x512.Idx) : (k0_pay2 : FVec Ideal S11x8x512 .f32) i = 0 := by
  pointwise [k0_pay2]
theorem pay3_at (x : Vec Ideal S1x512x1024 .f32) (g : Vec Ideal S1x1024 .f32) (r : Fin 512) (d : Fin 1024) :
    k0_pay3 x g (ix2 r d) = x (ix3 0 r d) * Ideal.rsqrt (meanSq fun k => x (ix3 0 r k)) * g (ix2 0 d) := by
  unfold meanSq
  pointwise [k0_pay3]
theorem pay13_gate (h : Vec Ideal S512x1024 .bf16) (u v : Vec Ideal S1024x256 .bf16) (r : Fin 512) (j : Fin 256) :
    k0_pay13 h u v (ix2 r ⟨j.val, by omega⟩) = ∑ d : Fin 1024, h (ix2 r d) * u (ix2 d j) := by
  pointwise [k0_pay13]
theorem pay13_val (h : Vec Ideal S512x1024 .bf16) (u v : Vec Ideal S1024x256 .bf16) (r : Fin 512) (j : Fin 256) :
    k0_pay13 h u v (ix2 r ⟨256 + j.val, by omega⟩) = ∑ d : Fin 1024, h (ix2 r d) * v (ix2 d j) := by
  pointwise [k0_pay13]
theorem pay14_at (a : Vec Ideal S1x8x512 .f32) (i : Fin 8) (j : Fin 512) : k0_pay14 a (ix2 i j) = a (ix3 0 i j) := by
  pointwise [k0_pay14]
theorem pay15_at (a : FVec Ideal S512x512 .f32) (r j : Fin 512) : k0_pay15 a (ix2 r j) = a (ix2 r j) := by
  pointwise [k0_pay15]
theorem pay16_at (a : FVec Ideal S512x512 .f32) (i : Fin 8) (j : Fin 512) : k0_pay16 a (ix3 0 i j) = a (ix2 ⟨504 + i.val, by omega⟩ j) := by
  pointwise [k0_pay16]
theorem pay83_at (z : Vec Ideal S512x2816 .bf16) (w : Vec Ideal S2816x1024 .bf16) (r : Fin 512) (n : Fin 1024) :
    k0_pay83 z w (ix2 r n) = ∑ j : Fin 2816, z (ix2 r j) * w (ix2 j n) := by
  pointwise [k0_pay83]
theorem pay84_at (x : Vec Ideal S1x512x1024 .f32) (r : Fin 512) (n : Fin 1024) : k0_pay84 x (ix2 r n) = x (ix3 0 r n) := by
  pointwise [k0_pay84]
theorem pay85_at (z : Vec Ideal S512x2816 .bf16) (w : Vec Ideal S2816x1024 .bf16) (r : Fin 512) :
    k0_pay85 z w (ix2 r 0) = meanSq fun k => k0_pay83 z w (ix2 r k) := by
  unfold meanSq
  pointwise [k0_pay85]

/-- The chunk's scale: a half on the gate's columns, -/
theorem pay4_gate (j : Fin 256) : (k0_pay4 : FVec Ideal S1x512 .f32) (ix2 0 ⟨j.val, by omega⟩) = Ideal.ofBits .f32 0x3F000000#32 := by
  pointwise [k0_pay4]
  exact if_pos ((WordCmp.cmpi_slt_ofNat_eq_one_iff (by omega) (by norm_num)).mpr j.isLt)
/-- one on the value's. -/
theorem pay4_val (j : Fin 256) : (k0_pay4 : FVec Ideal S1x512 .f32) (ix2 0 ⟨256 + j.val, by omega⟩) = 1 := by
  pointwise [k0_pay4]
  exact if_neg fun h => absurd ((WordCmp.cmpi_slt_ofNat_eq_one_iff (by omega) (by norm_num)).mp h) (by omega)

section Taps
variable (p : FVec Ideal S1x512 .f32) (a b1 b2 : FVec Ideal S512x512 .f32) (g2 v2 g v g1 v1 g0 v0 : Vec Ideal S1x256 .f32) (r : Fin 512) (j : Fin 256)
/-- The two nearest taps and the bias, on the gate's columns -/
theorem pay17_gate : k0_pay17 p a g2 v2 g v b1 g1 v1 (ix2 r ⟨j.val, by omega⟩)
    = a (ix2 r ⟨j.val, by omega⟩) * (g2 (ix2 0 j) * p (ix2 0 ⟨j.val, by omega⟩)) + g (ix2 0 j) * p (ix2 0 ⟨j.val, by omega⟩)
      + b1 (ix2 r ⟨j.val, by omega⟩) * (g1 (ix2 0 j) * p (ix2 0 ⟨j.val, by omega⟩)) := by
  pointwise [k0_pay17]
/-- and on the value's. -/
theorem pay17_val : k0_pay17 p a g2 v2 g v b1 g1 v1 (ix2 r ⟨256 + j.val, by omega⟩)
    = a (ix2 r ⟨256 + j.val, by omega⟩) * (v2 (ix2 0 j) * p (ix2 0 ⟨256 + j.val, by omega⟩)) + v (ix2 0 j) * p (ix2 0 ⟨256 + j.val, by omega⟩)
      + b1 (ix2 r ⟨256 + j.val, by omega⟩) * (v1 (ix2 0 j) * p (ix2 0 ⟨256 + j.val, by omega⟩)) := by
  pointwise [k0_pay17]
/-- The furthest tap, the gate and its product with the value. -/
theorem pay18_at : k0_pay18 p a b2 g0 v0 (ix2 r j)
    = ((a (ix2 r ⟨j.val, by omega⟩) + b2 (ix2 r ⟨j.val, by omega⟩) * (g0 (ix2 0 j) * p (ix2 0 ⟨j.val, by omega⟩)))
        + (a (ix2 r ⟨j.val, by omega⟩) + b2 (ix2 r ⟨j.val, by omega⟩) * (g0 (ix2 0 j) * p (ix2 0 ⟨j.val, by omega⟩)))
          * Ideal.tanh (a (ix2 r ⟨j.val, by omega⟩) + b2 (ix2 r ⟨j.val, by omega⟩) * (g0 (ix2 0 j) * p (ix2 0 ⟨j.val, by omega⟩))))
      * (a (ix2 r ⟨256 + j.val, by omega⟩) + b2 (ix2 r ⟨256 + j.val, by omega⟩) * (v0 (ix2 0 j) * p (ix2 0 ⟨256 + j.val, by omega⟩))) := by
  pointwise [k0_pay18]
end Taps

end Cert.Proof.ConvFfn

end
-- ==== Proof.ConvFfn.Formula.lean ====
/-
  The plain formula of the feed-forward sub-layer, array by array, and each array at an element.
-/
module

public import proofs.«01_k».proof.Proof.ConvFfn.Scalars
public import proofs.«01_k».proof.Proof.Gen.Reference2Ideal
public import Idealize.ShloMosaic.Lib.Pointwise
public import Idealize.ShloMosaic.Lib.KernelVsHost

@[expose] public section

noncomputable section

namespace Cert.Proof.ConvFfn

open Idealize.ShloMosaic Idealize.SL.Sem Idealize.ShloMosaic.TcCoe
open Cert.Reference2Ideal Cert.Reference2Ideal.Gen
open scoped BigOperators

/-- Rows divided by their root mean square, scaled. -/
def normArr (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))
/-- The projection up. -/
def upArr (h : FVec Ideal S8x2048x1024 .f32) (w : FVec Ideal S1024x5632 .f32) : FVec Ideal S8x2048x5632 .f32 :=
  Host.dotGeneral dot_S8x2048x1024_S1024x5632_S8x2048x5632_2_0_01_1_n_n none h w
/-- Two rows of zeros in front of each batch. -/
def padArr (a : FVec Ideal S8x2048x5632 .f32) : FVec Ideal S8x2050x5632 .f32 :=
  pad S8x2050x5632 ![0, 2, 0] ![0, 0, 0] ![0, 0, 0] a (sitofp .f32 (constantI S_ 32 0#32)) pads_S8x2048x5632_S8x2050x5632_000_200_000 h_S_
/-- The three taps over the padded rows, and the bias. -/
def convArr (p : FVec Ideal S8x2050x5632 .f32) (cw : FVec Ideal S3x1x5632 .f32) (cb : FVec Ideal S5632 .f32) : FVec Ideal S8x2048x5632 .f32 :=
  addf (addf (addf (addf (broadcastInDim S8x2048x5632 ![] bcast_S_S8x2048x5632 (constant S_ .f32 0x00000000#32))
    (mulf (extractStridedSlice S8x2048x5632 ![0, 0, 0] p slices_S8x2050x5632_S8x2048x5632_0_0_0) (broadcastInDim S8x2048x5632 ![0, 1, 2] bcast_S1x1x5632_S8x2048x5632_0_1_2 (broadcastInDim S1x1x5632 ![2] bcast_S5632_S1x1x5632_2 (shapeCast _ (extractStridedSlice S1x1x5632 ![0, 0, 0] cw slices_S3x1x5632_S1x1x5632_0_0_0) shapeCasts_S1x1x5632_S5632)))))
    (mulf (extractStridedSlice S8x2048x5632 ![0, 1, 0] p slices_S8x2050x5632_S8x2048x5632_0_1_0) (broadcastInDim S8x2048x5632 ![0, 1, 2] bcast_S1x1x5632_S8x2048x5632_0_1_2 (broadcastInDim S1x1x5632 ![2] bcast_S5632_S1x1x5632_2 (shapeCast _ (extractStridedSlice S1x1x5632 ![1, 0, 0] cw slices_S3x1x5632_S1x1x5632_1_0_0) shapeCasts_S1x1x5632_S5632)))))
    (mulf (extractStridedSlice S8x2048x5632 ![0, 2, 0] p slices_S8x2050x5632_S8x2048x5632_0_2_0) (broadcastInDim S8x2048x5632 ![0, 1, 2] bcast_S1x1x5632_S8x2048x5632_0_1_2 (broadcastInDim S1x1x5632 ![2] bcast_S5632_S1x1x5632_2 (shapeCast _ (extractStridedSlice S1x1x5632 ![2, 0, 0] cw slices_S3x1x5632_S1x1x5632_2_0_0) shapeCasts_S1x1x5632_S5632)))))
    (broadcastInDim S8x2048x5632 ![0, 1, 2] bcast_S1x1x5632_S8x2048x5632_0_1_2 (broadcastInDim S1x1x5632 ![2] bcast_S5632_S1x1x5632_2 cb))
/-- The gate's half through its activation, times the value's half. -/
def gateArr (u : FVec Ideal S8x2048x5632 .f32) : FVec Ideal S8x2048x2816 .f32 :=
  mulf (mulf (extractStridedSlice S8x2048x2816 ![0, 0, 0] u slices_S8x2048x5632_S8x2048x2816_0_0_0)
    (Host.divf (broadcastInDim S8x2048x2816 ![] bcast_S_S8x2048x2816 (constant S_ .f32 0x3F800000#32))
      (addf (broadcastInDim S8x2048x2816 ![] bcast_S_S8x2048x2816 (constant S_ .f32 0x3F800000#32))
        (Host.exp (Host.negf (extractStridedSlice S8x2048x2816 ![0, 0, 0] u slices_S8x2048x5632_S8x2048x2816_0_0_0))))))
    (extractStridedSlice S8x2048x2816 ![0, 0, 2816] u slices_S8x2048x5632_S8x2048x2816_0_0_2816)
/-- The projection down. -/
def downArr (z : FVec Ideal S8x2048x2816 .f32) (w : FVec Ideal S2816x1024 .f32) : FVec Ideal S8x2048x1024 .f32 :=
  Host.dotGeneral dot_S8x2048x2816_S2816x1024_S8x2048x1024_2_0_01_1_n_n none z w
/-- The sub-layer. -/
def ffnRef (x : FVec Ideal S8x2048x1024 .f32) (gpre : FVec Ideal S1024 .f32) (wup : FVec Ideal S1024x5632 .f32) (cw : FVec Ideal S3x1x5632 .f32)
    (cb : FVec Ideal S5632 .f32) (wd : FVec Ideal S2816x1024 .f32) (gpost : FVec Ideal S1024 .f32) : FVec Ideal S8x2048x1024 .f32 :=
  addf x (normArr (downArr (gateArr (convArr (padArr (upArr (normArr x gpre) wup)) cw cb)) wd) gpost)

/-- The gate's column and the value's of activation `j`. -/
abbrev gateOf (j : Fin 2816) : Fin 5632 := ⟨j.val, by omega⟩
abbrev valueOf (j : Fin 2816) : Fin 5632 := ⟨2816 + j.val, by omega⟩

variable (b : Fin 8) (s : Fin 2048)

theorem normArr_at (x : FVec Ideal S8x2048x1024 .f32) (g : FVec Ideal S1024 .f32) (d : Fin 1024) :
    normArr x g (ix3 b s d) = x (ix3 b s d) * Ideal.rsqrt (meanSq fun k => x (ix3 b s k)) * g (ix1 d) := by
  unfold meanSq
  pointwise [normArr]
theorem upArr_at (h : FVec Ideal S8x2048x1024 .f32) (w : FVec Ideal S1024x5632 .f32) (n : Fin 5632) :
    upArr h w (ix3 b s n) = ∑ d : Fin 1024, h (ix3 b s d) * w (ix2 d n) := by
  pointwise [upArr]
theorem downArr_at (z : FVec Ideal S8x2048x2816 .f32) (w : FVec Ideal S2816x1024 .f32) (n : Fin 1024) :
    downArr z w (ix3 b s n) = ∑ j : Fin 2816, z (ix3 b s j) * w (ix2 j n) := by
  pointwise [downArr]
theorem gateArr_at (u : FVec Ideal S8x2048x5632 .f32) (j : Fin 2816) :
    gateArr u (ix3 b s j) = u (ix3 b s (gateOf j)) * Ideal.div 1 (1 + Ideal.exp (-(u (ix3 b s (gateOf j)))))
      * u (ix3 b s (valueOf j)) := by
  pointwise [gateArr]
theorem convArr_at (p : FVec Ideal S8x2050x5632 .f32) (cw : FVec Ideal S3x1x5632 .f32) (cb : FVec Ideal S5632 .f32) (n : Fin 5632) :
    convArr p cw cb (ix3 b s n) = p (ix3 b ⟨s.val, by omega⟩ n) * cw (ix3 0 0 n) + p (ix3 b ⟨1 + s.val, by omega⟩ n) * cw (ix3 1 0 n)
      + p (ix3 b ⟨2 + s.val, by omega⟩ n) * cw (ix3 2 0 n) + cb (ix1 n) := by
  pointwise [convArr]

/-- The row `k` before row `s`; zero before the first. -/
def rowBack (a : FVec Ideal S8x2048x5632 .f32) (k : ℕ) (n : Fin 5632) : EReal :=
  if s.val < k then 0 else a (ix3 b ⟨s.val - k, by omega⟩ n)

/-- A padded row is the row two before it. -/
theorem padArr_at (a : FVec Ideal S8x2048x5632 .f32) (i : Fin 2050) (k : ℕ) (hk : k ≤ 2) (hi : i.val = s.val + (2 - k)) (n : Fin 5632) :
    padArr a (ix3 b i n) = rowBack b s a k n := by
  unfold padArr rowBack
  by_cases h : s.val < k
  · rw [if_pos h, pad_apply_of_not_inside _ _ _ _ _ _ _ _ (1 : Fin 3) (fun hin => by have : 2 ≤ i.val := hin.1; omega)]
    show ((((0#32 : BitVec 32).toInt : ℝ)) : EReal) = 0
    simp
  · rw [if_neg h]
    refine pad_apply_of_inside _ _ _ _ _ _ _ _ _ fun a => ?_
    fin_cases a
    · show b.val = 0 + b.val * (0 + 1); omega
    · show i.val = 2 + (s.val - k) * (0 + 1); omega
    · show n.val = 0 + n.val * (0 + 1); omega

/-- The convolution over the rows themselves. -/
theorem conv_at (a : FVec Ideal S8x2048x5632 .f32) (cw : FVec Ideal S3x1x5632 .f32) (cb : FVec Ideal S5632 .f32) (n : Fin 5632) :
    convArr (padArr a) cw cb (ix3 b s n) = rowBack b s a 2 n * cw (ix3 0 0 n) + rowBack b s a 1 n * cw (ix3 1 0 n) + a (ix3 b s n) * cw (ix3 2 0 n) + cb (ix1 n) := by
  rw [convArr_at, padArr_at b s a _ 2 (by omega) (by show s.val = s.val + (2 - 2); omega), padArr_at b s a _ 1 (by omega) (by show 1 + s.val = s.val + (2 - 1); omega),
    padArr_at b s a _ 0 (by omega) (by show 2 + s.val = s.val + (2 - 0); omega)]
  rfl

end Cert.Proof.ConvFfn

end
-- ==== Proof.ConvFfn.Step.lean ====
/-
  A tile's step leaves the plain formula's rows, given that its blocks and the rows carried in are the plain arrays'.
-/
module

public import proofs.«01_k».proof.Proof.ConvFfn.Tile
public import proofs.«01_k».proof.Proof.ConvFfn.Formula

@[expose] public section

noncomputable section

namespace Cert.Proof.ConvFfn

open Idealize.ShloMosaic Idealize.SL.Sem Idealize.ShloMosaic.TcCoe
open Cert.Kernel2Ideal Cert.Kernel2Ideal.Gen
open scoped BigOperators

/-! ## The pieces of the weights a chunk reads -/

section Chunk
variable (h : Vec Ideal S512x1024 .bf16) (wup : Vec Ideal S1024x5632 .bf16) (cw : Vec Ideal S3x5632 .f32) (cb : Vec Ideal S1x5632 .f32)
  (kept : Vec Ideal S11x8x512 .f32) (k : Fin 11)

/-- The column of the whole projection that column `j` of the gate's half of chunk `k` is, -/
def gateCol (j : Fin 256) : Fin 5632 := ⟨k.val * 256 + j.val, by omega⟩
/-- of the value's half, -/
def valCol (j : Fin 256) : Fin 5632 := ⟨k.val * 256 + 2816 + j.val, by omega⟩
/-- and of the chunk. -/
def col (j : Fin 512) : Fin 5632 := if h : j.val < 256 then gateCol k ⟨j.val, h⟩ else valCol k ⟨j.val - 256, by omega⟩

theorem col_gate (j : Fin 256) : col k ⟨j.val, by omega⟩ = gateCol k j := by rw [col, dif_pos j.isLt]
theorem col_val (j : Fin 256) : col k ⟨256 + j.val, by omega⟩ = valCol k j := by
  rw [col, dif_neg (by simp)]
  exact congrArg _ (Fin.ext (by simp))

/-- A statement of a chunk's column, one half at a time. -/
theorem halves {P : Fin 512 → Prop} (g : ∀ j : Fin 256, P ⟨j.val, by omega⟩) (v : ∀ j : Fin 256, P ⟨256 + j.val, by omega⟩) (j : Fin 512) : P j := by
  by_cases hj : j.val < 256
  · exact g ⟨j.val, hj⟩
  · have e : j = ⟨256 + (j.val - 256), by omega⟩ := Fin.ext (by show j.val = 256 + (j.val - 256); omega)
    rw [e]; exact v ⟨j.val - 256, by omega⟩

/-- A piece cut at row `o` and column `c` of a matrix. -/
theorem ld_at {n N r w : ℕ} {elt : EltTy} (a : Vec Ideal ⟨2, ![n, N]⟩ elt) (o c : ℕ)
    (inb : ∀ b, (![o, c] : Fin 2 → ℕ) b + (![r, w] : Fin 2 → ℕ) b ≤ (⟨2, ![n, N]⟩ : Shape).size b) (i : Fin r) (j : Fin w)
    (i' : Fin n) (j' : Fin N) (hi : i'.val = o + i.val) (hj : j'.val = c + j.val) :
    View.ld a (Rect.unit (s := ⟨2, ![n, N]⟩) ![o, c] ![r, w] inb) (ix2 i j) = a (ix2 i' j') := by
  refine congrArg a (funext fun b => Fin.ext ?_)
  fin_cases b
  · show o + 1 * i.val = i'.val; omega
  · show c + 1 * j.val = j'.val; omega

theorem wGate_at (d : Fin 1024) (j : Fin 256) : wGate wup k (ix2 d j) = wup (ix2 d (gateCol k j)) :=
  ld_at wup _ _ _ _ _ _ _ (by simp) rfl
theorem wVal_at (d : Fin 1024) (j : Fin 256) : wVal wup k (ix2 d j) = wup (ix2 d (valCol k j)) :=
  ld_at wup _ _ _ _ _ _ _ (by simp) rfl
theorem tapGate_at (i : Fin 3) (j : Fin 256) : tapGate cw k i (ix2 0 j) = cw (ix2 i (gateCol k j)) :=
  ld_at cw _ _ _ _ _ _ _ rfl rfl
theorem tapVal_at (i : Fin 3) (j : Fin 256) : tapVal cw k i (ix2 0 j) = cw (ix2 i (valCol k j)) :=
  ld_at cw _ _ _ _ _ _ _ rfl rfl
theorem biasGate_at (j : Fin 256) : biasGate cb k (ix2 0 j) = cb (ix2 0 (gateCol k j)) :=
  ld_at cb _ _ _ _ _ _ _ rfl rfl
theorem biasVal_at (j : Fin 256) : biasVal cb k (ix2 0 j) = cb (ix2 0 (valCol k j)) :=
  ld_at cb _ _ _ _ _ _ _ rfl rfl

/-- The chunk's projection is the whole one's columns. -/
theorem proj_at (r j : Fin 512) : proj h wup k (ix2 r j) = ∑ d : Fin 1024, h (ix2 r d) * wup (ix2 d (col k j)) := by
  refine halves (P := fun j => proj h wup k (ix2 r j) = ∑ d : Fin 1024, h (ix2 r d) * wup (ix2 d (col k j))) (fun j => ?_) (fun j => ?_) j
  · rw [proj, pay13_gate, col_gate]; simp only [wGate_at]
  · rw [proj, pay13_val, col_val]; simp only [wVal_at]

theorem keptAll_at (i : Fin 8) (j : Fin 512) : keptAll h wup (ix3 k i j) = proj h wup k (ix2 ⟨504 + i.val, by omega⟩ j) := by
  show k0_pay16 (proj h wup k) (ix3 0 i j) = _
  rw [pay16_at]
end Chunk

/-! ## A tile against the plain arrays -/

/-- Row `r` of tile `q` of a batch. -/
abbrev rowOf (q : Fin 4) (r : Fin 512) : Fin 2048 := ⟨512 * q.val + r.val, by omega⟩

/-- Row `i` of the carried rows as a row of a tile. -/
abbrev earlyRow (i : Fin 8) : Fin 512 := ⟨i.val, by omega⟩

section Step
variable {h : Vec Ideal S512x1024 .bf16} {wup : Vec Ideal S1024x5632 .bf16} {cw : Vec Ideal S3x5632 .f32} {cb : Vec Ideal S1x5632 .f32}
  {kept : Vec Ideal S11x8x512 .f32} {b : Fin 8} {q : Fin 4}
  {up : FVec Ideal Cert.Reference2Ideal.S8x2048x5632 .f32} {CW : FVec Ideal S3x1x5632 .f32} {CB : FVec Ideal S5632 .f32}
  (hp : ∀ k r j, proj h wup k (ix2 r j) = up (ix3 b (rowOf q r) (col k j)))
  (hk : ∀ k (i : Fin 8) j, kept (ix3 k i j) = rowBack b (rowOf q (earlyRow i)) up 8 (col k j))
  (hcw : ∀ t n, cw (ix2 t n) = CW (ix3 t 0 n)) (hcb : ∀ n, cb (ix2 0 n) = CB (ix1 n))

include hp hk in
/-- The projection moved down `n` rows, the carried rows filled in, is the whole one's `n` rows before. -/
theorem projBack_at (n : ℕ) (hn : n ≤ 8) (k : Fin 11) (r j : Fin 512) :
    projBack h wup kept k n (ix2 r j) = rowBack b (rowOf q r) up n (col k j) := by
  unfold projBack shifted
  by_cases hr : r.val < n
  · refine (dif_pos hr).trans ?_
    have e : ∀ p p', k0_pay14 (View.ld kept (Rect.unit (s := S11x8x512) ![k.val, 0, 0] ![1, 8, 512] (inb_kept k))) (ix2 ⟨r.val + 8 - n, p⟩ ⟨j.val, p'⟩)
        = kept (ix3 k ⟨r.val + 8 - n, by omega⟩ j) := by
      intro p p'
      rw [pay14_at]
      refine congrArg kept (funext fun a => Fin.ext ?_)
      fin_cases a
      · show k.val + 1 * 0 = k.val; omega
      · show 0 + 1 * (r.val + 8 - n) = r.val + 8 - n; omega
      · show 0 + 1 * j.val = j.val; omega
    refine (e _ _).trans ((hk _ _ _).trans ?_)
    unfold rowBack
    by_cases h0 : 512 * q.val + r.val < n
    · rw [if_pos h0, if_pos (by show 512 * q.val + (r.val + 8 - n) < 8; omega)]
    · rw [if_neg h0, if_neg (by show ¬512 * q.val + (r.val + 8 - n) < 8; omega)]
      refine congrArg (fun s => up (ix3 b s (col k j))) (Fin.ext ?_)
      show 512 * q.val + (r.val + 8 - n) - 8 = 512 * q.val + r.val - n; omega
  · refine (dif_neg hr).trans ?_
    refine ((pay15_at _ ⟨r.val - n, _⟩ ⟨j.val, _⟩).trans (hp k ⟨r.val - n, by omega⟩ j)).trans ?_
    unfold rowBack
    rw [if_neg (by show ¬512 * q.val + r.val < n; omega)]
    refine congrArg (fun s => up (ix3 b s (col k j))) (Fin.ext ?_)
    show 512 * q.val + (r.val - n) = 512 * q.val + r.val - n; omega

include hp hk hcw hcb in
/-- A chunk's gated activations are the plain ones, where the gate is a real number. -/
theorem gated_at (k : Fin 11) (r : Fin 512) (j : Fin 256) (J : Fin 2816) (hJ : J.val = k.val * 256 + j.val)
    (hreal : IsReal (convArr (padArr up) CW CB (ix3 b (rowOf q r) (gateOf J)))) :
    gated h wup cw cb kept k (ix2 r j) = gateArr (convArr (padArr up) CW CB) (ix3 b (rowOf q r) J) := by
  have eg : gateOf J = gateCol k j := Fin.ext hJ
  have ev : valueOf J = valCol k j := Fin.ext (by show 2816 + J.val = k.val * 256 + 2816 + j.val; omega)
  rw [eg] at hreal
  obtain ⟨g, hg⟩ := hreal
  rw [gateArr_at, eg, ev, hg, ← gate_eq, ← hg, conv_at, conv_at, ← half_taps]
  unfold gated
  rw [pay18_at, pay17_gate, pay17_val]
  simp only [projBack_at hp hk 1 (by omega), projBack_at hp hk 2 (by omega), hp, pay4_gate, pay4_val, ofBits_half, col_gate, col_val,
    tapGate_at, tapVal_at, biasGate_at, biasVal_at, hcw, hcb, mul_one]
  refine congrArg _ ?_
  abel

include hp hk hcw hcb in
theorem gatedAll_at (r : Fin 512) (J : Fin 2816) (hreal : ∀ J : Fin 2816, IsReal (convArr (padArr up) CW CB (ix3 b (rowOf q r) (gateOf J)))) :
    gatedAll h wup cw cb kept (ix2 r J) = gateArr (convArr (padArr up) CW CB) (ix3 b (rowOf q r) J) :=
  gated_at hp hk hcw hcb _ r _ J (by show J.val = J.val / 256 * 256 + J.val % 256; omega) (hreal J)
end Step

/-! ## The whole step -/

section Whole
variable {x : Vec Ideal S1x512x1024 .f32} {gpre gpost : Vec Ideal S1x1024 .f32} {wup : Vec Ideal S1024x5632 .bf16} {cw : Vec Ideal S3x5632 .f32} {cb : Vec Ideal S1x5632 .f32}
  {wd : Vec Ideal S2816x1024 .bf16} {kept : Vec Ideal S11x8x512 .f32} {b : Fin 8} {q : Fin 4}
  {X : FVec Ideal S8x2048x1024 .f32} {GPRE GPOST : FVec Ideal S1024 .f32} {WUP : FVec Ideal S1024x5632 .f32} {CW : FVec Ideal S3x1x5632 .f32} {CB : FVec Ideal S5632 .f32}
  {WD : FVec Ideal S2816x1024 .f32}
  (hx : ∀ r d, x (ix3 0 r d) = X (ix3 b (rowOf q r) d)) (hgpre : ∀ d, gpre (ix2 0 d) = GPRE (ix1 d)) (hwup : ∀ d n, wup (ix2 d n) = WUP (ix2 d n))
  (hcw : ∀ t n, cw (ix2 t n) = CW (ix3 t 0 n)) (hcb : ∀ n, cb (ix2 0 n) = CB (ix1 n))
  (hwd : ∀ j n, wd (ix2 j n) = WD (ix2 j n)) (hgpost : ∀ d, gpost (ix2 0 d) = GPOST (ix1 d))

include hx hgpre hwup in
/-- The tile's projection is the plain one's rows. -/
theorem proj_eq (k : Fin 11) (r j : Fin 512) :
    proj (k0_pay3 x gpre) wup k (ix2 r j) = upArr (normArr X GPRE) WUP (ix3 b (rowOf q r) (col k j)) := by
  rw [proj_at, upArr_at]
  simp only [pay3_at, normArr_at, hx, hgpre, hwup]

include hx hgpre hwup hcw hcb hwd hgpost in
/-- The tile of the output is the plain formula's rows. -/
theorem tileOut_at (hk : ∀ k (i : Fin 8) j, kept (ix3 k i j) = rowBack b (rowOf q (earlyRow i)) (upArr (normArr X GPRE) WUP) 8 (col k j))
    (hreal : ∀ s (J : Fin 2816), IsReal (convArr (padArr (upArr (normArr X GPRE) WUP)) CW CB (ix3 b s (gateOf J))))
    (r : Fin 512) (n : Fin 1024) :
    tileOut x gpre wup cw cb wd gpost kept (ix3 0 r n) = ffnRef X GPRE WUP CW CB WD GPOST (ix3 b (rowOf q r) n) := by
  have e (n : Fin 1024) : k0_pay83 (gatedAll (k0_pay3 x gpre) wup cw cb kept) wd (ix2 r n)
      = downArr (gateArr (convArr (padArr (upArr (normArr X GPRE) WUP)) CW CB)) WD (ix3 b (rowOf q r) n) := by
    rw [pay83_at, downArr_at]
    simp only [gatedAll_at (proj_eq hx hgpre hwup) hk hcw hcb r _ (hreal _), hwd]
  unfold tileOut
  rw [pay1_at, pay84_at, pay85_at, hx, hgpost]
  simp only [e]
  show _ = X (ix3 b (rowOf q r) n) + normArr _ _ (ix3 b (rowOf q r) n)
  rw [normArr_at]
end Whole

end Cert.Proof.ConvFfn

end
-- ==== Proof.ConvFfn.Finite.lean ====
/-
  What the precondition says, and that under it the gate is a real number everywhere.
-/
module

public import proofs.«01_k».proof.Pre_finite_gate
public import proofs.«01_k».proof.Proof.ConvFfn.Formula
public import Idealize.ShloMosaic.Lib.Affine

@[expose] public section

noncomputable section

namespace Cert.Proof.ConvFfn

open Idealize.ShloMosaic
open Cert.Pre_finite_gate
open scoped BigOperators

/-- The shape relations the printed precondition states. -/
theorem pre_facts : Cert.Pre_finite_gate.Facts := by
  constructor <;> decide

section Read
variable [Cert.Pre_finite_gate.Facts]
variable {x : FVec Ideal S8x2048x1024 .f32} {g : FVec Ideal S1024 .f32} {w : FVec Ideal S1024x5632 .f32} {cw : FVec Ideal S3x1x5632 .f32} {cb : FVec Ideal S5632 .f32}
  {wd : FVec Ideal S2816x1024 .f32} {g' : FVec Ideal S1024 .f32}

/-- The comparison the precondition makes of each entry. -/
abbrev below (a : EReal) : BitVec 1 := Ideal.cmp .olt (max a (-a)) (Ideal.ofBits .f32 0x7F800000#32)

theorem fn_at (d : Fin 1024) (j : Fin 2816) :
    Cert.Pre_finite_gate.fn (F := Ideal) x g w cw cb wd g' (ix2 d j)
      = IntOp.andi (IntOp.andi (below (w (ix2 d ⟨j.val, by omega⟩))) (below (g (ix1 d))))
          (IntOp.andi (IntOp.andi (IntOp.andi (below (cw (ix3 0 0 ⟨j.val, by omega⟩))) (below (cw (ix3 1 0 ⟨j.val, by omega⟩)))) (below (cw (ix3 2 0 ⟨j.val, by omega⟩))))
            (below (cb (ix1 ⟨j.val, by omega⟩)))) := by
  unfold below
  pointwise [Cert.Pre_finite_gate.fn, Cert.Pre_finite_gate.fn_part1]
  rfl

theorem isReal_of_below {a : EReal} (h : below a = 1#1) : IsReal a := by
  refine isReal_of_abs_lt ?_
  have e : Ideal.ofBits .f32 0x7F800000#32 = ⊤ := by simp [Ideal.ofBits, Ideal.ieee]
  rwa [← e]

/-- Under the precondition the norm's scale and the gate's columns of the weights are real numbers. -/
theorem reals_of_pre (h : Cert.Pre_finite_gate.fn (F := Ideal) x g w cw cb wd g' = fun _ => 1#1) (d : Fin 1024) (j : Fin 2816) :
    IsReal (g (ix1 d)) ∧ IsReal (w (ix2 d (gateOf j))) ∧ IsReal (cw (ix3 0 0 (gateOf j))) ∧ IsReal (cw (ix3 1 0 (gateOf j)))
      ∧ IsReal (cw (ix3 2 0 (gateOf j))) ∧ IsReal (cb (ix1 (gateOf j))) := by
  have e := congrFun h (ix2 d j)
  rw [fn_at] at e
  simp only [IntOp.andi_eq_one] at e
  obtain ⟨⟨h1, h2⟩, ⟨⟨h3, h4⟩, h5⟩, h6⟩ := e
  exact ⟨isReal_of_below h2, isReal_of_below h1, isReal_of_below h3, isReal_of_below h4, isReal_of_below h5, isReal_of_below h6⟩

/-- So the gate is a real number everywhere, whatever the rows hold. -/
theorem isReal_gate (h : Cert.Pre_finite_gate.fn (F := Ideal) x g w cw cb wd g' = fun _ => 1#1) (b : Fin 8) (s : Fin 2048) (j : Fin 2816) :
    IsReal (convArr (padArr (upArr (normArr x g) w)) cw cb (ix3 b s (gateOf j))) := by
  have up (s : Fin 2048) : IsReal (upArr (normArr x g) w (ix3 b s (gateOf j))) := by
    rw [upArr_at]
    refine isReal_sum fun d => ?_
    rw [normArr_at]
    obtain ⟨hg, hw, -⟩ := reals_of_pre h d j
    exact isReal_mul (isReal_mul (isReal_normed (fun k => x (ix3 b s k)) d) hg) hw
  have back (k : ℕ) : IsReal (rowBack b s (upArr (normArr x g) w) k (gateOf j)) := by
    unfold rowBack
    split
    · exact isReal_zero
    · exact up _
  obtain ⟨-, -, h0, h1, h2, hb⟩ := reals_of_pre h 0 j
  rw [conv_at]
  exact isReal_add (isReal_add (isReal_add (isReal_mul (back 2) h0) (isReal_mul (back 1) h1)) (isReal_mul (up s) h2)) hb
end Read

end Cert.Proof.ConvFfn

end
-- ==== Proof.ConvFfn.Value.lean ====
/-
  What the feed-forward call leaves, in its arguments: the plain formula. The claims about it.
-/
module

public import proofs.«01_k».proof.Defs
public import proofs.«01_k».proof.Proof.ConvFfn.Step
public import proofs.«01_k».proof.Proof.ConvFfn.Finite
public import proofs.«01_k».proof.Proof.Gen.Kernel2
public import proofs.«01_k».proof.Proof.Gen.Kernel2Ideal.Value
public import proofs.«01_k».proof.Proof.Gen.Reference2Ideal.Run

@[expose] public section

noncomputable section

namespace Cert.Proof.ConvFfn

open Idealize.ShloMosaic Idealize.SL.Sem Idealize.ShloMosaic.TcCoe
open scoped BigOperators

section Left
open Cert.Kernel2Ideal Cert.Kernel2Ideal.Gen
variable (m : (ℓ : Loc nD τ sig) → Buf (Elt Ideal) ℓ) (c : Dev nD)

/-- The arguments as arrays. -/
abbrev xV : FVec Ideal S8x2048x1024 .f32 := m ((c.tc : Thread nD τ).loc main_arg0)
abbrev gpreV : FVec Ideal S1024 .f32 := m ((c.tc : Thread nD τ).loc main_arg1)
abbrev wupV : FVec Ideal S1024x5632 .f32 := m ((c.tc : Thread nD τ).loc main_arg2)
abbrev cwV : FVec Ideal S3x1x5632 .f32 := m ((c.tc : Thread nD τ).loc main_arg3)
abbrev cbV : FVec Ideal S5632 .f32 := m ((c.tc : Thread nD τ).loc main_arg4)
abbrev wdV : FVec Ideal S2816x1024 .f32 := m ((c.tc : Thread nD τ).loc main_arg5)
abbrev gpostV : FVec Ideal S1024 .f32 := m ((c.tc : Thread nD τ).loc main_arg6)

theorem V_v0 : V m c main_v0 = broadcastInDim S1x1024 ![1] bcast_S1024_S1x1024_1 (gpreV m c) := by unfold V; after_results
theorem V_v1 : V m c main_v1 = truncf .bf16 (wupV m c) bitsLt_bf16_f32 := by unfold V; after_results
theorem V_v2 : V m c main_v2 = shapeCast S3x5632 (cwV m c) shapeCasts_S3x1x5632_S3x5632 := by unfold V; after_results; rfl
theorem V_v3 : V m c main_v3 = broadcastInDim S1x5632 ![1] bcast_S5632_S1x5632_1 (cbV m c) := by unfold V; after_results
theorem V_v4 : V m c main_v4 = truncf .bf16 (wdV m c) bitsLt_bf16_f32 := by unfold V; after_results
theorem V_v5 : V m c main_v5 = broadcastInDim S1x1024 ![1] bcast_S1024_S1x1024_1 (gpostV m c) := by unfold V; after_results

/-- The batch and the tile in it of grid point `t`. -/
theorem t_lt (t : Fin cfg0.N) : t.val < 32 := lt_of_lt_of_eq t.isLt N_0
abbrev bOf (t : Fin cfg0.N) : Fin 8 := ⟨t.val / 4, by have := t_lt t; omega⟩
abbrev qOf (t : Fin cfg0.N) : Fin 4 := ⟨t.val % 4, by omega⟩

/-- The blocks of the output's and the residual's windows: one tile a point, in order. -/
theorem index_x : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)

variable (t : Fin cfg0.N)

theorem iblk0_at (r : Fin 512) (d : Fin 1024) :
    (iblk m c 0 t : FVec Ideal S1x512x1024 .f32) (ix3 0 r d) = xV m c (ix3 (bOf t) (rowOf (qOf t) r) d) := by
  obtain ⟨e0, e1, e2⟩ := index_x t
  refine Eq.trans ?_ (congrFun (V_main_arg0 m c) _)
  refine congrArg (V m c main_arg0 : FVec Ideal S8x2048x1024 .f32) (funext fun a => Fin.ext ?_)
  fin_cases a
  · show win0_0.index t (0 : Fin 3) * 1 + 1 * 0 = t.val / 4; omega
  · show win0_0.index t (1 : Fin 3) * 512 + 1 * r.val = 512 * (t.val % 4) + r.val; omega
  · show win0_0.index t (2 : Fin 3) * 1024 + 1 * d.val = d.val; omega

/-- A place counted from the array's corner. -/
theorem whole_place (o k n : ℕ) (ho : o = 0) : o * k + 1 * n = n := by rw [ho]; omega

/-! The other windows' blocks are the whole arrays. -/

theorem iblk1_eq : iblk m c 1 t = (V m c main_v0 : FVec Ideal S1x1024 .f32) :=
  funext fun y => congrArg (V m c main_v0 : FVec Ideal S1x1024 .f32) (funext fun a => Fin.ext (by fin_cases a <;> exact whole_place _ _ _ rfl))
theorem iblk2_eq : iblk m c 2 t = (V m c main_v1 : FVec Ideal S1024x5632 .bf16) :=
  funext fun y => congrArg (V m c main_v1 : FVec Ideal S1024x5632 .bf16) (funext fun a => Fin.ext (by fin_cases a <;> exact whole_place _ _ _ rfl))
theorem iblk3_eq : iblk m c 3 t = (V m c main_v2 : FVec Ideal S3x5632 .f32) :=
  funext fun y => congrArg (V m c main_v2 : FVec Ideal S3x5632 .f32) (funext fun a => Fin.ext (by fin_cases a <;> exact whole_place _ _ _ rfl))
theorem iblk4_eq : iblk m c 4 t = (V m c main_v3 : FVec Ideal S1x5632 .f32) :=
  funext fun y => congrArg (V m c main_v3 : FVec Ideal S1x5632 .f32) (funext fun a => Fin.ext (by fin_cases a <;> exact whole_place _ _ _ rfl))
theorem iblk5_eq : iblk m c 5 t = (V m c main_v4 : FVec Ideal S2816x1024 .bf16) :=
  funext fun y => congrArg (V m c main_v4 : FVec Ideal S2816x1024 .bf16) (funext fun a => Fin.ext (by fin_cases a <;> exact whole_place _ _ _ rfl))
theorem iblk6_eq : iblk m c 6 t = (V m c main_v5 : FVec Ideal S1x1024 .f32) :=
  funext fun y => congrArg (V m c main_v5 : FVec Ideal S1x1024 .f32) (funext fun a => Fin.ext (by fin_cases a <;> exact whole_place _ _ _ rfl))

theorem gpre_at (d : Fin 1024) : (iblk m c 1 t : FVec Ideal S1x1024 .f32) (ix2 0 d) = gpreV m c (ix1 d) := by
  rw [iblk1_eq, V_v0]; pointwise
theorem wup_at (d : Fin 1024) (n : Fin 5632) : (iblk m c 2 t : FVec Ideal S1024x5632 .bf16) (ix2 d n) = wupV m c (ix2 d n) := by
  rw [iblk2_eq, V_v1]; pointwise
theorem cw_at (i : Fin 3) (n : Fin 5632) : (iblk m c 3 t : FVec Ideal S3x5632 .f32) (ix2 i n) = cwV m c (ix3 i 0 n) := by
  rw [iblk3_eq, V_v2]; pointwise
theorem cb_at (n : Fin 5632) : (iblk m c 4 t : FVec Ideal S1x5632 .f32) (ix2 0 n) = cbV m c (ix1 n) := by
  rw [iblk4_eq, V_v3]; pointwise
theorem wd_at (j : Fin 2816) (n : Fin 1024) : (iblk m c 5 t : FVec Ideal S2816x1024 .bf16) (ix2 j n) = wdV m c (ix2 j n) := by
  rw [iblk5_eq, V_v4]; pointwise
theorem gpost_at (d : Fin 1024) : (iblk m c 6 t : FVec Ideal S1x1024 .f32) (ix2 0 d) = gpostV m c (ix1 d) := by
  rw [iblk6_eq, V_v5]; pointwise

/-! ## The tiles -/

/-- The plain projection. -/
abbrev upV : FVec Ideal Cert.Reference2Ideal.S8x2048x5632 .f32 := upArr (normArr (xV m c) (gpreV m c)) (wupV m c)
/-- The plain result. -/
abbrev outV : FVec Ideal S8x2048x1024 .f32 := ffnRef (xV m c) (gpreV m c) (wupV m c) (cwV m c) (cbV m c) (wdV m c) (gpostV m c)

/-- Each point leaves the last eight rows of its tile's projection. -/
theorem carried_at (k : Fin 11) (i : Fin 8) (j : Fin 512) :
    (outsAt0 m c t.val t.isLt).2 (ix3 k i j) = upV m c (ix3 (bOf t) (rowOf (qOf t) ⟨504 + i.val, by omega⟩) (col k j)) := by
  have e : (outsAt0 m c t.val t.isLt).2 = keptAll (k0_pay3 (iblk m c 0 t) (iblk m c 1 t)) (iblk m c 2 t) := by
    by_cases h0 : t.val % 4 = 0
    · rw [out_first m c t h0]
    · rw [out_next m c t h0]
  rw [e, keptAll_at]
  exact proj_eq (iblk0_at m c t) (gpre_at m c t) (wup_at m c t) k _ j

variable (hreal : ∀ b s (J : Fin 2816), IsReal (convArr (padArr (upV m c)) (cwV m c) (cbV m c) (ix3 b s (gateOf J))))

include hreal in
/-- Each point leaves its tile of the plain result: the rows carried in are those before the tile's first, or zeros. -/
theorem tile_at (r : Fin 512) (n : Fin 1024) :
    (outsAt0 m c t.val t.isLt).1 (ix3 0 r n) = outV m c (ix3 (bOf t) (rowOf (qOf t) r) n) := by
  have step {kept : Vec Ideal S11x8x512 .f32} := tileOut_at (kept := kept) (iblk0_at m c t) (gpre_at m c t) (wup_at m c t) (cw_at m c t) (cb_at m c t) (wd_at m c t) (gpost_at m c t)
  by_cases h0 : t.val % 4 = 0
  · rw [out_first m c t h0]
    refine step (fun k i j => ?_) (hreal _) r n
    unfold rowBack; rw [pay2_at, if_pos (by show 512 * (t.val % 4) + i.val < 8; omega)]
  · rw [out_next m c t h0]
    refine step (fun k i j => ?_) (hreal _) r n
    have ht := t_lt t
    refine (carried_at m c ⟨t.val - 1, by have := t.isLt; omega⟩ k i j).trans ?_
    unfold rowBack; rw [if_neg (by show ¬512 * (t.val % 4) + i.val < 8; omega)]
    refine congrArg₂ (fun b s => upV m c (ix3 b s (col k j))) (Fin.ext ?_) (Fin.ext ?_)
    · show (t.val - 1) / 4 = t.val / 4; omega
    · show 512 * ((t.val - 1) % 4) + (504 + i.val) = 512 * (t.val % 4) + i.val - 8; omega

include hreal in
/-- The result is the plain formula. -/
theorem result_eq : Cert.Kernel2Ideal.Value.G7 m c = outV m c := by
  funext i
  obtain ⟨b, s, n, rfl⟩ : ∃ (b : Fin 8) (s : Fin 2048) (n : Fin 1024), i = ix3 b s n := ⟨i 0, i 1, i 2, ValueIdx.eq_ix3 i⟩
  have hp : Cert.Kernel2Ideal.Value.pt7Of (ix3 b s n) = 4 * b.val + s.val / 512 := by
    show 4 * (b.val / 1 - 0) + 1 * (s.val / 512 - 0) + 1 * (n.val / 1024 - 0) = _; omega
  have hl : Cert.Kernel2Ideal.Value.loc7Of (ix3 b s n) = ix3 (0 : Fin 1) (⟨s.val % 512, by omega⟩ : Fin 512) n := by
    funext a
    refine Fin.ext ?_
    fin_cases a
    · show b.val % 1 = 0; omega
    · rfl
    · show n.val % 1024 = n.val; omega
  have hN : Cert.Kernel2Ideal.Value.pt7Of (ix3 b s n) < cfg0.N := by rw [hp, show cfg0.N = 32 from N_0]; omega
  unfold Cert.Kernel2Ideal.Value.G7
  rw [dif_pos hN, ← Cert.Kernel2Ideal.Value.outsAt0_sweep m c _ hN, hl]
  refine (tile_at m c ⟨_, hN⟩ hreal _ n).trans ?_
  refine congrArg₂ (fun b s => outV m c (ix3 b s n)) (Fin.ext ?_) (Fin.ext ?_)
  · show Cert.Kernel2Ideal.Value.pt7Of (ix3 b s n) / 4 = b.val; omega
  · show 512 * (Cert.Kernel2Ideal.Value.pt7Of (ix3 b s n) % 4) + s.val % 512 = s.val; omega
end Left

/-! ## The claims -/

section Frames
open Cert.Kernel2Ideal Cert.Kernel2Ideal.Gen

theorem frame_ideal : Cert.quiescent_Kernel2Ideal := fun m ρ _ => Cert.Kernel2Ideal.Gen.frame m ρ
theorem frame_ideal_pre [hPre : Cert.Pre_finite_gate.Facts] : Cert.quiescent_Kernel2Ideal_pre_finite_gate := fun m ρ _ => Cert.Kernel2Ideal.Gen.frame m ρ

/-! The two programs are one text: the claim about the other is read off the same run, over the float values as bits. -/

theorem body_same : (Cert.Kernel2.defs₀ (F := Bits)) = (Cert.Kernel2Ideal.defs₀ (F := Bits)) := by
  funext p
  cases p with
  | tc =>
    funext l
    match l with
    | ⟨0, _⟩ => rfl
  | scScalar i => rfl
  | scVector i j => rfl
theorem defs_same : (Cert.Kernel2.defs (F := Bits)) = (Cert.Kernel2Ideal.defs (F := Bits)) :=
  congrArg (Pipeline.defs (Cert.Kernel2Ideal.pcfgs (F := Bits))) body_same
theorem frame_kernel : Cert.quiescent_Kernel2 (hKernel2 := Cert.Kernel2.Gen.facts) := fun m ρ _ => by
  have h := Cert.Kernel2Ideal.Gen.frame (F := Bits) m ρ
  rw [← defs_same] at h
  exact h

/-- The reference leaves its arguments as they were; it declares no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem frame_reference_pre [hPre : Cert.Pre_finite_gate.Facts] : Cert.quiescent_Reference2Ideal_pre_finite_gate := fun m ρ _ => frame_reference m ρ trivial

/-- Both leave the plain formula of the arguments in their result. -/
theorem same_value [hPre : Cert.Pre_finite_gate.Facts] : Cert.algebraic_Kernel2Ideal_Reference2Ideal_pre_finite_gate := fun m ρ m' ρ' hpre h => by
  refine ⟨outV m, (θ_run Cert.Kernel2Ideal.defs _ _).mono (fun _ hh c => ⟨(hh c).1.trans (result_eq m c (isReal_gate (hpre c))), (hh c).2⟩)
      (Cert.Kernel2Ideal.Value.run (F := Ideal) m ρ),
    (θ_run Cert.Reference2Ideal.defs _ _).mono (fun _ hh c => ⟨(hh c).1.trans ?_, (hh c).2⟩) (Cert.Reference2Ideal.Value.run (F := Ideal) m' ρ')⟩
  obtain ⟨e0, e1, e2, e3, e4, e5, e6⟩ := h c
  unfold outV xV gpreV wupV cwV cbV wdV gpostV
  rw [← e0, ← e1, ← e2, ← e3, ← e4, ← e5, ← e6]
  rfl
end Frames

end Cert.Proof.ConvFfn

end
-- ==== Proof.MixIn.Frames.lean ====
/-
  The two readings of the projecting call are one text: the frame of the other is read off the same run.
-/
module

public import proofs.«01_k».proof.Defs
public import proofs.«01_k».proof.Proof.Gen.Kernel3
public import proofs.«01_k».proof.Proof.Gen.Kernel3Ideal.Value
public import proofs.«01_k».proof.Proof.Gen.Reference3Ideal.Run

@[expose] public section

set_option maxRecDepth 16384

noncomputable section

namespace Cert.Proof.MixIn

open Idealize.ShloMosaic Idealize.SL.Sem Idealize.ShloMosaic.TcCoe
open Cert.Kernel3Ideal Cert.Kernel3Ideal.Gen

theorem sig_same : Cert.Kernel3.sig = Cert.Kernel3Ideal.sig := rfl

/-! The two programs are one text: the claim about the other is read off the same run, over the float values as bits. -/

set_option maxHeartbeats 4000000 in
theorem body_same : (Cert.Kernel3.defs₀ (F := Bits)) = (Cert.Kernel3Ideal.defs₀ (F := Bits)) := by
  funext p
  cases p with
  | tc =>
    funext l
    match l with
    | ⟨0, _⟩ => rfl
  | scScalar i => rfl
  | scVector i j => rfl
set_option maxHeartbeats 4000000 in
theorem defs_same : (Cert.Kernel3.defs (F := Bits)) = (Cert.Kernel3Ideal.defs (F := Bits)) :=
  congrArg (Pipeline.defs (Cert.Kernel3Ideal.pcfgs (F := Bits))) body_same
set_option maxHeartbeats 4000000 in
theorem frame_kernel : Cert.quiescent_Kernel3 (hKernel3 := Cert.Kernel3.Gen.facts) := fun m ρ _ => by
  have h := Cert.Kernel3Ideal.Gen.frame (F := Bits) m ρ
  rw [← defs_same] at h
  exact h

end Cert.Proof.MixIn

end
-- ==== Proof.MixIn.Point.lean ====
/-
  One grid point of the call that projects into the mixing sub-layer: what it writes to its blocks and what it leaves in
  the two carried arrays, as functions of the point's blocks, of the converted weights and of the sixteen rows carried in.
  A point computes two tiles of 512 rows; both are one function of the tile's rows.
-/
module

public import proofs.«01_k».proof.Proof.Gen.Kernel3Ideal.Value
public import proofs.«01_k».proof.Proof.ConvFfn.Point
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.MixIn

open Idealize.ShloMosaic Idealize.ShloMosaic.TcCoe Idealize.ShloMosaic.Tactic
open Cert.Kernel3Ideal Cert.Kernel3Ideal.Gen
open Cert.Proof.ConvFfn (blocks canon_blocks)

variable {F : FTy → Type} [FloatOps F]

/-! ## Rows stacked in a scratch array -/

/-- The zero every scratch array starts with. -/
abbrev zero : F .f32 := Scalar.ofBits .f32 0x00000000#32

/-- Rows `o`, `o + 1`, … and columns `l`, `l + 1`, … of an array of eight rows of zeros and then the rows of `a`. -/
def under {n w N W : ℕ} (a : Vec F ⟨2, ![n, w]⟩ .f32) (o l : ℕ) (hN : o + N ≤ n + 8) (hW : l + W ≤ w) : Vec F ⟨2, ![N, W]⟩ .f32 := fun x =>
  if h : (x 0).val + o < 8 then zero
  else a (ix2 ⟨(x 0).val + o - 8, by have : (x 0).val < N := (x 0).isLt; omega⟩ ⟨(x 1).val + l, by have : (x 1).val < W := (x 1).isLt; omega⟩)

/-- Sixteen rows, then a tile's. -/
def withHalo (halo : Vec F S16x512 .f32) (u : Vec F S512x512 .f32) : Vec F S528x512 .f32 := fun x =>
  if h : (x 0).val < 16 then halo (ix2 ⟨(x 0).val, h⟩ ⟨(x 1).val, (x 1).isLt⟩)
  else u (ix2 ⟨(x 0).val - 16, by have : (x 0).val < 528 := (x 0).isLt; omega⟩ ⟨(x 1).val, (x 1).isLt⟩)

/-- A tile's last sixteen rows. -/
def lastRows (u : Vec F S512x512 .f32) : Vec F S16x512 .f32 := fun x =>
  u (ix2 ⟨496 + (x 0).val, by have : (x 0).val < 16 := (x 0).isLt; omega⟩ ⟨(x 1).val, (x 1).isLt⟩)

/-- The stores leave zeros in the array's first eight rows. -/
def Padded {n w : ℕ} (L : List (View.Piece (Elt F) (⟨2, ![n, w]⟩ : Shape) .f32)) : Prop :=
  ∀ y : (⟨2, ![n, w]⟩ : Shape).Idx, (y 0).val < 8 → View.canon L y = zero

theorem Padded.skip {n w o k l : ℕ} {L : List (View.Piece (Elt F) (⟨2, ![n, w]⟩ : Shape) .f32)} (hL : Padded L)
    (inb : ∀ b, (![o, l] : Fin 2 → ℕ) b + (![k, w] : Fin 2 → ℕ) b ≤ (⟨2, ![n, w]⟩ : Shape).size b) (a) (ho : 8 ≤ o) :
    Padded (⟨Rect.unit (s := ⟨2, ![n, w]⟩) ![o, l] ![k, w] inb, a⟩ :: L) := fun y hy => by
  rw [View.canon_cons_of_not_mem]
  · exact hL y hy
  · intro hm
    have h0 := (Rect.mem_set_unit (inb := inb)).mp hm 0
    simp at h0
    omega

theorem Padded.hit {n w : ℕ} {L : List (View.Piece (Elt F) (⟨2, ![n, w]⟩ : Shape) .f32)}
    (inb : ∀ b, (![0, 0] : Fin 2 → ℕ) b + (![8, w] : Fin 2 → ℕ) b ≤ (⟨2, ![n, w]⟩ : Shape).size b) (a) (ha : ∀ x, a x = zero) :
    Padded (⟨Rect.unit (s := ⟨2, ![n, w]⟩) ![0, 0] ![8, w] inb, a⟩ :: L) := fun y hy => by
  have e : y = (Rect.unit (s := ⟨2, ![n, w]⟩) ![0, 0] ![8, w] inb).emb (ix2 ⟨(y 0).val, hy⟩ ⟨(y 1).val, (y 1).isLt⟩) :=
    funext fun b => Fin.ext (by fin_cases b <;> simp)
  rw [e]
  exact (View.canon_cons_emb (Val := Elt F) _ _ _ _).trans (ha _)

/-- Reading rows of an array whose rows from the eighth were stored. -/
theorem read_under {sig : RefSig} {κ : Kind} {sp : Space} {m w N W : ℕ} (v : View sig κ sp ⟨2, ![m, w]⟩ .f32) (n o l : ℕ)
    (a : Vec F ⟨2, ![n, w]⟩ .f32) (L : List (View.Piece (Elt F) ⟨2, ![m, w]⟩ .f32)) (hL : Padded L)
    (i₁ : ∀ b, (![8, 0] : Fin 2 → ℕ) b + (![n, w] : Fin 2 → ℕ) b ≤ (⟨2, ![m, w]⟩ : Shape).size b)
    (i₃ : ∀ b, (![o, l] : Fin 2 → ℕ) b + (![N, W] : Fin 2 → ℕ) b ≤ (⟨2, ![m, w]⟩ : Shape).size b) (hN : o + N ≤ n + 8) (hW : l + W ≤ w) :
    v.readCov (⟨Rect.unit (s := ⟨2, ![m, w]⟩) ![8, 0] ![n, w] i₁, a⟩ :: L) (Rect.unit (s := ⟨2, ![m, w]⟩) ![o, l] ![N, W] i₃).toLoadRect
      = under a o l hN hW := by
  rw [View.readCov_eq_canon']
  funext x
  have hx0 : (x 0).val < N := (x 0).isLt
  by_cases h : (x 0).val + o < 8
  · rw [under, dif_pos h]
    exact (hL.skip i₁ a le_rfl) _ (by show o + 1 * (x 0).val < 8; omega)
  · rw [under, dif_neg h]
    exact (congrArg _ (funext fun b => Fin.ext (by fin_cases b <;> simp <;> omega))).trans (View.canon_cons_emb (Val := Elt F) _ _ _ _)

/-- The rows above and the tile's, stored one after another, are one array of rows. -/
theorem canon_halo (halo : Vec F S16x512 .f32) (u : Vec F S512x512 .f32) (L : List (View.Piece (Elt F) S536x512 .f32))
    (i₁ : ∀ b, (![24, 0] : Fin 2 → ℕ) b + (![512, 512] : Fin 2 → ℕ) b ≤ S536x512.size b)
    (i₂ : ∀ b, (![8, 0] : Fin 2 → ℕ) b + (![16, 512] : Fin 2 → ℕ) b ≤ S536x512.size b)
    (i₃ : ∀ b, (![8, 0] : Fin 2 → ℕ) b + (![528, 512] : Fin 2 → ℕ) b ≤ S536x512.size b) :
    View.canon (⟨Rect.unit (s := S536x512) ![24, 0] ![512, 512] i₁, u⟩ :: ⟨Rect.unit (s := S536x512) ![8, 0] ![16, 512] i₂, halo⟩ :: L)
      = View.canon (⟨Rect.unit (s := S536x512) ![8, 0] ![528, 512] i₃, withHalo halo u⟩ :: L) := by
  funext y
  have hy : (y 0).val < 536 := (y 0).isLt
  have hy1 : (y 1).val < 512 := (y 1).isLt
  by_cases h8 : (y 0).val < 8
  · rw [View.canon_cons_of_not_mem, View.canon_cons_of_not_mem, View.canon_cons_of_not_mem]
    · intro hm; have h0 := (Rect.mem_set_unit (inb := i₃)).mp hm 0; simp at h0; omega
    · intro hm; have h0 := (Rect.mem_set_unit (inb := i₂)).mp hm 0; simp at h0; omega
    · intro hm; have h0 := (Rect.mem_set_unit (inb := i₁)).mp hm 0; simp at h0; omega
  have e3 : y = (Rect.unit (s := S536x512) ![8, 0] ![528, 512] i₃).emb (ix2 ⟨(y 0).val - 8, by omega⟩ ⟨(y 1).val, hy1⟩) :=
    funext fun b => Fin.ext (by fin_cases b <;> simp <;> omega)
  have r3 : View.canon (⟨Rect.unit (s := S536x512) ![8, 0] ![528, 512] i₃, withHalo halo u⟩ :: L) y = withHalo halo u (ix2 ⟨(y 0).val - 8, by omega⟩ ⟨(y 1).val, hy1⟩) :=
    (congrArg _ e3).trans (View.canon_cons_emb (Val := Elt F) _ _ _ _)
  rw [r3]
  by_cases h24 : (y 0).val < 24
  · rw [withHalo, dif_pos (by show (y 0).val - 8 < 16; omega), View.canon_cons_of_not_mem]
    · have e2 : y = (Rect.unit (s := S536x512) ![8, 0] ![16, 512] i₂).emb (ix2 ⟨(y 0).val - 8, by omega⟩ ⟨(y 1).val, hy1⟩) :=
        funext fun b => Fin.ext (by fin_cases b <;> simp <;> omega)
      exact (congrArg _ e2).trans (View.canon_cons_emb (Val := Elt F) _ _ _ _)
    · intro hm; have h0 := (Rect.mem_set_unit (inb := i₁)).mp hm 0; simp at h0; omega
  · rw [withHalo, dif_neg (by show ¬(y 0).val - 8 < 16; omega)]
    have e1 : y = (Rect.unit (s := S536x512) ![24, 0] ![512, 512] i₁).emb (ix2 ⟨(y 0).val - 8 - 16, by omega⟩ ⟨(y 1).val, hy1⟩) :=
      funext fun b => Fin.ext (by fin_cases b <;> simp <;> omega)
    exact (congrArg _ e1).trans (View.canon_cons_emb (Val := Elt F) _ _ _ _)

theorem inb_rows : ∀ b, (![8, 0] : Fin 2 → ℕ) b + (![528, 512] : Fin 2 → ℕ) b ≤ S536x512.size b := by decide

theorem read_halo {sig : RefSig} {κ : Kind} {sp : Space} (v : View sig κ sp S536x512 .f32) (o : ℕ) (halo : Vec F S16x512 .f32) (u : Vec F S512x512 .f32)
    (L : List (View.Piece (Elt F) S536x512 .f32)) (hL : Padded (n := 536) (w := 512) L)
    (i₁ : ∀ b, (![24, 0] : Fin 2 → ℕ) b + (![512, 512] : Fin 2 → ℕ) b ≤ S536x512.size b)
    (i₂ : ∀ b, (![8, 0] : Fin 2 → ℕ) b + (![16, 512] : Fin 2 → ℕ) b ≤ S536x512.size b)
    (i₃ : ∀ b, (![o, 0] : Fin 2 → ℕ) b + (![528, 512] : Fin 2 → ℕ) b ≤ S536x512.size b) (ho : o + 528 ≤ 528 + 8) :
    v.readCov (⟨Rect.unit (s := S536x512) ![24, 0] ![512, 512] i₁, u⟩ :: ⟨Rect.unit (s := S536x512) ![8, 0] ![16, 512] i₂, halo⟩ :: L)
      (Rect.unit (s := S536x512) ![o, 0] ![528, 512] i₃).toLoadRect = under (withHalo halo u) o 0 ho (by norm_num) := by
  refine Eq.trans ?_ (read_under v 528 o 0 (withHalo halo u) L hL inb_rows i₃ ho (by norm_num))
  rw [View.readCov_eq_canon', View.readCov_eq_canon', canon_halo _ _ _ _ _ inb_rows]

/-- Reading back the tile's last sixteen rows. -/
theorem read_last {sig : RefSig} {κ : Kind} {sp : Space} (v : View sig κ sp S536x512 .f32) (u : Vec F S512x512 .f32)
    (L : List (View.Piece (Elt F) S536x512 .f32))
    (i₁ : ∀ b, (![24, 0] : Fin 2 → ℕ) b + (![512, 512] : Fin 2 → ℕ) b ≤ S536x512.size b)
    (i₃ : ∀ b, (![520, 0] : Fin 2 → ℕ) b + (![16, 512] : Fin 2 → ℕ) b ≤ S536x512.size b) :
    v.readCov (⟨Rect.unit (s := S536x512) ![24, 0] ![512, 512] i₁, u⟩ :: L) (Rect.unit (s := S536x512) ![520, 0] ![16, 512] i₃).toLoadRect = lastRows u := by
  rw [View.readCov_eq_canon']
  funext x
  exact (congrArg _ (funext fun b => Fin.ext (by fin_cases b <;> simp <;> omega))).trans (View.canon_cons_emb (Val := Elt F) _ _ _ _)

/-- The carried array's last sixteen rows. -/
def haloOf (a : Vec F S536x512 .f32) : Vec F S16x512 .f32 := fun x =>
  a (ix2 ⟨520 + (x 0).val, by have : (x 0).val < 16 := (x 0).isLt; omega⟩ ⟨(x 1).val, (x 1).isLt⟩)
theorem ld_halo (a : Vec F S536x512 .f32) (i₃ : ∀ b, (![520, 0] : Fin 2 → ℕ) b + (![16, 512] : Fin 2 → ℕ) b ≤ S536x512.size b) :
    View.ld a (Rect.unit (s := S536x512) ![520, 0] ![16, 512] i₃) = haloOf a :=
  funext fun x => congrArg a (funext fun b => Fin.ext (by fin_cases b <;> simp))
theorem haloOf_canon (u : Vec F S512x512 .f32) (L : List (View.Piece (Elt F) S536x512 .f32))
    (i₁ : ∀ b, (![24, 0] : Fin 2 → ℕ) b + (![512, 512] : Fin 2 → ℕ) b ≤ S536x512.size b) :
    haloOf (View.canon (⟨Rect.unit (s := S536x512) ![24, 0] ![512, 512] i₁, u⟩ :: L)) = lastRows u := by
  funext x
  have hx0 : (x 0).val < 16 := (x 0).isLt
  have hx1 : (x 1).val < 512 := (x 1).isLt
  have e : (ix2 ⟨520 + (x 0).val, by omega⟩ ⟨(x 1).val, hx1⟩ : S536x512.Idx)
      = (Rect.unit (s := S536x512) ![24, 0] ![512, 512] i₁).emb (ix2 ⟨496 + (x 0).val, by omega⟩ ⟨(x 1).val, hx1⟩) :=
    funext fun b => Fin.ext (by fin_cases b <;> simp <;> omega)
  unfold haloOf lastRows
  rw [e]
  exact View.canon_cons_emb (Val := Elt F) _ _ _ _

/-! ## A tile -/

section Tile
variable (x : Vec F S1x512x1024 .f32) (g : Vec F S1x1024 .f32) (W : Vec F S1024x2048 .bf16) (cs sn : Vec F S512x128 .f32)
  (wp : Vec F S4x128x128 .f32) (bp sp : Vec F S1x512 .f32) (halo : Vec F S16x512 .f32) (t0 : BitVec 32)

theorem inb_w (k : Fin 4) : ∀ b, (![0, k.val * 512] : Fin 2 → ℕ) b + (![1024, 512] : Fin 2 → ℕ) b ≤ S1024x2048.size b := by
  intro b; have := k.isLt; fin_cases b <;> simp [S1024x2048] <;> omega
/-- The weights' columns of the queries, the keys, the values and the pooled rows. -/
def wCols (k : Fin 4) : Vec F S1024x512 .bf16 := View.ld W (Rect.unit (s := S1024x2048) ![0, k.val * 512] ![1024, 512] (inb_w k))

def qTile : FVec F S1x512x512 .bf16 :=
  k0_pay40 (k0_pay35 cs) (k0_pay36 sn) k0_pay37 (k0_pay38 (k0_pay13 x g) (wCols W 0)) (k0_pay39 (k0_pay13 x g) (wCols W 0)) 32#32
def kTile : FVec F S1x512x512 .bf16 := k0_pay41 (k0_pay13 x g) (k0_pay35 cs) (k0_pay36 sn) k0_pay37 (wCols W 1)
def vTile : FVec F S1x512x512 .bf16 := k0_pay42 (k0_pay13 x g) (wCols W 2)
/-- The pooled rows before pooling. -/
def uTile : FVec F S512x512 .f32 := k0_pay16 x g (wCols W 3)
/-- The tile's rows under the sixteen above them, and the same moved down by one; -/
def rows0 : Vec F S528x512 .f32 := under (withHalo (k0_pay15 halo) (uTile x g W)) 8 0 (by norm_num) (by norm_num)
def rows1 : Vec F S528x512 .f32 := under (withHalo (k0_pay15 halo) (uTile x g W)) 7 0 (by norm_num) (by norm_num)
/-- the sums of two moved down by two, of four by four, of eight by eight. -/
def rows2 : Vec F S528x384 .f32 := under (k0_pay18 (rows0 x g W halo) (rows1 x g W halo)) 6 128 (by norm_num) (by norm_num)
def rows4 : Vec F S528x256 .f32 := under (k0_pay20 (rows0 x g W halo) (rows1 x g W halo) (rows2 x g W halo)) 4 128 (by norm_num) (by norm_num)
def rows8 : Vec F S512x128 .f32 := under (k0_pay22 (rows0 x g W halo) (rows1 x g W halo) (rows2 x g W halo) (rows4 x g W halo)) 16 128 (by norm_num) (by norm_num)

theorem inb_mat (k : Fin 4) : ∀ b, (![k.val, 0, 0] : Fin 3 → ℕ) b + (![1, 128, 128] : Fin 3 → ℕ) b ≤ S4x128x128.size b := by
  intro b; have := k.isLt; fin_cases b <;> simp [S4x128x128] <;> omega
theorem inb_col (k : Fin 4) : ∀ b, (![0, k.val * 128] : Fin 2 → ℕ) b + (![1, 128] : Fin 2 → ℕ) b ≤ S1x512.size b := by
  intro b; have := k.isLt; fin_cases b <;> simp [S1x512] <;> omega
def mat (k : Fin 4) : Vec F S1x128x128 .f32 := View.ld wp (Rect.unit (s := S4x128x128) ![k.val, 0, 0] ![1, 128, 128] (inb_mat k))
def colsOf (a : Vec F S1x512 .f32) (k : Fin 4) : Vec F S1x128 .f32 := View.ld a (Rect.unit (s := S1x512) ![0, k.val * 128] ![1, 128] (inb_col k))

/-- The pooling mixer's groups. -/
def yTile (k : Fin 4) : FVec F S1x512x128 .bf16 :=
  match k with
  | ⟨0, _⟩ => k0_pay28 (k0_pay27 t0 (k0_pay14 x g (wCols W 3)) (rows0 x g W halo) (rows1 x g W halo) (mat wp 0)) (colsOf bp 0) (colsOf sp 0)
  | ⟨1, _⟩ => k0_pay29 (k0_pay14 x g (wCols W 3)) (k0_pay24 (rows0 x g W halo) (rows1 x g W halo) (rows2 x g W halo)) (k0_pay26 t0) (mat wp 1) (colsOf bp 1) (colsOf sp 1)
  | ⟨2, _⟩ => k0_pay31 (k0_pay14 x g (wCols W 3)) (k0_pay25 (rows0 x g W halo) (rows1 x g W halo) (rows2 x g W halo) (rows4 x g W halo)) (k0_pay26 t0) k0_pay30 (mat wp 2) (colsOf bp 2) (colsOf sp 2)
  | ⟨3, _⟩ => k0_pay34 (k0_pay32 (k0_pay14 x g (wCols W 3)) (k0_pay23 (rows0 x g W halo) (rows1 x g W halo) (rows2 x g W halo) (rows4 x g W halo) (rows8 x g W halo)) (k0_pay26 t0) (mat wp 3)) (k0_pay33 (colsOf bp 3)) (colsOf sp 3)
end Tile

/-! ## A point's two tiles -/

section Both
variable (x : Vec F S1x1024x1024 .f32) (g : Vec F S1x1024 .f32) (W : Vec F S1024x2048 .bf16) (cs sn : Vec F S1024x128 .f32)
  (wp : Vec F S4x128x128 .f32) (bp sp : Vec F S1x512 .f32) (halo : Vec F S16x512 .f32) (i : BitVec 32)

theorem inb_x (q : Fin 2) : ∀ b, (![0, q.val * 512, 0] : Fin 3 → ℕ) b + (![1, 512, 1024] : Fin 3 → ℕ) b ≤ S1x1024x1024.size b := by
  intro b; have := q.isLt; fin_cases b <;> simp [S1x1024x1024] <;> omega
theorem inb_t (q : Fin 2) : ∀ b, (![q.val * 512, 0] : Fin 2 → ℕ) b + (![512, 128] : Fin 2 → ℕ) b ≤ S1024x128.size b := by
  intro b; have := q.isLt; fin_cases b <;> simp [S1024x128] <;> omega
def xHalf (q : Fin 2) : Vec F S1x512x1024 .f32 := View.ld x (Rect.unit (s := S1x1024x1024) ![0, q.val * 512, 0] ![1, 512, 1024] (inb_x q))
def tHalf (a : Vec F S1024x128 .f32) (q : Fin 2) : Vec F S512x128 .f32 := View.ld a (Rect.unit (s := S1024x128) ![q.val * 512, 0] ![512, 128] (inb_t q))
/-- The rows above each tile: those carried in, then the first tile's last. -/
def haloAt (q : Fin 2) : Vec F S16x512 .f32 := if q.val = 0 then halo else lastRows (uTile (xHalf x 0) g W)
def startAt (q : Fin 2) : BitVec 32 := Scalar.addi (Scalar.muli i 1024#32) (BitVec.ofNat 32 (q.val * 512))

def qBoth : Vec F S1x512x1024 .bf16 := fun y =>
  qTile (xHalf x ⟨(y 2).val / 512, by have : (y 2).val < 1024 := (y 2).isLt; omega⟩) g W (tHalf cs ⟨(y 2).val / 512, by have : (y 2).val < 1024 := (y 2).isLt; omega⟩)
    (tHalf sn ⟨(y 2).val / 512, by have : (y 2).val < 1024 := (y 2).isLt; omega⟩) (ix3 0 ⟨(y 1).val, (y 1).isLt⟩ ⟨(y 2).val % 512, Nat.mod_lt _ (by norm_num)⟩)
def kBoth : Vec F S1x1024x512 .bf16 := fun y =>
  kTile (xHalf x ⟨(y 1).val / 512, by have : (y 1).val < 1024 := (y 1).isLt; omega⟩) g W (tHalf cs ⟨(y 1).val / 512, by have : (y 1).val < 1024 := (y 1).isLt; omega⟩)
    (tHalf sn ⟨(y 1).val / 512, by have : (y 1).val < 1024 := (y 1).isLt; omega⟩) (ix3 0 ⟨(y 1).val % 512, Nat.mod_lt _ (by norm_num)⟩ ⟨(y 2).val, (y 2).isLt⟩)
def vBoth : Vec F S1x512x1024 .bf16 := fun y =>
  vTile (xHalf x ⟨(y 2).val / 512, by have : (y 2).val < 1024 := (y 2).isLt; omega⟩) g W (ix3 0 ⟨(y 1).val, (y 1).isLt⟩ ⟨(y 2).val % 512, Nat.mod_lt _ (by norm_num)⟩)
/-- The group `k` of tile `q`. -/
def yPart (q : Fin 2) (k : Fin 4) : FVec F S1x512x128 .bf16 := yTile (xHalf x q) g W wp bp sp (haloAt x g W halo q) (startAt i q) k
def yBoth : Vec F S1x1024x512 .bf16 := fun y =>
  yPart x g W wp bp sp halo i ⟨(y 1).val / 512, by have : (y 1).val < 1024 := (y 1).isLt; omega⟩ ⟨(y 2).val / 128, by have : (y 2).val < 512 := (y 2).isLt; omega⟩
    (ix3 0 ⟨(y 1).val % 512, Nat.mod_lt _ (by norm_num)⟩ ⟨(y 2).val % 128, Nat.mod_lt _ (by norm_num)⟩)

theorem inb_lanes (q : Fin 2) : ∀ b, (![0, 0, q.val * 512] : Fin 3 → ℕ) b + (![1, 512, 512] : Fin 3 → ℕ) b ≤ S1x512x1024.size b := by
  intro b; have := q.isLt; fin_cases b <;> simp [S1x512x1024] <;> omega
theorem inb_half (q : Fin 2) : ∀ b, (![0, q.val * 512, 0] : Fin 3 → ℕ) b + (![1, 512, 512] : Fin 3 → ℕ) b ≤ S1x1024x512.size b := by
  intro b; have := q.isLt; fin_cases b <;> simp [S1x1024x512] <;> omega
theorem inb_part (n : Fin 8) : ∀ b, (![0, n.val / 4 * 512, n.val % 4 * 128] : Fin 3 → ℕ) b + (![1, 512, 128] : Fin 3 → ℕ) b ≤ S1x1024x512.size b := by
  intro b; have := n.isLt; fin_cases b <;> simp [S1x1024x512] <;> omega

/-- Two halves stored side by side along the lanes. -/
theorem canon_lanes (f : Fin 2 → Vec F S1x512x512 .bf16) (L : List (View.Piece (Elt F) S1x512x1024 .bf16)) :
    View.canon (blocks 2 (fun q => Rect.unit (s := S1x512x1024) ![0, 0, q.val * 512] ![1, 512, 512] (inb_lanes q)) f 2 le_rfl ++ L)
      = fun y => f ⟨(y 2).val / 512, by have : (y 2).val < 1024 := (y 2).isLt; omega⟩ (ix3 0 ⟨(y 1).val, (y 1).isLt⟩ ⟨(y 2).val % 512, Nat.mod_lt _ (by norm_num)⟩) := by
  refine canon_blocks _ (fun q z => ?_) (fun y => ?_) L
  · have h0 : (z 0).val < 1 := (z 0).isLt
    have h2 : (z 2).val < 512 := (z 2).isLt
    refine congrArg₂ (fun q z => f q z) (Fin.ext ?_) (funext fun b => Fin.ext ?_)
    · show q.val = (q.val * 512 + 1 * (z 2).val) / 512; omega
    fin_cases b
    · show (z 0).val = 0; omega
    · show (z 1).val = 0 + 1 * (z 1).val; omega
    · show (z 2).val = (q.val * 512 + 1 * (z 2).val) % 512; omega
  · have h0 : (y 0).val < 1 := (y 0).isLt
    have h1 : (y 1).val < 512 := (y 1).isLt
    have h2 : (y 2).val < 1024 := (y 2).isLt
    refine ⟨⟨(y 2).val / 512, by omega⟩, Rect.mem_set_unit.mpr fun a => ?_⟩
    fin_cases a
    · show 0 ≤ (y 0).val ∧ (y 0).val < 0 + 1; omega
    · show 0 ≤ (y 1).val ∧ (y 1).val < 0 + 512; omega
    · show (y 2).val / 512 * 512 ≤ (y 2).val ∧ (y 2).val < (y 2).val / 512 * 512 + 512; omega

/-- Two halves stored one under the other. -/
theorem canon_half (f : Fin 2 → Vec F S1x512x512 .bf16) (L : List (View.Piece (Elt F) S1x1024x512 .bf16)) :
    View.canon (blocks 2 (fun q => Rect.unit (s := S1x1024x512) ![0, q.val * 512, 0] ![1, 512, 512] (inb_half q)) f 2 le_rfl ++ L)
      = fun y => f ⟨(y 1).val / 512, by have : (y 1).val < 1024 := (y 1).isLt; omega⟩ (ix3 0 ⟨(y 1).val % 512, Nat.mod_lt _ (by norm_num)⟩ ⟨(y 2).val, (y 2).isLt⟩) := by
  refine canon_blocks _ (fun q z => ?_) (fun y => ?_) L
  · have h0 : (z 0).val < 1 := (z 0).isLt
    have h1 : (z 1).val < 512 := (z 1).isLt
    refine congrArg₂ (fun q z => f q z) (Fin.ext ?_) (funext fun b => Fin.ext ?_)
    · show q.val = (q.val * 512 + 1 * (z 1).val) / 512; omega
    fin_cases b
    · show (z 0).val = 0; omega
    · show (z 1).val = (q.val * 512 + 1 * (z 1).val) % 512; omega
    · show (z 2).val = 0 + 1 * (z 2).val; omega
  · have h0 : (y 0).val < 1 := (y 0).isLt
    have h1 : (y 1).val < 1024 := (y 1).isLt
    have h2 : (y 2).val < 512 := (y 2).isLt
    refine ⟨⟨(y 1).val / 512, by omega⟩, Rect.mem_set_unit.mpr fun a => ?_⟩
    fin_cases a
    · show 0 ≤ (y 0).val ∧ (y 0).val < 0 + 1; omega
    · show (y 1).val / 512 * 512 ≤ (y 1).val ∧ (y 1).val < (y 1).val / 512 * 512 + 512; omega
    · show 0 ≤ (y 2).val ∧ (y 2).val < 0 + 512; omega

/-- The four groups of two tiles. -/
theorem canon_parts (f : Fin 2 → Fin 4 → Vec F S1x512x128 .bf16) (L : List (View.Piece (Elt F) S1x1024x512 .bf16)) :
    View.canon (blocks 8 (fun n => Rect.unit (s := S1x1024x512) ![0, n.val / 4 * 512, n.val % 4 * 128] ![1, 512, 128] (inb_part n))
        (fun n => f ⟨n.val / 4, by omega⟩ ⟨n.val % 4, Nat.mod_lt _ (by norm_num)⟩) 8 le_rfl ++ L)
      = fun y => f ⟨(y 1).val / 512, by have : (y 1).val < 1024 := (y 1).isLt; omega⟩ ⟨(y 2).val / 128, by have : (y 2).val < 512 := (y 2).isLt; omega⟩
          (ix3 0 ⟨(y 1).val % 512, Nat.mod_lt _ (by norm_num)⟩ ⟨(y 2).val % 128, Nat.mod_lt _ (by norm_num)⟩) := by
  refine canon_blocks _ (fun n z => ?_) (fun y => ?_) L
  · have h0 : (z 0).val < 1 := (z 0).isLt
    have h1 : (z 1).val < 512 := (z 1).isLt
    have h2 : (z 2).val < 128 := (z 2).isLt
    have hq : (⟨n.val / 4, by omega⟩ : Fin 2) = ⟨(n.val / 4 * 512 + 1 * (z 1).val) / 512, by omega⟩ := Fin.ext (by show n.val / 4 = (n.val / 4 * 512 + 1 * (z 1).val) / 512; omega)
    have hk : (⟨n.val % 4, Nat.mod_lt _ (by norm_num)⟩ : Fin 4) = ⟨(n.val % 4 * 128 + 1 * (z 2).val) / 128, by omega⟩ :=
      Fin.ext (by show n.val % 4 = (n.val % 4 * 128 + 1 * (z 2).val) / 128; omega)
    dsimp only
    rw [hq, hk]
    refine congrArg (f _ _) (funext fun b => Fin.ext ?_)
    fin_cases b
    · show (z 0).val = 0; omega
    · show (z 1).val = (n.val / 4 * 512 + 1 * (z 1).val) % 512; omega
    · show (z 2).val = (n.val % 4 * 128 + 1 * (z 2).val) % 128; omega
  · have h0 : (y 0).val < 1 := (y 0).isLt
    have h1 : (y 1).val < 1024 := (y 1).isLt
    have h2 : (y 2).val < 512 := (y 2).isLt
    refine ⟨⟨(y 1).val / 512 * 4 + (y 2).val / 128, by omega⟩, Rect.mem_set_unit.mpr fun a => ?_⟩
    fin_cases a
    · show 0 ≤ (y 0).val ∧ (y 0).val < 0 + 1; omega
    · show ((y 1).val / 512 * 4 + (y 2).val / 128) / 4 * 512 ≤ (y 1).val ∧ (y 1).val < ((y 1).val / 512 * 4 + (y 2).val / 128) / 4 * 512 + 512; omega
    · show ((y 1).val / 512 * 4 + (y 2).val / 128) % 4 * 128 ≤ (y 2).val ∧ (y 2).val < ((y 1).val / 512 * 4 + (y 2).val / 128) % 4 * 128 + 128; omega
end Both

theorem pay9_zero (x) : (k0_pay9 : FVec F S8x512 .f32) x = zero := rfl
theorem pay10_zero (x) : (k0_pay10 : FVec F S8x512 .f32) x = zero := rfl
theorem pay12_zero (x) : (k0_pay12 (k0_pay11 : FVec F S8x384 .f32)) x = zero := rfl

/-! ## The second tile's operations are the first's -/

section Second
theorem s43 : @k0_pay43 F _ = k0_pay13 := rfl
theorem s44 : @k0_pay44 F _ = k0_pay14 := rfl
theorem s45 : @k0_pay45 F = k0_pay15 := rfl
theorem s46 : @k0_pay46 F _ = k0_pay16 := rfl
theorem s47 : @k0_pay47 F _ = k0_pay17 := rfl
theorem s48 : @k0_pay48 F _ = k0_pay18 := rfl
theorem s49 : @k0_pay49 F _ = k0_pay19 := rfl
theorem s50 (a b : Vec F S528x512 .f32) (c : Vec F S528x384 .f32) : k0_pay50 (k0_pay19 a b c) = k0_pay20 a b c := rfl
theorem s52 (a b : Vec F S528x512 .f32) (c : Vec F S528x384 .f32) (d : Vec F S528x256 .f32) : k0_pay52 (k0_pay19 a b c) d = k0_pay22 a b c d := rfl
theorem s53 (a b : Vec F S528x512 .f32) (c : Vec F S528x384 .f32) (d : Vec F S528x256 .f32) (e : Vec F S512x128 .f32) :
    k0_pay53 (k0_pay19 a b c) d e = k0_pay23 a b c d e := rfl
theorem s54 (a b : Vec F S528x512 .f32) (c : Vec F S528x384 .f32) : k0_pay54 (k0_pay19 a b c) = k0_pay24 a b c := rfl
theorem s55 (a b : Vec F S528x512 .f32) (c : Vec F S528x384 .f32) (d : Vec F S528x256 .f32) : k0_pay55 (k0_pay19 a b c) d = k0_pay25 a b c d := rfl
theorem s56 : k0_pay56 = k0_pay26 := rfl
theorem s58 (t : BitVec 32) (u : FVec F S512x512 .f32) (a b : Vec F S528x512 .f32) (w : Vec F S1x128x128 .f32) (c s : Vec F S1x128 .f32) :
    k0_pay58 (k0_pay57 t u (k0_pay17 a b) w c s) = k0_pay28 (k0_pay27 t u a b w) c s := rfl
theorem s59 : @k0_pay59 F _ = k0_pay29 := rfl
theorem s61 (u : FVec F S512x512 .f32) (a : FVec F S512x128 .f32) (p : IVec S512x128 32) (w : Vec F S1x128x128 .f32) (c s : Vec F S1x128 .f32) :
    k0_pay61 (k0_pay60 u a p) w c s = k0_pay31 u a p k0_pay30 w c s := rfl
theorem s63 (u : FVec F S512x512 .f32) (a : FVec F S512x128 .f32) (p : IVec S512x128 32) (w : Vec F S1x128x128 .f32) (c s : Vec F S1x128 .f32) :
    k0_pay63 (k0_pay62 u a p w c s) = k0_pay34 (k0_pay32 u a p w) (k0_pay33 c) s := rfl
theorem s64 : @k0_pay64 F = k0_pay35 := rfl
theorem s65 : @k0_pay65 F = k0_pay36 := rfl
theorem s66 : k0_pay66 = k0_pay37 := rfl
theorem s1 (h : FVec F S512x1024 .bf16) (c s : Vec F S512x128 .f32) (w : Vec F S1024x512 .bf16) :
    k0_pay1 (k0_pay67 h c s w) = k0_pay40 (k0_pay35 c) (k0_pay36 s) k0_pay37 (k0_pay38 h w) (k0_pay39 h w) 32#32 := rfl
theorem s2 : @k0_pay2 F _ = k0_pay41 := rfl
theorem s3 : @k0_pay3 F _ = k0_pay42 := rfl
end Second

/-- The pooling mixer's eight stores. -/
theorem y_stores (x : Vec F S1x1024x1024 .f32) (g : Vec F S1x1024 .f32) (W : Vec F S1024x2048 .bf16) (wp : Vec F S4x128x128 .f32) (bp sp : Vec F S1x512 .f32)
    (halo : Vec F S16x512 .f32) (i : BitVec 32) (f : Fin 8 → Vec F S1x512x128 .bf16)
    (hf : ∀ n : Fin 8, f n = yPart x g W wp bp sp halo i ⟨n.val / 4, by omega⟩ ⟨n.val % 4, Nat.mod_lt _ (by norm_num)⟩)
    {j7 j6 j5 j4 j3 j2 j1 j0} :
    View.canon [⟨Rect.unit (s := S1x1024x512) ![0, 512, 384] ![1, 512, 128] j7, f 7⟩, ⟨Rect.unit (s := S1x1024x512) ![0, 512, 256] ![1, 512, 128] j6, f 6⟩,
        ⟨Rect.unit (s := S1x1024x512) ![0, 512, 128] ![1, 512, 128] j5, f 5⟩, ⟨Rect.unit (s := S1x1024x512) ![0, 512, 0] ![1, 512, 128] j4, f 4⟩,
        ⟨Rect.unit (s := S1x1024x512) ![0, 0, 384] ![1, 512, 128] j3, f 3⟩, ⟨Rect.unit (s := S1x1024x512) ![0, 0, 256] ![1, 512, 128] j2, f 2⟩,
        ⟨Rect.unit (s := S1x1024x512) ![0, 0, 128] ![1, 512, 128] j1, f 1⟩, ⟨Rect.unit (s := S1x1024x512) ![0, 0, 0] ![1, 512, 128] j0, f 0⟩]
      = yBoth x g W wp bp sp halo i := by
  have e := canon_parts (yPart x g W wp bp sp halo i) []
  rw [← show f = fun n : Fin 8 => yPart x g W wp bp sp halo i ⟨n.val / 4, by omega⟩ ⟨n.val % 4, Nat.mod_lt _ (by norm_num)⟩ from funext hf] at e
  exact e

end Cert.Proof.MixIn
-- ==== Proof.MixIn.Points.lean ====
/-
  The three kinds of grid points: the first of all, which converts the weights; the first of a sequence, which carries no rows in;
  and the others, which take the sixteen rows the point before left.
-/
module

public import proofs.«01_k».proof.Proof.MixIn.Point

@[expose] public section

set_option maxRecDepth 16384

noncomputable section

namespace Cert.Proof.MixIn

open Idealize.ShloMosaic Idealize.ShloMosaic.TcCoe Idealize.ShloMosaic.Tactic
open Cert.Kernel3Ideal Cert.Kernel3Ideal.Gen

variable {F : FTy → Type} [FloatOps F]

/-! ## What the scratch arrays are read as, in a point's first tile and in its second -/

section Reads
variable {sig : RefSig} {κ : Kind} {sp : Space}

theorem read_rows (v : View sig κ sp S536x512 .f32) (o : ℕ) (halo : Vec F S16x512 .f32) (u : Vec F S512x512 .f32) (L : List (View.Piece (Elt F) S536x512 .f32))
    (i₀ : ∀ b, (![0, 0] : Fin 2 → ℕ) b + (![8, 512] : Fin 2 → ℕ) b ≤ S536x512.size b)
    (i₁ : ∀ b, (![24, 0] : Fin 2 → ℕ) b + (![512, 512] : Fin 2 → ℕ) b ≤ S536x512.size b)
    (i₂ : ∀ b, (![8, 0] : Fin 2 → ℕ) b + (![16, 512] : Fin 2 → ℕ) b ≤ S536x512.size b)
    (i₃ : ∀ b, (![o, 0] : Fin 2 → ℕ) b + (![528, 512] : Fin 2 → ℕ) b ≤ S536x512.size b) (ho : o + 528 ≤ 528 + 8) :
    v.readCov (⟨Rect.unit (s := S536x512) ![24, 0] ![512, 512] i₁, u⟩ :: ⟨Rect.unit (s := S536x512) ![8, 0] ![16, 512] i₂, halo⟩
        :: ⟨Rect.unit (s := S536x512) ![0, 0] ![8, 512] i₀, k0_pay9⟩ :: L)
      (Rect.unit (s := S536x512) ![o, 0] ![528, 512] i₃).toLoadRect = under (withHalo halo u) o 0 ho (by norm_num) :=
  read_halo v o halo u _ (Padded.hit (n := 536) (w := 512) i₀ _ pay9_zero) i₁ i₂ i₃ ho

theorem read_rows' (v : View sig κ sp S536x512 .f32) (o : ℕ) (halo halo' : Vec F S16x512 .f32) (u u' : Vec F S512x512 .f32) (L : List (View.Piece (Elt F) S536x512 .f32))
    (i₀ : ∀ b, (![0, 0] : Fin 2 → ℕ) b + (![8, 512] : Fin 2 → ℕ) b ≤ S536x512.size b)
    (i₁ i₁' : ∀ b, (![24, 0] : Fin 2 → ℕ) b + (![512, 512] : Fin 2 → ℕ) b ≤ S536x512.size b)
    (i₂ i₂' : ∀ b, (![8, 0] : Fin 2 → ℕ) b + (![16, 512] : Fin 2 → ℕ) b ≤ S536x512.size b)
    (i₃ : ∀ b, (![o, 0] : Fin 2 → ℕ) b + (![528, 512] : Fin 2 → ℕ) b ≤ S536x512.size b) (ho : o + 528 ≤ 528 + 8) :
    v.readCov (⟨Rect.unit (s := S536x512) ![24, 0] ![512, 512] i₁, u⟩ :: ⟨Rect.unit (s := S536x512) ![8, 0] ![16, 512] i₂, halo⟩
        :: ⟨Rect.unit (s := S536x512) ![24, 0] ![512, 512] i₁', u'⟩ :: ⟨Rect.unit (s := S536x512) ![8, 0] ![16, 512] i₂', halo'⟩
        :: ⟨Rect.unit (s := S536x512) ![0, 0] ![8, 512] i₀, k0_pay9⟩ :: L)
      (Rect.unit (s := S536x512) ![o, 0] ![528, 512] i₃).toLoadRect = under (withHalo halo u) o 0 ho (by norm_num) :=
  read_halo v o halo u _ (((Padded.hit (n := 536) (w := 512) i₀ _ pay9_zero).skip i₂' _ (by norm_num)).skip i₁' _ (by norm_num)) i₁ i₂ i₃ ho

variable {m w N W : ℕ}

theorem read_level {p : Vec F ⟨2, ![8, w]⟩ .f32} (hp : ∀ x, p x = zero) (v : View sig κ sp ⟨2, ![m, w]⟩ .f32) (n o l : ℕ) (a : Vec F ⟨2, ![n, w]⟩ .f32)
    (L : List (View.Piece (Elt F) ⟨2, ![m, w]⟩ .f32))
    (i₀ : ∀ b, (![0, 0] : Fin 2 → ℕ) b + (![8, w] : Fin 2 → ℕ) b ≤ (⟨2, ![m, w]⟩ : Shape).size b)
    (i₁ : ∀ b, (![8, 0] : Fin 2 → ℕ) b + (![n, w] : Fin 2 → ℕ) b ≤ (⟨2, ![m, w]⟩ : Shape).size b)
    (i₃ : ∀ b, (![o, l] : Fin 2 → ℕ) b + (![N, W] : Fin 2 → ℕ) b ≤ (⟨2, ![m, w]⟩ : Shape).size b) (hN : o + N ≤ n + 8) (hW : l + W ≤ w) :
    v.readCov (⟨Rect.unit (s := ⟨2, ![m, w]⟩) ![8, 0] ![n, w] i₁, a⟩ :: ⟨Rect.unit (s := ⟨2, ![m, w]⟩) ![0, 0] ![8, w] i₀, p⟩ :: L)
      (Rect.unit (s := ⟨2, ![m, w]⟩) ![o, l] ![N, W] i₃).toLoadRect = under a o l hN hW :=
  read_under v n o l a _ (Padded.hit i₀ _ hp) i₁ i₃ hN hW

theorem read_level' {p : Vec F ⟨2, ![8, w]⟩ .f32} (hp : ∀ x, p x = zero) (v : View sig κ sp ⟨2, ![m, w]⟩ .f32) (n o l : ℕ) (a a' : Vec F ⟨2, ![n, w]⟩ .f32)
    (L : List (View.Piece (Elt F) ⟨2, ![m, w]⟩ .f32))
    (i₀ : ∀ b, (![0, 0] : Fin 2 → ℕ) b + (![8, w] : Fin 2 → ℕ) b ≤ (⟨2, ![m, w]⟩ : Shape).size b)
    (i₁ i₁' : ∀ b, (![8, 0] : Fin 2 → ℕ) b + (![n, w] : Fin 2 → ℕ) b ≤ (⟨2, ![m, w]⟩ : Shape).size b)
    (i₃ : ∀ b, (![o, l] : Fin 2 → ℕ) b + (![N, W] : Fin 2 → ℕ) b ≤ (⟨2, ![m, w]⟩ : Shape).size b) (hN : o + N ≤ n + 8) (hW : l + W ≤ w) :
    v.readCov (⟨Rect.unit (s := ⟨2, ![m, w]⟩) ![8, 0] ![n, w] i₁, a⟩ :: ⟨Rect.unit (s := ⟨2, ![m, w]⟩) ![8, 0] ![n, w] i₁', a'⟩
        :: ⟨Rect.unit (s := ⟨2, ![m, w]⟩) ![0, 0] ![8, w] i₀, p⟩ :: L)
      (Rect.unit (s := ⟨2, ![m, w]⟩) ![o, l] ![N, W] i₃).toLoadRect = under a o l hN hW :=
  read_under v n o l a _ ((Padded.hit i₀ _ hp).skip i₁' _ (by norm_num)) i₁ i₃ hN hW

/-- Rows from the eighth on need no zeros above. -/
theorem read_deep (v : View sig κ sp ⟨2, ![m, w]⟩ .f32) (n o l : ℕ) (a : Vec F ⟨2, ![n, w]⟩ .f32) (L : List (View.Piece (Elt F) ⟨2, ![m, w]⟩ .f32))
    (i₁ : ∀ b, (![8, 0] : Fin 2 → ℕ) b + (![n, w] : Fin 2 → ℕ) b ≤ (⟨2, ![m, w]⟩ : Shape).size b)
    (i₃ : ∀ b, (![o, l] : Fin 2 → ℕ) b + (![N, W] : Fin 2 → ℕ) b ≤ (⟨2, ![m, w]⟩ : Shape).size b) (hN : o + N ≤ n + 8) (hW : l + W ≤ w) (ho : 8 ≤ o) :
    v.readCov (⟨Rect.unit (s := ⟨2, ![m, w]⟩) ![8, 0] ![n, w] i₁, a⟩ :: L) (Rect.unit (s := ⟨2, ![m, w]⟩) ![o, l] ![N, W] i₃).toLoadRect
      = under a o l hN hW := by
  rw [View.readCov_eq_canon']
  funext x
  have hx0 : (x 0).val < N := (x 0).isLt
  rw [under, dif_neg (by omega)]
  exact (congrArg _ (funext fun b => Fin.ext (by fin_cases b <;> simp <;> omega))).trans (View.canon_cons_emb (Val := Elt F) _ _ _ _)
end Reads

variable (m : (ℓ : Loc nD τ sig) → Buf (Elt F) ℓ)

/-- What a point leaves, of the converted weights and of the rows carried in. -/
structure Leaves (c : Dev nD) (t : Fin cfg0.N) (W : Vec F S1024x2048 .bf16) (halo : Vec F S16x512 .f32) : Prop where
  q : (outsAt0 m c t.val t.isLt).1 = qBoth (iblk m c 0 t) (iblk m c 1 t) W (iblk m c 3 t) (iblk m c 4 t)
  k : (outsAt0 m c t.val t.isLt).2.1 = kBoth (iblk m c 0 t) (iblk m c 1 t) W (iblk m c 3 t) (iblk m c 4 t)
  v : (outsAt0 m c t.val t.isLt).2.2.1 = vBoth (iblk m c 0 t) (iblk m c 1 t) W
  y : (outsAt0 m c t.val t.isLt).2.2.2.1
    = yBoth (iblk m c 0 t) (iblk m c 1 t) W (iblk m c 5 t) (iblk m c 6 t) (iblk m c 7 t) halo (BitVec.ofNat 32 (grid0.coords t 1))
  o : (outsAt0 m c t.val t.isLt).2.2.2.2.1 = k0_pay6 (iblk m c 8 t)
  up : (outsAt0 m c t.val t.isLt).2.2.2.2.2.1 = k0_pay7 (iblk m c 9 t)
  down : (outsAt0 m c t.val t.isLt).2.2.2.2.2.2.1 = k0_pay8 (iblk m c 10 t)
  w : (outsAt0 m c t.val t.isLt).2.2.2.2.2.2.2.1 = W
  u : haloOf (outsAt0 m c t.val t.isLt).2.2.2.2.2.2.2.2 = lastRows (uTile (xHalf (iblk m c 0 t) 1) (iblk m c 1 t) W)

set_option maxHeartbeats 4000000 in
/-- Within a sequence: the rows are those the point before left. -/
theorem leaves_next (c : Dev nD) (t : Fin cfg0.N) (h0 : ¬t.val % 16 = 0) (h1 : ¬t.val % 2 = 0) :
    Leaves m c t (outsAt0 m c (t.val - 1) (Nat.lt_of_le_of_lt (Nat.sub_le _ _) t.isLt)).2.2.2.2.2.2.2.1
      (haloOf (outsAt0 m c (t.val - 1) (Nat.lt_of_le_of_lt (Nat.sub_le _ _) t.isLt)).2.2.2.2.2.2.2.2) := by
  constructor <;> rw [outsAt0_B m c t h0 h1]
  all_goals try generalize (outsAt0 m c (t.val - 1) (Nat.lt_of_le_of_lt (Nat.sub_le _ _) t.isLt)).2.2.2.2.2.2.2.1 = W
  all_goals try generalize (outsAt0 m c (t.val - 1) (Nat.lt_of_le_of_lt (Nat.sub_le _ _) t.isLt)).2.2.2.2.2.2.2.2 = H
  · frame_open
    simp (disch := decide) only [↓ View.readCov_skip, ↓ View.readCov_cons_toLoadRect, ↓ View.readCov_fill]
    frame_out
    simp only [read_unread_whole]
    simp (disch := decide) only [s43, s64, s65, s66, s1]
    exact canon_lanes (fun q => qTile (xHalf (iblk m c 0 t) q) (iblk m c 1 t) W (tHalf (iblk m c 3 t) q) (tHalf (iblk m c 4 t) q)) []
  · frame_open
    simp (disch := decide) only [↓ View.readCov_skip, ↓ View.readCov_cons_toLoadRect, ↓ View.readCov_fill]
    frame_out
    simp only [read_unread_whole]
    simp (disch := decide) only [s43, s64, s65, s66, s2]
    exact canon_half (fun q => kTile (xHalf (iblk m c 0 t) q) (iblk m c 1 t) W (tHalf (iblk m c 3 t) q) (tHalf (iblk m c 4 t) q)) []
  · frame_open
    simp (disch := decide) only [↓ View.readCov_skip, ↓ View.readCov_cons_toLoadRect, ↓ View.readCov_fill]
    frame_out
    simp only [read_unread_whole]
    simp (disch := decide) only [s43, s3]
    exact canon_lanes (fun q => vTile (xHalf (iblk m c 0 t) q) (iblk m c 1 t) W) []
  · frame_open
    simp (disch := decide) only [↓ View.readCov_skip, ↓ View.readCov_cons_toLoadRect, ↓ View.readCov_fill]
    frame_out
    simp only [read_unread_whole]
    simp (disch := decide) only [read_rows, read_rows', read_last, read_level pay10_zero, read_level' pay10_zero, read_level pay12_zero,
      read_level' pay12_zero, read_deep, ld_halo, s43, s44, s45, s46, s47, s48, s49, s50, s52, s53, s54, s55, s56, s58, s59, s61, s63]
    exact y_stores (iblk m c 0 t) (iblk m c 1 t) W (iblk m c 5 t) (iblk m c 6 t) (iblk m c 7 t) (haloOf H) (BitVec.ofNat 32 (grid0.coords t 1))
      ![_, _, _, _, _, _, _, _] (fun n => by fin_cases n <;> rfl)
  · frame_open
    frame_out
  · frame_open
    frame_out
  · frame_open
    frame_out
  · rfl
  · frame_open
    simp (disch := decide) only [↓ View.readCov_skip, ↓ View.readCov_cons_toLoadRect, ↓ View.readCov_fill]
    frame_out
    simp only [read_unread_whole]
    exact haloOf_canon _ _ _

set_option maxHeartbeats 4000000 in
/-- At a sequence's start no rows are carried in. -/
theorem leaves_start (c : Dev nD) (t : Fin cfg0.N) (h0 : ¬t.val % 16 = 0) (h1 : t.val % 2 = 0) :
    Leaves m c t (outsAt0 m c (t.val - 1) (Nat.lt_of_le_of_lt (Nat.sub_le _ _) t.isLt)).2.2.2.2.2.2.2.1
      k0_pay5 := by
  constructor <;> rw [outsAt0_C m c t h0 h1]
  all_goals try generalize (outsAt0 m c (t.val - 1) (Nat.lt_of_le_of_lt (Nat.sub_le _ _) t.isLt)).2.2.2.2.2.2.2.1 = W
  · frame_open
    simp (disch := decide) only [↓ View.readCov_skip, ↓ View.readCov_cons_toLoadRect, ↓ View.readCov_fill]
    frame_out
    simp only [read_unread_whole]
    simp (disch := decide) only [s43, s64, s65, s66, s1]
    exact canon_lanes (fun q => qTile (xHalf (iblk m c 0 t) q) (iblk m c 1 t) W (tHalf (iblk m c 3 t) q) (tHalf (iblk m c 4 t) q)) []
  · frame_open
    simp (disch := decide) only [↓ View.readCov_skip, ↓ View.readCov_cons_toLoadRect, ↓ View.readCov_fill]
    frame_out
    simp only [read_unread_whole]
    simp (disch := decide) only [s43, s64, s65, s66, s2]
    exact canon_half (fun q => kTile (xHalf (iblk m c 0 t) q) (iblk m c 1 t) W (tHalf (iblk m c 3 t) q) (tHalf (iblk m c 4 t) q)) []
  · frame_open
    simp (disch := decide) only [↓ View.readCov_skip, ↓ View.readCov_cons_toLoadRect, ↓ View.readCov_fill]
    frame_out
    simp only [read_unread_whole]
    simp (disch := decide) only [s43, s3]
    exact canon_lanes (fun q => vTile (xHalf (iblk m c 0 t) q) (iblk m c 1 t) W) []
  · frame_open
    simp (disch := decide) only [↓ View.readCov_skip, ↓ View.readCov_cons_toLoadRect, ↓ View.readCov_fill]
    frame_out
    simp only [read_unread_whole]
    simp (disch := decide) only [read_rows, read_rows', read_last, read_level pay10_zero, read_level' pay10_zero, read_level pay12_zero,
      read_level' pay12_zero, read_deep, ld_halo, s43, s44, s45, s46, s47, s48, s49, s50, s52, s53, s54, s55, s56, s58, s59, s61, s63]
    exact y_stores (iblk m c 0 t) (iblk m c 1 t) W (iblk m c 5 t) (iblk m c 6 t) (iblk m c 7 t) k0_pay5 (BitVec.ofNat 32 (grid0.coords t 1))
      ![_, _, _, _, _, _, _, _] (fun n => by fin_cases n <;> rfl)
  · frame_open
    frame_out
  · frame_open
    frame_out
  · frame_open
    frame_out
  · rfl
  · frame_open
    simp (disch := decide) only [↓ View.readCov_skip, ↓ View.readCov_cons_toLoadRect, ↓ View.readCov_fill]
    frame_out
    simp only [read_unread_whole]
    exact haloOf_canon _ _ _

set_option maxHeartbeats 4000000 in
/-- The first point converts the weights. -/
theorem leaves_first (c : Dev nD) (t : Fin cfg0.N) (h0 : t.val % 16 = 0) (h1 : t.val % 2 = 0) :
    Leaves m c t (k0_pay4 (iblk m c 2 t))
      k0_pay5 := by
  constructor <;> rw [outsAt0_A m c t h0 h1]
  · frame_open
    simp (disch := decide) only [↓ View.readCov_skip, ↓ View.readCov_cons_toLoadRect, ↓ View.readCov_fill]
    frame_out
    simp (disch := decide) only [s43, s64, s65, s66, s1]
    exact canon_lanes (fun q => qTile (xHalf (iblk m c 0 t) q) (iblk m c 1 t) (k0_pay4 (iblk m c 2 t)) (tHalf (iblk m c 3 t) q) (tHalf (iblk m c 4 t) q)) []
  · frame_open
    simp (disch := decide) only [↓ View.readCov_skip, ↓ View.readCov_cons_toLoadRect, ↓ View.readCov_fill]
    frame_out
    simp (disch := decide) only [s43, s64, s65, s66, s2]
    exact canon_half (fun q => kTile (xHalf (iblk m c 0 t) q) (iblk m c 1 t) (k0_pay4 (iblk m c 2 t)) (tHalf (iblk m c 3 t) q) (tHalf (iblk m c 4 t) q)) []
  · frame_open
    simp (disch := decide) only [↓ View.readCov_skip, ↓ View.readCov_cons_toLoadRect, ↓ View.readCov_fill]
    frame_out
    simp (disch := decide) only [s43, s3]
    exact canon_lanes (fun q => vTile (xHalf (iblk m c 0 t) q) (iblk m c 1 t) (k0_pay4 (iblk m c 2 t))) []
  · frame_open
    simp (disch := decide) only [↓ View.readCov_skip, ↓ View.readCov_cons_toLoadRect, ↓ View.readCov_fill]
    frame_out
    simp (disch := decide) only [read_rows, read_rows', read_last, read_level pay10_zero, read_level' pay10_zero, read_level pay12_zero,
      read_level' pay12_zero, read_deep, ld_halo, s43, s44, s45, s46, s47, s48, s49, s50, s52, s53, s54, s55, s56, s58, s59, s61, s63]
    exact y_stores (iblk m c 0 t) (iblk m c 1 t) (k0_pay4 (iblk m c 2 t)) (iblk m c 5 t) (iblk m c 6 t) (iblk m c 7 t) k0_pay5 (BitVec.ofNat 32 (grid0.coords t 1))
      ![_, _, _, _, _, _, _, _] (fun n => by fin_cases n <;> rfl)
  · frame_open
    frame_out
  · frame_open
    frame_out
  · frame_open
    frame_out
  · frame_open
    frame_out
  · frame_open
    simp (disch := decide) only [↓ View.readCov_skip, ↓ View.readCov_cons_toLoadRect, ↓ View.readCov_fill]
    frame_out
    exact haloOf_canon _ _ _

end Cert.Proof.MixIn
-- ==== Proof.MixIn.Formula.lean ====
/-
  The plain formula of the projection into the mixing sub-layer, array by array, and each array at an element.
-/
module

public import proofs.«01_k».proof.Proof.ConvFfn.Scalars
public import proofs.«01_k».proof.Proof.Gen.Reference3Ideal
public import Idealize.ShloMosaic.Lib.Pointwise
public import Idealize.ShloMosaic.Lib.KernelVsHost

@[expose] public section

noncomputable section

namespace Cert.Proof.MixIn

open Idealize.ShloMosaic Idealize.SL.Sem Idealize.ShloMosaic.TcCoe
open Cert.Reference3Ideal Cert.Reference3Ideal.Gen
open Cert.Proof.ConvFfn (meanSq)
open scoped BigOperators

/-! ## The arrays -/

/-- The projection of the rows divided by their root mean square and scaled. -/
def projArr (x : FVec Ideal S8x2048x1024 .f32) (g : FVec Ideal S1024 .f32) (w : FVec Ideal S1024x2048 .f32) : FVec Ideal S8x2048x2048 .f32 :=
  Host.dotGeneral dot_S8x2048x1024_S1024x2048_S8x2048x2048_2_0_01_1_n_n none (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) w
/-- The angle of each position and frequency. -/
def angleArr : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
/-- A factor of each position and frequency, for every batch and head. -/
def factorArr (f : FVec Ideal S2048x32 .f32) : FVec Ideal S8x2048x8x32 .f32 :=
  broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 f))
/-- The heads, each row's two halves turned by its position's angles. -/
def turnArr (a : FVec Ideal S8x2048x8x64 .f32) : FVec Ideal S8x2048x8x64 .f32 :=
  concatenate S8x2048x8x64 3 [⟨S8x2048x8x32, (subf
      (mulf (extractStridedSlice S8x2048x8x32 ![0, 0, 0, 0] a slices_S8x2048x8x64_S8x2048x8x32_0_0_0_0) (factorArr (Host.cos angleArr)))
      (mulf (extractStridedSlice S8x2048x8x32 ![0, 0, 0, 32] a slices_S8x2048x8x64_S8x2048x8x32_0_0_0_32) (factorArr (Host.sin angleArr))))⟩,
    ⟨S8x2048x8x32, (addf
      (mulf (extractStridedSlice S8x2048x8x32 ![0, 0, 0, 32] a slices_S8x2048x8x64_S8x2048x8x32_0_0_0_32) (factorArr (Host.cos angleArr)))
      (mulf (extractStridedSlice S8x2048x8x32 ![0, 0, 0, 0] a slices_S8x2048x8x64_S8x2048x8x32_0_0_0_0) (factorArr (Host.sin angleArr))))⟩] concatenates_S8x2048x8x32_S8x2048x8x32_S8x2048x8x64_d3
/-- The queries, transposed. -/
def qRef (p : FVec Ideal S8x2048x2048 .f32) : FVec Ideal S8x512x2048 .bf16 :=
  truncf .bf16 (transpose S8x512x2048 [0, 2, 1] (shapeCast S8x2048x512 (mulf (turnArr (shapeCast S8x2048x8x64 (extractStridedSlice S8x2048x512 ![0, 0, 0] p slices_S8x2048x2048_S8x2048x512_0_0_0) shapeCasts_S8x2048x512_S8x2048x8x64)) (broadcastInDim S8x2048x8x64 ![] bcast_S_S8x2048x8x64 (constant S_ .f32 0x3E38AA3B#32))) shapeCasts_S8x2048x8x64_S8x2048x512) transposes_S8x2048x512_S8x512x2048_0_2_1) bitsLt_bf16_f32
/-- The keys. -/
def kRef (p : FVec Ideal S8x2048x2048 .f32) : FVec Ideal S8x2048x512 .bf16 :=
  truncf .bf16 (shapeCast S8x2048x512 (turnArr (shapeCast S8x2048x8x64 (extractStridedSlice S8x2048x512 ![0, 0, 512] p slices_S8x2048x2048_S8x2048x512_0_0_512) shapeCasts_S8x2048x512_S8x2048x8x64)) shapeCasts_S8x2048x8x64_S8x2048x512) bitsLt_bf16_f32
/-- The values, transposed. -/
def vRef (p : FVec Ideal S8x2048x2048 .f32) : FVec Ideal S8x512x2048 .bf16 :=
  truncf .bf16 (transpose S8x512x2048 [0, 2, 1] (extractStridedSlice S8x2048x512 ![0, 0, 1024] p slices_S8x2048x2048_S8x2048x512_0_0_1024) transposes_S8x2048x512_S8x512x2048_0_2_1) bitsLt_bf16_f32

/-- The pooled columns by group. -/
def poolCols (p : FVec Ideal S8x2048x2048 .f32) : FVec Ideal S8x2048x4x128 .f32 :=
  shapeCast S8x2048x4x128 (extractStridedSlice S8x2048x512 ![0, 0, 1536] p slices_S8x2048x2048_S8x2048x512_0_0_1536) shapeCasts_S8x2048x512_S8x2048x4x128
def cols0 (u : FVec Ideal S8x2048x4x128 .f32) : FVec Ideal S8x2048x128 .f32 :=
  shapeCast S8x2048x128 (extractStridedSlice S8x2048x1x128 ![0, 0, 0, 0] u slices_S8x2048x4x128_S8x2048x1x128_0_0_0_0) shapeCasts_S8x2048x1x128_S8x2048x128
def cols1 (u : FVec Ideal S8x2048x4x128 .f32) : FVec Ideal S8x2048x128 .f32 :=
  shapeCast S8x2048x128 (extractStridedSlice S8x2048x1x128 ![0, 0, 1, 0] u slices_S8x2048x4x128_S8x2048x1x128_0_0_1_0) shapeCasts_S8x2048x1x128_S8x2048x128
def cols2 (u : FVec Ideal S8x2048x4x128 .f32) : FVec Ideal S8x2048x128 .f32 :=
  shapeCast S8x2048x128 (extractStridedSlice S8x2048x1x128 ![0, 0, 2, 0] u slices_S8x2048x4x128_S8x2048x1x128_0_0_2_0) shapeCasts_S8x2048x1x128_S8x2048x128
def cols3 (u : FVec Ideal S8x2048x4x128 .f32) : FVec Ideal S8x2048x128 .f32 :=
  shapeCast S8x2048x128 (extractStridedSlice S8x2048x1x128 ![0, 0, 3, 0] u slices_S8x2048x4x128_S8x2048x1x128_0_0_3_0) shapeCasts_S8x2048x1x128_S8x2048x128

/-- Rows of zeros in front of each batch, one fewer than the group's window is long. -/
def pad0 (a : FVec Ideal S8x2048x128 .f32) : FVec Ideal S8x2049x128 .f32 :=
  pad S8x2049x128 ![0, 1, 0] ![0, 0, 0] ![0, 0, 0] a (sitofp .f32 (constantI S_ 32 0#32)) pads_S8x2048x128_S8x2049x128_000_100_000 h_S_
def pad1 (a : FVec Ideal S8x2048x128 .f32) : FVec Ideal S8x2051x128 .f32 :=
  pad S8x2051x128 ![0, 3, 0] ![0, 0, 0] ![0, 0, 0] a (sitofp .f32 (constantI S_ 32 0#32)) pads_S8x2048x128_S8x2051x128_000_300_000 h_S_
def pad2 (a : FVec Ideal S8x2048x128 .f32) : FVec Ideal S8x2055x128 .f32 :=
  pad S8x2055x128 ![0, 7, 0] ![0, 0, 0] ![0, 0, 0] a (sitofp .f32 (constantI S_ 32 0#32)) pads_S8x2048x128_S8x2055x128_000_700_000 h_S_
def pad3 (a : FVec Ideal S8x2048x128 .f32) : FVec Ideal S8x2063x128 .f32 :=
  pad S8x2063x128 ![0, 15, 0] ![0, 0, 0] ![0, 0, 0] a (sitofp .f32 (constantI S_ 32 0#32)) pads_S8x2048x128_S8x2063x128_000_1500_000 h_S_

/-- The number of rows in each position's window. -/
def countArr (n : BitVec 32) : FVec Ideal S8x2048x128 .f32 :=
  broadcastInDim S8x2048x128 ![0, 1, 2] bcast_S1x2048x1_S8x2048x128_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 n)))))
/-- Nothing, to which the window's rows are added. -/
def noRows : FVec Ideal S8x2048x128 .f32 := broadcastInDim S8x2048x128 ![] bcast_S_S8x2048x128 (constant S_ .f32 0x00000000#32)

/-- The windows' sums. -/
def sum0 (p : FVec Ideal S8x2049x128 .f32) : FVec Ideal S8x2048x128 .f32 :=
  addf (addf noRows (extractStridedSlice S8x2048x128 ![0, 0, 0] p slices_S8x2049x128_S8x2048x128_0_0_0)) (extractStridedSlice S8x2048x128 ![0, 1, 0] p slices_S8x2049x128_S8x2048x128_0_1_0)
def sum1 (p : FVec Ideal S8x2051x128 .f32) : FVec Ideal S8x2048x128 .f32 :=
  addf (addf (addf (addf noRows (extractStridedSlice S8x2048x128 ![0, 0, 0] p slices_S8x2051x128_S8x2048x128_0_0_0)) (extractStridedSlice S8x2048x128 ![0, 1, 0] p slices_S8x2051x128_S8x2048x128_0_1_0)) (extractStridedSlice S8x2048x128 ![0, 2, 0] p slices_S8x2051x128_S8x2048x128_0_2_0)) (extractStridedSlice S8x2048x128 ![0, 3, 0] p slices_S8x2051x128_S8x2048x128_0_3_0)
def sum2 (p : FVec Ideal S8x2055x128 .f32) : FVec Ideal S8x2048x128 .f32 :=
  addf (addf (addf (addf (addf (addf (addf (addf noRows (extractStridedSlice S8x2048x128 ![0, 0, 0] p slices_S8x2055x128_S8x2048x128_0_0_0)) (extractStridedSlice S8x2048x128 ![0, 1, 0] p slices_S8x2055x128_S8x2048x128_0_1_0)) (extractStridedSlice S8x2048x128 ![0, 2, 0] p slices_S8x2055x128_S8x2048x128_0_2_0)) (extractStridedSlice S8x2048x128 ![0, 3, 0] p slices_S8x2055x128_S8x2048x128_0_3_0)) (extractStridedSlice S8x2048x128 ![0, 4, 0] p slices_S8x2055x128_S8x2048x128_0_4_0)) (extractStridedSlice S8x2048x128 ![0, 5, 0] p slices_S8x2055x128_S8x2048x128_0_5_0)) (extractStridedSlice S8x2048x128 ![0, 6, 0] p slices_S8x2055x128_S8x2048x128_0_6_0)) (extractStridedSlice S8x2048x128 ![0, 7, 0] p slices_S8x2055x128_S8x2048x128_0_7_0)
def sum3 (p : FVec Ideal S8x2063x128 .f32) : FVec Ideal S8x2048x128 .f32 :=
  addf (addf (addf (addf (addf (addf (addf (addf (addf (addf (addf (addf (addf (addf (addf (addf noRows (extractStridedSlice S8x2048x128 ![0, 0, 0] p slices_S8x2063x128_S8x2048x128_0_0_0)) (extractStridedSlice S8x2048x128 ![0, 1, 0] p slices_S8x2063x128_S8x2048x128_0_1_0)) (extractStridedSlice S8x2048x128 ![0, 2, 0] p slices_S8x2063x128_S8x2048x128_0_2_0)) (extractStridedSlice S8x2048x128 ![0, 3, 0] p slices_S8x2063x128_S8x2048x128_0_3_0)) (extractStridedSlice S8x2048x128 ![0, 4, 0] p slices_S8x2063x128_S8x2048x128_0_4_0)) (extractStridedSlice S8x2048x128 ![0, 5, 0] p slices_S8x2063x128_S8x2048x128_0_5_0)) (extractStridedSlice S8x2048x128 ![0, 6, 0] p slices_S8x2063x128_S8x2048x128_0_6_0)) (extractStridedSlice S8x2048x128 ![0, 7, 0] p slices_S8x2063x128_S8x2048x128_0_7_0)) (extractStridedSlice S8x2048x128 ![0, 8, 0] p slices_S8x2063x128_S8x2048x128_0_8_0)) (extractStridedSlice S8x2048x128 ![0, 9, 0] p slices_S8x2063x128_S8x2048x128_0_9_0)) (extractStridedSlice S8x2048x128 ![0, 10, 0] p slices_S8x2063x128_S8x2048x128_0_10_0)) (extractStridedSlice S8x2048x128 ![0, 11, 0] p slices_S8x2063x128_S8x2048x128_0_11_0)) (extractStridedSlice S8x2048x128 ![0, 12, 0] p slices_S8x2063x128_S8x2048x128_0_12_0)) (extractStridedSlice S8x2048x128 ![0, 13, 0] p slices_S8x2063x128_S8x2048x128_0_13_0)) (extractStridedSlice S8x2048x128 ![0, 14, 0] p slices_S8x2063x128_S8x2048x128_0_14_0)) (extractStridedSlice S8x2048x128 ![0, 15, 0] p slices_S8x2063x128_S8x2048x128_0_15_0)

/-- A group's means less its own rows, through the group's matrix. -/
def mixArr (sum cols : FVec Ideal S8x2048x128 .f32) (n : BitVec 32) (w : FVec Ideal S128x128 .f32) : FVec Ideal S8x2048x128 .f32 :=
  Host.dotGeneral dot_S8x2048x128_S128x128_S8x2048x128_2_0_01_1_n_n none (subf (Host.divf sum (countArr n)) cols) w
/-- The groups' matrices. -/
def mat0 (w : FVec Ideal S4x128x128 .f32) : FVec Ideal S128x128 .f32 := shapeCast S128x128 (extractStridedSlice S1x128x128 ![0, 0, 0] w slices_S4x128x128_S1x128x128_0_0_0) shapeCasts_S1x128x128_S128x128
def mat1 (w : FVec Ideal S4x128x128 .f32) : FVec Ideal S128x128 .f32 := shapeCast S128x128 (extractStridedSlice S1x128x128 ![1, 0, 0] w slices_S4x128x128_S1x128x128_1_0_0) shapeCasts_S1x128x128_S128x128
def mat2 (w : FVec Ideal S4x128x128 .f32) : FVec Ideal S128x128 .f32 := shapeCast S128x128 (extractStridedSlice S1x128x128 ![2, 0, 0] w slices_S4x128x128_S1x128x128_2_0_0) shapeCasts_S1x128x128_S128x128
def mat3 (w : FVec Ideal S4x128x128 .f32) : FVec Ideal S128x128 .f32 := shapeCast S128x128 (extractStridedSlice S1x128x128 ![3, 0, 0] w slices_S4x128x128_S1x128x128_3_0_0) shapeCasts_S1x128x128_S128x128

/-- The groups side by side, with the bias and the scale. -/
def joinRef (a0 a1 a2 a3 : FVec Ideal S8x2048x128 .f32) (b s : FVec Ideal S512 .f32) : FVec Ideal S8x2048x512 .bf16 :=
  truncf .bf16 (mulf (addf
    (concatenate S8x2048x512 2 [⟨S8x2048x128, (a0 : (⟨S8x2048x128, .f32⟩ : BufTy).Contents (Elt Ideal))⟩, ⟨S8x2048x128, (a1 : (⟨S8x2048x128, .f32⟩ : BufTy).Contents (Elt Ideal))⟩,
      ⟨S8x2048x128, (a2 : (⟨S8x2048x128, .f32⟩ : BufTy).Contents (Elt Ideal))⟩, ⟨S8x2048x128, (a3 : (⟨S8x2048x128, .f32⟩ : BufTy).Contents (Elt Ideal))⟩]
      concatenates_S8x2048x128_S8x2048x128_S8x2048x128_S8x2048x128_S8x2048x512_d2 : (⟨S8x2048x512, .f32⟩ : BufTy).Contents (Elt Ideal))
    (broadcastInDim S8x2048x512 ![0, 1, 2] bcast_S1x1x512_S8x2048x512_0_1_2 (broadcastInDim S1x1x512 ![2] bcast_S512_S1x1x512_2 b)))
    (broadcastInDim S8x2048x512 ![0, 1, 2] bcast_S1x1x512_S8x2048x512_0_1_2 (broadcastInDim S1x1x512 ![2] bcast_S512_S1x1x512_2 s))) bitsLt_bf16_f32
/-- The pooling mixer. -/
def yRef (p : FVec Ideal S8x2048x2048 .f32) (w : FVec Ideal S4x128x128 .f32) (b s : FVec Ideal S512 .f32) : FVec Ideal S8x2048x512 .bf16 :=
  joinRef (mixArr (sum0 (pad0 (cols0 (poolCols p)))) (cols0 (poolCols p)) 2#32 (mat0 w)) (mixArr (sum1 (pad1 (cols1 (poolCols p)))) (cols1 (poolCols p)) 4#32 (mat1 w))
    (mixArr (sum2 (pad2 (cols2 (poolCols p)))) (cols2 (poolCols p)) 8#32 (mat2 w)) (mixArr (sum3 (pad3 (cols3 (poolCols p)))) (cols3 (poolCols p)) 16#32 (mat3 w)) b s

/-! ## At an element -/

variable (b : Fin 8) (s : Fin 2048)

/-- The sum of `a k` times `w k`, the row's entries divided by its root mean square and scaled first. -/
def normDot (a g w : Fin 1024 → EReal) : EReal := ∑ d : Fin 1024, a d * Ideal.rsqrt (meanSq a) * g d * w d

/-- The row of 64 lanes from `64 h`, its two halves turned by the angles of cosine `cs` and sine `sn`. -/
def turned (f : Fin 512 → EReal) (cs sn : Fin 32 → EReal) (j : Fin 512) : EReal :=
  if h : j.val % 64 < 32 then f j * cs ⟨j.val % 32, Nat.mod_lt _ (by norm_num)⟩ - f ⟨j.val + 32, by omega⟩ * sn ⟨j.val % 32, Nat.mod_lt _ (by norm_num)⟩
  else f j * cs ⟨j.val % 32, Nat.mod_lt _ (by norm_num)⟩ + f ⟨j.val - 32, by omega⟩ * sn ⟨j.val % 32, Nat.mod_lt _ (by norm_num)⟩

theorem projArr_at (x : FVec Ideal S8x2048x1024 .f32) (g : FVec Ideal S1024 .f32) (w : FVec Ideal S1024x2048 .f32) (n : Fin 2048) :
    projArr x g w (ix3 b s n) = normDot (fun d => x (ix3 b s d)) (fun d => g (ix1 d)) fun d => w (ix2 d n) := by
  unfold normDot meanSq
  pointwise [projArr]

theorem factorArr_at (f : FVec Ideal S2048x32 .f32) (h : Fin 8) (d : Fin 32) : factorArr f (ix4 b s h d) = f (ix2 s d) := by
  pointwise [factorArr]

theorem turnArr_lo (a : FVec Ideal S8x2048x8x64 .f32) (h : Fin 8) (d : Fin 32) :
    turnArr a (ix4 b s h ⟨d.val, by omega⟩) = a (ix4 b s h ⟨d.val, by omega⟩) * Ideal.cos (angleArr (ix2 s d)) - a (ix4 b s h ⟨32 + d.val, by omega⟩) * Ideal.sin (angleArr (ix2 s d)) := by
  pointwise [turnArr, factorArr]
theorem turnArr_hi (a : FVec Ideal S8x2048x8x64 .f32) (h : Fin 8) (d : Fin 32) :
    turnArr a (ix4 b s h ⟨32 + d.val, by omega⟩) = a (ix4 b s h ⟨32 + d.val, by omega⟩) * Ideal.cos (angleArr (ix2 s d)) + a (ix4 b s h ⟨d.val, by omega⟩) * Ideal.sin (angleArr (ix2 s d)) := by
  pointwise [turnArr, factorArr]
theorem vRef_at (p : FVec Ideal S8x2048x2048 .f32) (j : Fin 512) : vRef p (ix3 b j s) = p (ix3 b s ⟨1024 + j.val, by omega⟩) := by
  pointwise [vRef]
theorem poolCols_at (p : FVec Ideal S8x2048x2048 .f32) (g : Fin 4) (d : Fin 128) : poolCols p (ix4 b s g d) = p (ix3 b s ⟨1536 + (g.val * 128 + d.val), by omega⟩) := by
  pointwise [poolCols]
theorem colsAll_at (u : FVec Ideal S8x2048x4x128 .f32) (d : Fin 128) : cols0 u (ix3 b s d) = u (ix4 b s 0 d) ∧ cols1 u (ix3 b s d) = u (ix4 b s 1 d)
    ∧ cols2 u (ix3 b s d) = u (ix4 b s 2 d) ∧ cols3 u (ix3 b s d) = u (ix4 b s 3 d) := by
  refine ⟨?_, ?_, ?_, ?_⟩
  · pointwise [cols0]
  · pointwise [cols1]
  · pointwise [cols2]
  · pointwise [cols3]
theorem matAll_at (w : FVec Ideal S4x128x128 .f32) (d n : Fin 128) : mat0 w (ix2 d n) = w (ix3 0 d n) ∧ mat1 w (ix2 d n) = w (ix3 1 d n)
    ∧ mat2 w (ix2 d n) = w (ix3 2 d n) ∧ mat3 w (ix2 d n) = w (ix3 3 d n) := by
  refine ⟨?_, ?_, ?_, ?_⟩
  · pointwise [mat0]
  · pointwise [mat1]
  · pointwise [mat2]
  · pointwise [mat3]
/-- The number of rows up to row `s`, at most `n` of them. -/
def countTo (s : ℕ) (n : BitVec 32) : EReal := (FloatOps.sitofp .f32 (IntOp.minsi (IntOp.addi (BitVec.ofNat 32 s) 1#32) n) : Ideal .f32)
theorem countArr_at (n : BitVec 32) (d : Fin 128) : countArr n (ix3 b s d) = countTo s.val n := by
  unfold countTo
  pointwise [countArr]
theorem mixArr_at (a c : FVec Ideal S8x2048x128 .f32) (n : BitVec 32) (w : FVec Ideal S128x128 .f32) (j : Fin 128) :
    mixArr a c n w (ix3 b s j) = ∑ d : Fin 128, (Ideal.div (a (ix3 b s d)) (countTo s.val n) - c (ix3 b s d)) * w (ix2 d j) := by
  refine Eq.trans (b := ∑ d : Fin 128, (Ideal.div (a (ix3 b s d)) (countArr n (ix3 b s d)) - c (ix3 b s d)) * w (ix2 d j)) ?_ ?_
  · pointwise [mixArr]
  · simp only [countArr_at]

/-- The row `k` before row `s`; zero before the first. -/
def back (a : FVec Ideal S8x2048x128 .f32) (d : Fin 128) (k : ℕ) : EReal :=
  if s.val < k then 0 else a (ix3 b ⟨s.val - k, by omega⟩ d)

/-- A padded row is a row that many before it. -/
theorem pad_at {n o : ℕ} (a : FVec Ideal S8x2048x128 .f32) (h : Shape.Pads S8x2048x128 ![0, o, 0] ![0, 0, 0] ![0, 0, 0] (⟨3, ![8, n, 128]⟩ : Shape)) (i : Fin n) (k : ℕ) (hk : k ≤ o)
    (hi : i.val = s.val + (o - k)) (d : Fin 128) :
    pad (⟨3, ![8, n, 128]⟩ : Shape) ![0, o, 0] ![0, 0, 0] ![0, 0, 0] a (sitofp .f32 (constantI S_ 32 0#32)) h h_S_ (ix3 b i d) = back b s a d k := by
  unfold back
  by_cases hb : s.val < k
  · rw [if_pos hb, pad_apply_of_not_inside _ _ _ _ _ _ _ _ (1 : Fin 3) (fun hin => by have : o ≤ i.val := hin.1; omega)]
    show ((((0#32 : BitVec 32).toInt : ℝ)) : EReal) = 0
    simp
  · rw [if_neg hb]
    refine pad_apply_of_inside _ _ _ _ _ _ _ _ _ fun a => ?_
    fin_cases a
    · show b.val = 0 + b.val * (0 + 1); omega
    · show i.val = o + (s.val - k) * (0 + 1); omega
    · show d.val = 0 + d.val * (0 + 1); omega

/-- The rows from the furthest back to the nearest are those from the nearest to the furthest back. -/
theorem sum_back {n : ℕ} (p : Fin n → EReal) (f : ℕ → EReal) (e : ∀ i, p i = f (n - 1 - i.val)) : ∑ i, p i = ∑ k ∈ Finset.range n, f k := by
  rw [Finset.sum_range, ← Equiv.sum_comp Fin.revPerm]
  refine Finset.sum_congr rfl fun i _ => ?_
  rw [e, Fin.revPerm_apply, Fin.val_rev]
  exact congrArg f (by omega)

theorem sum0_at (a : FVec Ideal S8x2048x128 .f32) (d : Fin 128) : sum0 (pad0 a) (ix3 b s d) = ∑ k ∈ Finset.range 2, back b s a d k := by
  refine Eq.trans ?_ (sum_back (fun i : Fin 2 => pad0 a (ix3 b ⟨i.val + s.val, by omega⟩ d)) (back b s a d)
    fun i => (pad_at b s a _ _ (1 - i.val) (by omega) (by show i.val + s.val = s.val + (1 - (1 - i.val)); omega) d))
  simp only [Fin.sum_univ_castSucc, Fin.sum_univ_zero, Fin.val_castSucc, Fin.val_last]
  pointwise [sum0, noRows]
theorem sum1_at (a : FVec Ideal S8x2048x128 .f32) (d : Fin 128) : sum1 (pad1 a) (ix3 b s d) = ∑ k ∈ Finset.range 4, back b s a d k := by
  refine Eq.trans ?_ (sum_back (fun i : Fin 4 => pad1 a (ix3 b ⟨i.val + s.val, by omega⟩ d)) (back b s a d)
    fun i => (pad_at b s a _ _ (3 - i.val) (by omega) (by show i.val + s.val = s.val + (3 - (3 - i.val)); omega) d))
  simp only [Fin.sum_univ_castSucc, Fin.sum_univ_zero, Fin.val_castSucc, Fin.val_last]
  pointwise [sum1, noRows]
theorem sum2_at (a : FVec Ideal S8x2048x128 .f32) (d : Fin 128) : sum2 (pad2 a) (ix3 b s d) = ∑ k ∈ Finset.range 8, back b s a d k := by
  refine Eq.trans ?_ (sum_back (fun i : Fin 8 => pad2 a (ix3 b ⟨i.val + s.val, by omega⟩ d)) (back b s a d)
    fun i => (pad_at b s a _ _ (7 - i.val) (by omega) (by show i.val + s.val = s.val + (7 - (7 - i.val)); omega) d))
  simp only [Fin.sum_univ_castSucc, Fin.sum_univ_zero, Fin.val_castSucc, Fin.val_last]
  pointwise [sum2, noRows]
theorem sum3_at (a : FVec Ideal S8x2048x128 .f32) (d : Fin 128) : sum3 (pad3 a) (ix3 b s d) = ∑ k ∈ Finset.range 16, back b s a d k := by
  refine Eq.trans ?_ (sum_back (fun i : Fin 16 => pad3 a (ix3 b ⟨i.val + s.val, by omega⟩ d)) (back b s a d)
    fun i => (pad_at b s a _ _ (15 - i.val) (by omega) (by show i.val + s.val = s.val + (15 - (15 - i.val)); omega) d))
  simp only [Fin.sum_univ_castSucc, Fin.sum_univ_zero, Fin.val_castSucc, Fin.val_last]
  pointwise [sum3, noRows]

/-- A head's lane turned. -/
theorem turnArr_at (a : FVec Ideal S8x2048x8x64 .f32) (h : Fin 8) (e : Fin 64) : turnArr a (ix4 b s h e)
    = if hl : e.val < 32 then a (ix4 b s h e) * Ideal.cos (angleArr (ix2 s ⟨e.val, hl⟩)) - a (ix4 b s h ⟨e.val + 32, by omega⟩) * Ideal.sin (angleArr (ix2 s ⟨e.val, hl⟩))
      else a (ix4 b s h e) * Ideal.cos (angleArr (ix2 s ⟨e.val - 32, by omega⟩)) + a (ix4 b s h ⟨e.val - 32, by omega⟩) * Ideal.sin (angleArr (ix2 s ⟨e.val - 32, by omega⟩)) := by
  by_cases hl : e.val < 32
  · rw [dif_pos hl]
    refine (turnArr_lo b s a h ⟨e.val, hl⟩).trans ?_
    simp only [Nat.add_comm 32]
  · rw [dif_neg hl]
    have he : e = ⟨32 + (e.val - 32), by omega⟩ := Fin.ext (by show e.val = 32 + (e.val - 32); omega)
    refine (congrArg (fun e => turnArr a (ix4 b s h e)) he).trans ((turnArr_hi b s a h ⟨e.val - 32, by omega⟩).trans ?_)
    rw [← he]

/-- The lanes of the projection from column `o`, by head. -/
theorem heads_at (o : ℕ) (ho : o + 512 ≤ 2048) (p : FVec Ideal S8x2048x2048 .f32) (h : Shape.Slices S8x2048x2048 ![0, 0, o] S8x2048x512) (j : Fin 512) :
    shapeCast S8x2048x8x64 (extractStridedSlice S8x2048x512 ![0, 0, o] p h) shapeCasts_S8x2048x512_S8x2048x8x64 (ix4 b s ⟨j.val / 64, by omega⟩ ⟨j.val % 64, by omega⟩)
      = p (ix3 b s ⟨o + j.val, by omega⟩) := by
  pointwise

theorem turned_at (o : ℕ) (ho : o + 512 ≤ 2048) (p : FVec Ideal S8x2048x2048 .f32) (h : Shape.Slices S8x2048x2048 ![0, 0, o] S8x2048x512) (j : Fin 512) :
    turnArr (shapeCast S8x2048x8x64 (extractStridedSlice S8x2048x512 ![0, 0, o] p h) shapeCasts_S8x2048x512_S8x2048x8x64) (ix4 b s ⟨j.val / 64, by omega⟩ ⟨j.val % 64, by omega⟩)
      = turned (fun j => p (ix3 b s ⟨o + j.val, by omega⟩)) (fun d => Ideal.cos (angleArr (ix2 s d))) (fun d => Ideal.sin (angleArr (ix2 s d))) j := by
  have hh := heads_at b s o ho p h
  rw [turnArr_at, hh j]
  unfold turned
  by_cases hl : j.val % 64 < 32
  · rw [dif_pos hl, dif_pos hl]
    dsimp only
    rw [← hh ⟨j.val + 32, by omega⟩]
    have e1 : ∀ hx, (⟨j.val % 64, hx⟩ : Fin 32) = ⟨j.val % 32, Nat.mod_lt _ (by norm_num)⟩ := fun _ => Fin.ext (by show j.val % 64 = j.val % 32; omega)
    have e2 : ∀ hx, (⟨j.val % 64 + 32, hx⟩ : Fin 64) = ⟨(j.val + 32) % 64, Nat.mod_lt _ (by norm_num)⟩ := fun _ => Fin.ext (by show j.val % 64 + 32 = (j.val + 32) % 64; omega)
    have e3 : ∀ hx, (⟨j.val / 64, hx⟩ : Fin 8) = ⟨(j.val + 32) / 64, by omega⟩ := fun _ => Fin.ext (by show j.val / 64 = (j.val + 32) / 64; omega)
    rw [e1, e2, e3]
  · rw [dif_neg hl, dif_neg hl]
    dsimp only
    rw [← hh ⟨j.val - 32, by omega⟩]
    have e1 : ∀ hx, (⟨j.val % 64 - 32, hx⟩ : Fin 32) = ⟨j.val % 32, Nat.mod_lt _ (by norm_num)⟩ := fun _ => Fin.ext (by show j.val % 64 - 32 = j.val % 32; omega)
    have e2 : ∀ hx, (⟨j.val % 64 - 32, hx⟩ : Fin 64) = ⟨(j.val - 32) % 64, Nat.mod_lt _ (by norm_num)⟩ := fun _ => Fin.ext (by show j.val % 64 - 32 = (j.val - 32) % 64; omega)
    have e3 : ∀ hx, (⟨j.val / 64, hx⟩ : Fin 8) = ⟨(j.val - 32) / 64, by omega⟩ := fun _ => Fin.ext (by show j.val / 64 = (j.val - 32) / 64; omega)
    rw [e1, e2, e3]

theorem qRef_at (p : FVec Ideal S8x2048x2048 .f32) (j : Fin 512) : qRef p (ix3 b j s)
    = turned (fun j => p (ix3 b s ⟨0 + j.val, by omega⟩)) (fun d => Ideal.cos (angleArr (ix2 s d))) (fun d => Ideal.sin (angleArr (ix2 s d))) j * Ideal.ofBits .f32 0x3E38AA3B#32 := by
  rw [← turned_at b s 0 (by norm_num) p slices_S8x2048x2048_S8x2048x512_0_0_0]
  generalize hT : turnArr (shapeCast S8x2048x8x64 (extractStridedSlice S8x2048x512 ![0, 0, 0] p slices_S8x2048x2048_S8x2048x512_0_0_0) shapeCasts_S8x2048x512_S8x2048x8x64) = T
  unfold qRef
  rw [hT]
  pointwise
theorem kRef_at (p : FVec Ideal S8x2048x2048 .f32) (j : Fin 512) : kRef p (ix3 b s j)
    = turned (fun j => p (ix3 b s ⟨512 + j.val, by omega⟩)) (fun d => Ideal.cos (angleArr (ix2 s d))) (fun d => Ideal.sin (angleArr (ix2 s d))) j := by
  rw [← turned_at b s 512 (by norm_num) p slices_S8x2048x2048_S8x2048x512_0_0_512]
  generalize hT : turnArr (shapeCast S8x2048x8x64 (extractStridedSlice S8x2048x512 ![0, 0, 512] p slices_S8x2048x2048_S8x2048x512_0_0_512) shapeCasts_S8x2048x512_S8x2048x8x64) = T
  unfold kRef
  rw [hT]
  pointwise

theorem joinRef_at (a0 a1 a2 a3 : FVec Ideal S8x2048x128 .f32) (c e : FVec Ideal S512 .f32) (j : Fin 512) :
    joinRef a0 a1 a2 a3 c e (ix3 b s j) = ((if h : j.val < 128 then a0 (ix3 b s ⟨j.val, h⟩)
        else if h : j.val - 128 < 128 then a1 (ix3 b s ⟨j.val - 128, h⟩)
        else if h : j.val - 128 - 128 < 128 then a2 (ix3 b s ⟨j.val - 128 - 128, h⟩)
        else a3 (ix3 b s ⟨j.val - 128 - 128 - 128, by omega⟩)) + c (ix1 j)) * e (ix1 j) := by
  pointwise [joinRef]

end Cert.Proof.MixIn

end
-- ==== Proof.MixIn.Tile.lean ====
/-
  What a tile of the projecting call computes, read at an element.
-/
module

public import proofs.«01_k».proof.Proof.MixIn.Point
public import proofs.«01_k».proof.Proof.MixIn.Formula
public import proofs.«01_k».proof.Proof.ConvFfn.Scalars
public import Idealize.ShloMosaic.Lib.Pointwise
public import Idealize.ShloMosaic.Lib.WordCmp

@[expose] public section

set_option maxRecDepth 4096

noncomputable section

namespace Cert.Proof.MixIn

open Idealize.ShloMosaic Idealize.SL.Sem Idealize.ShloMosaic.TcCoe
open Cert.Kernel3Ideal Cert.Kernel3Ideal.Gen
open Cert.Proof.ConvFfn (meanSq)
open scoped BigOperators

/-! ## The operations at an element -/

section Ops
variable (r : Fin 512)

theorem pay13_at (x : Vec Ideal S1x512x1024 .f32) (g : Vec Ideal S1x1024 .f32) (d : Fin 1024) :
    k0_pay13 x g (ix2 r d) = x (ix3 0 r d) * Ideal.rsqrt (meanSq fun k => x (ix3 0 r k)) * g (ix2 0 d) := by
  unfold meanSq
  pointwise [k0_pay13]
theorem pay38_at (h : FVec Ideal S512x1024 .bf16) (w : Vec Ideal S1024x512 .bf16) (j : Fin 512) :
    k0_pay38 h w (ix2 r j) = ∑ d : Fin 1024, h (ix2 r d) * w (ix2 d j) := by
  pointwise [k0_pay38]
theorem pay14_at (x : Vec Ideal S1x512x1024 .f32) (g : Vec Ideal S1x1024 .f32) (w : Vec Ideal S1024x512 .bf16) (j : Fin 512) :
    k0_pay14 x g w (ix2 r j) = ∑ d : Fin 1024, k0_pay13 x g (ix2 r d) * w (ix2 d j) := by
  pointwise [k0_pay14]
theorem pay16_at (x : Vec Ideal S1x512x1024 .f32) (g : Vec Ideal S1x1024 .f32) (w : Vec Ideal S1024x512 .bf16) (j : Fin 512) :
    k0_pay16 x g w (ix2 r j) = k0_pay14 x g w (ix2 r j) := by
  pointwise [k0_pay16]
theorem pay42_at (h : FVec Ideal S512x1024 .bf16) (w : Vec Ideal S1024x512 .bf16) (j : Fin 512) :
    k0_pay42 h w (ix3 0 j r) = k0_pay38 h w (ix2 r j) := by
  rw [pay38_at]
  pointwise [k0_pay42]
theorem pay15_at (a : Vec Ideal S16x512 .f32) (i : Fin 16) (j : Fin 512) : k0_pay15 a (ix2 i j) = a (ix2 i j) := by
  pointwise [k0_pay15]

/-! ### Turning -/

/-- The mask of the lanes whose place in their head of 64 is below 32. -/
theorem mask_at (j : Fin 512) : k0_pay37 (ix2 r j) = if j.val % 64 < 32 then 1#1 else 0#1 := by
  pointwise [k0_pay37]
  revert j
  decide +kernel

/-- The lanes' factors are the table's, four times over. -/
theorem pay35_at (a : Vec Ideal S512x128 .f32) (j : Fin 512) : k0_pay35 a (ix2 r j) = a (ix2 r ⟨j.val % 128, Nat.mod_lt _ (by norm_num)⟩) := by
  pointwise [k0_pay35]
  split_ifs <;> exact congrArg (fun l => a (ix2 r l)) (Fin.ext (by dsimp only; omega))
theorem pay36_at (a : Vec Ideal S512x128 .f32) (j : Fin 512) : k0_pay36 a (ix2 r j) = a (ix2 r ⟨j.val % 128, Nat.mod_lt _ (by norm_num)⟩) := by
  pointwise [k0_pay36]
  split_ifs <;> exact congrArg (fun l => a (ix2 r l)) (Fin.ext (by dsimp only; omega))

/-- The lane 32 on, or 32 back, in the same head. -/
def across (f : Fin 512 → EReal) (j : Fin 512) : EReal :=
  if h : j.val % 64 < 32 then f ⟨j.val + 32, by omega⟩ else f ⟨j.val - 32, by omega⟩

theorem select_across (f : Fin 512 → EReal) (j : Fin 512) (h₁ h₂) :
    (Scalar.select (if j.val % 64 < 32 then 1#1 else 0#1) (f ⟨(j.val + 512 - 480) % 512, h₁⟩) (f ⟨(j.val + 512 - 32) % 512, h₂⟩) : EReal) = across f j := by
  unfold across
  by_cases h : j.val % 64 < 32
  · rw [if_pos h, dif_pos h]
    exact congrArg f (Fin.ext (by dsimp only; omega))
  · rw [if_neg h, dif_neg h]
    exact congrArg f (Fin.ext (by dsimp only; omega))

theorem pay40_at (c s : FVec Ideal S512x512 .f32) (h : FVec Ideal S512x1024 .bf16) (w : Vec Ideal S1024x512 .bf16) (j : Fin 512) :
    k0_pay40 c s k0_pay37 (k0_pay38 h w) (k0_pay39 h w) 32#32 (ix3 0 j r)
      = (k0_pay38 h w (ix2 r j) * c (ix2 r j) + across (fun j => k0_pay38 h w (ix2 r j)) j * s (ix2 r j)) * Ideal.ofBits .f32 0x3E38AA3B#32 := by
  have hm := mask_at r j
  generalize hM : k0_pay37 = M at hm ⊢
  generalize hP : k0_pay38 h w = P
  pointwise [k0_pay40, k0_pay39]
  rw [hP, hm, select_across fun j => P (ix2 r j)]
theorem pay41_at (c s : FVec Ideal S512x512 .f32) (h : FVec Ideal S512x1024 .bf16) (w : Vec Ideal S1024x512 .bf16) (j : Fin 512) :
    k0_pay41 h c s k0_pay37 w (ix3 0 r j)
      = k0_pay38 h w (ix2 r j) * c (ix2 r j) + across (fun j => k0_pay38 h w (ix2 r j)) j * s (ix2 r j) := by
  have hm := mask_at r j
  generalize hM : k0_pay37 = M at hm ⊢
  generalize hP : k0_pay38 h w = P
  pointwise [k0_pay41]
  rw [← hP, hm]
  simp only [pay38_at]
  rw [select_across fun j => ∑ x : Fin 1024, h (ix2 r x) * w (ix2 x j)]

theorem turned_table (f : Fin 512 → EReal) (C S : Fin 128 → EReal) (cs sn : Fin 32 → EReal)
    (hC : ∀ l, C l = cs ⟨l.val % 32, Nat.mod_lt _ (by norm_num)⟩)
    (hS : ∀ l, S l = if l.val % 64 < 32 then -sn ⟨l.val % 32, Nat.mod_lt _ (by norm_num)⟩ else sn ⟨l.val % 32, Nat.mod_lt _ (by norm_num)⟩) (j : Fin 512) :
    f j * C ⟨j.val % 128, Nat.mod_lt _ (by norm_num)⟩ + across f j * S ⟨j.val % 128, Nat.mod_lt _ (by norm_num)⟩ = turned f cs sn j := by
  have e : (⟨j.val % 128 % 32, Nat.mod_lt _ (by norm_num)⟩ : Fin 32) = ⟨j.val % 32, Nat.mod_lt _ (by norm_num)⟩ := Fin.ext (by dsimp only; omega)
  rw [hC, hS]
  dsimp only
  rw [e]
  unfold across turned
  by_cases h : j.val % 64 < 32
  · rw [dif_pos h, dif_pos h, if_pos (by omega), mul_neg, sub_eq_add_neg]
  · rw [dif_neg h, dif_neg h, if_neg (by omega)]

/-! ### Pooling -/

/-- A tile's count of rows. -/
abbrev tileCount (t : BitVec 32) (n : BitVec 32) : EReal := (FloatOps.sitofp .f32 (IntOp.minsi (IntOp.addi (IntOp.addi t (BitVec.ofNat 32 r.val)) 1#32) n) : Ideal .f32)

variable (t : BitVec 32) (u : FVec Ideal S512x512 .f32) (w : Vec Ideal S1x128x128 .f32) (c s : Vec Ideal S1x128 .f32) (n : Fin 128)

theorem group0_at (a b : Vec Ideal S528x512 .f32) : k0_pay28 (k0_pay27 t u a b w) c s (ix3 0 r n)
    = ((∑ d : Fin 128, (Ideal.div (k0_pay17 a b (ix2 ⟨16 + r.val, by omega⟩ ⟨d.val, by omega⟩)) (tileCount r t 2#32) - u (ix2 r ⟨d.val, by omega⟩)) * w (ix3 0 d n))
        + c (ix2 0 n)) * s (ix2 0 n) := by
  unfold tileCount
  generalize hP : k0_pay17 a b = P
  pointwise [k0_pay28, k0_pay27, k0_pay26]
  rw [hP]
theorem group1_at (a : FVec Ideal S512x128 .f32) : k0_pay29 u a (k0_pay26 t) w c s (ix3 0 r n)
    = ((∑ d : Fin 128, (Ideal.div (a (ix2 r d)) (tileCount r t 4#32) - u (ix2 r ⟨128 + d.val, by omega⟩)) * w (ix3 0 d n)) + c (ix2 0 n)) * s (ix2 0 n) := by
  unfold tileCount
  pointwise [k0_pay29, k0_pay26]
theorem group2_at (a : FVec Ideal S512x128 .f32) : k0_pay31 u a (k0_pay26 t) k0_pay30 w c s (ix3 0 r n)
    = ((∑ d : Fin 128, (Ideal.div (a (ix2 r d)) (tileCount r t 8#32) - u (ix2 r ⟨256 + d.val, by omega⟩)) * w (ix3 0 d n)) + c (ix2 0 n)) * s (ix2 0 n) := by
  unfold tileCount
  pointwise [k0_pay31, k0_pay30, k0_pay26]
theorem group3_at (a : FVec Ideal S512x128 .f32) : k0_pay34 (k0_pay32 u a (k0_pay26 t) w) (k0_pay33 c) s (ix3 0 r n)
    = ((∑ d : Fin 128, (Ideal.div (a (ix2 r d)) (tileCount r t 16#32) - u (ix2 r ⟨384 + d.val, by omega⟩)) * w (ix3 0 d n)) + c (ix2 0 n)) * s (ix2 0 n) := by
  unfold tileCount
  pointwise [k0_pay34, k0_pay32, k0_pay33, k0_pay26]
end Ops

/-! ## The sums of trailing rows -/

section Sums
variable (a : Vec Ideal S528x512 .f32)

/-- Row `i`, lane `l`. -/
def rowN (i l : ℕ) : EReal := if h : i < 528 ∧ l < 512 then a (ix2 ⟨i, h.1⟩ ⟨l, h.2⟩) else 0

/-- The array moved down, at an element that is not one of the zeros. -/
theorem under_at {n w N W : ℕ} (b : Vec Ideal ⟨2, ![n, w]⟩ .f32) (o l : ℕ) (hN : o + N ≤ n + 8) (hW : l + W ≤ w) (i : Fin N) (j : Fin W) (h : 8 ≤ i.val + o)
    (i' : Fin n) (j' : Fin w) (hi : i'.val = i.val + o - 8) (hj : j'.val = j.val + l) :
    under b o l hN hW (ix2 i j) = b (ix2 i' j') :=
  (dif_neg (Nat.not_lt.mpr h)).trans (congrArg₂ (fun i j => b (ix2 i j)) (Fin.ext hi.symm) (Fin.ext hj.symm))

variable {a}
abbrev up0 (a : Vec Ideal S528x512 .f32) : Vec Ideal S528x512 .f32 := under a 8 0 (by norm_num) (by norm_num)
abbrev up1 (a : Vec Ideal S528x512 .f32) : Vec Ideal S528x512 .f32 := under a 7 0 (by norm_num) (by norm_num)
abbrev up2 (a : Vec Ideal S528x512 .f32) : Vec Ideal S528x384 .f32 := under (k0_pay18 (up0 a) (up1 a)) 6 128 (by norm_num) (by norm_num)
abbrev up4 (a : Vec Ideal S528x512 .f32) : Vec Ideal S528x256 .f32 := under (k0_pay20 (up0 a) (up1 a) (up2 a)) 4 128 (by norm_num) (by norm_num)
abbrev up8 (a : Vec Ideal S528x512 .f32) : Vec Ideal S512x128 .f32 := under (k0_pay22 (up0 a) (up1 a) (up2 a) (up4 a)) 16 128 (by norm_num) (by norm_num)

theorem rows_at (i : Fin 528) (l : Fin 512) : a (ix2 i l) = rowN a i.val l.val := by
  unfold rowN
  rw [dif_pos ⟨i.isLt, l.isLt⟩]

/-- Two sums of consecutive rows are one of twice as many. -/
theorem sum_twice (f : ℕ → EReal) (m i : ℕ) : (∑ k ∈ Finset.range m, f (i - k)) + (∑ k ∈ Finset.range m, f (i - m - k)) = ∑ k ∈ Finset.range (m + m), f (i - k) := by
  rw [Finset.sum_range_add]
  exact congrArg _ (Finset.sum_congr rfl fun k _ => congrArg f (by omega))

theorem two_at (i : Fin 528) (l : Fin 512) (h : 1 ≤ i.val) : k0_pay17 (up0 a) (up1 a) (ix2 i l) = ∑ k ∈ Finset.range 2, rowN a (i.val - k) l.val := by
  have e : k0_pay17 (up0 a) (up1 a) (ix2 i l) = up0 a (ix2 i l) + up1 a (ix2 i l) := by
    generalize up0 a = p; generalize up1 a = q
    pointwise [k0_pay17]
  rw [e, Finset.sum_range_succ, Finset.sum_range_one]
  exact congrArg₂ _ ((under_at _ _ _ _ _ _ _ (by omega) i l (by omega) (by omega)).trans (rows_at i l))
    ((under_at _ _ _ _ _ _ _ (by omega) ⟨i.val - 1, by omega⟩ l (by dsimp only; omega) (by omega)).trans (rows_at ⟨i.val - 1, by omega⟩ l))
theorem pay18_eq (p q : Vec Ideal S528x512 .f32) (i : Fin 528) (l : Fin 512) : k0_pay18 p q (ix2 i l) = k0_pay17 p q (ix2 i l) := by
  pointwise [k0_pay18]
theorem pay20_eq (p q : Vec Ideal S528x512 .f32) (v : Vec Ideal S528x384 .f32) (i : Fin 528) (l : Fin 384) : k0_pay20 p q v (ix2 i l) = k0_pay19 p q v (ix2 i l) := by
  pointwise [k0_pay20]
theorem pay22_eq (p q : Vec Ideal S528x512 .f32) (v : Vec Ideal S528x384 .f32) (z : Vec Ideal S528x256 .f32) (i : Fin 528) (l : Fin 256) :
    k0_pay22 p q v z (ix2 i l) = k0_pay21 p q v z (ix2 i l) := by
  pointwise [k0_pay22]

theorem four_at (i : Fin 528) (l : Fin 384) (h : 3 ≤ i.val) :
    k0_pay19 (up0 a) (up1 a) (up2 a) (ix2 i l) = ∑ k ∈ Finset.range 4, rowN a (i.val - k) (l.val + 128) := by
  have e : k0_pay19 (up0 a) (up1 a) (up2 a) (ix2 i l) = k0_pay17 (up0 a) (up1 a) (ix2 i ⟨128 + l.val, by omega⟩) + up2 a (ix2 i l) := by
    generalize up2 a = p; generalize hq : k0_pay17 (up0 a) (up1 a) = q
    pointwise [k0_pay19]
    rw [hq]
  have e2 : up2 a (ix2 i l) = k0_pay17 (up0 a) (up1 a) (ix2 ⟨i.val - 2, by omega⟩ ⟨128 + l.val, by omega⟩) :=
    (under_at _ _ _ _ _ _ _ (by omega) _ _ (by dsimp only; omega) (by dsimp only; omega)).trans (pay18_eq _ _ _ _)
  rw [e, e2, two_at _ _ (by omega), two_at _ _ (by dsimp only; omega), Nat.add_comm l.val]
  exact sum_twice (fun i => rowN a i (128 + l.val)) 2 i.val

theorem eight_at (i : Fin 528) (l : Fin 256) (h : 7 ≤ i.val) :
    k0_pay21 (up0 a) (up1 a) (up2 a) (up4 a) (ix2 i l) = ∑ k ∈ Finset.range 8, rowN a (i.val - k) (l.val + 256) := by
  have e : k0_pay21 (up0 a) (up1 a) (up2 a) (up4 a) (ix2 i l) = k0_pay19 (up0 a) (up1 a) (up2 a) (ix2 i ⟨128 + l.val, by omega⟩) + up4 a (ix2 i l) := by
    generalize up4 a = p; generalize hq : k0_pay19 (up0 a) (up1 a) (up2 a) = q
    pointwise [k0_pay21]
    rw [hq]
  have e2 : up4 a (ix2 i l) = k0_pay19 (up0 a) (up1 a) (up2 a) (ix2 ⟨i.val - 4, by omega⟩ ⟨128 + l.val, by omega⟩) :=
    (under_at _ _ _ _ _ _ _ (by omega) _ _ (by dsimp only; omega) (by dsimp only; omega)).trans (pay20_eq _ _ _ _ _)
  rw [e, e2, four_at _ _ (by omega), four_at _ _ (by dsimp only; omega), show l.val + 256 = 128 + l.val + 128 by omega]
  exact sum_twice (fun i => rowN a i (128 + l.val + 128)) 4 i.val

theorem sixteen_at (r : Fin 512) (l : Fin 128) :
    k0_pay23 (up0 a) (up1 a) (up2 a) (up4 a) (up8 a) (ix2 r l) = ∑ k ∈ Finset.range 16, rowN a (16 + r.val - k) (l.val + 384) := by
  have e : k0_pay23 (up0 a) (up1 a) (up2 a) (up4 a) (up8 a) (ix2 r l)
      = k0_pay21 (up0 a) (up1 a) (up2 a) (up4 a) (ix2 ⟨16 + r.val, by omega⟩ ⟨128 + l.val, by omega⟩) + up8 a (ix2 r l) := by
    generalize up8 a = p; generalize hq : k0_pay21 (up0 a) (up1 a) (up2 a) (up4 a) = q
    pointwise [k0_pay23]
    rw [hq]
  have e2 : up8 a (ix2 r l) = k0_pay21 (up0 a) (up1 a) (up2 a) (up4 a) (ix2 ⟨16 + r.val - 8, by omega⟩ ⟨128 + l.val, by omega⟩) :=
    (under_at _ _ _ _ _ _ _ (by omega) _ _ (by dsimp only; omega) (by dsimp only; omega)).trans (pay22_eq _ _ _ _ _ _)
  rw [e, e2, eight_at _ _ (by dsimp only; omega), eight_at _ _ (by dsimp only; omega), show l.val + 384 = 128 + l.val + 256 by omega]
  exact sum_twice (fun i => rowN a i (128 + l.val + 256)) 8 (16 + r.val)

theorem pay24_at (p q : Vec Ideal S528x512 .f32) (v : Vec Ideal S528x384 .f32) (r : Fin 512) (l : Fin 128) :
    k0_pay24 p q v (ix2 r l) = k0_pay19 p q v (ix2 ⟨16 + r.val, by omega⟩ ⟨l.val, by omega⟩) := by
  generalize hq : k0_pay19 p q v = z
  pointwise [k0_pay24]
  rw [hq]
theorem pay25_at (p q : Vec Ideal S528x512 .f32) (v : Vec Ideal S528x384 .f32) (z : Vec Ideal S528x256 .f32) (r : Fin 512) (l : Fin 128) :
    k0_pay25 p q v z (ix2 r l) = k0_pay21 p q v z (ix2 ⟨16 + r.val, by omega⟩ ⟨l.val, by omega⟩) := by
  generalize hq : k0_pay21 p q v z = y
  pointwise [k0_pay25]
  rw [hq]
end Sums

/-! ## A tile's outputs -/

section Out
variable (x : Vec Ideal S1x512x1024 .f32) (g : Vec Ideal S1x1024 .f32) (W : Vec Ideal S1024x2048 .bf16) (cs sn : Vec Ideal S512x128 .f32)
  (wp : Vec Ideal S4x128x128 .f32) (bp sp : Vec Ideal S1x512 .f32) (halo : Vec Ideal S16x512 .f32) (t0 : BitVec 32) (r : Fin 512)

/-- A row through the weights' column. -/
abbrev tileDot (n : Fin 2048) : EReal := normDot (fun d => x (ix3 0 r d)) (fun d => g (ix2 0 d)) fun d => W (ix2 d n)

theorem wCols_at (k : Fin 4) (d : Fin 1024) (j : Fin 512) (n : Fin 2048) (hn : n.val = k.val * 512 + j.val) : wCols W k (ix2 d j) = W (ix2 d n) := by
  refine congrArg W (funext fun b => Fin.ext ?_)
  fin_cases b
  · show 0 + 1 * d.val = d.val; omega
  · show k.val * 512 + 1 * j.val = n.val; omega

theorem dot_at (k : Fin 4) (j : Fin 512) (n : Fin 2048) (hn : n.val = k.val * 512 + j.val) :
    ∑ d : Fin 1024, k0_pay13 x g (ix2 r d) * wCols W k (ix2 d j) = tileDot x g W r n := by
  simp only [pay13_at, wCols_at W k _ j n hn]
  rfl

theorem vTile_at (j : Fin 512) : vTile x g W (ix3 0 j r) = tileDot x g W r ⟨1024 + j.val, by omega⟩ := by
  rw [vTile, pay42_at, pay38_at]
  exact dot_at x g W r 2 j _ (by show 1024 + j.val = 2 * 512 + j.val; omega)

section Turn
variable (c s : Fin 32 → EReal) (hC : ∀ l, cs (ix2 r l) = c ⟨l.val % 32, Nat.mod_lt _ (by norm_num)⟩)
  (hS : ∀ l, sn (ix2 r l) = if l.val % 64 < 32 then -s ⟨l.val % 32, Nat.mod_lt _ (by norm_num)⟩ else s ⟨l.val % 32, Nat.mod_lt _ (by norm_num)⟩)
include hC hS
theorem qTile_at (j : Fin 512) :
    qTile x g W cs sn (ix3 0 j r) = turned (fun j => tileDot x g W r ⟨0 + j.val, by omega⟩) c s j * Ideal.ofBits .f32 0x3E38AA3B#32 := by
  have e : ∀ j, k0_pay38 (k0_pay13 x g) (wCols W 0) (ix2 r j) = tileDot x g W r ⟨0 + j.val, by omega⟩ := fun j =>
    (pay38_at _ _ _ _).trans (dot_at x g W r 0 j _ (by show 0 + j.val = 0 * 512 + j.val; omega))
  rw [qTile, pay40_at, pay35_at, pay36_at]
  simp only [e]
  rw [turned_table (fun j => tileDot x g W r ⟨0 + j.val, by omega⟩) (fun l => cs (ix2 r l)) (fun l => sn (ix2 r l)) c s hC hS j]
theorem kTile_at (j : Fin 512) :
    kTile x g W cs sn (ix3 0 r j) = turned (fun j => tileDot x g W r ⟨512 + j.val, by omega⟩) c s j := by
  have e : ∀ j, k0_pay38 (k0_pay13 x g) (wCols W 1) (ix2 r j) = tileDot x g W r ⟨512 + j.val, by omega⟩ := fun j =>
    (pay38_at _ _ _ _).trans (dot_at x g W r 1 j _ (by show 512 + j.val = 1 * 512 + j.val; omega))
  rw [kTile, pay41_at, pay35_at, pay36_at]
  simp only [e]
  rw [turned_table (fun j => tileDot x g W r ⟨512 + j.val, by omega⟩) (fun l => cs (ix2 r l)) (fun l => sn (ix2 r l)) c s hC hS j]
end Turn

theorem u_at (j : Fin 512) : k0_pay14 x g (wCols W 3) (ix2 r j) = tileDot x g W r ⟨1536 + j.val, by omega⟩ :=
  (pay14_at _ _ _ _ _).trans (dot_at x g W r 3 j _ (by show 1536 + j.val = 3 * 512 + j.val; omega))
theorem uTile_at (j : Fin 512) : uTile x g W (ix2 r j) = tileDot x g W r ⟨1536 + j.val, by omega⟩ :=
  (pay16_at _ _ _ _ _).trans (u_at x g W r j)

/-- The tile's rows under the rows above it. -/
abbrev both : Vec Ideal S528x512 .f32 := withHalo (k0_pay15 halo) (uTile x g W)
theorem both_lo (i l : ℕ) (hi : i < 16) (hl : l < 512) : rowN (both x g W halo) i l = halo (ix2 ⟨i, hi⟩ ⟨l, hl⟩) := by
  unfold rowN both withHalo
  rw [dif_pos ⟨by omega, hl⟩]
  exact (dif_pos hi).trans (pay15_at _ _ _)
theorem both_hi (i l : ℕ) (hi : i < 512) (hl : l < 512) : rowN (both x g W halo) (16 + i) l = uTile x g W (ix2 ⟨i, hi⟩ ⟨l, hl⟩) := by
  unfold rowN both withHalo
  rw [dif_pos ⟨by omega, hl⟩]
  exact (dif_neg (by show ¬16 + i < 16; omega)).trans (congrArg (fun i => uTile x g W (ix2 i ⟨l, hl⟩)) (Fin.ext (by show 16 + i - 16 = i; omega)))

/-- The rows up to a tile's row `r`, `k` back. -/
abbrev trail (l k : ℕ) : EReal := rowN (both x g W halo) (16 + r.val - k) l

/-- A group's means less its own lanes, through the group's matrix, with the bias and the scale. -/
def mixedAt (q : Fin 4) (m : ℕ) (n : BitVec 32) (j : Fin 128) : EReal :=
  ((∑ d : Fin 128, (Ideal.div (∑ k ∈ Finset.range m, trail x g W halo r (q.val * 128 + d.val) k) (tileCount r t0 n)
      - tileDot x g W r ⟨1536 + (q.val * 128 + d.val), by omega⟩) * wp (ix3 q d j)) + bp (ix2 0 ⟨q.val * 128 + j.val, by omega⟩)) * sp (ix2 0 ⟨q.val * 128 + j.val, by omega⟩)

theorem mat_at (q : Fin 4) (d j : Fin 128) : mat wp q (ix3 0 d j) = wp (ix3 q d j) := by
  refine congrArg wp (funext fun b => Fin.ext ?_)
  fin_cases b
  · show q.val + 1 * 0 = q.val; omega
  · show 0 + 1 * d.val = d.val; omega
  · show 0 + 1 * j.val = j.val; omega
theorem colsOf_at (a : Vec Ideal S1x512 .f32) (q : Fin 4) (j : Fin 128) : colsOf a q (ix2 0 j) = a (ix2 0 ⟨q.val * 128 + j.val, by omega⟩) := by
  refine congrArg a (funext fun b => Fin.ext ?_)
  fin_cases b
  · show 0 + 1 * 0 = 0; omega
  · show q.val * 128 + 1 * j.val = q.val * 128 + j.val; omega

theorem mixed_of (q : Fin 4) (m : ℕ) (n : BitVec 32) (j : Fin 128) (S u : Fin 128 → EReal)
    (hS : ∀ d, S d = ∑ k ∈ Finset.range m, trail x g W halo r (q.val * 128 + d.val) k)
    (hu : ∀ d : Fin 128, u d = tileDot x g W r ⟨1536 + (q.val * 128 + d.val), by omega⟩) :
    ((∑ d : Fin 128, (Ideal.div (S d) (tileCount r t0 n) - u d) * mat wp q (ix3 0 d j)) + colsOf bp q (ix2 0 j)) * colsOf sp q (ix2 0 j)
      = mixedAt x g W wp bp sp halo t0 r q m n j := by
  unfold mixedAt
  rw [colsOf_at, colsOf_at]
  simp only [mat_at, hS, hu]

theorem yTile0_at (j : Fin 128) : yTile x g W wp bp sp halo t0 0 (ix3 0 r j) = mixedAt x g W wp bp sp halo t0 r 0 2 2#32 j := by
  refine (group0_at r t0 _ _ _ _ j _ _).trans (mixed_of x g W wp bp sp halo t0 r 0 2 2#32 j _ _ (fun d => ?_) fun d => ?_)
  · refine (two_at (a := both x g W halo) _ _ (by dsimp only; omega)).trans (Finset.sum_congr rfl fun k _ => congrArg (rowN _ _) ?_)
    show d.val = 0 * 128 + d.val; omega
  · refine (u_at x g W r _).trans (congrArg (tileDot x g W r) (Fin.ext ?_))
    show 1536 + d.val = 1536 + (0 * 128 + d.val); omega
theorem yTile1_at (j : Fin 128) : yTile x g W wp bp sp halo t0 1 (ix3 0 r j) = mixedAt x g W wp bp sp halo t0 r 1 4 4#32 j := by
  refine (group1_at r t0 _ _ _ _ j _).trans (mixed_of x g W wp bp sp halo t0 r 1 4 4#32 j _ _ (fun d => ?_) fun d => ?_)
  · refine (pay24_at _ _ _ _ _).trans ((four_at (a := both x g W halo) _ _ (by dsimp only; omega)).trans (Finset.sum_congr rfl fun k _ => congrArg (rowN _ _) ?_))
    show d.val + 128 = 1 * 128 + d.val; omega
  · refine (u_at x g W r _).trans (congrArg (tileDot x g W r) (Fin.ext ?_))
    show 1536 + (128 + d.val) = 1536 + (1 * 128 + d.val); omega
theorem yTile2_at (j : Fin 128) : yTile x g W wp bp sp halo t0 2 (ix3 0 r j) = mixedAt x g W wp bp sp halo t0 r 2 8 8#32 j := by
  refine (group2_at r t0 _ _ _ _ j _).trans (mixed_of x g W wp bp sp halo t0 r 2 8 8#32 j _ _ (fun d => ?_) fun d => ?_)
  · refine (pay25_at _ _ _ _ _ _).trans ((eight_at (a := both x g W halo) _ _ (by dsimp only; omega)).trans (Finset.sum_congr rfl fun k _ => congrArg (rowN _ _) ?_))
    show d.val + 256 = 2 * 128 + d.val; omega
  · refine (u_at x g W r _).trans (congrArg (tileDot x g W r) (Fin.ext ?_))
    show 1536 + (256 + d.val) = 1536 + (2 * 128 + d.val); omega
theorem yTile3_at (j : Fin 128) : yTile x g W wp bp sp halo t0 3 (ix3 0 r j) = mixedAt x g W wp bp sp halo t0 r 3 16 16#32 j := by
  refine (group3_at r t0 _ _ _ _ j _).trans (mixed_of x g W wp bp sp halo t0 r 3 16 16#32 j _ _ (fun d => ?_) fun d => ?_)
  · refine (sixteen_at (a := both x g W halo) _ _).trans (Finset.sum_congr rfl fun k _ => congrArg (rowN _ _) ?_)
    show d.val + 384 = 3 * 128 + d.val; omega
  · refine (u_at x g W r _).trans (congrArg (tileDot x g W r) (Fin.ext ?_))
    show 1536 + (384 + d.val) = 1536 + (3 * 128 + d.val); omega
end Out

end Cert.Proof.MixIn
-- ==== Proof.MixIn.Value.lean ====
/-
  What the projecting call leaves, in its arguments: the plain formulas. The claims about it.
-/
module

public import proofs.«01_k».proof.Defs
public import proofs.«01_k».proof.Proof.MixIn.Points
public import proofs.«01_k».proof.Proof.MixIn.Tile
public import proofs.«01_k».proof.Proof.Gen.Kernel3
public import proofs.«01_k».proof.Proof.Gen.Kernel3Ideal.Value
public import proofs.«01_k».proof.Proof.Gen.Reference3Ideal.Run

@[expose] public section

noncomputable section

namespace Cert.Proof.MixIn

open Idealize.ShloMosaic Idealize.SL.Sem Idealize.ShloMosaic.TcCoe
open scoped BigOperators

section Left
open Cert.Kernel3Ideal Cert.Kernel3Ideal.Gen
variable (m : (ℓ : Loc nD τ sig) → Buf (Elt Ideal) ℓ) (c : Dev nD)

/-- The arguments as arrays. -/
abbrev xV : FVec Ideal S8x2048x1024 .f32 := m ((c.tc : Thread nD τ).loc main_arg0)
abbrev gV : FVec Ideal S1024 .f32 := m ((c.tc : Thread nD τ).loc main_arg1)
abbrev winV : FVec Ideal S1024x2048 .f32 := m ((c.tc : Thread nD τ).loc main_arg2)
abbrev wpV : FVec Ideal S4x128x128 .f32 := m ((c.tc : Thread nD τ).loc main_arg3)
abbrev bpV : FVec Ideal S512 .f32 := m ((c.tc : Thread nD τ).loc main_arg4)
abbrev spV : FVec Ideal S512 .f32 := m ((c.tc : Thread nD τ).loc main_arg5)
abbrev woutV : FVec Ideal S1024x1024 .f32 := m ((c.tc : Thread nD τ).loc main_arg6)
abbrev wupV : FVec Ideal S1024x5632 .f32 := m ((c.tc : Thread nD τ).loc main_arg7)
abbrev wdownV : FVec Ideal S2816x1024 .f32 := m ((c.tc : Thread nD τ).loc main_arg8)
/-- The plain projection. -/
abbrev projV : FVec Ideal Cert.Reference3Ideal.S8x2048x2048 .f32 := projArr (xV m c) (gV m c) (winV m c)

/-- A row of 128 lanes: each of two factors' 32 lanes in turn. -/
def tabArr (a b : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, a⟩, ⟨S2048x32, b⟩] concatenates_S2048x32_S2048x32_S2048x64_d1) shapeCasts_S2048x64_S1x2048x1x64)) shapeCasts_S1x2048x2x64_S2048x128
theorem tabArr_at (a b : FVec Ideal S2048x32 .f32) (s : Fin 2048) (l : Fin 128) :
    tabArr a b (ix2 s l) = if l.val % 64 < 32 then a (ix2 s ⟨l.val % 32, Nat.mod_lt _ (by norm_num)⟩) else b (ix2 s ⟨l.val % 32, Nat.mod_lt _ (by norm_num)⟩) := by
  pointwise [tabArr]
  by_cases h : l.val % 64 < 32
  · rw [dif_pos h, if_pos h]
    exact congrArg (fun l => a (ix2 s l)) (Fin.ext (by dsimp only; omega))
  · rw [dif_neg h, if_neg h]
    exact congrArg (fun l => b (ix2 s l)) (Fin.ext (by dsimp only; omega))

theorem V_v21 : V m c main_v21 = tabArr (Host.cos angleArr) (Host.cos angleArr) := by unfold V; after_results; rfl
theorem V_v26 : V m c main_v26 = tabArr (Host.negf (Host.sin angleArr)) (Host.sin angleArr) := by unfold V; after_results; rfl
theorem V_v27 : V m c main_v27 = broadcastInDim S1x1024 ![1] bcast_S1024_S1x1024_1 (gV m c) := by unfold V; after_results
theorem V_v28 : V m c main_v28 = broadcastInDim S1x512 ![1] bcast_S512_S1x512_1 (bpV m c) := by unfold V; after_results
theorem V_v29 : V m c main_v29 = broadcastInDim S1x512 ![1] bcast_S512_S1x512_1 (spV m c) := by unfold V; after_results

/-- The batch and the half of it of grid point `t`, and a row of a half's tile. -/
theorem t_lt (t : Fin cfg0.N) : t.val < 16 := lt_of_lt_of_eq t.isLt N_0
abbrev bOf (t : Fin cfg0.N) : Fin 8 := ⟨t.val / 2, by have := t_lt t; omega⟩
abbrev sOf (t : Fin cfg0.N) (q : Fin 2) (r : Fin 512) : Fin 2048 := ⟨1024 * (t.val % 2) + (512 * q.val + r.val), by omega⟩

/-! ## The windows' blocks -/

theorem index_x : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
theorem index_t : ∀ t : Fin cfg0.N, (win0_3.index t (0 : Fin 2) = t.val % 2 ∧ win0_3.index t (1 : Fin 2) = 0)
    ∧ win0_4.index t (0 : Fin 2) = t.val % 2 ∧ win0_4.index t (1 : Fin 2) = 0 :=
  (by decide +kernel : ∀ t : Fin grid0.N, _)
theorem index_w : ∀ t : Fin cfg0.N, (win0_8.index t (0 : Fin 2) = t.val ∧ win0_8.index t (1 : Fin 2) = 0)
    ∧ (win0_9.index t (0 : Fin 2) = t.val ∧ win0_9.index t (1 : Fin 2) = 0) ∧ win0_10.index t (0 : Fin 2) = t.val ∧ win0_10.index t (1 : Fin 2) = 0 :=
  (by decide +kernel : ∀ t : Fin grid0.N, _)
theorem coord_1 : ∀ t : Fin cfg0.N, (grid0.coords t 1).val = t.val % 2 := (by decide +kernel : ∀ t : Fin grid0.N, _)

/-- A place counted from the array's corner. -/
theorem whole_place (o k n : ℕ) (ho : o = 0) : o * k + 1 * n = n := by rw [ho]; omega

variable (t : Fin cfg0.N)

theorem iblk0_at (q : Fin 2) (r : Fin 512) (d : Fin 1024) :
    xHalf (F := Ideal) (iblk m c 0 t) q (ix3 0 r d) = xV m c (ix3 (bOf t) (sOf t q r) d) := by
  obtain ⟨e0, e1, e2⟩ := index_x t
  refine Eq.trans ?_ (congrFun (V_main_arg0 m c) _)
  refine congrArg (V m c main_arg0 : FVec Ideal S8x2048x1024 .f32) (funext fun a => Fin.ext ?_)
  fin_cases a
  · show win0_0.index t (0 : Fin 3) * 1 + 1 * (0 + 1 * 0) = t.val / 2; omega
  · show win0_0.index t (1 : Fin 3) * 1024 + 1 * (q.val * 512 + 1 * r.val) = 1024 * (t.val % 2) + (512 * q.val + r.val); omega
  · show win0_0.index t (2 : Fin 3) * 1024 + 1 * (0 + 1 * d.val) = d.val; omega
theorem iblk3_at (q : Fin 2) (r : Fin 512) (l : Fin 128) : tHalf (F := Ideal) (iblk m c 3 t) q (ix2 r l) = (V m c main_v21 : FVec Ideal S2048x128 .f32) (ix2 (sOf t q r) l) := by
  obtain ⟨⟨e0, e1⟩, -⟩ := index_t t
  refine congrArg (V m c main_v21 : FVec Ideal S2048x128 .f32) (funext fun a => Fin.ext ?_)
  fin_cases a
  · show win0_3.index t (0 : Fin 2) * 1024 + 1 * (q.val * 512 + 1 * r.val) = 1024 * (t.val % 2) + (512 * q.val + r.val); omega
  · show win0_3.index t (1 : Fin 2) * 128 + 1 * (0 + 1 * l.val) = l.val; omega
theorem iblk4_at (q : Fin 2) (r : Fin 512) (l : Fin 128) : tHalf (F := Ideal) (iblk m c 4 t) q (ix2 r l) = (V m c main_v26 : FVec Ideal S2048x128 .f32) (ix2 (sOf t q r) l) := by
  obtain ⟨-, e0, e1⟩ := index_t t
  refine congrArg (V m c main_v26 : FVec Ideal S2048x128 .f32) (funext fun a => Fin.ext ?_)
  fin_cases a
  · show win0_4.index t (0 : Fin 2) * 1024 + 1 * (q.val * 512 + 1 * r.val) = 1024 * (t.val % 2) + (512 * q.val + r.val); omega
  · show win0_4.index t (1 : Fin 2) * 128 + 1 * (0 + 1 * l.val) = l.val; omega

theorem iblk1_eq : iblk m c 1 t = (V m c main_v27 : FVec Ideal S1x1024 .f32) :=
  funext fun y => congrArg (V m c main_v27 : FVec Ideal S1x1024 .f32) (funext fun a => Fin.ext (by fin_cases a <;> exact whole_place _ _ _ rfl))
theorem iblk2_eq : iblk m c 2 t = (V m c main_arg2 : FVec Ideal S1024x2048 .f32) :=
  funext fun y => congrArg (V m c main_arg2 : FVec Ideal S1024x2048 .f32) (funext fun a => Fin.ext (by fin_cases a <;> exact whole_place _ _ _ rfl))
theorem iblk5_eq : iblk m c 5 t = (V m c main_arg3 : FVec Ideal S4x128x128 .f32) :=
  funext fun y => congrArg (V m c main_arg3 : FVec Ideal S4x128x128 .f32) (funext fun a => Fin.ext (by fin_cases a <;> exact whole_place _ _ _ rfl))
theorem iblk6_eq : iblk m c 6 t = (V m c main_v28 : FVec Ideal S1x512 .f32) :=
  funext fun y => congrArg (V m c main_v28 : FVec Ideal S1x512 .f32) (funext fun a => Fin.ext (by fin_cases a <;> exact whole_place _ _ _ rfl))
theorem iblk7_eq : iblk m c 7 t = (V m c main_v29 : FVec Ideal S1x512 .f32) :=
  funext fun y => congrArg (V m c main_v29 : FVec Ideal S1x512 .f32) (funext fun a => Fin.ext (by fin_cases a <;> exact whole_place _ _ _ rfl))

theorem g_at (d : Fin 1024) : (iblk m c 1 t : FVec Ideal S1x1024 .f32) (ix2 0 d) = gV m c (ix1 d) := by
  rw [iblk1_eq, V_v27]; pointwise
theorem wp_at (k : Fin 4) (d n : Fin 128) : (iblk m c 5 t : FVec Ideal S4x128x128 .f32) (ix3 k d n) = wpV m c (ix3 k d n) := by
  rw [iblk5_eq, V_main_arg3]
theorem bp_at (n : Fin 512) : (iblk m c 6 t : FVec Ideal S1x512 .f32) (ix2 0 n) = bpV m c (ix1 n) := by
  rw [iblk6_eq, V_v28]; pointwise
theorem sp_at (n : Fin 512) : (iblk m c 7 t : FVec Ideal S1x512 .f32) (ix2 0 n) = spV m c (ix1 n) := by
  rw [iblk7_eq, V_v29]; pointwise

/-! ## What is carried from point to point -/

/-- The converted weights, -/
def wCast : Vec Ideal S1024x2048 .bf16 := k0_pay4 (V m c main_arg2 : FVec Ideal S1024x2048 .f32)
theorem wCast_at (d : Fin 1024) (n : Fin 2048) : wCast m c (ix2 d n) = winV m c (ix2 d n) := by
  rw [wCast, V_main_arg2]; pointwise [k0_pay4]

/-- and the rows above a point's first: the last of the point before, or zeros at a sequence's start. -/
def haloIn : Vec Ideal S16x512 .f32 :=
  if t.val % 2 = 0 then k0_pay5 (F := Ideal) else
    lastRows (uTile (xHalf (iblk m c 0 ⟨t.val - 1, Nat.lt_of_le_of_lt (Nat.sub_le _ _) t.isLt⟩) 1) (iblk m c 1 ⟨t.val - 1, Nat.lt_of_le_of_lt (Nat.sub_le _ _) t.isLt⟩) (wCast m c))

theorem leaves_at : ∀ (n : ℕ) (hn : n < cfg0.N), Leaves m c ⟨n, hn⟩ (wCast m c) (haloIn m c ⟨n, hn⟩)
  | 0, hn => by
    have h := leaves_first m c ⟨0, hn⟩ rfl rfl
    rw [iblk2_eq] at h
    unfold haloIn
    rw [if_pos (Nat.zero_mod 2)]
    exact h
  | n + 1, hn => by
    have ih := leaves_at n (Nat.lt_of_succ_lt hn)
    have hN := t_lt ⟨n + 1, hn⟩
    have h0 : ¬(n + 1) % 16 = 0 := by dsimp only at hN; omega
    unfold haloIn
    by_cases h1 : (n + 1) % 2 = 0
    · have h := leaves_start m c ⟨n + 1, hn⟩ h0 h1
      rw [if_pos h1]
      exact ih.w ▸ h
    · have h := leaves_next m c ⟨n + 1, hn⟩ h0 h1
      rw [if_neg h1]
      have ew : (outsAt0 m c (n + 1 - 1) (Nat.lt_of_le_of_lt (Nat.sub_le _ _) hn)).2.2.2.2.2.2.2.1 = wCast m c := ih.w
      have eu : haloOf (outsAt0 m c (n + 1 - 1) (Nat.lt_of_le_of_lt (Nat.sub_le _ _) hn)).2.2.2.2.2.2.2.2 = _ := ih.u
      rw [ew, eu] at h
      exact h

/-! ## The tiles -/

theorem proj_at (q : Fin 2) (r : Fin 512) (n : Fin 2048) :
    tileDot (xHalf (iblk m c 0 t) q) (iblk m c 1 t) (wCast m c) r n = projV m c (ix3 (bOf t) (sOf t q r) n) := by
  refine Eq.trans ?_ (projArr_at _ _ _ _ _ _).symm
  unfold tileDot
  simp only [iblk0_at, g_at, wCast_at]

theorem cos_at (q : Fin 2) (r : Fin 512) (l : Fin 128) : tHalf (F := Ideal) (iblk m c 3 t) q (ix2 r l)
    = Ideal.cos (angleArr (ix2 (sOf t q r) ⟨l.val % 32, Nat.mod_lt _ (by norm_num)⟩)) := by
  rw [iblk3_at, V_v21, tabArr_at]
  split_ifs <;> rfl
theorem sin_at (q : Fin 2) (r : Fin 512) (l : Fin 128) : tHalf (F := Ideal) (iblk m c 4 t) q (ix2 r l)
    = if l.val % 64 < 32 then -Ideal.sin (angleArr (ix2 (sOf t q r) ⟨l.val % 32, Nat.mod_lt _ (by norm_num)⟩))
      else Ideal.sin (angleArr (ix2 (sOf t q r) ⟨l.val % 32, Nat.mod_lt _ (by norm_num)⟩)) := by
  rw [iblk4_at, V_v26, tabArr_at]
  split_ifs <;> rfl

theorem q_at (q : Fin 2) (r j : Fin 512) :
    qTile (xHalf (iblk m c 0 t) q) (iblk m c 1 t) (wCast m c) (tHalf (iblk m c 3 t) q) (tHalf (iblk m c 4 t) q) (ix3 0 j r) = qRef (projV m c) (ix3 (bOf t) j (sOf t q r)) := by
  rw [qRef_at, qTile_at _ _ _ _ _ r (fun d => Ideal.cos (angleArr (ix2 (sOf t q r) d))) (fun d => Ideal.sin (angleArr (ix2 (sOf t q r) d))) (cos_at m c t q r) (sin_at m c t q r)]
  simp only [proj_at]
theorem k_at (q : Fin 2) (r j : Fin 512) :
    kTile (xHalf (iblk m c 0 t) q) (iblk m c 1 t) (wCast m c) (tHalf (iblk m c 3 t) q) (tHalf (iblk m c 4 t) q) (ix3 0 r j) = kRef (projV m c) (ix3 (bOf t) (sOf t q r) j) := by
  rw [kRef_at, kTile_at _ _ _ _ _ r (fun d => Ideal.cos (angleArr (ix2 (sOf t q r) d))) (fun d => Ideal.sin (angleArr (ix2 (sOf t q r) d))) (cos_at m c t q r) (sin_at m c t q r)]
  simp only [proj_at]
theorem v_at (q : Fin 2) (r j : Fin 512) :
    vTile (xHalf (iblk m c 0 t) q) (iblk m c 1 t) (wCast m c) (ix3 0 j r) = vRef (projV m c) (ix3 (bOf t) j (sOf t q r)) := by
  rw [vRef_at, vTile_at, proj_at]

/-- The rows above a tile are those before it in the sequence, or zeros. -/
theorem halo_at (q : Fin 2) (i : Fin 16) (l : Fin 512) :
    haloAt (iblk m c 0 t) (iblk m c 1 t) (wCast m c) (haloIn m c t) q (ix2 i l)
      = if h : 1024 * (t.val % 2) + 512 * q.val + i.val < 16 then 0
        else projV m c (ix3 (bOf t) ⟨1024 * (t.val % 2) + 512 * q.val + i.val - 16, by omega⟩ ⟨1536 + l.val, by omega⟩) := by
  have ht := t_lt t
  unfold haloAt
  by_cases hq : q.val = 0
  · rw [if_pos hq]
    unfold haloIn
    by_cases h1 : t.val % 2 = 0
    · rw [if_pos h1, dif_pos (by omega)]
      pointwise [k0_pay5]
    · rw [if_neg h1, dif_neg (by omega)]
      refine (uTile_at _ _ _ _ _).trans ((proj_at m c _ _ _ _).trans ?_)
      refine congrArg₂ (fun b s => projV m c (ix3 b s ⟨1536 + l.val, by omega⟩)) (Fin.ext ?_) (Fin.ext ?_)
      · show (t.val - 1) / 2 = t.val / 2; omega
      · show 1024 * ((t.val - 1) % 2) + (512 * 1 + (496 + i.val)) = 1024 * (t.val % 2) + 512 * q.val + i.val - 16; omega
  · rw [if_neg hq, dif_neg (by omega)]
    refine (uTile_at _ _ _ _ _).trans ((proj_at m c _ _ _ _).trans ?_)
    refine congrArg (fun s => projV m c (ix3 (bOf t) s ⟨1536 + l.val, by omega⟩)) (Fin.ext ?_)
    show 1024 * (t.val % 2) + (512 * 0 + (496 + i.val)) = 1024 * (t.val % 2) + 512 * q.val + i.val - 16; omega

/-- A trailing row is the one that many before. -/
theorem trail_at (q : Fin 2) (r : Fin 512) (g : Fin 4) (d : Fin 128) (a : FVec Ideal Cert.Reference3Ideal.S8x2048x128 .f32)
    (ha : ∀ b s, a (ix3 b s d) = poolCols (projV m c) (ix4 b s g d)) (k : ℕ) (hk : k < 16) :
    trail (xHalf (iblk m c 0 t) q) (iblk m c 1 t) (wCast m c) (haloAt (iblk m c 0 t) (iblk m c 1 t) (wCast m c) (haloIn m c t) q) r (g.val * 128 + d.val) k
      = back (bOf t) (sOf t q r) a d k := by
  have hg := g.isLt
  unfold trail back
  simp only [ha, poolCols_at]
  by_cases h : k ≤ r.val
  · rw [show 16 + r.val - k = 16 + (r.val - k) by omega, both_hi _ _ _ _ _ _ (by omega) (by omega), uTile_at, proj_at, if_neg (by omega)]
    exact congrArg (fun s => projV m c (ix3 (bOf t) s ⟨1536 + (g.val * 128 + d.val), by omega⟩)) (Fin.ext (by dsimp only; omega))
  · rw [both_lo _ _ _ _ _ _ (by omega) (by omega), halo_at]
    by_cases hb : 1024 * (t.val % 2) + (512 * q.val + r.val) < k
    · rw [if_pos hb, dif_pos (by dsimp only; omega)]
    · rw [if_neg hb, dif_neg (by dsimp only; omega)]
      exact congrArg (fun s => projV m c (ix3 (bOf t) s ⟨1536 + (g.val * 128 + d.val), by omega⟩)) (Fin.ext (by dsimp only; omega))

theorem count_at (q : Fin 2) (r : Fin 512) (n : BitVec 32) :
    tileCount r (startAt (BitVec.ofNat 32 (grid0.coords t 1)) q) n = countTo (sOf t q r).val n := by
  have e : IntOp.addi (startAt (BitVec.ofNat 32 (grid0.coords t 1)) q) (BitVec.ofNat 32 r.val) = BitVec.ofNat 32 (sOf t q r).val := by
    rw [coord_1]
    show BitVec.ofNat 32 (t.val % 2) * 1024#32 + BitVec.ofNat 32 (q.val * 512) + BitVec.ofNat 32 r.val = _
    apply BitVec.eq_of_toNat_eq
    simp only [BitVec.toNat_add, BitVec.toNat_mul, BitVec.toNat_ofNat]
    omega
  unfold tileCount countTo
  rw [e]

/-- A group's lanes are the plain formula's. -/
theorem mixed_at (q : Fin 2) (r : Fin 512) (g : Fin 4) (k : ℕ) (hk : k ≤ 16) (n : BitVec 32) (j : Fin 128)
    (S a : FVec Ideal Cert.Reference3Ideal.S8x2048x128 .f32) (w : FVec Ideal Cert.Reference3Ideal.S128x128 .f32)
    (ha : ∀ b s d, a (ix3 b s d) = poolCols (projV m c) (ix4 b s g d)) (hS : ∀ b s d, S (ix3 b s d) = ∑ i ∈ Finset.range k, back b s a d i)
    (hw : ∀ d, w (ix2 d j) = wpV m c (ix3 g d j)) :
    mixedAt (xHalf (iblk m c 0 t) q) (iblk m c 1 t) (wCast m c) (iblk m c 5 t) (iblk m c 6 t) (iblk m c 7 t)
        (haloAt (iblk m c 0 t) (iblk m c 1 t) (wCast m c) (haloIn m c t) q) (startAt (BitVec.ofNat 32 (grid0.coords t 1)) q) r g k n j
      = (mixArr S a n w (ix3 (bOf t) (sOf t q r) j) + bpV m c (ix1 ⟨g.val * 128 + j.val, by omega⟩)) * spV m c (ix1 ⟨g.val * 128 + j.val, by omega⟩) := by
  unfold mixedAt
  rw [mixArr_at, bp_at, sp_at, count_at]
  refine congrArg (fun z => (z + _) * _) (Finset.sum_congr rfl fun d _ => ?_)
  rw [hS, ha, hw, wp_at, proj_at, poolCols_at,
    Finset.sum_congr rfl fun i hi => trail_at m c t q r g d a (fun b s => ha b s d) i (lt_of_lt_of_le (Finset.mem_range.mp hi) hk)]

theorem y_at (q : Fin 2) (r : Fin 512) (k : Fin 4) (j : Fin 128) :
    yPart (iblk m c 0 t) (iblk m c 1 t) (wCast m c) (iblk m c 5 t) (iblk m c 6 t) (iblk m c 7 t) (haloIn m c t) (BitVec.ofNat 32 (grid0.coords t 1)) q k (ix3 0 r j)
      = yRef (projV m c) (wpV m c) (bpV m c) (spV m c) (ix3 (bOf t) (sOf t q r) ⟨k.val * 128 + j.val, by omega⟩) := by
  have cols := fun b s d => colsAll_at b s (poolCols (projV m c)) d
  have mats := fun d => matAll_at (wpV m c) d j
  unfold yRef
  rw [joinRef_at]
  match k with
  | ⟨0, _⟩ =>
    rw [dif_pos (by show 0 * 128 + j.val < 128; omega)]
    refine (yTile0_at _ _ _ _ _ _ _ _ r j).trans ((mixed_at m c t q r 0 2 (by norm_num) 2#32 j _ _ _ (fun b s d => (cols b s d).1) (fun b s d => sum0_at b s _ d) fun d => (mats d).1).trans ?_)
    exact congrArg (fun l => (mixArr _ _ _ _ (ix3 (bOf t) (sOf t q r) l) + _) * _) (Fin.ext (by show j.val = 0 * 128 + j.val; omega))
  | ⟨1, _⟩ =>
    rw [dif_neg (by show ¬1 * 128 + j.val < 128; omega), dif_pos (by show 1 * 128 + j.val - 128 < 128; omega)]
    refine (yTile1_at _ _ _ _ _ _ _ _ r j).trans ((mixed_at m c t q r 1 4 (by norm_num) 4#32 j _ _ _ (fun b s d => (cols b s d).2.1) (fun b s d => sum1_at b s _ d) fun d => (mats d).2.1).trans ?_)
    exact congrArg (fun l => (mixArr _ _ _ _ (ix3 (bOf t) (sOf t q r) l) + _) * _) (Fin.ext (by show j.val = 1 * 128 + j.val - 128; omega))
  | ⟨2, _⟩ =>
    rw [dif_neg (by show ¬2 * 128 + j.val < 128; omega), dif_neg (by show ¬2 * 128 + j.val - 128 < 128; omega), dif_pos (by show 2 * 128 + j.val - 128 - 128 < 128; omega)]
    refine (yTile2_at _ _ _ _ _ _ _ _ r j).trans ((mixed_at m c t q r 2 8 (by norm_num) 8#32 j _ _ _ (fun b s d => (cols b s d).2.2.1) (fun b s d => sum2_at b s _ d) fun d => (mats d).2.2.1).trans ?_)
    exact congrArg (fun l => (mixArr _ _ _ _ (ix3 (bOf t) (sOf t q r) l) + _) * _) (Fin.ext (by show j.val = 2 * 128 + j.val - 128 - 128; omega))
  | ⟨3, _⟩ =>
    rw [dif_neg (by show ¬3 * 128 + j.val < 128; omega), dif_neg (by show ¬3 * 128 + j.val - 128 < 128; omega), dif_neg (by show ¬3 * 128 + j.val - 128 - 128 < 128; omega)]
    refine (yTile3_at _ _ _ _ _ _ _ _ r j).trans ((mixed_at m c t q r 3 16 (by norm_num) 16#32 j _ _ _ (fun b s d => (cols b s d).2.2.2) (fun b s d => sum3_at b s _ d) fun d => (mats d).2.2.2).trans ?_)
    exact congrArg (fun l => (mixArr _ _ _ _ (ix3 (bOf t) (sOf t q r) l) + _) * _) (Fin.ext (by show j.val = 3 * 128 + j.val - 128 - 128 - 128; omega))

/-! ## The results -/

section Results
open Cert.Kernel3Ideal.Value

/-- The converted weights' slabs, one a point. -/
theorem slabs_at : (∀ (i : Fin 64) (n : Fin 1024), k0_pay6 (F := Ideal) (iblk m c 8 t) (ix2 i n) = woutV m c (ix2 ⟨64 * t.val + i.val, by have := t_lt t; omega⟩ n))
    ∧ (∀ (i : Fin 64) (n : Fin 5632), k0_pay7 (F := Ideal) (iblk m c 9 t) (ix2 i n) = wupV m c (ix2 ⟨64 * t.val + i.val, by have := t_lt t; omega⟩ n))
    ∧ ∀ (i : Fin 176) (n : Fin 1024), k0_pay8 (F := Ideal) (iblk m c 10 t) (ix2 i n) = wdownV m c (ix2 ⟨176 * t.val + i.val, by have := t_lt t; omega⟩ n) := by
  obtain ⟨⟨a0, a1⟩, ⟨b0, b1⟩, c0, c1⟩ := index_w t
  refine ⟨fun i n => ?_, fun i n => ?_, fun i n => ?_⟩
  · refine Eq.trans (b := (iblk m c 8 t : FVec Ideal S64x1024 .f32) (ix2 i n)) (by generalize (iblk m c 8 t : FVec Ideal S64x1024 .f32) = z; pointwise [k0_pay6]) (Eq.trans ?_ (congrFun (V_main_arg6 m c) _))
    refine congrArg (V m c main_arg6 : FVec Ideal S1024x1024 .f32) (funext fun a => Fin.ext ?_)
    fin_cases a
    · show win0_8.index t (0 : Fin 2) * 64 + 1 * i.val = 64 * t.val + i.val; omega
    · show win0_8.index t (1 : Fin 2) * 1024 + 1 * n.val = n.val; omega
  · refine Eq.trans (b := (iblk m c 9 t : FVec Ideal S64x5632 .f32) (ix2 i n)) (by generalize (iblk m c 9 t : FVec Ideal S64x5632 .f32) = z; pointwise [k0_pay7]) (Eq.trans ?_ (congrFun (V_main_arg7 m c) _))
    refine congrArg (V m c main_arg7 : FVec Ideal S1024x5632 .f32) (funext fun a => Fin.ext ?_)
    fin_cases a
    · show win0_9.index t (0 : Fin 2) * 64 + 1 * i.val = 64 * t.val + i.val; omega
    · show win0_9.index t (1 : Fin 2) * 5632 + 1 * n.val = n.val; omega
  · refine Eq.trans (b := (iblk m c 10 t : FVec Ideal S176x1024 .f32) (ix2 i n)) (by generalize (iblk m c 10 t : FVec Ideal S176x1024 .f32) = z; pointwise [k0_pay8]) (Eq.trans ?_ (congrFun (V_main_arg8 m c) _))
    refine congrArg (V m c main_arg8 : FVec Ideal S2816x1024 .f32) (funext fun a => Fin.ext ?_)
    fin_cases a
    · show win0_10.index t (0 : Fin 2) * 176 + 1 * i.val = 176 * t.val + i.val; omega
    · show win0_10.index t (1 : Fin 2) * 1024 + 1 * n.val = n.val; omega

/-- The grid point of a batch and a half, and the places in it. -/
theorem place_b (b : Fin 8) (s : Fin 2048) (p : ℕ) (hp : p = 2 * b.val + s.val / 1024) (hN : p < cfg0.N) : bOf ⟨p, hN⟩ = b := Fin.ext (by show p / 2 = b.val; omega)
theorem place_s (b : Fin 8) (s : Fin 2048) (p : ℕ) (hp : p = 2 * b.val + s.val / 1024) (hN : p < cfg0.N) :
    sOf ⟨p, hN⟩ ⟨s.val % 1024 / 512, by omega⟩ ⟨s.val % 1024 % 512, by omega⟩ = s :=
  Fin.ext (by show 1024 * (p % 2) + (512 * (s.val % 1024 / 512) + s.val % 1024 % 512) = s.val; omega)

theorem result_q : G11 m c = qRef (projV m c) := by
  funext i
  obtain ⟨b, j, s, rfl⟩ : ∃ (b : Fin 8) (j : Fin 512) (s : Fin 2048), i = ix3 b j s := ⟨i 0, i 1, i 2, ValueIdx.eq_ix3 i⟩
  have hp : pt11Of (ix3 b j s) = 2 * b.val + s.val / 1024 := by
    show 2 * (b.val / 1 - 0) + 2 * (j.val / 512 - 0) + 1 * (s.val / 1024 - 0) = _; omega
  have hl : loc11Of (ix3 b j s) = ix3 (0 : Fin 1) j (⟨s.val % 1024, by omega⟩ : Fin 1024) := by
    funext a
    refine Fin.ext ?_
    fin_cases a
    · show b.val % 1 = 0; omega
    · show j.val % 512 = j.val; omega
    · rfl
  have hN : pt11Of (ix3 b j s) < cfg0.N := by rw [hp, show cfg0.N = 16 from N_0]; omega
  unfold G11
  rw [dif_pos hN, ← outsAt0_sweep m c _ hN, hl, (leaves_at m c _ hN).q]
  refine (q_at m c ⟨_, hN⟩ ⟨s.val % 1024 / 512, by omega⟩ ⟨s.val % 1024 % 512, by omega⟩ j).trans ?_
  rw [place_b b s _ hp hN, place_s b s _ hp hN]
theorem result_k : G12 m c = kRef (projV m c) := by
  funext i
  obtain ⟨b, s, j, rfl⟩ : ∃ (b : Fin 8) (s : Fin 2048) (j : Fin 512), i = ix3 b s j := ⟨i 0, i 1, i 2, ValueIdx.eq_ix3 i⟩
  have hp : pt12Of (ix3 b s j) = 2 * b.val + s.val / 1024 := by
    show 2 * (b.val / 1 - 0) + 1 * (s.val / 1024 - 0) + 1 * (j.val / 512 - 0) = _; omega
  have hl : loc12Of (ix3 b s j) = ix3 (0 : Fin 1) (⟨s.val % 1024, by omega⟩ : Fin 1024) j := by
    funext a
    refine Fin.ext ?_
    fin_cases a
    · show b.val % 1 = 0; omega
    · rfl
    · show j.val % 512 = j.val; omega
  have hN : pt12Of (ix3 b s j) < cfg0.N := by rw [hp, show cfg0.N = 16 from N_0]; omega
  unfold G12
  rw [dif_pos hN, ← outsAt0_sweep m c _ hN, hl, (leaves_at m c _ hN).k]
  refine (k_at m c ⟨_, hN⟩ ⟨s.val % 1024 / 512, by omega⟩ ⟨s.val % 1024 % 512, by omega⟩ j).trans ?_
  rw [place_b b s _ hp hN, place_s b s _ hp hN]
theorem result_v : G13 m c = vRef (projV m c) := by
  funext i
  obtain ⟨b, j, s, rfl⟩ : ∃ (b : Fin 8) (j : Fin 512) (s : Fin 2048), i = ix3 b j s := ⟨i 0, i 1, i 2, ValueIdx.eq_ix3 i⟩
  have hp : pt13Of (ix3 b j s) = 2 * b.val + s.val / 1024 := by
    show 2 * (b.val / 1 - 0) + 2 * (j.val / 512 - 0) + 1 * (s.val / 1024 - 0) = _; omega
  have hl : loc13Of (ix3 b j s) = ix3 (0 : Fin 1) j (⟨s.val % 1024, by omega⟩ : Fin 1024) := by
    funext a
    refine Fin.ext ?_
    fin_cases a
    · show b.val % 1 = 0; omega
    · show j.val % 512 = j.val; omega
    · rfl
  have hN : pt13Of (ix3 b j s) < cfg0.N := by rw [hp, show cfg0.N = 16 from N_0]; omega
  unfold G13
  rw [dif_pos hN, ← outsAt0_sweep m c _ hN, hl, (leaves_at m c _ hN).v]
  refine (v_at m c ⟨_, hN⟩ ⟨s.val % 1024 / 512, by omega⟩ ⟨s.val % 1024 % 512, by omega⟩ j).trans ?_
  rw [place_b b s _ hp hN, place_s b s _ hp hN]
theorem result_y : G14 m c = yRef (projV m c) (wpV m c) (bpV m c) (spV m c) := by
  funext i
  obtain ⟨b, s, j, rfl⟩ : ∃ (b : Fin 8) (s : Fin 2048) (j : Fin 512), i = ix3 b s j := ⟨i 0, i 1, i 2, ValueIdx.eq_ix3 i⟩
  have hp : pt14Of (ix3 b s j) = 2 * b.val + s.val / 1024 := by
    show 2 * (b.val / 1 - 0) + 1 * (s.val / 1024 - 0) + 1 * (j.val / 512 - 0) = _; omega
  have hl : loc14Of (ix3 b s j) = ix3 (0 : Fin 1) (⟨s.val % 1024, by omega⟩ : Fin 1024) j := by
    funext a
    refine Fin.ext ?_
    fin_cases a
    · show b.val % 1 = 0; omega
    · rfl
    · show j.val % 512 = j.val; omega
  have hN : pt14Of (ix3 b s j) < cfg0.N := by rw [hp, show cfg0.N = 16 from N_0]; omega
  unfold G14
  rw [dif_pos hN, ← outsAt0_sweep m c _ hN, hl, (leaves_at m c _ hN).y]
  refine (y_at m c ⟨_, hN⟩ ⟨s.val % 1024 / 512, by omega⟩ ⟨s.val % 1024 % 512, by omega⟩ ⟨j.val / 128, by omega⟩ ⟨j.val % 128, by omega⟩).trans ?_
  rw [place_b b s _ hp hN, place_s b s _ hp hN]
  exact congrArg (fun j => yRef (projV m c) (wpV m c) (bpV m c) (spV m c) (ix3 b s j)) (Fin.ext (by show j.val / 128 * 128 + j.val % 128 = j.val; omega))

theorem result_out : G15 m c = truncf .bf16 (woutV m c) Cert.Reference3Ideal.Facts₀.bitsLt_bf16_f32 := by
  funext i
  obtain ⟨k, n, rfl⟩ : ∃ (k : Fin 1024) (n : Fin 1024), i = ix2 k n := ⟨i 0, i 1, ValueIdx.eq_ix2 i⟩
  have hp : pt15Of (ix2 k n) = k.val / 64 := by
    show 1 * (k.val / 64 - 0) + 1 * (n.val / 1024 - 0) = _; omega
  have hl : loc15Of (ix2 k n) = ix2 (⟨k.val % 64, by omega⟩ : Fin 64) n := by
    funext a
    refine Fin.ext ?_
    fin_cases a
    · rfl
    · show n.val % 1024 = n.val; omega
  have hN : pt15Of (ix2 k n) < cfg0.N := by rw [hp, show cfg0.N = 16 from N_0]; omega
  unfold G15
  rw [dif_pos hN, ← outsAt0_sweep m c _ hN, hl, (leaves_at m c _ hN).o]
  refine ((slabs_at m c ⟨_, hN⟩).1 _ n).trans ?_
  exact congrArg (fun k => woutV m c (ix2 k n)) (Fin.ext (by show 64 * pt15Of (ix2 k n) + k.val % 64 = k.val; omega))
theorem result_up : G16 m c = truncf .bf16 (wupV m c) Cert.Reference3Ideal.Facts₀.bitsLt_bf16_f32 := by
  funext i
  obtain ⟨k, n, rfl⟩ : ∃ (k : Fin 1024) (n : Fin 5632), i = ix2 k n := ⟨i 0, i 1, ValueIdx.eq_ix2 i⟩
  have hp : pt16Of (ix2 k n) = k.val / 64 := by
    show 1 * (k.val / 64 - 0) + 1 * (n.val / 5632 - 0) = _; omega
  have hl : loc16Of (ix2 k n) = ix2 (⟨k.val % 64, by omega⟩ : Fin 64) n := by
    funext a
    refine Fin.ext ?_
    fin_cases a
    · rfl
    · show n.val % 5632 = n.val; omega
  have hN : pt16Of (ix2 k n) < cfg0.N := by rw [hp, show cfg0.N = 16 from N_0]; omega
  unfold G16
  rw [dif_pos hN, ← outsAt0_sweep m c _ hN, hl, (leaves_at m c _ hN).up]
  refine ((slabs_at m c ⟨_, hN⟩).2.1 _ n).trans ?_
  exact congrArg (fun k => wupV m c (ix2 k n)) (Fin.ext (by show 64 * pt16Of (ix2 k n) + k.val % 64 = k.val; omega))
theorem result_down : G17 m c = truncf .bf16 (wdownV m c) Cert.Reference3Ideal.Facts₀.bitsLt_bf16_f32 := by
  funext i
  obtain ⟨k, n, rfl⟩ : ∃ (k : Fin 2816) (n : Fin 1024), i = ix2 k n := ⟨i 0, i 1, ValueIdx.eq_ix2 i⟩
  have hp : pt17Of (ix2 k n) = k.val / 176 := by
    show 1 * (k.val / 176 - 0) + 1 * (n.val / 1024 - 0) = _; omega
  have hl : loc17Of (ix2 k n) = ix2 (⟨k.val % 176, by omega⟩ : Fin 176) n := by
    funext a
    refine Fin.ext ?_
    fin_cases a
    · rfl
    · show n.val % 1024 = n.val; omega
  have hN : pt17Of (ix2 k n) < cfg0.N := by rw [hp, show cfg0.N = 16 from N_0]; omega
  unfold G17
  rw [dif_pos hN, ← outsAt0_sweep m c _ hN, hl, (leaves_at m c _ hN).down]
  refine ((slabs_at m c ⟨_, hN⟩).2.2 _ n).trans ?_
  exact congrArg (fun k => wdownV m c (ix2 k n)) (Fin.ext (by show 176 * pt17Of (ix2 k n) + k.val % 176 = k.val; omega))
end Results
end Left

/-! ## The claims -/

section Frames
open Cert.Kernel3Ideal Cert.Kernel3Ideal.Gen

theorem frame_ideal : Cert.quiescent_Kernel3Ideal := fun m ρ _ => Cert.Kernel3Ideal.Gen.frame m ρ

/-- The reference leaves its arguments as they were; it declares no semaphore. -/
theorem frame_reference : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

/-- Both leave the plain formulas of the arguments in their results. -/
theorem same_value : Cert.algebraic_Kernel3Ideal_Reference3Ideal := fun m ρ m' ρ' _ h => by
  refine ⟨fun c => qRef (projV m c), fun c => kRef (projV m c), fun c => vRef (projV m c), fun c => yRef (projV m c) (wpV m c) (bpV m c) (spV m c),
    fun c => truncf .bf16 (woutV m c) Cert.Reference3Ideal.Facts₀.bitsLt_bf16_f32, fun c => truncf .bf16 (wupV m c) Cert.Reference3Ideal.Facts₀.bitsLt_bf16_f32,
    fun c => truncf .bf16 (wdownV m c) Cert.Reference3Ideal.Facts₀.bitsLt_bf16_f32,
    (θ_run Cert.Kernel3Ideal.defs _ _).mono (fun _ hh c => ⟨(hh c).1.trans (result_q m c), (hh c).2.1.trans (result_k m c), (hh c).2.2.1.trans (result_v m c),
      (hh c).2.2.2.1.trans (result_y m c), (hh c).2.2.2.2.1.trans (result_out m c), (hh c).2.2.2.2.2.1.trans (result_up m c), (hh c).2.2.2.2.2.2.1.trans (result_down m c),
      (hh c).2.2.2.2.2.2.2⟩) (Cert.Kernel3Ideal.Value.run (F := Ideal) m ρ),
    (θ_run Cert.Reference3Ideal.defs _ _).mono (fun _ hh c => ⟨(hh c).1.trans ?_, (hh c).2.1.trans ?_, (hh c).2.2.1.trans ?_, (hh c).2.2.2.1.trans ?_, (hh c).2.2.2.2.1.trans ?_,
      (hh c).2.2.2.2.2.1.trans ?_, (hh c).2.2.2.2.2.2.1.trans ?_, (hh c).2.2.2.2.2.2.2⟩) (Cert.Reference3Ideal.Value.run (F := Ideal) m' ρ')⟩
  all_goals
    obtain ⟨e0, e1, e2, e3, e4, e5, e6, e7, e8⟩ := h c
    dsimp only [projV, xV, gV, winV, wpV, bpV, spV, woutV, wupV, wdownV]
  · rw [← e0, ← e1, ← e2]; rfl
  · rw [← e0, ← e1, ← e2]; rfl
  · rw [← e0, ← e1, ← e2]; rfl
  · rw [← e0, ← e1, ← e2, ← e3, ← e4, ← e5]; rfl
  · rw [← e6]
  · rw [← e7]
  · rw [← e8]
end Frames

end Cert.Proof.MixIn

end
-- ==== Proof.lean ====
/- The claims of `Cert.Claim`: the output projection's (Proof/MixOut/) the feed-forward sub-layer's (Proof/ConvFfn/) and the input projection's (Proof/MixIn/). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.MixOut.Launch
public import proofs.«01_k».proof.Proof.MixOut.Value
public import proofs.«01_k».proof.Proof.ConvFfn.Value
public import proofs.«01_k».proof.Proof.MixIn.Frames
public import proofs.«01_k».proof.Proof.MixIn.Value

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, ConvFfn.pre_facts,
  MixOut.frame_kernel, MixOut.frame_ideal, MixOut.frame_reference,
  ConvFfn.frame_kernel, ConvFfn.frame_ideal, ConvFfn.frame_ideal_pre (hPre := ConvFfn.pre_facts),
  ConvFfn.frame_reference, ConvFfn.frame_reference_pre (hPre := ConvFfn.pre_facts),
  MixIn.frame_kernel, MixIn.frame_ideal, MixIn.frame_reference,
  trivial, MixOut.same_value, trivial, ConvFfn.same_value (hPre := ConvFfn.pre_facts), trivial, MixIn.same_value⟩

end Cert.Proof

end
